-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S3584x2x128 Cert.KernelIdeal.S3584x1x128
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S2x128x7168 : Shape := ⟨3, ![2, 128, 7168]⟩
abbrev S2040 : Shape := ⟨1, ![2040]⟩
abbrev S2040x7168 : Shape := ⟨2, ![2040, 7168]⟩
abbrev S2040x56 : Shape := ⟨2, ![2040, 56]⟩
abbrev S_ : Shape := ⟨0, ![]⟩

class Facts : Prop where
  bcast_S_S2040 : S_.BroadcastsInDim S2040 (![] : Fin 0 → Fin S2040.rank)
  reducesTo_S2040_S_d0 : S2040.ReducesTo [0] S_
  h_S_ : 0 < S_.numel

variable [Facts]

def fn {F : FTy → Type} [FloatOps F] (main_arg0 : FVec F S2x128x7168 .bf16) (main_arg1 : IVec S2040 32) (main_arg2 : FVec F S2040 .f32) (main_arg3 : FVec F S2040x7168 .fp8e4m3) (main_arg4 : FVec F S2040x56 .f32) : IVec S_ 1 :=
  let main_c : IVec S_ 32 := constantI S_ 32 0#32
  let main_v0 : IVec S2040 32 := broadcastInDim S2040 ![] bcast_S_S2040 main_c
  let main_v1 : IVec S2040 1 := cmpi .sge main_arg1 main_v0
  let main_c_0 : IVec S_ 32 := constantI S_ 32 256#32
  let main_v2 : IVec S2040 32 := broadcastInDim S2040 ![] bcast_S_S2040 main_c_0
  let main_v3 : IVec S2040 1 := cmpi .slt main_arg1 main_v2
  let main_v4 : IVec S2040 1 := andi main_v1 main_v3
  let main_c_1 : IVec S_ 1 := constantI S_ 1 1#1
  let main_v5 : IVec S_ 1 := (fun x v => Host.reduce IntOp.andi x v reducesTo_S2040_S_d0 h_S_) main_v4 main_c_1
  main_v5
-- ==== Kernel.lean ====
abbrev S2x128x7168 : Shape := ⟨3, ![2, 128, 7168]⟩
abbrev S2040 : Shape := ⟨1, ![2040]⟩
abbrev S2040x7168 : Shape := ⟨2, ![2040, 7168]⟩
abbrev S2040x56 : Shape := ⟨2, ![2040, 56]⟩
abbrev S255x8x56x128 : Shape := ⟨4, ![255, 8, 56, 128]⟩
abbrev S255x56x8x128 : Shape := ⟨4, ![255, 56, 8, 128]⟩
abbrev S114240x128 : Shape := ⟨2, ![114240, 128]⟩
abbrev S1x2040 : Shape := ⟨2, ![1, 2040]⟩
abbrev S56x2040 : Shape := ⟨2, ![56, 2040]⟩
abbrev S256x7168 : Shape := ⟨2, ![256, 7168]⟩
abbrev S1x128 : Shape := ⟨2, ![1, 128]⟩
abbrev S56x128 : Shape := ⟨2, ![56, 128]⟩
abbrev S7168x128 : Shape := ⟨2, ![7168, 128]⟩
abbrev S3584x128 : Shape := ⟨2, ![3584, 128]⟩
abbrev S2432x128 : Shape := ⟨2, ![2432, 128]⟩
abbrev S128x128 : Shape := ⟨2, ![128, 128]⟩
abbrev S32x128 : Shape := ⟨2, ![32, 128]⟩
abbrev S16x128 : Shape := ⟨2, ![16, 128]⟩
abbrev S1 : Shape := ⟨1, ![1]⟩
abbrev S8x128 : Shape := ⟨2, ![8, 128]⟩
abbrev S8x1 : Shape := ⟨2, ![8, 1]⟩

abbrev nBuf : Space → Nat
  | .hbm => 13
  | .vmem => 30
  | .smem => 1
  | _ => 0

abbrev bufTy : (tb : Table) → Fin (tcTables nBuf tb) → BufTy
  | .hbm, ⟨0, _⟩ => ⟨S2x128x7168, .bf16⟩
  | .hbm, ⟨1, _⟩ => ⟨S2040, .i32⟩
  | .hbm, ⟨2, _⟩ => ⟨S2040, .f32⟩
  | .hbm, ⟨3, _⟩ => ⟨S2040x7168, .fp8e4m3⟩
  | .hbm, ⟨4, _⟩ => ⟨S2040x56, .f32⟩
  | .hbm, ⟨5, _⟩ => ⟨S255x8x56x128, .fp8e4m3⟩
  | .hbm, ⟨6, _⟩ => ⟨S255x56x8x128, .fp8e4m3⟩
  | .hbm, ⟨7, _⟩ => ⟨S114240x128, .fp8e4m3⟩
  | .hbm, ⟨8, _⟩ => ⟨S1x2040, .f32⟩
  | .hbm, ⟨9, _⟩ => ⟨S56x2040, .f32⟩
  | .hbm, ⟨10, _⟩ => ⟨S256x7168, .bf16⟩
  | .hbm, ⟨11, _⟩ => ⟨S256x7168, .bf16⟩
  | .hbm, ⟨12, _⟩ => ⟨S2x128x7168, .bf16⟩
  | .local _ .vmem, ⟨0, _⟩ => ⟨S1x128, .f32⟩
  | .local _ .vmem, ⟨1, _⟩ => ⟨S1x128, .f32⟩
  | .local _ .vmem, ⟨2, _⟩ => ⟨S56x128, .f32⟩
  | .local _ .vmem, ⟨3, _⟩ => ⟨S56x128, .f32⟩
  | .local _ .vmem, ⟨4, _⟩ => ⟨S7168x128, .fp8e4m3⟩
  | .local _ .vmem, ⟨5, _⟩ => ⟨S7168x128, .fp8e4m3⟩
  | .local _ .vmem, ⟨6, _⟩ => ⟨S256x7168, .bf16⟩
  | .local _ .vmem, ⟨7, _⟩ => ⟨S256x7168, .bf16⟩
  | .local _ .vmem, ⟨8, _⟩ => ⟨S3584x128, .i32⟩
  | .local _ .vmem, ⟨9, _⟩ => ⟨S2432x128, .f32⟩
  | .local _ .vmem, ⟨10, _⟩ => ⟨S2432x128, .f32⟩
  | .local _ .vmem, ⟨11, _⟩ => ⟨S2432x128, .f32⟩
  | .local _ .vmem, ⟨12, _⟩ => ⟨S2432x128, .f32⟩
  | .local _ .vmem, ⟨13, _⟩ => ⟨S2432x128, .f32⟩
  | .local _ .vmem, ⟨14, _⟩ => ⟨S2432x128, .f32⟩
  | .local _ .vmem, ⟨15, _⟩ => ⟨S2432x128, .f32⟩
  | .local _ .vmem, ⟨16, _⟩ => ⟨S2432x128, .f32⟩
  | .local _ .vmem, ⟨17, _⟩ => ⟨S2432x128, .f32⟩
  | .local _ .vmem, ⟨18, _⟩ => ⟨S2432x128, .f32⟩
  | .local _ .vmem, ⟨19, _⟩ => ⟨S2432x128, .f32⟩
  | .local _ .vmem, ⟨20, _⟩ => ⟨S2432x128, .f32⟩
  | .local _ .vmem, ⟨21, _⟩ => ⟨S2432x128, .f32⟩
  | .local _ .vmem, ⟨22, _⟩ => ⟨S2432x128, .f32⟩
  | .local _ .vmem, ⟨23, _⟩ => ⟨S2432x128, .f32⟩
  | .local _ .vmem, ⟨24, _⟩ => ⟨S2432x128, .f32⟩
  | .local _ .vmem, ⟨25, _⟩ => ⟨S2432x128, .f32⟩
  | .local _ .vmem, ⟨26, _⟩ => ⟨S2432x128, .f32⟩
  | .local _ .vmem, ⟨27, _⟩ => ⟨S2432x128, .f32⟩
  | .local _ .vmem, ⟨28, _⟩ => ⟨S2432x128, .f32⟩
  | .local _ .vmem, ⟨29, _⟩ => ⟨S2432x128, .f32⟩
  | .local _ .smem, ⟨0, _⟩ => ⟨S2040, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_scratch18 : Ref sig .tc := ⟨.vmem, 26, rfl⟩
abbrev cc0_scratch19 : Ref sig .tc := ⟨.vmem, 27, rfl⟩
abbrev cc0_scratch20 : Ref sig .tc := ⟨.vmem, 28, rfl⟩
abbrev cc0_scratch21 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4640 : BitVec 32 := 0#32
  let c19_i32 : BitVec 32 := 19#32
  let v15725 : BitVec 32 := Scalar.addi c0_i32_4640 c19_i32
  let c1_i32_4641 : BitVec 32 := 1#32
  ⟨c0_i32_4640, v15725, c1_i32_4641⟩
def k0_off1 (k0_t1 : Fin k0_t1_loop.trips) : Fin 2 → Nat :=
  let c0_i32_4640 : BitVec 32 := 0#32
  let c1_i32_4641 : BitVec 32 := 1#32
  let arg29 : BitVec 32 := Scf.iv c0_i32_4640 c1_i32_4641 k0_t1
  let c128_i32_4643 : BitVec 32 := 128#32
  let v15726 : BitVec 32 := Scalar.muli arg29 c128_i32_4643
  let v15727 : Index := Scalar.indexCast v15726
  let c0_4644 : Index := 0#32
  ![v15727.toNat, 0]
def k0_off2 (i : grid0.Coords) (c0_i32_566 : BitVec 32) : Fin 1 → Nat :=
  let arg0 : BitVec 32 := BitVec.ofNat 32 (i 0).val
  let c128_i32 : BitVec 32 := 128#32
  let v1577 : BitVec 32 := Scalar.muli arg0 c128_i32
  let c0_i32_565 : BitVec 32 := 0#32
  let v1578 : BitVec 32 := Scalar.addi v1577 c0_i32_565
  let v1579 : BitVec 32 := Scalar.addi v1578 c0_i32_566
  let c2039_i32 : BitVec 32 := 2039#32
  let v1580 : BitVec 32 := Scalar.minsi v1579 c2039_i32
  let v1581 : Index := Scalar.indexCast v1580
  ![v1581.toNat]
def k0_off3 (i : grid0.Coords) (v1582 : BitVec 32) : Fin 2 → Nat :=
  let arg0 : BitVec 32 := BitVec.ofNat 32 (i 0).val
  let c128_i32 : BitVec 32 := 128#32
  let v1577 : BitVec 32 := Scalar.muli arg0 c128_i32
  let c0_i32_565 : BitVec 32 := 0#32
  let v1578 : BitVec 32 := Scalar.addi v1577 c0_i32_565
  let c0_i32_566 : BitVec 32 := 0#32
  let v1579 : BitVec 32 := Scalar.addi v1578 c0_i32_566
  let c2040_i32 : BitVec 32 := 2040#32
  let v1583 : BitVec 1 := Scalar.cmpi .slt v1579 c2040_i32
  let c256_i32 : BitVec 32 := 256#32
  let v1584 : BitVec 32 := Scalar.select v1583 v1582 c256_i32
  let c9_i32 : BitVec 32 := 9#32
  let v1585 : BitVec 32 := Scalar.muli v1584 c9_i32
  let v1605 : Index := Scalar.indexCast v1585
  let c0_575 : Index := 0#32
  ![v1605.toNat, 0]

def k0_off4 (i : grid0.Coords) (v1591 : BitVec 32) : Fin 2 → Nat :=
  let arg0 : BitVec 32 := BitVec.ofNat 32 (i 0).val
  let c128_i32_567 : BitVec 32 := 128#32
  let v1586 : BitVec 32 := Scalar.muli arg0 c128_i32_567
  let c0_i32_568 : BitVec 32 := 0#32
  let v1587 : BitVec 32 := Scalar.addi v1586 c0_i32_568
  let c1_i32 : BitVec 32 := 1#32
  let v1588 : BitVec 32 := Scalar.addi v1587 c1_i32
  let c2040_i32_570 : BitVec 32 := 2040#32
  let v1592 : BitVec 1 := Scalar.cmpi .slt v1588 c2040_i32_570
  let c256_i32_571 : BitVec 32 := 256#32
  let v1593 : BitVec 32 := Scalar.select v1592 v1591 c256_i32_571
  let c9_i32_572 : BitVec 32 := 9#32
  let v1594 : BitVec 32 := Scalar.muli v1593 c9_i32_572
  let v1616 : Index := Scalar.indexCast v1594
  let c0_577 : Index := 0#32
  ![v1616.toNat, 0]

def k0_chk2 (i : grid0.Coords) (v1591 : BitVec 32) : Prop :=
  (∀ a, (k0_off4 i v1591) a + S8x128.size a ≤ S2432x128.size a)
theorem k0_off4_inb : ∀ (i : grid0.Coords) (v1591 : BitVec 32) (k0_hw2 : k0_chk2 i v1591), ∀ a, (k0_off4 i v1591) a + S8x128.size a ≤ S2432x128.size a := fun i v1591 k0_hw2 => k0_hw2

def k0_off5 (i : grid0.Coords) (v1582 : BitVec 32) : Fin 2 → Nat :=
  let arg0 : BitVec 32 := BitVec.ofNat 32 (i 0).val
  let c128_i32 : BitVec 32 := 128#32
  let v1577 : BitVec 32 := Scalar.muli arg0 c128_i32
  let c0_i32_565 : BitVec 32 := 0#32
  let v1578 : BitVec 32 := Scalar.addi v1577 c0_i32_565
  let c0_i32_566 : BitVec 32 := 0#32
  let v1579 : BitVec 32 := Scalar.addi v1578 c0_i32_566
  let c2040_i32 : BitVec 32 := 2040#32
  let v1583 : BitVec 1 := Scalar.cmpi .slt v1579 c2040_i32
  let c256_i32 : BitVec 32 := 256#32
  let v1584 : BitVec 32 := Scalar.select v1583 v1582 c256_i32
  let c9_i32 : BitVec 32 := 9#32
  let v1585 : BitVec 32 := Scalar.muli v1584 c9_i32
  let v1634 : Index := Scalar.indexCast v1585
  let c0_583 : Index := 0#32
  ![v1634.toNat, 0]

def k0_chk1 (i : grid0.Coords) (v1582 : BitVec 32) : Prop :=
  (∀ a, (k0_off3 i v1582) a + S8x128.size a ≤ S2432x128.size a) ∧
  (∀ a, (k0_off5 i v1582) a + S8x128.size a ≤ S2432x128.size a)
theorem k0_off3_inb : ∀ (i : grid0.Coords) (v1582 : BitVec 32) (k0_hw1 : k0_chk1 i v1582), ∀ a, (k0_off3 i v1582) a + S8x128.size a ≤ S2432x128.size a := fun i v1582 k0_hw1 => k0_hw1.1
theorem k0_off5_inb : ∀ (i : grid0.Coords) (v1582 : BitVec 32) (k0_hw1 : k0_chk1 i v1582), ∀ a, (k0_off5 i v1582) a + S8x128.size a ≤ S2432x128.size a := fun i v1582 k0_hw1 => k0_hw1.2

def k0_off6 (i : grid0.Coords) (c0_i32_628 : BitVec 32) : Fin 1 → Nat :=
  let arg0 : BitVec 32 := BitVec.ofNat 32 (i 0).val
  let c128_i32_627 : BitVec 32 := 128#32
  let v1798 : BitVec 32 := Scalar.muli arg0 c128_i32_627
  let c2_i32 : BitVec 32 := 2#32
  let v1799 : BitVec 32 := Scalar.addi v1798 c2_i32
  let v1800 : BitVec 32 := Scalar.addi v1799 c0_i32_628
  let c2039_i32_629 : BitVec 32 := 2039#32
  let v1801 : BitVec 32 := Scalar.minsi v1800 c2039_i32_629
  let v1802 : Index := Scalar.indexCast v1801
  ![v1802.toNat]
def k0_off7 (i : grid0.Coords) (v1803 : BitVec 32) : Fin 2 → Nat :=
  let arg0 : BitVec 32 := BitVec.ofNat 32 (i 0).val
  let c128_i32_627 : BitVec 32 := 128#32
  let v1798 : BitVec 32 := Scalar.muli arg0 c128_i32_627
  let c2_i32 : BitVec 32 := 2#32
  let v1799 : BitVec 32 := Scalar.addi v1798 c2_i32
  let c0_i32_628 : BitVec 32 := 0#32
  let v1800 : BitVec 32 := Scalar.addi v1799 c0_i32_628
  let c2040_i32_630 : BitVec 32 := 2040#32
  let v1804 : BitVec 1 := Scalar.cmpi .slt v1800 c2040_i32_630
  let c256_i32_631 : BitVec 32 := 256#32
  let v1805 : BitVec 32 := Scalar.select v1804 v1803 c256_i32_631
  let c9_i32_632 : BitVec 32 := 9#32
  let v1806 : BitVec 32 := Scalar.muli v1805 c9_i32_632
  let v1826 : Index := Scalar.indexCast v1806
  let c0_643 : Index := 0#32
  ![v1826.toNat, 0]

def k0_off8 (i : grid0.Coords) (v1812 : BitVec 32) : Fin 2 → Nat :=
  let arg0 : BitVec 32 := BitVec.ofNat 32 (i 0).val
  let c128_i32_633 : BitVec 32 := 128#32
  let v1807 : BitVec 32 := Scalar.muli arg0 c128_i32_633
  let c2_i32_634 : BitVec 32 := 2#32
  let v1808 : BitVec 32 := Scalar.addi v1807 c2_i32_634
  let c1_i32_635 : BitVec 32 := 1#32
  let v1809 : BitVec 32 := Scalar.addi v1808 c1_i32_635
  let c2040_i32_637 : BitVec 32 := 2040#32
  let v1813 : BitVec 1 := Scalar.cmpi .slt v1809 c2040_i32_637
  let c256_i32_638 : BitVec 32 := 256#32
  let v1814 : BitVec 32 := Scalar.select v1813 v1812 c256_i32_638
  let c9_i32_639 : BitVec 32 := 9#32
  let v1815 : BitVec 32 := Scalar.muli v1814 c9_i32_639
  let v1837 : Index := Scalar.indexCast v1815
  let c0_645 : Index := 0#32
  ![v1837.toNat, 0]

def k0_chk4 (i : grid0.Coords) (v1812 : BitVec 32) : Prop :=
  (∀ a, (k0_off8 i v1812) a + S8x128.size a ≤ S2432x128.size a)
theorem k0_off8_inb : ∀ (i : grid0.Coords) (v1812 : BitVec 32) (k0_hw4 : k0_chk4 i v1812), ∀ a, (k0_off8 i v1812) a + S8x128.size a ≤ S2432x128.size a := fun i v1812 k0_hw4 => k0_hw4

def k0_off9 (i : grid0.Coords) (v1803 : BitVec 32) : Fin 2 → Nat :=
  let arg0 : BitVec 32 := BitVec.ofNat 32 (i 0).val
  let c128_i32_627 : BitVec 32 := 128#32
  let v1798 : BitVec 32 := Scalar.muli arg0 c128_i32_627
  let c2_i32 : BitVec 32 := 2#32
  let v1799 : BitVec 32 := Scalar.addi v1798 c2_i32
  let c0_i32_628 : BitVec 32 := 0#32
  let v1800 : BitVec 32 := Scalar.addi v1799 c0_i32_628
  let c2040_i32_630 : BitVec 32 := 2040#32
  let v1804 : BitVec 1 := Scalar.cmpi .slt v1800 c2040_i32_630
  let c256_i32_631 : BitVec 32 := 256#32
  let v1805 : BitVec 32 := Scalar.select v1804 v1803 c256_i32_631
  let c9_i32_632 : BitVec 32 := 9#32
  let v1806 : BitVec 32 := Scalar.muli v1805 c9_i32_632
  let v1855 : Index := Scalar.indexCast v1806
  let c0_650 : Index := 0#32
  ![v1855.toNat, 0]

def k0_chk3 (i : grid0.Coords) (v1803 : BitVec 32) : Prop :=
  (∀ a, (k0_off7 i v1803) a + S8x128.size a ≤ S2432x128.size a) ∧
  (∀ a, (k0_off9 i v1803) a + S8x128.size a ≤ S2432x128.size a)
theorem k0_off7_inb : ∀ (i : grid0.Coords) (v1803 : BitVec 32) (k0_hw3 : k0_chk3 i v1803), ∀ a, (k0_off7 i v1803) a + S8x128.size a ≤ S2432x128.size a := fun i v1803 k0_hw3 => k0_hw3.1
theorem k0_off9_inb : ∀ (i : grid0.Coords) (v1803 : BitVec 32) (k0_hw3 : k0_chk3 i v1803), ∀ a, (k0_off9 i v1803) a + S8x128.size a ≤ S2432x128.size a := fun i v1803 k0_hw3 => k0_hw3.2

def k0_off10 (i : grid0.Coords) (c0_i32_690 : BitVec 32) : Fin 1 → Nat :=
  let arg0 : BitVec 32 := BitVec.ofNat 32 (i 0).val
  let c128_i32_689 : BitVec 32 := 128#32
  let v2019 : BitVec 32 := Scalar.muli arg0 c128_i32_689
  let c4_i32 : BitVec 32 := 4#32
  let v2020 : BitVec 32 := Scalar.addi v2019 c4_i32
  let v2021 : BitVec 32 := Scalar.addi v2020 c0_i32_690
  let c2039_i32_691 : BitVec 32 := 2039#32
  let v2022 : BitVec 32 := Scalar.minsi v2021 c2039_i32_691
  let v2023 : Index := Scalar.indexCast v2022
  ![v2023.toNat]
def k0_off11 (i : grid0.Coords) (v2024 : BitVec 32) : Fin 2 → Nat :=
  let arg0 : BitVec 32 := BitVec.ofNat 32 (i 0).val
  let c128_i32_689 : BitVec 32 := 128#32
  let v2019 : BitVec 32 := Scalar.muli arg0 c128_i32_689
  let c4_i32 : BitVec 32 := 4#32
  let v2020 : BitVec 32 := Scalar.addi v2019 c4_i32
  let c0_i32_690 : BitVec 32 := 0#32
  let v2021 : BitVec 32 := Scalar.addi v2020 c0_i32_690
  let c2040_i32_692 : BitVec 32 := 2040#32
  let v2025 : BitVec 1 := Scalar.cmpi .slt v2021 c2040_i32_692
  let c256_i32_693 : BitVec 32 := 256#32
  let v2026 : BitVec 32 := Scalar.select v2025 v2024 c256_i32_693
  let c9_i32_694 : BitVec 32 := 9#32
  let v2027 : BitVec 32 := Scalar.muli v2026 c9_i32_694
  let v2047 : Index := Scalar.indexCast v2027
  let c0_705 : Index := 0#32
  ![v2047.toNat, 0]

def k0_off12 (i : grid0.Coords) (v2033 : BitVec 32) : Fin 2 → Nat :=
  let arg0 : BitVec 32 := BitVec.ofNat 32 (i 0).val
  let c128_i32_695 : BitVec 32 := 128#32
  let v2028 : BitVec 32 := Scalar.muli arg0 c128_i32_695
  let c4_i32_696 : BitVec 32 := 4#32
  let v2029 : BitVec 32 := Scalar.addi v2028 c4_i32_696
  let c1_i32_697 : BitVec 32 := 1#32
  let v2030 : BitVec 32 := Scalar.addi v2029 c1_i32_697
  let c2040_i32_699 : BitVec 32 := 2040#32
  let v2034 : BitVec 1 := Scalar.cmpi .slt v2030 c2040_i32_699
  let c256_i32_700 : BitVec 32 := 256#32
  let v2035 : BitVec 32 := Scalar.select v2034 v2033 c256_i32_700
  let c9_i32_701 : BitVec 32 := 9#32
  let v2036 : BitVec 32 := Scalar.muli v2035 c9_i32_701
  let v2058 : Index := Scalar.indexCast v2036
  let c0_707 : Index := 0#32
  ![v2058.toNat, 0]

def k0_chk6 (i : grid0.Coords) (v2033 : BitVec 32) : Prop :=
  (∀ a, (k0_off12 i v2033) a + S8x128.size a ≤ S2432x128.size a)
theorem k0_off12_inb : ∀ (i : grid0.Coords) (v2033 : BitVec 32) (k0_hw6 : k0_chk6 i v2033), ∀ a, (k0_off12 i v2033) a + S8x128.size a ≤ S2432x128.size a := fun i v2033 k0_hw6 => k0_hw6

def k0_off13 (i : grid0.Coords) (v2024 : BitVec 32) : Fin 2 → Nat :=
  let arg0 : BitVec 32 := BitVec.ofNat 32 (i 0).val
  let c128_i32_689 : BitVec 32 := 128#32
  let v2019 : BitVec 32 := Scalar.muli arg0 c128_i32_689
  let c4_i32 : BitVec 32 := 4#32
  let v2020 : BitVec 32 := Scalar.addi v2019 c4_i32
  let c0_i32_690 : BitVec 32 := 0#32
  let v2021 : BitVec 32 := Scalar.addi v2020 c0_i32_690
  let c2040_i32_692 : BitVec 32 := 2040#32
  let v2025 : BitVec 1 := Scalar.cmpi .slt v2021 c2040_i32_692
  let c256_i32_693 : BitVec 32 := 256#32
  let v2026 : BitVec 32 := Scalar.select v2025 v2024 c256_i32_693
  let c9_i32_694 : BitVec 32 := 9#32
  let v2027 : BitVec 32 := Scalar.muli v2026 c9_i32_694
  let v2076 : Index := Scalar.indexCast v2027
  let c0_712 : Index := 0#32
  ![v2076.toNat, 0]

def k0_chk5 (i : grid0.Coords) (v2024 : BitVec 32) : Prop :=
  (∀ a, (k0_off11 i v2024) a + S8x128.size a ≤ S2432x128.size a) ∧
  (∀ a, (k0_off13 i v2024) a + S8x128.size a ≤ S2432x128.size a)
theorem k0_off11_inb : ∀ (i : grid0.Coords) (v2024 : BitVec 32) (k0_hw5 : k0_chk5 i v2024), ∀ a, (k0_off11 i v2024) a + S8x128.size a ≤ S2432x128.size a := fun i v2024 k0_hw5 => k0_hw5.1
theorem k0_off13_inb : ∀ (i : grid0.Coords) (v2024 : BitVec 32) (k0_hw5 : k0_chk5 i v2024), ∀ a, (k0_off13 i v2024) a + S8x128.size a ≤ S2432x128.size a := fun i v2024 k0_hw5 => k0_hw5.2

def k0_off14 (i : grid0.Coords) (c0_i32_752 : BitVec 32) : Fin 1 → Nat :=
  let arg0 : BitVec 32 := BitVec.ofNat 32 (i 0).val
  let c128_i32_751 : BitVec 32 := 128#32
  let v2240 : BitVec 32 := Scalar.muli arg0 c128_i32_751
  let c6_i32 : BitVec 32 := 6#32
  let v2241 : BitVec 32 := Scalar.addi v2240 c6_i32
  let v2242 : BitVec 32 := Scalar.addi v2241 c0_i32_752
  let c2039_i32_753 : BitVec 32 := 2039#32
  let v2243 : BitVec 32 := Scalar.minsi v2242 c2039_i32_753
  let v2244 : Index := Scalar.indexCast v2243
  ![v2244.toNat]
def k0_off15 (i : grid0.Coords) (v2245 : BitVec 32) : Fin 2 → Nat :=
  let arg0 : BitVec 32 := BitVec.ofNat 32 (i 0).val
  let c128_i32_751 : BitVec 32 := 128#32
  let v2240 : BitVec 32 := Scalar.muli arg0 c128_i32_751
  let c6_i32 : BitVec 32 := 6#32
  let v2241 : BitVec 32 := Scalar.addi v2240 c6_i32
  let c0_i32_752 : BitVec 32 := 0#32
  let v2242 : BitVec 32 := Scalar.addi v2241 c0_i32_752
  let c2040_i32_754 : BitVec 32 := 2040#32
  let v2246 : BitVec 1 := Scalar.cmpi .slt v2242 c2040_i32_754
  let c256_i32_755 : BitVec 32 := 256#32
  let v2247 : BitVec 32 := Scalar.select v2246 v2245 c256_i32_755
  let c9_i32_756 : BitVec 32 := 9#32
  let v2248 : BitVec 32 := Scalar.muli v2247 c9_i32_756
  let v2268 : Index := Scalar.indexCast v2248
  let c0_767 : Index := 0#32
  ![v2268.toNat, 0]

def k0_off16 (i : grid0.Coords) (v2254 : BitVec 32) : Fin 2 → Nat :=
  let arg0 : BitVec 32 := BitVec.ofNat 32 (i 0).val
  let c128_i32_757 : BitVec 32 := 128#32
  let v2249 : BitVec 32 := Scalar.muli arg0 c128_i32_757
  let c6_i32_758 : BitVec 32 := 6#32
  let v2250 : BitVec 32 := Scalar.addi v2249 c6_i32_758
  let c1_i32_759 : BitVec 32 := 1#32
  let v2251 : BitVec 32 := Scalar.addi v2250 c1_i32_759
  let c2040_i32_761 : BitVec 32 := 2040#32
  let v2255 : BitVec 1 := Scalar.cmpi .slt v2251 c2040_i32_761
  let c256_i32_762 : BitVec 32 := 256#32
  let v2256 : BitVec 32 := Scalar.select v2255 v2254 c256_i32_762
  let c9_i32_763 : BitVec 32 := 9#32
  let v2257 : BitVec 32 := Scalar.muli v2256 c9_i32_763
  let v2279 : Index := Scalar.indexCast v2257
  let c0_769 : Index := 0#32
  ![v2279.toNat, 0]

def k0_chk8 (i : grid0.Coords) (v2254 : BitVec 32) : Prop :=
  (∀ a, (k0_off16 i v2254) a + S8x128.size a ≤ S2432x128.size a)
theorem k0_off16_inb : ∀ (i : grid0.Coords) (v2254 : BitVec 32) (k0_hw8 : k0_chk8 i v2254), ∀ a, (k0_off16 i v2254) a + S8x128.size a ≤ S2432x128.size a := fun i v2254 k0_hw8 => k0_hw8

def k0_off17 (i : grid0.Coords) (v2245 : BitVec 32) : Fin 2 → Nat :=
  let arg0 : BitVec 32 := BitVec.ofNat 32 (i 0).val
  let c128_i32_751 : BitVec 32 := 128#32
  let v2240 : BitVec 32 := Scalar.muli arg0 c128_i32_751
  let c6_i32 : BitVec 32 := 6#32
  let v2241 : BitVec 32 := Scalar.addi v2240 c6_i32
  let c0_i32_752 : BitVec 32 := 0#32
  let v2242 : BitVec 32 := Scalar.addi v2241 c0_i32_752
  let c2040_i32_754 : BitVec 32 := 2040#32
  let v2246 : BitVec 1 := Scalar.cmpi .slt v2242 c2040_i32_754
  let c256_i32_755 : BitVec 32 := 256#32
  let v2247 : BitVec 32 := Scalar.select v2246 v2245 c256_i32_755
  let c9_i32_756 : BitVec 32 := 9#32
  let v2248 : BitVec 32 := Scalar.muli v2247 c9_i32_756
  let v2297 : Index := Scalar.indexCast v2248
  let c0_774 : Index := 0#32
  ![v2297.toNat, 0]

def k0_chk7 (i : grid0.Coords) (v2245 : BitVec 32) : Prop :=
  (∀ a, (k0_off15 i v2245) a + S8x128.size a ≤ S2432x128.size a) ∧
  (∀ a, (k0_off17 i v2245) a + S8x128.size a ≤ S2432x128.size a)
theorem k0_off15_inb : ∀ (i : grid0.Coords) (v2245 : BitVec 32) (k0_hw7 : k0_chk7 i v2245), ∀ a, (k0_off15 i v2245) a + S8x128.size a ≤ S2432x128.size a := fun i v2245 k0_hw7 => k0_hw7.1
theorem k0_off17_inb : ∀ (i : grid0.Coords) (v2245 : BitVec 32) (k0_hw7 : k0_chk7 i v2245), ∀ a, (k0_off17 i v2245) a + S8x128.size a ≤ S2432x128.size a := fun i v2245 k0_hw7 => k0_hw7.2

def k0_off18 (i : grid0.Coords) (c0_i32_814 : BitVec 32) : Fin 1 → Nat :=
  let arg0 : BitVec 32 := BitVec.ofNat 32 (i 0).val
  let c128_i32_813 : BitVec 32 := 128#32
  let v2461 : BitVec 32 := Scalar.muli arg0 c128_i32_813
  let c8_i32 : BitVec 32 := 8#32
  let v2462 : BitVec 32 := Scalar.addi v2461 c8_i32
  let v2463 : BitVec 32 := Scalar.addi v2462 c0_i32_814
  let c2039_i32_815 : BitVec 32 := 2039#32
  let v2464 : BitVec 32 := Scalar.minsi v2463 c2039_i32_815
  let v2465 : Index := Scalar.indexCast v2464
  ![v2465.toNat]
def k0_off19 (i : grid0.Coords) (v2466 : BitVec 32) : Fin 2 → Nat :=
  let arg0 : BitVec 32 := BitVec.ofNat 32 (i 0).val
  let c128_i32_813 : BitVec 32 := 128#32
  let v2461 : BitVec 32 := Scalar.muli arg0 c128_i32_813
  let c8_i32 : BitVec 32 := 8#32
  let v2462 : BitVec 32 := Scalar.addi v2461 c8_i32
  let c0_i32_814 : BitVec 32 := 0#32
  let v2463 : BitVec 32 := Scalar.addi v2462 c0_i32_814
  let c2040_i32_816 : BitVec 32 := 2040#32
  let v2467 : BitVec 1 := Scalar.cmpi .slt v2463 c2040_i32_816
  let c256_i32_817 : BitVec 32 := 256#32
  let v2468 : BitVec 32 := Scalar.select v2467 v2466 c256_i32_817
  let c9_i32_818 : BitVec 32 := 9#32
  let v2469 : BitVec 32 := Scalar.muli v2468 c9_i32_818
  let v2489 : Index := Scalar.indexCast v2469
  let c0_830 : Index := 0#32
  ![v2489.toNat, 0]

def k0_off20 (i : grid0.Coords) (v2475 : BitVec 32) : Fin 2 → Nat :=
  let arg0 : BitVec 32 := BitVec.ofNat 32 (i 0).val
  let c128_i32_819 : BitVec 32 := 128#32
  let v2470 : BitVec 32 := Scalar.muli arg0 c128_i32_819
  let c8_i32_820 : BitVec 32 := 8#32
  let v2471 : BitVec 32 := Scalar.addi v2470 c8_i32_820
  let c1_i32_821 : BitVec 32 := 1#32
  let v2472 : BitVec 32 := Scalar.addi v2471 c1_i32_821
  let c2040_i32_823 : BitVec 32 := 2040#32
  let v2476 : BitVec 1 := Scalar.cmpi .slt v2472 c2040_i32_823
  let c256_i32_824 : BitVec 32 := 256#32
  let v2477 : BitVec 32 := Scalar.select v2476 v2475 c256_i32_824
  let c9_i32_825 : BitVec 32 := 9#32
  let v2478 : BitVec 32 := Scalar.muli v2477 c9_i32_825
  let v2500 : Index := Scalar.indexCast v2478
  let c0_832 : Index := 0#32
  ![v2500.toNat, 0]

def k0_chk10 (i : grid0.Coords) (v2475 : BitVec 32) : Prop :=
  (∀ a, (k0_off20 i v2475) a + S8x128.size a ≤ S2432x128.size a)
theorem k0_off20_inb : ∀ (i : grid0.Coords) (v2475 : BitVec 32) (k0_hw10 : k0_chk10 i v2475), ∀ a, (k0_off20 i v2475) a + S8x128.size a ≤ S2432x128.size a := fun i v2475 k0_hw10 => k0_hw10

def k0_off21 (i : grid0.Coords) (v2466 : BitVec 32) : Fin 2 → Nat :=
  let arg0 : BitVec 32 := BitVec.ofNat 32 (i 0).val
  let c128_i32_813 : BitVec 32 := 128#32
  let v2461 : BitVec 32 := Scalar.muli arg0 c128_i32_813
  let c8_i32 : BitVec 32 := 8#32
  let v2462 : BitVec 32 := Scalar.addi v2461 c8_i32
  let c0_i32_814 : BitVec 32 := 0#32
  let v2463 : BitVec 32 := Scalar.addi v2462 c0_i32_814
  let c2040_i32_816 : BitVec 32 := 2040#32
  let v2467 : BitVec 1 := Scalar.cmpi .slt v2463 c2040_i32_816
  let c256_i32_817 : BitVec 32 := 256#32
  let v2468 : BitVec 32 := Scalar.select v2467 v2466 c256_i32_817
  let c9_i32_818 : BitVec 32 := 9#32
  let v2469 : BitVec 32 := Scalar.muli v2468 c9_i32_818
  let v2518 : Index := Scalar.indexCast v2469
  let c0_838 : Index := 0#32
  ![v2518.toNat, 0]

def k0_chk9 (i : grid0.Coords) (v2466 : BitVec 32) : Prop :=
  (∀ a, (k0_off19 i v2466) a + S8x128.size a ≤ S2432x128.size a) ∧
  (∀ a, (k0_off21 i v2466) a + S8x128.size a ≤ S2432x128.size a)
theorem k0_off19_inb : ∀ (i : grid0.Coords) (v2466 : BitVec 32) (k0_hw9 : k0_chk9 i v2466), ∀ a, (k0_off19 i v2466) a + S8x128.size a ≤ S2432x128.size a := fun i v2466 k0_hw9 => k0_hw9.1
theorem k0_off21_inb : ∀ (i : grid0.Coords) (v2466 : BitVec 32) (k0_hw9 : k0_chk9 i v2466), ∀ a, (k0_off21 i v2466) a + S8x128.size a ≤ S2432x128.size a := fun i v2466 k0_hw9 => k0_hw9.2

def k0_off22 (i : grid0.Coords) (c0_i32_883 : BitVec 32) : Fin 1 → Nat :=
  let arg0 : BitVec 32 := BitVec.ofNat 32 (i 0).val
  let c128_i32_882 : BitVec 32 := 128#32
  let v2682 : BitVec 32 := Scalar.muli arg0 c128_i32_882
  let c10_i32 : BitVec 32 := 10#32
  let v2683 : BitVec 32 := Scalar.addi v2682 c10_i32
  let v2684 : BitVec 32 := Scalar.addi v2683 c0_i32_883
  let c2039_i32_884 : BitVec 32 := 2039#32
  let v2685 : BitVec 32 := Scalar.minsi v2684 c2039_i32_884
  let v2686 : Index := Scalar.indexCast v2685
  ![v2686.toNat]
def k0_off23 (i : grid0.Coords) (v2687 : BitVec 32) : Fin 2 → Nat :=
  let arg0 : BitVec 32 := BitVec.ofNat 32 (i 0).val
  let c128_i32_882 : BitVec 32 := 128#32
  let v2682 : BitVec 32 := Scalar.muli arg0 c128_i32_882
  let c10_i32 : BitVec 32 := 10#32
  let v2683 : BitVec 32 := Scalar.addi v2682 c10_i32
  let c0_i32_883 : BitVec 32 := 0#32
  let v2684 : BitVec 32 := Scalar.addi v2683 c0_i32_883
  let c2040_i32_885 : BitVec 32 := 2040#32
  let v2688 : BitVec 1 := Scalar.cmpi .slt v2684 c2040_i32_885
  let c256_i32_886 : BitVec 32 := 256#32
  let v2689 : BitVec 32 := Scalar.select v2688 v2687 c256_i32_886
  let c9_i32_887 : BitVec 32 := 9#32
  let v2690 : BitVec 32 := Scalar.muli v2689 c9_i32_887
  let v2710 : Index := Scalar.indexCast v2690
  let c0_898 : Index := 0#32
  ![v2710.toNat, 0]

def k0_off24 (i : grid0.Coords) (v2696 : BitVec 32) : Fin 2 → Nat :=
  let arg0 : BitVec 32 := BitVec.ofNat 32 (i 0).val
  let c128_i32_888 : BitVec 32 := 128#32
  let v2691 : BitVec 32 := Scalar.muli arg0 c128_i32_888
  let c10_i32_889 : BitVec 32 := 10#32
  let v2692 : BitVec 32 := Scalar.addi v2691 c10_i32_889
  let c1_i32_890 : BitVec 32 := 1#32
  let v2693 : BitVec 32 := Scalar.addi v2692 c1_i32_890
  let c2040_i32_892 : BitVec 32 := 2040#32
  let v2697 : BitVec 1 := Scalar.cmpi .slt v2693 c2040_i32_892
  let c256_i32_893 : BitVec 32 := 256#32
  let v2698 : BitVec 32 := Scalar.select v2697 v2696 c256_i32_893
  let c9_i32_894 : BitVec 32 := 9#32
  let v2699 : BitVec 32 := Scalar.muli v2698 c9_i32_894
  let v2721 : Index := Scalar.indexCast v2699
  let c0_900 : Index := 0#32
  ![v2721.toNat, 0]

def k0_chk12 (i : grid0.Coords) (v2696 : BitVec 32) : Prop :=
  (∀ a, (k0_off24 i v2696) a + S8x128.size a ≤ S2432x128.size a)
theorem k0_off24_inb : ∀ (i : grid0.Coords) (v2696 : BitVec 32) (k0_hw12 : k0_chk12 i v2696), ∀ a, (k0_off24 i v2696) a + S8x128.size a ≤ S2432x128.size a := fun i v2696 k0_hw12 => k0_hw12

def k0_off25 (i : grid0.Coords) (v2687 : BitVec 32) : Fin 2 → Nat :=
  let arg0 : BitVec 32 := BitVec.ofNat 32 (i 0).val
  let c128_i32_882 : BitVec 32 := 128#32
  let v2682 : BitVec 32 := Scalar.muli arg0 c128_i32_882
  let c10_i32 : BitVec 32 := 10#32
  let v2683 : BitVec 32 := Scalar.addi v2682 c10_i32
  let c0_i32_883 : BitVec 32 := 0#32
  let v2684 : BitVec 32 := Scalar.addi v2683 c0_i32_883
  let c2040_i32_885 : BitVec 32 := 2040#32
  let v2688 : BitVec 1 := Scalar.cmpi .slt v2684 c2040_i32_885
  let c256_i32_886 : BitVec 32 := 256#32
  let v2689 : BitVec 32 := Scalar.select v2688 v2687 c256_i32_886
  let c9_i32_887 : BitVec 32 := 9#32
  let v2690 : BitVec 32 := Scalar.muli v2689 c9_i32_887
  let v2739 : Index := Scalar.indexCast v2690
  let c0_905 : Index := 0#32
  ![v2739.toNat, 0]

def k0_chk11 (i : grid0.Coords) (v2687 : BitVec 32) : Prop :=
  (∀ a, (k0_off23 i v2687) a + S8x128.size a ≤ S2432x128.size a) ∧
  (∀ a, (k0_off25 i v2687) a + S8x128.size a ≤ S2432x128.size a)
theorem k0_off23_inb : ∀ (i : grid0.Coords) (v2687 : BitVec 32) (k0_hw11 : k0_chk11 i v2687), ∀ a, (k0_off23 i v2687) a + S8x128.size a ≤ S2432x128.size a := fun i v2687 k0_hw11 => k0_hw11.1
theorem k0_off25_inb : ∀ (i : grid0.Coords) (v2687 : BitVec 32) (k0_hw11 : k0_chk11 i v2687), ∀ a, (k0_off25 i v2687) a + S8x128.size a ≤ S2432x128.size a := fun i v2687 k0_hw11 => k0_hw11.2

def k0_off26 (i : grid0.Coords) (c0_i32_945 : BitVec 32) : Fin 1 → Nat :=
  let arg0 : BitVec 32 := BitVec.ofNat 32 (i 0).val
  let c128_i32_944 : BitVec 32 := 128#32
  let v2903 : BitVec 32 := Scalar.muli arg0 c128_i32_944
  let c12_i32 : BitVec 32 := 12#32
  let v2904 : BitVec 32 := Scalar.addi v2903 c12_i32
  let v2905 : BitVec 32 := Scalar.addi v2904 c0_i32_945
  let c2039_i32_946 : BitVec 32 := 2039#32
  let v2906 : BitVec 32 := Scalar.minsi v2905 c2039_i32_946
  let v2907 : Index := Scalar.indexCast v2906
  ![v2907.toNat]
def k0_off27 (i : grid0.Coords) (v2908 : BitVec 32) : Fin 2 → Nat :=
  let arg0 : BitVec 32 := BitVec.ofNat 32 (i 0).val
  let c128_i32_944 : BitVec 32 := 128#32
  let v2903 : BitVec 32 := Scalar.muli arg0 c128_i32_944
  let c12_i32 : BitVec 32 := 12#32
  let v2904 : BitVec 32 := Scalar.addi v2903 c12_i32
  let c0_i32_945 : BitVec 32 := 0#32
  let v2905 : BitVec 32 := Scalar.addi v2904 c0_i32_945
  let c2040_i32_947 : BitVec 32 := 2040#32
  let v2909 : BitVec 1 := Scalar.cmpi .slt v2905 c2040_i32_947
  let c256_i32_948 : BitVec 32 := 256#32
  let v2910 : BitVec 32 := Scalar.select v2909 v2908 c256_i32_948
  let c9_i32_949 : BitVec 32 := 9#32
  let v2911 : BitVec 32 := Scalar.muli v2910 c9_i32_949
  let v2931 : Index := Scalar.indexCast v2911
  let c0_960 : Index := 0#32
  ![v2931.toNat, 0]

def k0_off28 (i : grid0.Coords) (v2917 : BitVec 32) : Fin 2 → Nat :=
  let arg0 : BitVec 32 := BitVec.ofNat 32 (i 0).val
  let c128_i32_950 : BitVec 32 := 128#32
  let v2912 : BitVec 32 := Scalar.muli arg0 c128_i32_950
  let c12_i32_951 : BitVec 32 := 12#32
  let v2913 : BitVec 32 := Scalar.addi v2912 c12_i32_951
  let c1_i32_952 : BitVec 32 := 1#32
  let v2914 : BitVec 32 := Scalar.addi v2913 c1_i32_952
  let c2040_i32_954 : BitVec 32 := 2040#32
  let v2918 : BitVec 1 := Scalar.cmpi .slt v2914 c2040_i32_954
  let c256_i32_955 : BitVec 32 := 256#32
  let v2919 : BitVec 32 := Scalar.select v2918 v2917 c256_i32_955
  let c9_i32_956 : BitVec 32 := 9#32
  let v2920 : BitVec 32 := Scalar.muli v2919 c9_i32_956
  let v2942 : Index := Scalar.indexCast v2920
  let c0_962 : Index := 0#32
  ![v2942.toNat, 0]

def k0_chk14 (i : grid0.Coords) (v2917 : BitVec 32) : Prop :=
  (∀ a, (k0_off28 i v2917) a + S8x128.size a ≤ S2432x128.size a)
theorem k0_off28_inb : ∀ (i : grid0.Coords) (v2917 : BitVec 32) (k0_hw14 : k0_chk14 i v2917), ∀ a, (k0_off28 i v2917) a + S8x128.size a ≤ S2432x128.size a := fun i v2917 k0_hw14 => k0_hw14

def k0_off29 (i : grid0.Coords) (v2908 : BitVec 32) : Fin 2 → Nat :=
  let arg0 : BitVec 32 := BitVec.ofNat 32 (i 0).val
  let c128_i32_944 : BitVec 32 := 128#32
  let v2903 : BitVec 32 := Scalar.muli arg0 c128_i32_944
  let c12_i32 : BitVec 32 := 12#32
  let v2904 : BitVec 32 := Scalar.addi v2903 c12_i32
  let c0_i32_945 : BitVec 32 := 0#32
  let v2905 : BitVec 32 := Scalar.addi v2904 c0_i32_945
  let c2040_i32_947 : BitVec 32 := 2040#32
  let v2909 : BitVec 1 := Scalar.cmpi .slt v2905 c2040_i32_947
  let c256_i32_948 : BitVec 32 := 256#32
  let v2910 : BitVec 32 := Scalar.select v2909 v2908 c256_i32_948
  let c9_i32_949 : BitVec 32 := 9#32
  let v2911 : BitVec 32 := Scalar.muli v2910 c9_i32_949
  let v2960 : Index := Scalar.indexCast v2911
  let c0_967 : Index := 0#32
  ![v2960.toNat, 0]

def k0_chk13 (i : grid0.Coords) (v2908 : BitVec 32) : Prop :=
  (∀ a, (k0_off27 i v2908) a + S8x128.size a ≤ S2432x128.size a) ∧
  (∀ a, (k0_off29 i v2908) a + S8x128.size a ≤ S2432x128.size a)
theorem k0_off27_inb : ∀ (i : grid0.Coords) (v2908 : BitVec 32) (k0_hw13 : k0_chk13 i v2908), ∀ a, (k0_off27 i v2908) a + S8x128.size a ≤ S2432x128.size a := fun i v2908 k0_hw13 => k0_hw13.1
theorem k0_off29_inb : ∀ (i : grid0.Coords) (v2908 : BitVec 32) (k0_hw13 : k0_chk13 i v2908), ∀ a, (k0_off29 i v2908) a + S8x128.size a ≤ S2432x128.size a := fun i v2908 k0_hw13 => k0_hw13.2

def k0_off30 (i : grid0.Coords) (c0_i32_1007 : BitVec 32) : Fin 1 → Nat :=
  let arg0 : BitVec 32 := BitVec.ofNat 32 (i 0).val
  let c128_i32_1006 : BitVec 32 := 128#32
  let v3124 : BitVec 32 := Scalar.muli arg0 c128_i32_1006
  let c14_i32 : BitVec 32 := 14#32
  let v3125 : BitVec 32 := Scalar.addi v3124 c14_i32
  let v3126 : BitVec 32 := Scalar.addi v3125 c0_i32_1007
  let c2039_i32_1008 : BitVec 32 := 2039#32
  let v3127 : BitVec 32 := Scalar.minsi v3126 c2039_i32_1008
  let v3128 : Index := Scalar.indexCast v3127
  ![v3128.toNat]
def k0_off31 (i : grid0.Coords) (v3129 : BitVec 32) : Fin 2 → Nat :=
  let arg0 : BitVec 32 := BitVec.ofNat 32 (i 0).val
  let c128_i32_1006 : BitVec 32 := 128#32
  let v3124 : BitVec 32 := Scalar.muli arg0 c128_i32_1006
  let c14_i32 : BitVec 32 := 14#32
  let v3125 : BitVec 32 := Scalar.addi v3124 c14_i32
  let c0_i32_1007 : BitVec 32 := 0#32
  let v3126 : BitVec 32 := Scalar.addi v3125 c0_i32_1007
  let c2040_i32_1009 : BitVec 32 := 2040#32
  let v3130 : BitVec 1 := Scalar.cmpi .slt v3126 c2040_i32_1009
  let c256_i32_1010 : BitVec 32 := 256#32
  let v3131 : BitVec 32 := Scalar.select v3130 v3129 c256_i32_1010
  let c9_i32_1011 : BitVec 32 := 9#32
  let v3132 : BitVec 32 := Scalar.muli v3131 c9_i32_1011
  let v3152 : Index := Scalar.indexCast v3132
  let c0_1022 : Index := 0#32
  ![v3152.toNat, 0]

def k0_off32 (i : grid0.Coords) (v3138 : BitVec 32) : Fin 2 → Nat :=
  let arg0 : BitVec 32 := BitVec.ofNat 32 (i 0).val
  let c128_i32_1012 : BitVec 32 := 128#32
  let v3133 : BitVec 32 := Scalar.muli arg0 c128_i32_1012
  let c14_i32_1013 : BitVec 32 := 14#32
  let v3134 : BitVec 32 := Scalar.addi v3133 c14_i32_1013
  let c1_i32_1014 : BitVec 32 := 1#32
  let v3135 : BitVec 32 := Scalar.addi v3134 c1_i32_1014
  let c2040_i32_1016 : BitVec 32 := 2040#32
  let v3139 : BitVec 1 := Scalar.cmpi .slt v3135 c2040_i32_1016
  let c256_i32_1017 : BitVec 32 := 256#32
  let v3140 : BitVec 32 := Scalar.select v3139 v3138 c256_i32_1017
  let c9_i32_1018 : BitVec 32 := 9#32
  let v3141 : BitVec 32 := Scalar.muli v3140 c9_i32_1018
  let v3163 : Index := Scalar.indexCast v3141
  let c0_1024 : Index := 0#32
  ![v3163.toNat, 0]

def k0_chk16 (i : grid0.Coords) (v3138 : BitVec 32) : Prop :=
  (∀ a, (k0_off32 i v3138) a + S8x128.size a ≤ S2432x128.size a)
theorem k0_off32_inb : ∀ (i : grid0.Coords) (v3138 : BitVec 32) (k0_hw16 : k0_chk16 i v3138), ∀ a, (k0_off32 i v3138) a + S8x128.size a ≤ S2432x128.size a := fun i v3138 k0_hw16 => k0_hw16

def k0_off33 (i : grid0.Coords) (v3129 : BitVec 32) : Fin 2 → Nat :=
  let arg0 : BitVec 32 := BitVec.ofNat 32 (i 0).val
  let c128_i32_1006 : BitVec 32 := 128#32
  let v3124 : BitVec 32 := Scalar.muli arg0 c128_i32_1006
  let c14_i32 : BitVec 32 := 14#32
  let v3125 : BitVec 32 := Scalar.addi v3124 c14_i32
  let c0_i32_1007 : BitVec 32 := 0#32
  let v3126 : BitVec 32 := Scalar.addi v3125 c0_i32_1007
  let c2040_i32_1009 : BitVec 32 := 2040#32
  let v3130 : BitVec 1 := Scalar.cmpi .slt v3126 c2040_i32_1009
  let c256_i32_1010 : BitVec 32 := 256#32
  let v3131 : BitVec 32 := Scalar.select v3130 v3129 c256_i32_1010
  let c9_i32_1011 : BitVec 32 := 9#32
  let v3132 : BitVec 32 := Scalar.muli v3131 c9_i32_1011
  let v3181 : Index := Scalar.indexCast v3132
  let c0_1029 : Index := 0#32
  ![v3181.toNat, 0]

def k0_chk15 (i : grid0.Coords) (v3129 : BitVec 32) : Prop :=
  (∀ a, (k0_off31 i v3129) a + S8x128.size a ≤ S2432x128.size a) ∧
  (∀ a, (k0_off33 i v3129) a + S8x128.size a ≤ S2432x128.size a)
theorem k0_off31_inb : ∀ (i : grid0.Coords) (v3129 : BitVec 32) (k0_hw15 : k0_chk15 i v3129), ∀ a, (k0_off31 i v3129) a + S8x128.size a ≤ S2432x128.size a := fun i v3129 k0_hw15 => k0_hw15.1
theorem k0_off33_inb : ∀ (i : grid0.Coords) (v3129 : BitVec 32) (k0_hw15 : k0_chk15 i v3129), ∀ a, (k0_off33 i v3129) a + S8x128.size a ≤ S2432x128.size a := fun i v3129 k0_hw15 => k0_hw15.2

def k0_off34 (i : grid0.Coords) (c0_i32_1070 : BitVec 32) : Fin 1 → Nat :=
  let arg0 : BitVec 32 := BitVec.ofNat 32 (i 0).val
  let c128_i32_1068 : BitVec 32 := 128#32
  let v3345 : BitVec 32 := Scalar.muli arg0 c128_i32_1068
  let c16_i32_1069 : BitVec 32 := 16#32
  let v3346 : BitVec 32 := Scalar.addi v3345 c16_i32_1069
  let v3347 : BitVec 32 := Scalar.addi v3346 c0_i32_1070
  let c2039_i32_1071 : BitVec 32 := 2039#32
  let v3348 : BitVec 32 := Scalar.minsi v3347 c2039_i32_1071
  let v3349 : Index := Scalar.indexCast v3348
  ![v3349.toNat]
def k0_off35 (i : grid0.Coords) (v3350 : BitVec 32) : Fin 2 → Nat :=
  let arg0 : BitVec 32 := BitVec.ofNat 32 (i 0).val
  let c128_i32_1068 : BitVec 32 := 128#32
  let v3345 : BitVec 32 := Scalar.muli arg0 c128_i32_1068
  let c16_i32_1069 : BitVec 32 := 16#32
  let v3346 : BitVec 32 := Scalar.addi v3345 c16_i32_1069
  let c0_i32_1070 : BitVec 32 := 0#32
  let v3347 : BitVec 32 := Scalar.addi v3346 c0_i32_1070
  let c2040_i32_1072 : BitVec 32 := 2040#32
  let v3351 : BitVec 1 := Scalar.cmpi .slt v3347 c2040_i32_1072
  let c256_i32_1073 : BitVec 32 := 256#32
  let v3352 : BitVec 32 := Scalar.select v3351 v3350 c256_i32_1073
  let c9_i32_1074 : BitVec 32 := 9#32
  let v3353 : BitVec 32 := Scalar.muli v3352 c9_i32_1074
  let v3373 : Index := Scalar.indexCast v3353
  let c0_1086 : Index := 0#32
  ![v3373.toNat, 0]

def k0_off36 (i : grid0.Coords) (v3359 : BitVec 32) : Fin 2 → Nat :=
  let arg0 : BitVec 32 := BitVec.ofNat 32 (i 0).val
  let c128_i32_1075 : BitVec 32 := 128#32
  let v3354 : BitVec 32 := Scalar.muli arg0 c128_i32_1075
  let c16_i32_1076 : BitVec 32 := 16#32
  let v3355 : BitVec 32 := Scalar.addi v3354 c16_i32_1076
  let c1_i32_1077 : BitVec 32 := 1#32
  let v3356 : BitVec 32 := Scalar.addi v3355 c1_i32_1077
  let c2040_i32_1079 : BitVec 32 := 2040#32
  let v3360 : BitVec 1 := Scalar.cmpi .slt v3356 c2040_i32_1079
  let c256_i32_1080 : BitVec 32 := 256#32
  let v3361 : BitVec 32 := Scalar.select v3360 v3359 c256_i32_1080
  let c9_i32_1081 : BitVec 32 := 9#32
  let v3362 : BitVec 32 := Scalar.muli v3361 c9_i32_1081
  let v3384 : Index := Scalar.indexCast v3362
  let c0_1088 : Index := 0#32
  ![v3384.toNat, 0]

def k0_chk18 (i : grid0.Coords) (v3359 : BitVec 32) : Prop :=
  (∀ a, (k0_off36 i v3359) a + S8x128.size a ≤ S2432x128.size a)
theorem k0_off36_inb : ∀ (i : grid0.Coords) (v3359 : BitVec 32) (k0_hw18 : k0_chk18 i v3359), ∀ a, (k0_off36 i v3359) a + S8x128.size a ≤ S2432x128.size a := fun i v3359 k0_hw18 => k0_hw18

def k0_off37 (i : grid0.Coords) (v3350 : BitVec 32) : Fin 2 → Nat :=
  let arg0 : BitVec 32 := BitVec.ofNat 32 (i 0).val
  let c128_i32_1068 : BitVec 32 := 128#32
  let v3345 : BitVec 32 := Scalar.muli arg0 c128_i32_1068
  let c16_i32_1069 : BitVec 32 := 16#32
  let v3346 : BitVec 32 := Scalar.addi v3345 c16_i32_1069
  let c0_i32_1070 : BitVec 32 := 0#32
  let v3347 : BitVec 32 := Scalar.addi v3346 c0_i32_1070
  let c2040_i32_1072 : BitVec 32 := 2040#32
  let v3351 : BitVec 1 := Scalar.cmpi .slt v3347 c2040_i32_1072
  let c256_i32_1073 : BitVec 32 := 256#32
  let v3352 : BitVec 32 := Scalar.select v3351 v3350 c256_i32_1073
  let c9_i32_1074 : BitVec 32 := 9#32
  let v3353 : BitVec 32 := Scalar.muli v3352 c9_i32_1074
  let v3402 : Index := Scalar.indexCast v3353
  let c0_1094 : Index := 0#32
  ![v3402.toNat, 0]

def k0_chk17 (i : grid0.Coords) (v3350 : BitVec 32) : Prop :=
  (∀ a, (k0_off35 i v3350) a + S8x128.size a ≤ S2432x128.size a) ∧
  (∀ a, (k0_off37 i v3350) a + S8x128.size a ≤ S2432x128.size a)
theorem k0_off35_inb : ∀ (i : grid0.Coords) (v3350 : BitVec 32) (k0_hw17 : k0_chk17 i v3350), ∀ a, (k0_off35 i v3350) a + S8x128.size a ≤ S2432x128.size a := fun i v3350 k0_hw17 => k0_hw17.1
theorem k0_off37_inb : ∀ (i : grid0.Coords) (v3350 : BitVec 32) (k0_hw17 : k0_chk17 i v3350), ∀ a, (k0_off37 i v3350) a + S8x128.size a ≤ S2432x128.size a := fun i v3350 k0_hw17 => k0_hw17.2

def k0_off38 (i : grid0.Coords) (c0_i32_1139 : BitVec 32) : Fin 1 → Nat :=
  let arg0 : BitVec 32 := BitVec.ofNat 32 (i 0).val
  let c128_i32_1138 : BitVec 32 := 128#32
  let v3566 : BitVec 32 := Scalar.muli arg0 c128_i32_1138
  let c18_i32 : BitVec 32 := 18#32
  let v3567 : BitVec 32 := Scalar.addi v3566 c18_i32
  let v3568 : BitVec 32 := Scalar.addi v3567 c0_i32_1139
  let c2039_i32_1140 : BitVec 32 := 2039#32
  let v3569 : BitVec 32 := Scalar.minsi v3568 c2039_i32_1140
  let v3570 : Index := Scalar.indexCast v3569
  ![v3570.toNat]
def k0_off39 (i : grid0.Coords) (v3571 : BitVec 32) : Fin 2 → Nat :=
  let arg0 : BitVec 32 := BitVec.ofNat 32 (i 0).val
  let c128_i32_1138 : BitVec 32 := 128#32
  let v3566 : BitVec 32 := Scalar.muli arg0 c128_i32_1138
  let c18_i32 : BitVec 32 := 18#32
  let v3567 : BitVec 32 := Scalar.addi v3566 c18_i32
  let c0_i32_1139 : BitVec 32 := 0#32
  let v3568 : BitVec 32 := Scalar.addi v3567 c0_i32_1139
  let c2040_i32_1141 : BitVec 32 := 2040#32
  let v3572 : BitVec 1 := Scalar.cmpi .slt v3568 c2040_i32_1141
  let c256_i32_1142 : BitVec 32 := 256#32
  let v3573 : BitVec 32 := Scalar.select v3572 v3571 c256_i32_1142
  let c9_i32_1143 : BitVec 32 := 9#32
  let v3574 : BitVec 32 := Scalar.muli v3573 c9_i32_1143
  let v3594 : Index := Scalar.indexCast v3574
  let c0_1154 : Index := 0#32
  ![v3594.toNat, 0]

def k0_off40 (i : grid0.Coords) (v3580 : BitVec 32) : Fin 2 → Nat :=
  let arg0 : BitVec 32 := BitVec.ofNat 32 (i 0).val
  let c128_i32_1144 : BitVec 32 := 128#32
  let v3575 : BitVec 32 := Scalar.muli arg0 c128_i32_1144
  let c18_i32_1145 : BitVec 32 := 18#32
  let v3576 : BitVec 32 := Scalar.addi v3575 c18_i32_1145
  let c1_i32_1146 : BitVec 32 := 1#32
  let v3577 : BitVec 32 := Scalar.addi v3576 c1_i32_1146
  let c2040_i32_1148 : BitVec 32 := 2040#32
  let v3581 : BitVec 1 := Scalar.cmpi .slt v3577 c2040_i32_1148
  let c256_i32_1149 : BitVec 32 := 256#32
  let v3582 : BitVec 32 := Scalar.select v3581 v3580 c256_i32_1149
  let c9_i32_1150 : BitVec 32 := 9#32
  let v3583 : BitVec 32 := Scalar.muli v3582 c9_i32_1150
  let v3605 : Index := Scalar.indexCast v3583
  let c0_1156 : Index := 0#32
  ![v3605.toNat, 0]

def k0_chk20 (i : grid0.Coords) (v3580 : BitVec 32) : Prop :=
  (∀ a, (k0_off40 i v3580) a + S8x128.size a ≤ S2432x128.size a)
theorem k0_off40_inb : ∀ (i : grid0.Coords) (v3580 : BitVec 32) (k0_hw20 : k0_chk20 i v3580), ∀ a, (k0_off40 i v3580) a + S8x128.size a ≤ S2432x128.size a := fun i v3580 k0_hw20 => k0_hw20

def k0_off41 (i : grid0.Coords) (v3571 : BitVec 32) : Fin 2 → Nat :=
  let arg0 : BitVec 32 := BitVec.ofNat 32 (i 0).val
  let c128_i32_1138 : BitVec 32 := 128#32
  let v3566 : BitVec 32 := Scalar.muli arg0 c128_i32_1138
  let c18_i32 : BitVec 32 := 18#32
  let v3567 : BitVec 32 := Scalar.addi v3566 c18_i32
  let c0_i32_1139 : BitVec 32 := 0#32
  let v3568 : BitVec 32 := Scalar.addi v3567 c0_i32_1139
  let c2040_i32_1141 : BitVec 32 := 2040#32
  let v3572 : BitVec 1 := Scalar.cmpi .slt v3568 c2040_i32_1141
  let c256_i32_1142 : BitVec 32 := 256#32
  let v3573 : BitVec 32 := Scalar.select v3572 v3571 c256_i32_1142
  let c9_i32_1143 : BitVec 32 := 9#32
  let v3574 : BitVec 32 := Scalar.muli v3573 c9_i32_1143
  let v3623 : Index := Scalar.indexCast v3574
  let c0_1161 : Index := 0#32
  ![v3623.toNat, 0]

def k0_chk19 (i : grid0.Coords) (v3571 : BitVec 32) : Prop :=
  (∀ a, (k0_off39 i v3571) a + S8x128.size a ≤ S2432x128.size a) ∧
  (∀ a, (k0_off41 i v3571) a + S8x128.size a ≤ S2432x128.size a)
theorem k0_off39_inb : ∀ (i : grid0.Coords) (v3571 : BitVec 32) (k0_hw19 : k0_chk19 i v3571), ∀ a, (k0_off39 i v3571) a + S8x128.size a ≤ S2432x128.size a := fun i v3571 k0_hw19 => k0_hw19.1
theorem k0_off41_inb : ∀ (i : grid0.Coords) (v3571 : BitVec 32) (k0_hw19 : k0_chk19 i v3571), ∀ a, (k0_off41 i v3571) a + S8x128.size a ≤ S2432x128.size a := fun i v3571 k0_hw19 => k0_hw19.2

def k0_off42 (i : grid0.Coords) (c0_i32_1201 : BitVec 32) : Fin 1 → Nat :=
  let arg0 : BitVec 32 := BitVec.ofNat 32 (i 0).val
  let c128_i32_1200 : BitVec 32 := 128#32
  let v3787 : BitVec 32 := Scalar.muli arg0 c128_i32_1200
  let c20_i32 : BitVec 32 := 20#32
  let v3788 : BitVec 32 := Scalar.addi v3787 c20_i32
  let v3789 : BitVec 32 := Scalar.addi v3788 c0_i32_1201
  let c2039_i32_1202 : BitVec 32 := 2039#32
  let v3790 : BitVec 32 := Scalar.minsi v3789 c2039_i32_1202
  let v3791 : Index := Scalar.indexCast v3790
  ![v3791.toNat]
def k0_off43 (i : grid0.Coords) (v3792 : BitVec 32) : Fin 2 → Nat :=
  let arg0 : BitVec 32 := BitVec.ofNat 32 (i 0).val
  let c128_i32_1200 : BitVec 32 := 128#32
  let v3787 : BitVec 32 := Scalar.muli arg0 c128_i32_1200
  let c20_i32 : BitVec 32 := 20#32
  let v3788 : BitVec 32 := Scalar.addi v3787 c20_i32
  let c0_i32_1201 : BitVec 32 := 0#32
  let v3789 : BitVec 32 := Scalar.addi v3788 c0_i32_1201
  let c2040_i32_1203 : BitVec 32 := 2040#32
  let v3793 : BitVec 1 := Scalar.cmpi .slt v3789 c2040_i32_1203
  let c256_i32_1204 : BitVec 32 := 256#32
  let v3794 : BitVec 32 := Scalar.select v3793 v3792 c256_i32_1204
  let c9_i32_1205 : BitVec 32 := 9#32
  let v3795 : BitVec 32 := Scalar.muli v3794 c9_i32_1205
  let v3815 : Index := Scalar.indexCast v3795
  let c0_1216 : Index := 0#32
  ![v3815.toNat, 0]

def k0_off44 (i : grid0.Coords) (v3801 : BitVec 32) : Fin 2 → Nat :=
  let arg0 : BitVec 32 := BitVec.ofNat 32 (i 0).val
  let c128_i32_1206 : BitVec 32 := 128#32
  let v3796 : BitVec 32 := Scalar.muli arg0 c128_i32_1206
  let c20_i32_1207 : BitVec 32 := 20#32
  let v3797 : BitVec 32 := Scalar.addi v3796 c20_i32_1207
  let c1_i32_1208 : BitVec 32 := 1#32
  let v3798 : BitVec 32 := Scalar.addi v3797 c1_i32_1208
  let c2040_i32_1210 : BitVec 32 := 2040#32
  let v3802 : BitVec 1 := Scalar.cmpi .slt v3798 c2040_i32_1210
  let c256_i32_1211 : BitVec 32 := 256#32
  let v3803 : BitVec 32 := Scalar.select v3802 v3801 c256_i32_1211
  let c9_i32_1212 : BitVec 32 := 9#32
  let v3804 : BitVec 32 := Scalar.muli v3803 c9_i32_1212
  let v3826 : Index := Scalar.indexCast v3804
  let c0_1218 : Index := 0#32
  ![v3826.toNat, 0]

def k0_chk22 (i : grid0.Coords) (v3801 : BitVec 32) : Prop :=
  (∀ a, (k0_off44 i v3801) a + S8x128.size a ≤ S2432x128.size a)
theorem k0_off44_inb : ∀ (i : grid0.Coords) (v3801 : BitVec 32) (k0_hw22 : k0_chk22 i v3801), ∀ a, (k0_off44 i v3801) a + S8x128.size a ≤ S2432x128.size a := fun i v3801 k0_hw22 => k0_hw22

def k0_off45 (i : grid0.Coords) (v3792 : BitVec 32) : Fin 2 → Nat :=
  let arg0 : BitVec 32 := BitVec.ofNat 32 (i 0).val
  let c128_i32_1200 : BitVec 32 := 128#32
  let v3787 : BitVec 32 := Scalar.muli arg0 c128_i32_1200
  let c20_i32 : BitVec 32 := 20#32
  let v3788 : BitVec 32 := Scalar.addi v3787 c20_i32
  let c0_i32_1201 : BitVec 32 := 0#32
  let v3789 : BitVec 32 := Scalar.addi v3788 c0_i32_1201
  let c2040_i32_1203 : BitVec 32 := 2040#32
  let v3793 : BitVec 1 := Scalar.cmpi .slt v3789 c2040_i32_1203
  let c256_i32_1204 : BitVec 32 := 256#32
  let v3794 : BitVec 32 := Scalar.select v3793 v3792 c256_i32_1204
  let c9_i32_1205 : BitVec 32 := 9#32
  let v3795 : BitVec 32 := Scalar.muli v3794 c9_i32_1205
  let v3844 : Index := Scalar.indexCast v3795
  let c0_1223 : Index := 0#32
  ![v3844.toNat, 0]

def k0_chk21 (i : grid0.Coords) (v3792 : BitVec 32) : Prop :=
  (∀ a, (k0_off43 i v3792) a + S8x128.size a ≤ S2432x128.size a) ∧
  (∀ a, (k0_off45 i v3792) a + S8x128.size a ≤ S2432x128.size a)
theorem k0_off43_inb : ∀ (i : grid0.Coords) (v3792 : BitVec 32) (k0_hw21 : k0_chk21 i v3792), ∀ a, (k0_off43 i v3792) a + S8x128.size a ≤ S2432x128.size a := fun i v3792 k0_hw21 => k0_hw21.1
theorem k0_off45_inb : ∀ (i : grid0.Coords) (v3792 : BitVec 32) (k0_hw21 : k0_chk21 i v3792), ∀ a, (k0_off45 i v3792) a + S8x128.size a ≤ S2432x128.size a := fun i v3792 k0_hw21 => k0_hw21.2

def k0_off46 (i : grid0.Coords) (c0_i32_1263 : BitVec 32) : Fin 1 → Nat :=
  let arg0 : BitVec 32 := BitVec.ofNat 32 (i 0).val
  let c128_i32_1262 : BitVec 32 := 128#32
  let v4008 : BitVec 32 := Scalar.muli arg0 c128_i32_1262
  let c22_i32 : BitVec 32 := 22#32
  let v4009 : BitVec 32 := Scalar.addi v4008 c22_i32
  let v4010 : BitVec 32 := Scalar.addi v4009 c0_i32_1263
  let c2039_i32_1264 : BitVec 32 := 2039#32
  let v4011 : BitVec 32 := Scalar.minsi v4010 c2039_i32_1264
  let v4012 : Index := Scalar.indexCast v4011
  ![v4012.toNat]
def k0_off47 (i : grid0.Coords) (v4013 : BitVec 32) : Fin 2 → Nat :=
  let arg0 : BitVec 32 := BitVec.ofNat 32 (i 0).val
  let c128_i32_1262 : BitVec 32 := 128#32
  let v4008 : BitVec 32 := Scalar.muli arg0 c128_i32_1262
  let c22_i32 : BitVec 32 := 22#32
  let v4009 : BitVec 32 := Scalar.addi v4008 c22_i32
  let c0_i32_1263 : BitVec 32 := 0#32
  let v4010 : BitVec 32 := Scalar.addi v4009 c0_i32_1263
  let c2040_i32_1265 : BitVec 32 := 2040#32
  let v4014 : BitVec 1 := Scalar.cmpi .slt v4010 c2040_i32_1265
  let c256_i32_1266 : BitVec 32 := 256#32
  let v4015 : BitVec 32 := Scalar.select v4014 v4013 c256_i32_1266
  let c9_i32_1267 : BitVec 32 := 9#32
  let v4016 : BitVec 32 := Scalar.muli v4015 c9_i32_1267
  let v4036 : Index := Scalar.indexCast v4016
  let c0_1278 : Index := 0#32
  ![v4036.toNat, 0]

def k0_off48 (i : grid0.Coords) (v4022 : BitVec 32) : Fin 2 → Nat :=
  let arg0 : BitVec 32 := BitVec.ofNat 32 (i 0).val
  let c128_i32_1268 : BitVec 32 := 128#32
  let v4017 : BitVec 32 := Scalar.muli arg0 c128_i32_1268
  let c22_i32_1269 : BitVec 32 := 22#32
  let v4018 : BitVec 32 := Scalar.addi v4017 c22_i32_1269
  let c1_i32_1270 : BitVec 32 := 1#32
  let v4019 : BitVec 32 := Scalar.addi v4018 c1_i32_1270
  let c2040_i32_1272 : BitVec 32 := 2040#32
  let v4023 : BitVec 1 := Scalar.cmpi .slt v4019 c2040_i32_1272
  let c256_i32_1273 : BitVec 32 := 256#32
  let v4024 : BitVec 32 := Scalar.select v4023 v4022 c256_i32_1273
  let c9_i32_1274 : BitVec 32 := 9#32
  let v4025 : BitVec 32 := Scalar.muli v4024 c9_i32_1274
  let v4047 : Index := Scalar.indexCast v4025
  let c0_1280 : Index := 0#32
  ![v4047.toNat, 0]

def k0_chk24 (i : grid0.Coords) (v4022 : BitVec 32) : Prop :=
  (∀ a, (k0_off48 i v4022) a + S8x128.size a ≤ S2432x128.size a)
theorem k0_off48_inb : ∀ (i : grid0.Coords) (v4022 : BitVec 32) (k0_hw24 : k0_chk24 i v4022), ∀ a, (k0_off48 i v4022) a + S8x128.size a ≤ S2432x128.size a := fun i v4022 k0_hw24 => k0_hw24

def k0_off49 (i : grid0.Coords) (v4013 : BitVec 32) : Fin 2 → Nat :=
  let arg0 : BitVec 32 := BitVec.ofNat 32 (i 0).val
  let c128_i32_1262 : BitVec 32 := 128#32
  let v4008 : BitVec 32 := Scalar.muli arg0 c128_i32_1262
  let c22_i32 : BitVec 32 := 22#32
  let v4009 : BitVec 32 := Scalar.addi v4008 c22_i32
  let c0_i32_1263 : BitVec 32 := 0#32
  let v4010 : BitVec 32 := Scalar.addi v4009 c0_i32_1263
  let c2040_i32_1265 : BitVec 32 := 2040#32
  let v4014 : BitVec 1 := Scalar.cmpi .slt v4010 c2040_i32_1265
  let c256_i32_1266 : BitVec 32 := 256#32
  let v4015 : BitVec 32 := Scalar.select v4014 v4013 c256_i32_1266
  let c9_i32_1267 : BitVec 32 := 9#32
  let v4016 : BitVec 32 := Scalar.muli v4015 c9_i32_1267
  let v4065 : Index := Scalar.indexCast v4016
  let c0_1285 : Index := 0#32
  ![v4065.toNat, 0]

def k0_chk23 (i : grid0.Coords) (v4013 : BitVec 32) : Prop :=
  (∀ a, (k0_off47 i v4013) a + S8x128.size a ≤ S2432x128.size a) ∧
  (∀ a, (k0_off49 i v4013) a + S8x128.size a ≤ S2432x128.size a)
theorem k0_off47_inb : ∀ (i : grid0.Coords) (v4013 : BitVec 32) (k0_hw23 : k0_chk23 i v4013), ∀ a, (k0_off47 i v4013) a + S8x128.size a ≤ S2432x128.size a := fun i v4013 k0_hw23 => k0_hw23.1
theorem k0_off49_inb : ∀ (i : grid0.Coords) (v4013 : BitVec 32) (k0_hw23 : k0_chk23 i v4013), ∀ a, (k0_off49 i v4013) a + S8x128.size a ≤ S2432x128.size a := fun i v4013 k0_hw23 => k0_hw23.2

def k0_off50 (i : grid0.Coords) (c0_i32_1325 : BitVec 32) : Fin 1 → Nat :=
  let arg0 : BitVec 32 := BitVec.ofNat 32 (i 0).val
  let c128_i32_1324 : BitVec 32 := 128#32
  let v4229 : BitVec 32 := Scalar.muli arg0 c128_i32_1324
  let c24_i32 : BitVec 32 := 24#32
  let v4230 : BitVec 32 := Scalar.addi v4229 c24_i32
  let v4231 : BitVec 32 := Scalar.addi v4230 c0_i32_1325
  let c2039_i32_1326 : BitVec 32 := 2039#32
  let v4232 : BitVec 32 := Scalar.minsi v4231 c2039_i32_1326
  let v4233 : Index := Scalar.indexCast v4232
  ![v4233.toNat]
def k0_off51 (i : grid0.Coords) (v4234 : BitVec 32) : Fin 2 → Nat :=
  let arg0 : BitVec 32 := BitVec.ofNat 32 (i 0).val
  let c128_i32_1324 : BitVec 32 := 128#32
  let v4229 : BitVec 32 := Scalar.muli arg0 c128_i32_1324
  let c24_i32 : BitVec 32 := 24#32
  let v4230 : BitVec 32 := Scalar.addi v4229 c24_i32
  let c0_i32_1325 : BitVec 32 := 0#32
  let v4231 : BitVec 32 := Scalar.addi v4230 c0_i32_1325
  let c2040_i32_1327 : BitVec 32 := 2040#32
  let v4235 : BitVec 1 := Scalar.cmpi .slt v4231 c2040_i32_1327
  let c256_i32_1328 : BitVec 32 := 256#32
  let v4236 : BitVec 32 := Scalar.select v4235 v4234 c256_i32_1328
  let c9_i32_1329 : BitVec 32 := 9#32
  let v4237 : BitVec 32 := Scalar.muli v4236 c9_i32_1329
  let v4257 : Index := Scalar.indexCast v4237
  let c0_1341 : Index := 0#32
  ![v4257.toNat, 0]

def k0_off52 (i : grid0.Coords) (v4243 : BitVec 32) : Fin 2 → Nat :=
  let arg0 : BitVec 32 := BitVec.ofNat 32 (i 0).val
  let c128_i32_1330 : BitVec 32 := 128#32
  let v4238 : BitVec 32 := Scalar.muli arg0 c128_i32_1330
  let c24_i32_1331 : BitVec 32 := 24#32
  let v4239 : BitVec 32 := Scalar.addi v4238 c24_i32_1331
  let c1_i32_1332 : BitVec 32 := 1#32
  let v4240 : BitVec 32 := Scalar.addi v4239 c1_i32_1332
  let c2040_i32_1334 : BitVec 32 := 2040#32
  let v4244 : BitVec 1 := Scalar.cmpi .slt v4240 c2040_i32_1334
  let c256_i32_1335 : BitVec 32 := 256#32
  let v4245 : BitVec 32 := Scalar.select v4244 v4243 c256_i32_1335
  let c9_i32_1336 : BitVec 32 := 9#32
  let v4246 : BitVec 32 := Scalar.muli v4245 c9_i32_1336
  let v4268 : Index := Scalar.indexCast v4246
  let c0_1343 : Index := 0#32
  ![v4268.toNat, 0]

def k0_chk26 (i : grid0.Coords) (v4243 : BitVec 32) : Prop :=
  (∀ a, (k0_off52 i v4243) a + S8x128.size a ≤ S2432x128.size a)
theorem k0_off52_inb : ∀ (i : grid0.Coords) (v4243 : BitVec 32) (k0_hw26 : k0_chk26 i v4243), ∀ a, (k0_off52 i v4243) a + S8x128.size a ≤ S2432x128.size a := fun i v4243 k0_hw26 => k0_hw26

def k0_off53 (i : grid0.Coords) (v4234 : BitVec 32) : Fin 2 → Nat :=
  let arg0 : BitVec 32 := BitVec.ofNat 32 (i 0).val
  let c128_i32_1324 : BitVec 32 := 128#32
  let v4229 : BitVec 32 := Scalar.muli arg0 c128_i32_1324
  let c24_i32 : BitVec 32 := 24#32
  let v4230 : BitVec 32 := Scalar.addi v4229 c24_i32
  let c0_i32_1325 : BitVec 32 := 0#32
  let v4231 : BitVec 32 := Scalar.addi v4230 c0_i32_1325
  let c2040_i32_1327 : BitVec 32 := 2040#32
  let v4235 : BitVec 1 := Scalar.cmpi .slt v4231 c2040_i32_1327
  let c256_i32_1328 : BitVec 32 := 256#32
  let v4236 : BitVec 32 := Scalar.select v4235 v4234 c256_i32_1328
  let c9_i32_1329 : BitVec 32 := 9#32
  let v4237 : BitVec 32 := Scalar.muli v4236 c9_i32_1329
  let v4286 : Index := Scalar.indexCast v4237
  let c0_1349 : Index := 0#32
  ![v4286.toNat, 0]

def k0_chk25 (i : grid0.Coords) (v4234 : BitVec 32) : Prop :=
  (∀ a, (k0_off51 i v4234) a + S8x128.size a ≤ S2432x128.size a) ∧
  (∀ a, (k0_off53 i v4234) a + S8x128.size a ≤ S2432x128.size a)
theorem k0_off51_inb : ∀ (i : grid0.Coords) (v4234 : BitVec 32) (k0_hw25 : k0_chk25 i v4234), ∀ a, (k0_off51 i v4234) a + S8x128.size a ≤ S2432x128.size a := fun i v4234 k0_hw25 => k0_hw25.1
theorem k0_off53_inb : ∀ (i : grid0.Coords) (v4234 : BitVec 32) (k0_hw25 : k0_chk25 i v4234), ∀ a, (k0_off53 i v4234) a + S8x128.size a ≤ S2432x128.size a := fun i v4234 k0_hw25 => k0_hw25.2

def k0_off54 (i : grid0.Coords) (c0_i32_1394 : BitVec 32) : Fin 1 → Nat :=
  let arg0 : BitVec 32 := BitVec.ofNat 32 (i 0).val
  let c128_i32_1393 : BitVec 32 := 128#32
  let v4450 : BitVec 32 := Scalar.muli arg0 c128_i32_1393
  let c26_i32 : BitVec 32 := 26#32
  let v4451 : BitVec 32 := Scalar.addi v4450 c26_i32
  let v4452 : BitVec 32 := Scalar.addi v4451 c0_i32_1394
  let c2039_i32_1395 : BitVec 32 := 2039#32
  let v4453 : BitVec 32 := Scalar.minsi v4452 c2039_i32_1395
  let v4454 : Index := Scalar.indexCast v4453
  ![v4454.toNat]
def k0_off55 (i : grid0.Coords) (v4455 : BitVec 32) : Fin 2 → Nat :=
  let arg0 : BitVec 32 := BitVec.ofNat 32 (i 0).val
  let c128_i32_1393 : BitVec 32 := 128#32
  let v4450 : BitVec 32 := Scalar.muli arg0 c128_i32_1393
  let c26_i32 : BitVec 32 := 26#32
  let v4451 : BitVec 32 := Scalar.addi v4450 c26_i32
  let c0_i32_1394 : BitVec 32 := 0#32
  let v4452 : BitVec 32 := Scalar.addi v4451 c0_i32_1394
  let c2040_i32_1396 : BitVec 32 := 2040#32
  let v4456 : BitVec 1 := Scalar.cmpi .slt v4452 c2040_i32_1396
  let c256_i32_1397 : BitVec 32 := 256#32
  let v4457 : BitVec 32 := Scalar.select v4456 v4455 c256_i32_1397
  let c9_i32_1398 : BitVec 32 := 9#32
  let v4458 : BitVec 32 := Scalar.muli v4457 c9_i32_1398
  let v4478 : Index := Scalar.indexCast v4458
  let c0_1409 : Index := 0#32
  ![v4478.toNat, 0]

def k0_off56 (i : grid0.Coords) (v4464 : BitVec 32) : Fin 2 → Nat :=
  let arg0 : BitVec 32 := BitVec.ofNat 32 (i 0).val
  let c128_i32_1399 : BitVec 32 := 128#32
  let v4459 : BitVec 32 := Scalar.muli arg0 c128_i32_1399
  let c26_i32_1400 : BitVec 32 := 26#32
  let v4460 : BitVec 32 := Scalar.addi v4459 c26_i32_1400
  let c1_i32_1401 : BitVec 32 := 1#32
  let v4461 : BitVec 32 := Scalar.addi v4460 c1_i32_1401
  let c2040_i32_1403 : BitVec 32 := 2040#32
  let v4465 : BitVec 1 := Scalar.cmpi .slt v4461 c2040_i32_1403
  let c256_i32_1404 : BitVec 32 := 256#32
  let v4466 : BitVec 32 := Scalar.select v4465 v4464 c256_i32_1404
  let c9_i32_1405 : BitVec 32 := 9#32
  let v4467 : BitVec 32 := Scalar.muli v4466 c9_i32_1405
  let v4489 : Index := Scalar.indexCast v4467
  let c0_1411 : Index := 0#32
  ![v4489.toNat, 0]

def k0_chk28 (i : grid0.Coords) (v4464 : BitVec 32) : Prop :=
  (∀ a, (k0_off56 i v4464) a + S8x128.size a ≤ S2432x128.size a)
theorem k0_off56_inb : ∀ (i : grid0.Coords) (v4464 : BitVec 32) (k0_hw28 : k0_chk28 i v4464), ∀ a, (k0_off56 i v4464) a + S8x128.size a ≤ S2432x128.size a := fun i v4464 k0_hw28 => k0_hw28

def k0_off57 (i : grid0.Coords) (v4455 : BitVec 32) : Fin 2 → Nat :=
  let arg0 : BitVec 32 := BitVec.ofNat 32 (i 0).val
  let c128_i32_1393 : BitVec 32 := 128#32
  let v4450 : BitVec 32 := Scalar.muli arg0 c128_i32_1393
  let c26_i32 : BitVec 32 := 26#32
  let v4451 : BitVec 32 := Scalar.addi v4450 c26_i32
  let c0_i32_1394 : BitVec 32 := 0#32
  let v4452 : BitVec 32 := Scalar.addi v4451 c0_i32_1394
  let c2040_i32_1396 : BitVec 32 := 2040#32
  let v4456 : BitVec 1 := Scalar.cmpi .slt v4452 c2040_i32_1396
  let c256_i32_1397 : BitVec 32 := 256#32
  let v4457 : BitVec 32 := Scalar.select v4456 v4455 c256_i32_1397
  let c9_i32_1398 : BitVec 32 := 9#32
  let v4458 : BitVec 32 := Scalar.muli v4457 c9_i32_1398
  let v4507 : Index := Scalar.indexCast v4458
  let c0_1416 : Index := 0#32
  ![v4507.toNat, 0]

def k0_chk27 (i : grid0.Coords) (v4455 : BitVec 32) : Prop :=
  (∀ a, (k0_off55 i v4455) a + S8x128.size a ≤ S2432x128.size a) ∧
  (∀ a, (k0_off57 i v4455) a + S8x128.size a ≤ S2432x128.size a)
theorem k0_off55_inb : ∀ (i : grid0.Coords) (v4455 : BitVec 32) (k0_hw27 : k0_chk27 i v4455), ∀ a, (k0_off55 i v4455) a + S8x128.size a ≤ S2432x128.size a := fun i v4455 k0_hw27 => k0_hw27.1
theorem k0_off57_inb : ∀ (i : grid0.Coords) (v4455 : BitVec 32) (k0_hw27 : k0_chk27 i v4455), ∀ a, (k0_off57 i v4455) a + S8x128.size a ≤ S2432x128.size a := fun i v4455 k0_hw27 => k0_hw27.2

def k0_off58 (i : grid0.Coords) (c0_i32_1456 : BitVec 32) : Fin 1 → Nat :=
  let arg0 : BitVec 32 := BitVec.ofNat 32 (i 0).val
  let c128_i32_1455 : BitVec 32 := 128#32
  let v4671 : BitVec 32 := Scalar.muli arg0 c128_i32_1455
  let c28_i32 : BitVec 32 := 28#32
  let v4672 : BitVec 32 := Scalar.addi v4671 c28_i32
  let v4673 : BitVec 32 := Scalar.addi v4672 c0_i32_1456
  let c2039_i32_1457 : BitVec 32 := 2039#32
  let v4674 : BitVec 32 := Scalar.minsi v4673 c2039_i32_1457
  let v4675 : Index := Scalar.indexCast v4674
  ![v4675.toNat]
def k0_off59 (i : grid0.Coords) (v4676 : BitVec 32) : Fin 2 → Nat :=
  let arg0 : BitVec 32 := BitVec.ofNat 32 (i 0).val
  let c128_i32_1455 : BitVec 32 := 128#32
  let v4671 : BitVec 32 := Scalar.muli arg0 c128_i32_1455
  let c28_i32 : BitVec 32 := 28#32
  let v4672 : BitVec 32 := Scalar.addi v4671 c28_i32
  let c0_i32_1456 : BitVec 32 := 0#32
  let v4673 : BitVec 32 := Scalar.addi v4672 c0_i32_1456
  let c2040_i32_1458 : BitVec 32 := 2040#32
  let v4677 : BitVec 1 := Scalar.cmpi .slt v4673 c2040_i32_1458
  let c256_i32_1459 : BitVec 32 := 256#32
  let v4678 : BitVec 32 := Scalar.select v4677 v4676 c256_i32_1459
  let c9_i32_1460 : BitVec 32 := 9#32
  let v4679 : BitVec 32 := Scalar.muli v4678 c9_i32_1460
  let v4699 : Index := Scalar.indexCast v4679
  let c0_1471 : Index := 0#32
  ![v4699.toNat, 0]

def k0_off60 (i : grid0.Coords) (v4685 : BitVec 32) : Fin 2 → Nat :=
  let arg0 : BitVec 32 := BitVec.ofNat 32 (i 0).val
  let c128_i32_1461 : BitVec 32 := 128#32
  let v4680 : BitVec 32 := Scalar.muli arg0 c128_i32_1461
  let c28_i32_1462 : BitVec 32 := 28#32
  let v4681 : BitVec 32 := Scalar.addi v4680 c28_i32_1462
  let c1_i32_1463 : BitVec 32 := 1#32
  let v4682 : BitVec 32 := Scalar.addi v4681 c1_i32_1463
  let c2040_i32_1465 : BitVec 32 := 2040#32
  let v4686 : BitVec 1 := Scalar.cmpi .slt v4682 c2040_i32_1465
  let c256_i32_1466 : BitVec 32 := 256#32
  let v4687 : BitVec 32 := Scalar.select v4686 v4685 c256_i32_1466
  let c9_i32_1467 : BitVec 32 := 9#32
  let v4688 : BitVec 32 := Scalar.muli v4687 c9_i32_1467
  let v4710 : Index := Scalar.indexCast v4688
  let c0_1473 : Index := 0#32
  ![v4710.toNat, 0]

def k0_chk30 (i : grid0.Coords) (v4685 : BitVec 32) : Prop :=
  (∀ a, (k0_off60 i v4685) a + S8x128.size a ≤ S2432x128.size a)
theorem k0_off60_inb : ∀ (i : grid0.Coords) (v4685 : BitVec 32) (k0_hw30 : k0_chk30 i v4685), ∀ a, (k0_off60 i v4685) a + S8x128.size a ≤ S2432x128.size a := fun i v4685 k0_hw30 => k0_hw30

def k0_off61 (i : grid0.Coords) (v4676 : BitVec 32) : Fin 2 → Nat :=
  let arg0 : BitVec 32 := BitVec.ofNat 32 (i 0).val
  let c128_i32_1455 : BitVec 32 := 128#32
  let v4671 : BitVec 32 := Scalar.muli arg0 c128_i32_1455
  let c28_i32 : BitVec 32 := 28#32
  let v4672 : BitVec 32 := Scalar.addi v4671 c28_i32
  let c0_i32_1456 : BitVec 32 := 0#32
  let v4673 : BitVec 32 := Scalar.addi v4672 c0_i32_1456
  let c2040_i32_1458 : BitVec 32 := 2040#32
  let v4677 : BitVec 1 := Scalar.cmpi .slt v4673 c2040_i32_1458
  let c256_i32_1459 : BitVec 32 := 256#32
  let v4678 : BitVec 32 := Scalar.select v4677 v4676 c256_i32_1459
  let c9_i32_1460 : BitVec 32 := 9#32
  let v4679 : BitVec 32 := Scalar.muli v4678 c9_i32_1460
  let v4728 : Index := Scalar.indexCast v4679
  let c0_1478 : Index := 0#32
  ![v4728.toNat, 0]

def k0_chk29 (i : grid0.Coords) (v4676 : BitVec 32) : Prop :=
  (∀ a, (k0_off59 i v4676) a + S8x128.size a ≤ S2432x128.size a) ∧
  (∀ a, (k0_off61 i v4676) a + S8x128.size a ≤ S2432x128.size a)
theorem k0_off59_inb : ∀ (i : grid0.Coords) (v4676 : BitVec 32) (k0_hw29 : k0_chk29 i v4676), ∀ a, (k0_off59 i v4676) a + S8x128.size a ≤ S2432x128.size a := fun i v4676 k0_hw29 => k0_hw29.1
theorem k0_off61_inb : ∀ (i : grid0.Coords) (v4676 : BitVec 32) (k0_hw29 : k0_chk29 i v4676), ∀ a, (k0_off61 i v4676) a + S8x128.size a ≤ S2432x128.size a := fun i v4676 k0_hw29 => k0_hw29.2

def k0_off62 (i : grid0.Coords) (c0_i32_1518 : BitVec 32) : Fin 1 → Nat :=
  let arg0 : BitVec 32 := BitVec.ofNat 32 (i 0).val
  let c128_i32_1517 : BitVec 32 := 128#32
  let v4892 : BitVec 32 := Scalar.muli arg0 c128_i32_1517
  let c30_i32 : BitVec 32 := 30#32
  let v4893 : BitVec 32 := Scalar.addi v4892 c30_i32
  let v4894 : BitVec 32 := Scalar.addi v4893 c0_i32_1518
  let c2039_i32_1519 : BitVec 32 := 2039#32
  let v4895 : BitVec 32 := Scalar.minsi v4894 c2039_i32_1519
  let v4896 : Index := Scalar.indexCast v4895
  ![v4896.toNat]
def k0_off63 (i : grid0.Coords) (v4897 : BitVec 32) : Fin 2 → Nat :=
  let arg0 : BitVec 32 := BitVec.ofNat 32 (i 0).val
  let c128_i32_1517 : BitVec 32 := 128#32
  let v4892 : BitVec 32 := Scalar.muli arg0 c128_i32_1517
  let c30_i32 : BitVec 32 := 30#32
  let v4893 : BitVec 32 := Scalar.addi v4892 c30_i32
  let c0_i32_1518 : BitVec 32 := 0#32
  let v4894 : BitVec 32 := Scalar.addi v4893 c0_i32_1518
  let c2040_i32_1520 : BitVec 32 := 2040#32
  let v4898 : BitVec 1 := Scalar.cmpi .slt v4894 c2040_i32_1520
  let c256_i32_1521 : BitVec 32 := 256#32
  let v4899 : BitVec 32 := Scalar.select v4898 v4897 c256_i32_1521
  let c9_i32_1522 : BitVec 32 := 9#32
  let v4900 : BitVec 32 := Scalar.muli v4899 c9_i32_1522
  let v4920 : Index := Scalar.indexCast v4900
  let c0_1533 : Index := 0#32
  ![v4920.toNat, 0]

def k0_off64 (i : grid0.Coords) (v4906 : BitVec 32) : Fin 2 → Nat :=
  let arg0 : BitVec 32 := BitVec.ofNat 32 (i 0).val
  let c128_i32_1523 : BitVec 32 := 128#32
  let v4901 : BitVec 32 := Scalar.muli arg0 c128_i32_1523
  let c30_i32_1524 : BitVec 32 := 30#32
  let v4902 : BitVec 32 := Scalar.addi v4901 c30_i32_1524
  let c1_i32_1525 : BitVec 32 := 1#32
  let v4903 : BitVec 32 := Scalar.addi v4902 c1_i32_1525
  let c2040_i32_1527 : BitVec 32 := 2040#32
  let v4907 : BitVec 1 := Scalar.cmpi .slt v4903 c2040_i32_1527
  let c256_i32_1528 : BitVec 32 := 256#32
  let v4908 : BitVec 32 := Scalar.select v4907 v4906 c256_i32_1528
  let c9_i32_1529 : BitVec 32 := 9#32
  let v4909 : BitVec 32 := Scalar.muli v4908 c9_i32_1529
  let v4931 : Index := Scalar.indexCast v4909
  let c0_1535 : Index := 0#32
  ![v4931.toNat, 0]

def k0_chk32 (i : grid0.Coords) (v4906 : BitVec 32) : Prop :=
  (∀ a, (k0_off64 i v4906) a + S8x128.size a ≤ S2432x128.size a)
theorem k0_off64_inb : ∀ (i : grid0.Coords) (v4906 : BitVec 32) (k0_hw32 : k0_chk32 i v4906), ∀ a, (k0_off64 i v4906) a + S8x128.size a ≤ S2432x128.size a := fun i v4906 k0_hw32 => k0_hw32

def k0_off65 (i : grid0.Coords) (v4897 : BitVec 32) : Fin 2 → Nat :=
  let arg0 : BitVec 32 := BitVec.ofNat 32 (i 0).val
  let c128_i32_1517 : BitVec 32 := 128#32
  let v4892 : BitVec 32 := Scalar.muli arg0 c128_i32_1517
  let c30_i32 : BitVec 32 := 30#32
  let v4893 : BitVec 32 := Scalar.addi v4892 c30_i32
  let c0_i32_1518 : BitVec 32 := 0#32
  let v4894 : BitVec 32 := Scalar.addi v4893 c0_i32_1518
  let c2040_i32_1520 : BitVec 32 := 2040#32
  let v4898 : BitVec 1 := Scalar.cmpi .slt v4894 c2040_i32_1520
  let c256_i32_1521 : BitVec 32 := 256#32
  let v4899 : BitVec 32 := Scalar.select v4898 v4897 c256_i32_1521
  let c9_i32_1522 : BitVec 32 := 9#32
  let v4900 : BitVec 32 := Scalar.muli v4899 c9_i32_1522
  let v4949 : Index := Scalar.indexCast v4900
  let c0_1540 : Index := 0#32
  ![v4949.toNat, 0]

def k0_chk31 (i : grid0.Coords) (v4897 : BitVec 32) : Prop :=
  (∀ a, (k0_off63 i v4897) a + S8x128.size a ≤ S2432x128.size a) ∧
  (∀ a, (k0_off65 i v4897) a + S8x128.size a ≤ S2432x128.size a)
theorem k0_off63_inb : ∀ (i : grid0.Coords) (v4897 : BitVec 32) (k0_hw31 : k0_chk31 i v4897), ∀ a, (k0_off63 i v4897) a + S8x128.size a ≤ S2432x128.size a := fun i v4897 k0_hw31 => k0_hw31.1
theorem k0_off65_inb : ∀ (i : grid0.Coords) (v4897 : BitVec 32) (k0_hw31 : k0_chk31 i v4897), ∀ a, (k0_off65 i v4897) a + S8x128.size a ≤ S2432x128.size a := fun i v4897 k0_hw31 => k0_hw31.2

def k0_off66 (i : grid0.Coords) (c0_i32_1580 : BitVec 32) : Fin 1 → Nat :=
  let arg0 : BitVec 32 := BitVec.ofNat 32 (i 0).val
  let c128_i32_1579 : BitVec 32 := 128#32
  let v5113 : BitVec 32 := Scalar.muli arg0 c128_i32_1579
  let c32_i32 : BitVec 32 := 32#32
  let v5114 : BitVec 32 := Scalar.addi v5113 c32_i32
  let v5115 : BitVec 32 := Scalar.addi v5114 c0_i32_1580
  let c2039_i32_1581 : BitVec 32 := 2039#32
  let v5116 : BitVec 32 := Scalar.minsi v5115 c2039_i32_1581
  let v5117 : Index := Scalar.indexCast v5116
  ![v5117.toNat]
def k0_off67 (i : grid0.Coords) (v5118 : BitVec 32) : Fin 2 → Nat :=
  let arg0 : BitVec 32 := BitVec.ofNat 32 (i 0).val
  let c128_i32_1579 : BitVec 32 := 128#32
  let v5113 : BitVec 32 := Scalar.muli arg0 c128_i32_1579
  let c32_i32 : BitVec 32 := 32#32
  let v5114 : BitVec 32 := Scalar.addi v5113 c32_i32
  let c0_i32_1580 : BitVec 32 := 0#32
  let v5115 : BitVec 32 := Scalar.addi v5114 c0_i32_1580
  let c2040_i32_1582 : BitVec 32 := 2040#32
  let v5119 : BitVec 1 := Scalar.cmpi .slt v5115 c2040_i32_1582
  let c256_i32_1583 : BitVec 32 := 256#32
  let v5120 : BitVec 32 := Scalar.select v5119 v5118 c256_i32_1583
  let c9_i32_1584 : BitVec 32 := 9#32
  let v5121 : BitVec 32 := Scalar.muli v5120 c9_i32_1584
  let v5141 : Index := Scalar.indexCast v5121
  let c0_1596 : Index := 0#32
  ![v5141.toNat, 0]

def k0_off68 (i : grid0.Coords) (v5127 : BitVec 32) : Fin 2 → Nat :=
  let arg0 : BitVec 32 := BitVec.ofNat 32 (i 0).val
  let c128_i32_1585 : BitVec 32 := 128#32
  let v5122 : BitVec 32 := Scalar.muli arg0 c128_i32_1585
  let c32_i32_1586 : BitVec 32 := 32#32
  let v5123 : BitVec 32 := Scalar.addi v5122 c32_i32_1586
  let c1_i32_1587 : BitVec 32 := 1#32
  let v5124 : BitVec 32 := Scalar.addi v5123 c1_i32_1587
  let c2040_i32_1589 : BitVec 32 := 2040#32
  let v5128 : BitVec 1 := Scalar.cmpi .slt v5124 c2040_i32_1589
  let c256_i32_1590 : BitVec 32 := 256#32
  let v5129 : BitVec 32 := Scalar.select v5128 v5127 c256_i32_1590
  let c9_i32_1591 : BitVec 32 := 9#32
  let v5130 : BitVec 32 := Scalar.muli v5129 c9_i32_1591
  let v5152 : Index := Scalar.indexCast v5130
  let c0_1598 : Index := 0#32
  ![v5152.toNat, 0]

def k0_chk34 (i : grid0.Coords) (v5127 : BitVec 32) : Prop :=
  (∀ a, (k0_off68 i v5127) a + S8x128.size a ≤ S2432x128.size a)
theorem k0_off68_inb : ∀ (i : grid0.Coords) (v5127 : BitVec 32) (k0_hw34 : k0_chk34 i v5127), ∀ a, (k0_off68 i v5127) a + S8x128.size a ≤ S2432x128.size a := fun i v5127 k0_hw34 => k0_hw34

def k0_off69 (i : grid0.Coords) (v5118 : BitVec 32) : Fin 2 → Nat :=
  let arg0 : BitVec 32 := BitVec.ofNat 32 (i 0).val
  let c128_i32_1579 : BitVec 32 := 128#32
  let v5113 : BitVec 32 := Scalar.muli arg0 c128_i32_1579
  let c32_i32 : BitVec 32 := 32#32
  let v5114 : BitVec 32 := Scalar.addi v5113 c32_i32
  let c0_i32_1580 : BitVec 32 := 0#32
  let v5115 : BitVec 32 := Scalar.addi v5114 c0_i32_1580
  let c2040_i32_1582 : BitVec 32 := 2040#32
  let v5119 : BitVec 1 := Scalar.cmpi .slt v5115 c2040_i32_1582
  let c256_i32_1583 : BitVec 32 := 256#32
  let v5120 : BitVec 32 := Scalar.select v5119 v5118 c256_i32_1583
  let c9_i32_1584 : BitVec 32 := 9#32
  let v5121 : BitVec 32 := Scalar.muli v5120 c9_i32_1584
  let v5170 : Index := Scalar.indexCast v5121
  let c0_1604 : Index := 0#32
  ![v5170.toNat, 0]

def k0_chk33 (i : grid0.Coords) (v5118 : BitVec 32) : Prop :=
  (∀ a, (k0_off67 i v5118) a + S8x128.size a ≤ S2432x128.size a) ∧
  (∀ a, (k0_off69 i v5118) a + S8x128.size a ≤ S2432x128.size a)
theorem k0_off67_inb : ∀ (i : grid0.Coords) (v5118 : BitVec 32) (k0_hw33 : k0_chk33 i v5118), ∀ a, (k0_off67 i v5118) a + S8x128.size a ≤ S2432x128.size a := fun i v5118 k0_hw33 => k0_hw33.1
theorem k0_off69_inb : ∀ (i : grid0.Coords) (v5118 : BitVec 32) (k0_hw33 : k0_chk33 i v5118), ∀ a, (k0_off69 i v5118) a + S8x128.size a ≤ S2432x128.size a := fun i v5118 k0_hw33 => k0_hw33.2

def k0_off70 (i : grid0.Coords) (c0_i32_1649 : BitVec 32) : Fin 1 → Nat :=
  let arg0 : BitVec 32 := BitVec.ofNat 32 (i 0).val
  let c128_i32_1648 : BitVec 32 := 128#32
  let v5334 : BitVec 32 := Scalar.muli arg0 c128_i32_1648
  let c34_i32 : BitVec 32 := 34#32
  let v5335 : BitVec 32 := Scalar.addi v5334 c34_i32
  let v5336 : BitVec 32 := Scalar.addi v5335 c0_i32_1649
  let c2039_i32_1650 : BitVec 32 := 2039#32
  let v5337 : BitVec 32 := Scalar.minsi v5336 c2039_i32_1650
  let v5338 : Index := Scalar.indexCast v5337
  ![v5338.toNat]
def k0_off71 (i : grid0.Coords) (v5339 : BitVec 32) : Fin 2 → Nat :=
  let arg0 : BitVec 32 := BitVec.ofNat 32 (i 0).val
  let c128_i32_1648 : BitVec 32 := 128#32
  let v5334 : BitVec 32 := Scalar.muli arg0 c128_i32_1648
  let c34_i32 : BitVec 32 := 34#32
  let v5335 : BitVec 32 := Scalar.addi v5334 c34_i32
  let c0_i32_1649 : BitVec 32 := 0#32
  let v5336 : BitVec 32 := Scalar.addi v5335 c0_i32_1649
  let c2040_i32_1651 : BitVec 32 := 2040#32
  let v5340 : BitVec 1 := Scalar.cmpi .slt v5336 c2040_i32_1651
  let c256_i32_1652 : BitVec 32 := 256#32
  let v5341 : BitVec 32 := Scalar.select v5340 v5339 c256_i32_1652
  let c9_i32_1653 : BitVec 32 := 9#32
  let v5342 : BitVec 32 := Scalar.muli v5341 c9_i32_1653
  let v5362 : Index := Scalar.indexCast v5342
  let c0_1664 : Index := 0#32
  ![v5362.toNat, 0]

def k0_off72 (i : grid0.Coords) (v5348 : BitVec 32) : Fin 2 → Nat :=
  let arg0 : BitVec 32 := BitVec.ofNat 32 (i 0).val
  let c128_i32_1654 : BitVec 32 := 128#32
  let v5343 : BitVec 32 := Scalar.muli arg0 c128_i32_1654
  let c34_i32_1655 : BitVec 32 := 34#32
  let v5344 : BitVec 32 := Scalar.addi v5343 c34_i32_1655
  let c1_i32_1656 : BitVec 32 := 1#32
  let v5345 : BitVec 32 := Scalar.addi v5344 c1_i32_1656
  let c2040_i32_1658 : BitVec 32 := 2040#32
  let v5349 : BitVec 1 := Scalar.cmpi .slt v5345 c2040_i32_1658
  let c256_i32_1659 : BitVec 32 := 256#32
  let v5350 : BitVec 32 := Scalar.select v5349 v5348 c256_i32_1659
  let c9_i32_1660 : BitVec 32 := 9#32
  let v5351 : BitVec 32 := Scalar.muli v5350 c9_i32_1660
  let v5373 : Index := Scalar.indexCast v5351
  let c0_1666 : Index := 0#32
  ![v5373.toNat, 0]

def k0_chk36 (i : grid0.Coords) (v5348 : BitVec 32) : Prop :=
  (∀ a, (k0_off72 i v5348) a + S8x128.size a ≤ S2432x128.size a)
theorem k0_off72_inb : ∀ (i : grid0.Coords) (v5348 : BitVec 32) (k0_hw36 : k0_chk36 i v5348), ∀ a, (k0_off72 i v5348) a + S8x128.size a ≤ S2432x128.size a := fun i v5348 k0_hw36 => k0_hw36

def k0_off73 (i : grid0.Coords) (v5339 : BitVec 32) : Fin 2 → Nat :=
  let arg0 : BitVec 32 := BitVec.ofNat 32 (i 0).val
  let c128_i32_1648 : BitVec 32 := 128#32
  let v5334 : BitVec 32 := Scalar.muli arg0 c128_i32_1648
  let c34_i32 : BitVec 32 := 34#32
  let v5335 : BitVec 32 := Scalar.addi v5334 c34_i32
  let c0_i32_1649 : BitVec 32 := 0#32
  let v5336 : BitVec 32 := Scalar.addi v5335 c0_i32_1649
  let c2040_i32_1651 : BitVec 32 := 2040#32
  let v5340 : BitVec 1 := Scalar.cmpi .slt v5336 c2040_i32_1651
  let c256_i32_1652 : BitVec 32 := 256#32
  let v5341 : BitVec 32 := Scalar.select v5340 v5339 c256_i32_1652
  let c9_i32_1653 : BitVec 32 := 9#32
  let v5342 : BitVec 32 := Scalar.muli v5341 c9_i32_1653
  let v5391 : Index := Scalar.indexCast v5342
  let c0_1671 : Index := 0#32
  ![v5391.toNat, 0]

def k0_chk35 (i : grid0.Coords) (v5339 : BitVec 32) : Prop :=
  (∀ a, (k0_off71 i v5339) a + S8x128.size a ≤ S2432x128.size a) ∧
  (∀ a, (k0_off73 i v5339) a + S8x128.size a ≤ S2432x128.size a)
theorem k0_off71_inb : ∀ (i : grid0.Coords) (v5339 : BitVec 32) (k0_hw35 : k0_chk35 i v5339), ∀ a, (k0_off71 i v5339) a + S8x128.size a ≤ S2432x128.size a := fun i v5339 k0_hw35 => k0_hw35.1
theorem k0_off73_inb : ∀ (i : grid0.Coords) (v5339 : BitVec 32) (k0_hw35 : k0_chk35 i v5339), ∀ a, (k0_off73 i v5339) a + S8x128.size a ≤ S2432x128.size a := fun i v5339 k0_hw35 => k0_hw35.2

def k0_off74 (i : grid0.Coords) (c0_i32_1711 : BitVec 32) : Fin 1 → Nat :=
  let arg0 : BitVec 32 := BitVec.ofNat 32 (i 0).val
  let c128_i32_1710 : BitVec 32 := 128#32
  let v5555 : BitVec 32 := Scalar.muli arg0 c128_i32_1710
  let c36_i32 : BitVec 32 := 36#32
  let v5556 : BitVec 32 := Scalar.addi v5555 c36_i32
  let v5557 : BitVec 32 := Scalar.addi v5556 c0_i32_1711
  let c2039_i32_1712 : BitVec 32 := 2039#32
  let v5558 : BitVec 32 := Scalar.minsi v5557 c2039_i32_1712
  let v5559 : Index := Scalar.indexCast v5558
  ![v5559.toNat]
def k0_off75 (i : grid0.Coords) (v5560 : BitVec 32) : Fin 2 → Nat :=
  let arg0 : BitVec 32 := BitVec.ofNat 32 (i 0).val
  let c128_i32_1710 : BitVec 32 := 128#32
  let v5555 : BitVec 32 := Scalar.muli arg0 c128_i32_1710
  let c36_i32 : BitVec 32 := 36#32
  let v5556 : BitVec 32 := Scalar.addi v5555 c36_i32
  let c0_i32_1711 : BitVec 32 := 0#32
  let v5557 : BitVec 32 := Scalar.addi v5556 c0_i32_1711
  let c2040_i32_1713 : BitVec 32 := 2040#32
  let v5561 : BitVec 1 := Scalar.cmpi .slt v5557 c2040_i32_1713
  let c256_i32_1714 : BitVec 32 := 256#32
  let v5562 : BitVec 32 := Scalar.select v5561 v5560 c256_i32_1714
  let c9_i32_1715 : BitVec 32 := 9#32
  let v5563 : BitVec 32 := Scalar.muli v5562 c9_i32_1715
  let v5583 : Index := Scalar.indexCast v5563
  let c0_1726 : Index := 0#32
  ![v5583.toNat, 0]

def k0_off76 (i : grid0.Coords) (v5569 : BitVec 32) : Fin 2 → Nat :=
  let arg0 : BitVec 32 := BitVec.ofNat 32 (i 0).val
  let c128_i32_1716 : BitVec 32 := 128#32
  let v5564 : BitVec 32 := Scalar.muli arg0 c128_i32_1716
  let c36_i32_1717 : BitVec 32 := 36#32
  let v5565 : BitVec 32 := Scalar.addi v5564 c36_i32_1717
  let c1_i32_1718 : BitVec 32 := 1#32
  let v5566 : BitVec 32 := Scalar.addi v5565 c1_i32_1718
  let c2040_i32_1720 : BitVec 32 := 2040#32
  let v5570 : BitVec 1 := Scalar.cmpi .slt v5566 c2040_i32_1720
  let c256_i32_1721 : BitVec 32 := 256#32
  let v5571 : BitVec 32 := Scalar.select v5570 v5569 c256_i32_1721
  let c9_i32_1722 : BitVec 32 := 9#32
  let v5572 : BitVec 32 := Scalar.muli v5571 c9_i32_1722
  let v5594 : Index := Scalar.indexCast v5572
  let c0_1728 : Index := 0#32
  ![v5594.toNat, 0]

def k0_chk38 (i : grid0.Coords) (v5569 : BitVec 32) : Prop :=
  (∀ a, (k0_off76 i v5569) a + S8x128.size a ≤ S2432x128.size a)
theorem k0_off76_inb : ∀ (i : grid0.Coords) (v5569 : BitVec 32) (k0_hw38 : k0_chk38 i v5569), ∀ a, (k0_off76 i v5569) a + S8x128.size a ≤ S2432x128.size a := fun i v5569 k0_hw38 => k0_hw38

def k0_off77 (i : grid0.Coords) (v5560 : BitVec 32) : Fin 2 → Nat :=
  let arg0 : BitVec 32 := BitVec.ofNat 32 (i 0).val
  let c128_i32_1710 : BitVec 32 := 128#32
  let v5555 : BitVec 32 := Scalar.muli arg0 c128_i32_1710
  let c36_i32 : BitVec 32 := 36#32
  let v5556 : BitVec 32 := Scalar.addi v5555 c36_i32
  let c0_i32_1711 : BitVec 32 := 0#32
  let v5557 : BitVec 32 := Scalar.addi v5556 c0_i32_1711
  let c2040_i32_1713 : BitVec 32 := 2040#32
  let v5561 : BitVec 1 := Scalar.cmpi .slt v5557 c2040_i32_1713
  let c256_i32_1714 : BitVec 32 := 256#32
  let v5562 : BitVec 32 := Scalar.select v5561 v5560 c256_i32_1714
  let c9_i32_1715 : BitVec 32 := 9#32
  let v5563 : BitVec 32 := Scalar.muli v5562 c9_i32_1715
  let v5612 : Index := Scalar.indexCast v5563
  let c0_1733 : Index := 0#32
  ![v5612.toNat, 0]

def k0_chk37 (i : grid0.Coords) (v5560 : BitVec 32) : Prop :=
  (∀ a, (k0_off75 i v5560) a + S8x128.size a ≤ S2432x128.size a) ∧
  (∀ a, (k0_off77 i v5560) a + S8x128.size a ≤ S2432x128.size a)
theorem k0_off75_inb : ∀ (i : grid0.Coords) (v5560 : BitVec 32) (k0_hw37 : k0_chk37 i v5560), ∀ a, (k0_off75 i v5560) a + S8x128.size a ≤ S2432x128.size a := fun i v5560 k0_hw37 => k0_hw37.1
theorem k0_off77_inb : ∀ (i : grid0.Coords) (v5560 : BitVec 32) (k0_hw37 : k0_chk37 i v5560), ∀ a, (k0_off77 i v5560) a + S8x128.size a ≤ S2432x128.size a := fun i v5560 k0_hw37 => k0_hw37.2

def k0_off78 (i : grid0.Coords) (c0_i32_1773 : BitVec 32) : Fin 1 → Nat :=
  let arg0 : BitVec 32 := BitVec.ofNat 32 (i 0).val
  let c128_i32_1772 : BitVec 32 := 128#32
  let v5776 : BitVec 32 := Scalar.muli arg0 c128_i32_1772
  let c38_i32 : BitVec 32 := 38#32
  let v5777 : BitVec 32 := Scalar.addi v5776 c38_i32
  let v5778 : BitVec 32 := Scalar.addi v5777 c0_i32_1773
  let c2039_i32_1774 : BitVec 32 := 2039#32
  let v5779 : BitVec 32 := Scalar.minsi v5778 c2039_i32_1774
  let v5780 : Index := Scalar.indexCast v5779
  ![v5780.toNat]
def k0_off79 (i : grid0.Coords) (v5781 : BitVec 32) : Fin 2 → Nat :=
  let arg0 : BitVec 32 := BitVec.ofNat 32 (i 0).val
  let c128_i32_1772 : BitVec 32 := 128#32
  let v5776 : BitVec 32 := Scalar.muli arg0 c128_i32_1772
  let c38_i32 : BitVec 32 := 38#32
  let v5777 : BitVec 32 := Scalar.addi v5776 c38_i32
  let c0_i32_1773 : BitVec 32 := 0#32
  let v5778 : BitVec 32 := Scalar.addi v5777 c0_i32_1773
  let c2040_i32_1775 : BitVec 32 := 2040#32
  let v5782 : BitVec 1 := Scalar.cmpi .slt v5778 c2040_i32_1775
  let c256_i32_1776 : BitVec 32 := 256#32
  let v5783 : BitVec 32 := Scalar.select v5782 v5781 c256_i32_1776
  let c9_i32_1777 : BitVec 32 := 9#32
  let v5784 : BitVec 32 := Scalar.muli v5783 c9_i32_1777
  let v5804 : Index := Scalar.indexCast v5784
  let c0_1788 : Index := 0#32
  ![v5804.toNat, 0]

def k0_off80 (i : grid0.Coords) (v5790 : BitVec 32) : Fin 2 → Nat :=
  let arg0 : BitVec 32 := BitVec.ofNat 32 (i 0).val
  let c128_i32_1778 : BitVec 32 := 128#32
  let v5785 : BitVec 32 := Scalar.muli arg0 c128_i32_1778
  let c38_i32_1779 : BitVec 32 := 38#32
  let v5786 : BitVec 32 := Scalar.addi v5785 c38_i32_1779
  let c1_i32_1780 : BitVec 32 := 1#32
  let v5787 : BitVec 32 := Scalar.addi v5786 c1_i32_1780
  let c2040_i32_1782 : BitVec 32 := 2040#32
  let v5791 : BitVec 1 := Scalar.cmpi .slt v5787 c2040_i32_1782
  let c256_i32_1783 : BitVec 32 := 256#32
  let v5792 : BitVec 32 := Scalar.select v5791 v5790 c256_i32_1783
  let c9_i32_1784 : BitVec 32 := 9#32
  let v5793 : BitVec 32 := Scalar.muli v5792 c9_i32_1784
  let v5815 : Index := Scalar.indexCast v5793
  let c0_1790 : Index := 0#32
  ![v5815.toNat, 0]

def k0_chk40 (i : grid0.Coords) (v5790 : BitVec 32) : Prop :=
  (∀ a, (k0_off80 i v5790) a + S8x128.size a ≤ S2432x128.size a)
theorem k0_off80_inb : ∀ (i : grid0.Coords) (v5790 : BitVec 32) (k0_hw40 : k0_chk40 i v5790), ∀ a, (k0_off80 i v5790) a + S8x128.size a ≤ S2432x128.size a := fun i v5790 k0_hw40 => k0_hw40

def k0_off81 (i : grid0.Coords) (v5781 : BitVec 32) : Fin 2 → Nat :=
  let arg0 : BitVec 32 := BitVec.ofNat 32 (i 0).val
  let c128_i32_1772 : BitVec 32 := 128#32
  let v5776 : BitVec 32 := Scalar.muli arg0 c128_i32_1772
  let c38_i32 : BitVec 32 := 38#32
  let v5777 : BitVec 32 := Scalar.addi v5776 c38_i32
  let c0_i32_1773 : BitVec 32 := 0#32
  let v5778 : BitVec 32 := Scalar.addi v5777 c0_i32_1773
  let c2040_i32_1775 : BitVec 32 := 2040#32
  let v5782 : BitVec 1 := Scalar.cmpi .slt v5778 c2040_i32_1775
  let c256_i32_1776 : BitVec 32 := 256#32
  let v5783 : BitVec 32 := Scalar.select v5782 v5781 c256_i32_1776
  let c9_i32_1777 : BitVec 32 := 9#32
  let v5784 : BitVec 32 := Scalar.muli v5783 c9_i32_1777
  let v5833 : Index := Scalar.indexCast v5784
  let c0_1795 : Index := 0#32
  ![v5833.toNat, 0]

def k0_chk39 (i : grid0.Coords) (v5781 : BitVec 32) : Prop :=
  (∀ a, (k0_off79 i v5781) a + S8x128.size a ≤ S2432x128.size a) ∧
  (∀ a, (k0_off81 i v5781) a + S8x128.size a ≤ S2432x128.size a)
theorem k0_off79_inb : ∀ (i : grid0.Coords) (v5781 : BitVec 32) (k0_hw39 : k0_chk39 i v5781), ∀ a, (k0_off79 i v5781) a + S8x128.size a ≤ S2432x128.size a := fun i v5781 k0_hw39 => k0_hw39.1
theorem k0_off81_inb : ∀ (i : grid0.Coords) (v5781 : BitVec 32) (k0_hw39 : k0_chk39 i v5781), ∀ a, (k0_off81 i v5781) a + S8x128.size a ≤ S2432x128.size a := fun i v5781 k0_hw39 => k0_hw39.2

def k0_off82 (i : grid0.Coords) (c0_i32_1835 : BitVec 32) : Fin 1 → Nat :=
  let arg0 : BitVec 32 := BitVec.ofNat 32 (i 0).val
  let c128_i32_1834 : BitVec 32 := 128#32
  let v5997 : BitVec 32 := Scalar.muli arg0 c128_i32_1834
  let c40_i32 : BitVec 32 := 40#32
  let v5998 : BitVec 32 := Scalar.addi v5997 c40_i32
  let v5999 : BitVec 32 := Scalar.addi v5998 c0_i32_1835
  let c2039_i32_1836 : BitVec 32 := 2039#32
  let v6000 : BitVec 32 := Scalar.minsi v5999 c2039_i32_1836
  let v6001 : Index := Scalar.indexCast v6000
  ![v6001.toNat]
def k0_off83 (i : grid0.Coords) (v6002 : BitVec 32) : Fin 2 → Nat :=
  let arg0 : BitVec 32 := BitVec.ofNat 32 (i 0).val
  let c128_i32_1834 : BitVec 32 := 128#32
  let v5997 : BitVec 32 := Scalar.muli arg0 c128_i32_1834
  let c40_i32 : BitVec 32 := 40#32
  let v5998 : BitVec 32 := Scalar.addi v5997 c40_i32
  let c0_i32_1835 : BitVec 32 := 0#32
  let v5999 : BitVec 32 := Scalar.addi v5998 c0_i32_1835
  let c2040_i32_1837 : BitVec 32 := 2040#32
  let v6003 : BitVec 1 := Scalar.cmpi .slt v5999 c2040_i32_1837
  let c256_i32_1838 : BitVec 32 := 256#32
  let v6004 : BitVec 32 := Scalar.select v6003 v6002 c256_i32_1838
  let c9_i32_1839 : BitVec 32 := 9#32
  let v6005 : BitVec 32 := Scalar.muli v6004 c9_i32_1839
  let v6025 : Index := Scalar.indexCast v6005
  let c0_1851 : Index := 0#32
  ![v6025.toNat, 0]

def k0_off84 (i : grid0.Coords) (v6011 : BitVec 32) : Fin 2 → Nat :=
  let arg0 : BitVec 32 := BitVec.ofNat 32 (i 0).val
  let c128_i32_1840 : BitVec 32 := 128#32
  let v6006 : BitVec 32 := Scalar.muli arg0 c128_i32_1840
  let c40_i32_1841 : BitVec 32 := 40#32
  let v6007 : BitVec 32 := Scalar.addi v6006 c40_i32_1841
  let c1_i32_1842 : BitVec 32 := 1#32
  let v6008 : BitVec 32 := Scalar.addi v6007 c1_i32_1842
  let c2040_i32_1844 : BitVec 32 := 2040#32
  let v6012 : BitVec 1 := Scalar.cmpi .slt v6008 c2040_i32_1844
  let c256_i32_1845 : BitVec 32 := 256#32
  let v6013 : BitVec 32 := Scalar.select v6012 v6011 c256_i32_1845
  let c9_i32_1846 : BitVec 32 := 9#32
  let v6014 : BitVec 32 := Scalar.muli v6013 c9_i32_1846
  let v6036 : Index := Scalar.indexCast v6014
  let c0_1853 : Index := 0#32
  ![v6036.toNat, 0]

def k0_chk42 (i : grid0.Coords) (v6011 : BitVec 32) : Prop :=
  (∀ a, (k0_off84 i v6011) a + S8x128.size a ≤ S2432x128.size a)
theorem k0_off84_inb : ∀ (i : grid0.Coords) (v6011 : BitVec 32) (k0_hw42 : k0_chk42 i v6011), ∀ a, (k0_off84 i v6011) a + S8x128.size a ≤ S2432x128.size a := fun i v6011 k0_hw42 => k0_hw42

def k0_off85 (i : grid0.Coords) (v6002 : BitVec 32) : Fin 2 → Nat :=
  let arg0 : BitVec 32 := BitVec.ofNat 32 (i 0).val
  let c128_i32_1834 : BitVec 32 := 128#32
  let v5997 : BitVec 32 := Scalar.muli arg0 c128_i32_1834
  let c40_i32 : BitVec 32 := 40#32
  let v5998 : BitVec 32 := Scalar.addi v5997 c40_i32
  let c0_i32_1835 : BitVec 32 := 0#32
  let v5999 : BitVec 32 := Scalar.addi v5998 c0_i32_1835
  let c2040_i32_1837 : BitVec 32 := 2040#32
  let v6003 : BitVec 1 := Scalar.cmpi .slt v5999 c2040_i32_1837
  let c256_i32_1838 : BitVec 32 := 256#32
  let v6004 : BitVec 32 := Scalar.select v6003 v6002 c256_i32_1838
  let c9_i32_1839 : BitVec 32 := 9#32
  let v6005 : BitVec 32 := Scalar.muli v6004 c9_i32_1839
  let v6054 : Index := Scalar.indexCast v6005
  let c0_1859 : Index := 0#32
  ![v6054.toNat, 0]

def k0_chk41 (i : grid0.Coords) (v6002 : BitVec 32) : Prop :=
  (∀ a, (k0_off83 i v6002) a + S8x128.size a ≤ S2432x128.size a) ∧
  (∀ a, (k0_off85 i v6002) a + S8x128.size a ≤ S2432x128.size a)
theorem k0_off83_inb : ∀ (i : grid0.Coords) (v6002 : BitVec 32) (k0_hw41 : k0_chk41 i v6002), ∀ a, (k0_off83 i v6002) a + S8x128.size a ≤ S2432x128.size a := fun i v6002 k0_hw41 => k0_hw41.1
theorem k0_off85_inb : ∀ (i : grid0.Coords) (v6002 : BitVec 32) (k0_hw41 : k0_chk41 i v6002), ∀ a, (k0_off85 i v6002) a + S8x128.size a ≤ S2432x128.size a := fun i v6002 k0_hw41 => k0_hw41.2

def k0_off86 (i : grid0.Coords) (c0_i32_1904 : BitVec 32) : Fin 1 → Nat :=
  let arg0 : BitVec 32 := BitVec.ofNat 32 (i 0).val
  let c128_i32_1903 : BitVec 32 := 128#32
  let v6218 : BitVec 32 := Scalar.muli arg0 c128_i32_1903
  let c42_i32 : BitVec 32 := 42#32
  let v6219 : BitVec 32 := Scalar.addi v6218 c42_i32
  let v6220 : BitVec 32 := Scalar.addi v6219 c0_i32_1904
  let c2039_i32_1905 : BitVec 32 := 2039#32
  let v6221 : BitVec 32 := Scalar.minsi v6220 c2039_i32_1905
  let v6222 : Index := Scalar.indexCast v6221
  ![v6222.toNat]
def k0_off87 (i : grid0.Coords) (v6223 : BitVec 32) : Fin 2 → Nat :=
  let arg0 : BitVec 32 := BitVec.ofNat 32 (i 0).val
  let c128_i32_1903 : BitVec 32 := 128#32
  let v6218 : BitVec 32 := Scalar.muli arg0 c128_i32_1903
  let c42_i32 : BitVec 32 := 42#32
  let v6219 : BitVec 32 := Scalar.addi v6218 c42_i32
  let c0_i32_1904 : BitVec 32 := 0#32
  let v6220 : BitVec 32 := Scalar.addi v6219 c0_i32_1904
  let c2040_i32_1906 : BitVec 32 := 2040#32
  let v6224 : BitVec 1 := Scalar.cmpi .slt v6220 c2040_i32_1906
  let c256_i32_1907 : BitVec 32 := 256#32
  let v6225 : BitVec 32 := Scalar.select v6224 v6223 c256_i32_1907
  let c9_i32_1908 : BitVec 32 := 9#32
  let v6226 : BitVec 32 := Scalar.muli v6225 c9_i32_1908
  let v6246 : Index := Scalar.indexCast v6226
  let c0_1919 : Index := 0#32
  ![v6246.toNat, 0]

def k0_off88 (i : grid0.Coords) (v6232 : BitVec 32) : Fin 2 → Nat :=
  let arg0 : BitVec 32 := BitVec.ofNat 32 (i 0).val
  let c128_i32_1909 : BitVec 32 := 128#32
  let v6227 : BitVec 32 := Scalar.muli arg0 c128_i32_1909
  let c42_i32_1910 : BitVec 32 := 42#32
  let v6228 : BitVec 32 := Scalar.addi v6227 c42_i32_1910
  let c1_i32_1911 : BitVec 32 := 1#32
  let v6229 : BitVec 32 := Scalar.addi v6228 c1_i32_1911
  let c2040_i32_1913 : BitVec 32 := 2040#32
  let v6233 : BitVec 1 := Scalar.cmpi .slt v6229 c2040_i32_1913
  let c256_i32_1914 : BitVec 32 := 256#32
  let v6234 : BitVec 32 := Scalar.select v6233 v6232 c256_i32_1914
  let c9_i32_1915 : BitVec 32 := 9#32
  let v6235 : BitVec 32 := Scalar.muli v6234 c9_i32_1915
  let v6257 : Index := Scalar.indexCast v6235
  let c0_1921 : Index := 0#32
  ![v6257.toNat, 0]

def k0_chk44 (i : grid0.Coords) (v6232 : BitVec 32) : Prop :=
  (∀ a, (k0_off88 i v6232) a + S8x128.size a ≤ S2432x128.size a)
theorem k0_off88_inb : ∀ (i : grid0.Coords) (v6232 : BitVec 32) (k0_hw44 : k0_chk44 i v6232), ∀ a, (k0_off88 i v6232) a + S8x128.size a ≤ S2432x128.size a := fun i v6232 k0_hw44 => k0_hw44

def k0_off89 (i : grid0.Coords) (v6223 : BitVec 32) : Fin 2 → Nat :=
  let arg0 : BitVec 32 := BitVec.ofNat 32 (i 0).val
  let c128_i32_1903 : BitVec 32 := 128#32
  let v6218 : BitVec 32 := Scalar.muli arg0 c128_i32_1903
  let c42_i32 : BitVec 32 := 42#32
  let v6219 : BitVec 32 := Scalar.addi v6218 c42_i32
  let c0_i32_1904 : BitVec 32 := 0#32
  let v6220 : BitVec 32 := Scalar.addi v6219 c0_i32_1904
  let c2040_i32_1906 : BitVec 32 := 2040#32
  let v6224 : BitVec 1 := Scalar.cmpi .slt v6220 c2040_i32_1906
  let c256_i32_1907 : BitVec 32 := 256#32
  let v6225 : BitVec 32 := Scalar.select v6224 v6223 c256_i32_1907
  let c9_i32_1908 : BitVec 32 := 9#32
  let v6226 : BitVec 32 := Scalar.muli v6225 c9_i32_1908
  let v6275 : Index := Scalar.indexCast v6226
  let c0_1926 : Index := 0#32
  ![v6275.toNat, 0]

def k0_chk43 (i : grid0.Coords) (v6223 : BitVec 32) : Prop :=
  (∀ a, (k0_off87 i v6223) a + S8x128.size a ≤ S2432x128.size a) ∧
  (∀ a, (k0_off89 i v6223) a + S8x128.size a ≤ S2432x128.size a)
theorem k0_off87_inb : ∀ (i : grid0.Coords) (v6223 : BitVec 32) (k0_hw43 : k0_chk43 i v6223), ∀ a, (k0_off87 i v6223) a + S8x128.size a ≤ S2432x128.size a := fun i v6223 k0_hw43 => k0_hw43.1
theorem k0_off89_inb : ∀ (i : grid0.Coords) (v6223 : BitVec 32) (k0_hw43 : k0_chk43 i v6223), ∀ a, (k0_off89 i v6223) a + S8x128.size a ≤ S2432x128.size a := fun i v6223 k0_hw43 => k0_hw43.2

def k0_off90 (i : grid0.Coords) (c0_i32_1966 : BitVec 32) : Fin 1 → Nat :=
  let arg0 : BitVec 32 := BitVec.ofNat 32 (i 0).val
  let c128_i32_1965 : BitVec 32 := 128#32
  let v6439 : BitVec 32 := Scalar.muli arg0 c128_i32_1965
  let c44_i32 : BitVec 32 := 44#32
  let v6440 : BitVec 32 := Scalar.addi v6439 c44_i32
  let v6441 : BitVec 32 := Scalar.addi v6440 c0_i32_1966
  let c2039_i32_1967 : BitVec 32 := 2039#32
  let v6442 : BitVec 32 := Scalar.minsi v6441 c2039_i32_1967
  let v6443 : Index := Scalar.indexCast v6442
  ![v6443.toNat]
def k0_off91 (i : grid0.Coords) (v6444 : BitVec 32) : Fin 2 → Nat :=
  let arg0 : BitVec 32 := BitVec.ofNat 32 (i 0).val
  let c128_i32_1965 : BitVec 32 := 128#32
  let v6439 : BitVec 32 := Scalar.muli arg0 c128_i32_1965
  let c44_i32 : BitVec 32 := 44#32
  let v6440 : BitVec 32 := Scalar.addi v6439 c44_i32
  let c0_i32_1966 : BitVec 32 := 0#32
  let v6441 : BitVec 32 := Scalar.addi v6440 c0_i32_1966
  let c2040_i32_1968 : BitVec 32 := 2040#32
  let v6445 : BitVec 1 := Scalar.cmpi .slt v6441 c2040_i32_1968
  let c256_i32_1969 : BitVec 32 := 256#32
  let v6446 : BitVec 32 := Scalar.select v6445 v6444 c256_i32_1969
  let c9_i32_1970 : BitVec 32 := 9#32
  let v6447 : BitVec 32 := Scalar.muli v6446 c9_i32_1970
  let v6467 : Index := Scalar.indexCast v6447
  let c0_1981 : Index := 0#32
  ![v6467.toNat, 0]

def k0_off92 (i : grid0.Coords) (v6453 : BitVec 32) : Fin 2 → Nat :=
  let arg0 : BitVec 32 := BitVec.ofNat 32 (i 0).val
  let c128_i32_1971 : BitVec 32 := 128#32
  let v6448 : BitVec 32 := Scalar.muli arg0 c128_i32_1971
  let c44_i32_1972 : BitVec 32 := 44#32
  let v6449 : BitVec 32 := Scalar.addi v6448 c44_i32_1972
  let c1_i32_1973 : BitVec 32 := 1#32
  let v6450 : BitVec 32 := Scalar.addi v6449 c1_i32_1973
  let c2040_i32_1975 : BitVec 32 := 2040#32
  let v6454 : BitVec 1 := Scalar.cmpi .slt v6450 c2040_i32_1975
  let c256_i32_1976 : BitVec 32 := 256#32
  let v6455 : BitVec 32 := Scalar.select v6454 v6453 c256_i32_1976
  let c9_i32_1977 : BitVec 32 := 9#32
  let v6456 : BitVec 32 := Scalar.muli v6455 c9_i32_1977
  let v6478 : Index := Scalar.indexCast v6456
  let c0_1983 : Index := 0#32
  ![v6478.toNat, 0]

def k0_chk46 (i : grid0.Coords) (v6453 : BitVec 32) : Prop :=
  (∀ a, (k0_off92 i v6453) a + S8x128.size a ≤ S2432x128.size a)
theorem k0_off92_inb : ∀ (i : grid0.Coords) (v6453 : BitVec 32) (k0_hw46 : k0_chk46 i v6453), ∀ a, (k0_off92 i v6453) a + S8x128.size a ≤ S2432x128.size a := fun i v6453 k0_hw46 => k0_hw46

def k0_off93 (i : grid0.Coords) (v6444 : BitVec 32) : Fin 2 → Nat :=
  let arg0 : BitVec 32 := BitVec.ofNat 32 (i 0).val
  let c128_i32_1965 : BitVec 32 := 128#32
  let v6439 : BitVec 32 := Scalar.muli arg0 c128_i32_1965
  let c44_i32 : BitVec 32 := 44#32
  let v6440 : BitVec 32 := Scalar.addi v6439 c44_i32
  let c0_i32_1966 : BitVec 32 := 0#32
  let v6441 : BitVec 32 := Scalar.addi v6440 c0_i32_1966
  let c2040_i32_1968 : BitVec 32 := 2040#32
  let v6445 : BitVec 1 := Scalar.cmpi .slt v6441 c2040_i32_1968
  let c256_i32_1969 : BitVec 32 := 256#32
  let v6446 : BitVec 32 := Scalar.select v6445 v6444 c256_i32_1969
  let c9_i32_1970 : BitVec 32 := 9#32
  let v6447 : BitVec 32 := Scalar.muli v6446 c9_i32_1970
  let v6496 : Index := Scalar.indexCast v6447
  let c0_1988 : Index := 0#32
  ![v6496.toNat, 0]

def k0_chk45 (i : grid0.Coords) (v6444 : BitVec 32) : Prop :=
  (∀ a, (k0_off91 i v6444) a + S8x128.size a ≤ S2432x128.size a) ∧
  (∀ a, (k0_off93 i v6444) a + S8x128.size a ≤ S2432x128.size a)
theorem k0_off91_inb : ∀ (i : grid0.Coords) (v6444 : BitVec 32) (k0_hw45 : k0_chk45 i v6444), ∀ a, (k0_off91 i v6444) a + S8x128.size a ≤ S2432x128.size a := fun i v6444 k0_hw45 => k0_hw45.1
theorem k0_off93_inb : ∀ (i : grid0.Coords) (v6444 : BitVec 32) (k0_hw45 : k0_chk45 i v6444), ∀ a, (k0_off93 i v6444) a + S8x128.size a ≤ S2432x128.size a := fun i v6444 k0_hw45 => k0_hw45.2

def k0_off94 (i : grid0.Coords) (c0_i32_2028 : BitVec 32) : Fin 1 → Nat :=
  let arg0 : BitVec 32 := BitVec.ofNat 32 (i 0).val
  let c128_i32_2027 : BitVec 32 := 128#32
  let v6660 : BitVec 32 := Scalar.muli arg0 c128_i32_2027
  let c46_i32 : BitVec 32 := 46#32
  let v6661 : BitVec 32 := Scalar.addi v6660 c46_i32
  let v6662 : BitVec 32 := Scalar.addi v6661 c0_i32_2028
  let c2039_i32_2029 : BitVec 32 := 2039#32
  let v6663 : BitVec 32 := Scalar.minsi v6662 c2039_i32_2029
  let v6664 : Index := Scalar.indexCast v6663
  ![v6664.toNat]
def k0_off95 (i : grid0.Coords) (v6665 : BitVec 32) : Fin 2 → Nat :=
  let arg0 : BitVec 32 := BitVec.ofNat 32 (i 0).val
  let c128_i32_2027 : BitVec 32 := 128#32
  let v6660 : BitVec 32 := Scalar.muli arg0 c128_i32_2027
  let c46_i32 : BitVec 32 := 46#32
  let v6661 : BitVec 32 := Scalar.addi v6660 c46_i32
  let c0_i32_2028 : BitVec 32 := 0#32
  let v6662 : BitVec 32 := Scalar.addi v6661 c0_i32_2028
  let c2040_i32_2030 : BitVec 32 := 2040#32
  let v6666 : BitVec 1 := Scalar.cmpi .slt v6662 c2040_i32_2030
  let c256_i32_2031 : BitVec 32 := 256#32
  let v6667 : BitVec 32 := Scalar.select v6666 v6665 c256_i32_2031
  let c9_i32_2032 : BitVec 32 := 9#32
  let v6668 : BitVec 32 := Scalar.muli v6667 c9_i32_2032
  let v6688 : Index := Scalar.indexCast v6668
  let c0_2043 : Index := 0#32
  ![v6688.toNat, 0]

def k0_off96 (i : grid0.Coords) (v6674 : BitVec 32) : Fin 2 → Nat :=
  let arg0 : BitVec 32 := BitVec.ofNat 32 (i 0).val
  let c128_i32_2033 : BitVec 32 := 128#32
  let v6669 : BitVec 32 := Scalar.muli arg0 c128_i32_2033
  let c46_i32_2034 : BitVec 32 := 46#32
  let v6670 : BitVec 32 := Scalar.addi v6669 c46_i32_2034
  let c1_i32_2035 : BitVec 32 := 1#32
  let v6671 : BitVec 32 := Scalar.addi v6670 c1_i32_2035
  let c2040_i32_2037 : BitVec 32 := 2040#32
  let v6675 : BitVec 1 := Scalar.cmpi .slt v6671 c2040_i32_2037
  let c256_i32_2038 : BitVec 32 := 256#32
  let v6676 : BitVec 32 := Scalar.select v6675 v6674 c256_i32_2038
  let c9_i32_2039 : BitVec 32 := 9#32
  let v6677 : BitVec 32 := Scalar.muli v6676 c9_i32_2039
  let v6699 : Index := Scalar.indexCast v6677
  let c0_2045 : Index := 0#32
  ![v6699.toNat, 0]

def k0_chk48 (i : grid0.Coords) (v6674 : BitVec 32) : Prop :=
  (∀ a, (k0_off96 i v6674) a + S8x128.size a ≤ S2432x128.size a)
theorem k0_off96_inb : ∀ (i : grid0.Coords) (v6674 : BitVec 32) (k0_hw48 : k0_chk48 i v6674), ∀ a, (k0_off96 i v6674) a + S8x128.size a ≤ S2432x128.size a := fun i v6674 k0_hw48 => k0_hw48

def k0_off97 (i : grid0.Coords) (v6665 : BitVec 32) : Fin 2 → Nat :=
  let arg0 : BitVec 32 := BitVec.ofNat 32 (i 0).val
  let c128_i32_2027 : BitVec 32 := 128#32
  let v6660 : BitVec 32 := Scalar.muli arg0 c128_i32_2027
  let c46_i32 : BitVec 32 := 46#32
  let v6661 : BitVec 32 := Scalar.addi v6660 c46_i32
  let c0_i32_2028 : BitVec 32 := 0#32
  let v6662 : BitVec 32 := Scalar.addi v6661 c0_i32_2028
  let c2040_i32_2030 : BitVec 32 := 2040#32
  let v6666 : BitVec 1 := Scalar.cmpi .slt v6662 c2040_i32_2030
  let c256_i32_2031 : BitVec 32 := 256#32
  let v6667 : BitVec 32 := Scalar.select v6666 v6665 c256_i32_2031
  let c9_i32_2032 : BitVec 32 := 9#32
  let v6668 : BitVec 32 := Scalar.muli v6667 c9_i32_2032
  let v6717 : Index := Scalar.indexCast v6668
  let c0_2050 : Index := 0#32
  ![v6717.toNat, 0]

def k0_chk47 (i : grid0.Coords) (v6665 : BitVec 32) : Prop :=
  (∀ a, (k0_off95 i v6665) a + S8x128.size a ≤ S2432x128.size a) ∧
  (∀ a, (k0_off97 i v6665) a + S8x128.size a ≤ S2432x128.size a)
theorem k0_off95_inb : ∀ (i : grid0.Coords) (v6665 : BitVec 32) (k0_hw47 : k0_chk47 i v6665), ∀ a, (k0_off95 i v6665) a + S8x128.size a ≤ S2432x128.size a := fun i v6665 k0_hw47 => k0_hw47.1
theorem k0_off97_inb : ∀ (i : grid0.Coords) (v6665 : BitVec 32) (k0_hw47 : k0_chk47 i v6665), ∀ a, (k0_off97 i v6665) a + S8x128.size a ≤ S2432x128.size a := fun i v6665 k0_hw47 => k0_hw47.2

def k0_off98 (i : grid0.Coords) (c0_i32_2090 : BitVec 32) : Fin 1 → Nat :=
  let arg0 : BitVec 32 := BitVec.ofNat 32 (i 0).val
  let c128_i32_2089 : BitVec 32 := 128#32
  let v6881 : BitVec 32 := Scalar.muli arg0 c128_i32_2089
  let c48_i32 : BitVec 32 := 48#32
  let v6882 : BitVec 32 := Scalar.addi v6881 c48_i32
  let v6883 : BitVec 32 := Scalar.addi v6882 c0_i32_2090
  let c2039_i32_2091 : BitVec 32 := 2039#32
  let v6884 : BitVec 32 := Scalar.minsi v6883 c2039_i32_2091
  let v6885 : Index := Scalar.indexCast v6884
  ![v6885.toNat]
def k0_off99 (i : grid0.Coords) (v6886 : BitVec 32) : Fin 2 → Nat :=
  let arg0 : BitVec 32 := BitVec.ofNat 32 (i 0).val
  let c128_i32_2089 : BitVec 32 := 128#32
  let v6881 : BitVec 32 := Scalar.muli arg0 c128_i32_2089
  let c48_i32 : BitVec 32 := 48#32
  let v6882 : BitVec 32 := Scalar.addi v6881 c48_i32
  let c0_i32_2090 : BitVec 32 := 0#32
  let v6883 : BitVec 32 := Scalar.addi v6882 c0_i32_2090
  let c2040_i32_2092 : BitVec 32 := 2040#32
  let v6887 : BitVec 1 := Scalar.cmpi .slt v6883 c2040_i32_2092
  let c256_i32_2093 : BitVec 32 := 256#32
  let v6888 : BitVec 32 := Scalar.select v6887 v6886 c256_i32_2093
  let c9_i32_2094 : BitVec 32 := 9#32
  let v6889 : BitVec 32 := Scalar.muli v6888 c9_i32_2094
  let v6909 : Index := Scalar.indexCast v6889
  let c0_2106 : Index := 0#32
  ![v6909.toNat, 0]

def k0_off100 (i : grid0.Coords) (v6895 : BitVec 32) : Fin 2 → Nat :=
  let arg0 : BitVec 32 := BitVec.ofNat 32 (i 0).val
  let c128_i32_2095 : BitVec 32 := 128#32
  let v6890 : BitVec 32 := Scalar.muli arg0 c128_i32_2095
  let c48_i32_2096 : BitVec 32 := 48#32
  let v6891 : BitVec 32 := Scalar.addi v6890 c48_i32_2096
  let c1_i32_2097 : BitVec 32 := 1#32
  let v6892 : BitVec 32 := Scalar.addi v6891 c1_i32_2097
  let c2040_i32_2099 : BitVec 32 := 2040#32
  let v6896 : BitVec 1 := Scalar.cmpi .slt v6892 c2040_i32_2099
  let c256_i32_2100 : BitVec 32 := 256#32
  let v6897 : BitVec 32 := Scalar.select v6896 v6895 c256_i32_2100
  let c9_i32_2101 : BitVec 32 := 9#32
  let v6898 : BitVec 32 := Scalar.muli v6897 c9_i32_2101
  let v6920 : Index := Scalar.indexCast v6898
  let c0_2108 : Index := 0#32
  ![v6920.toNat, 0]

def k0_chk50 (i : grid0.Coords) (v6895 : BitVec 32) : Prop :=
  (∀ a, (k0_off100 i v6895) a + S8x128.size a ≤ S2432x128.size a)
theorem k0_off100_inb : ∀ (i : grid0.Coords) (v6895 : BitVec 32) (k0_hw50 : k0_chk50 i v6895), ∀ a, (k0_off100 i v6895) a + S8x128.size a ≤ S2432x128.size a := fun i v6895 k0_hw50 => k0_hw50

def k0_off101 (i : grid0.Coords) (v6886 : BitVec 32) : Fin 2 → Nat :=
  let arg0 : BitVec 32 := BitVec.ofNat 32 (i 0).val
  let c128_i32_2089 : BitVec 32 := 128#32
  let v6881 : BitVec 32 := Scalar.muli arg0 c128_i32_2089
  let c48_i32 : BitVec 32 := 48#32
  let v6882 : BitVec 32 := Scalar.addi v6881 c48_i32
  let c0_i32_2090 : BitVec 32 := 0#32
  let v6883 : BitVec 32 := Scalar.addi v6882 c0_i32_2090
  let c2040_i32_2092 : BitVec 32 := 2040#32
  let v6887 : BitVec 1 := Scalar.cmpi .slt v6883 c2040_i32_2092
  let c256_i32_2093 : BitVec 32 := 256#32
  let v6888 : BitVec 32 := Scalar.select v6887 v6886 c256_i32_2093
  let c9_i32_2094 : BitVec 32 := 9#32
  let v6889 : BitVec 32 := Scalar.muli v6888 c9_i32_2094
  let v6938 : Index := Scalar.indexCast v6889
  let c0_2114 : Index := 0#32
  ![v6938.toNat, 0]

def k0_chk49 (i : grid0.Coords) (v6886 : BitVec 32) : Prop :=
  (∀ a, (k0_off99 i v6886) a + S8x128.size a ≤ S2432x128.size a) ∧
  (∀ a, (k0_off101 i v6886) a + S8x128.size a ≤ S2432x128.size a)
theorem k0_off99_inb : ∀ (i : grid0.Coords) (v6886 : BitVec 32) (k0_hw49 : k0_chk49 i v6886), ∀ a, (k0_off99 i v6886) a + S8x128.size a ≤ S2432x128.size a := fun i v6886 k0_hw49 => k0_hw49.1
theorem k0_off101_inb : ∀ (i : grid0.Coords) (v6886 : BitVec 32) (k0_hw49 : k0_chk49 i v6886), ∀ a, (k0_off101 i v6886) a + S8x128.size a ≤ S2432x128.size a := fun i v6886 k0_hw49 => k0_hw49.2

def k0_off102 (i : grid0.Coords) (c0_i32_2159 : BitVec 32) : Fin 1 → Nat :=
  let arg0 : BitVec 32 := BitVec.ofNat 32 (i 0).val
  let c128_i32_2158 : BitVec 32 := 128#32
  let v7102 : BitVec 32 := Scalar.muli arg0 c128_i32_2158
  let c50_i32 : BitVec 32 := 50#32
  let v7103 : BitVec 32 := Scalar.addi v7102 c50_i32
  let v7104 : BitVec 32 := Scalar.addi v7103 c0_i32_2159
  let c2039_i32_2160 : BitVec 32 := 2039#32
  let v7105 : BitVec 32 := Scalar.minsi v7104 c2039_i32_2160
  let v7106 : Index := Scalar.indexCast v7105
  ![v7106.toNat]
def k0_off103 (i : grid0.Coords) (v7107 : BitVec 32) : Fin 2 → Nat :=
  let arg0 : BitVec 32 := BitVec.ofNat 32 (i 0).val
  let c128_i32_2158 : BitVec 32 := 128#32
  let v7102 : BitVec 32 := Scalar.muli arg0 c128_i32_2158
  let c50_i32 : BitVec 32 := 50#32
  let v7103 : BitVec 32 := Scalar.addi v7102 c50_i32
  let c0_i32_2159 : BitVec 32 := 0#32
  let v7104 : BitVec 32 := Scalar.addi v7103 c0_i32_2159
  let c2040_i32_2161 : BitVec 32 := 2040#32
  let v7108 : BitVec 1 := Scalar.cmpi .slt v7104 c2040_i32_2161
  let c256_i32_2162 : BitVec 32 := 256#32
  let v7109 : BitVec 32 := Scalar.select v7108 v7107 c256_i32_2162
  let c9_i32_2163 : BitVec 32 := 9#32
  let v7110 : BitVec 32 := Scalar.muli v7109 c9_i32_2163
  let v7130 : Index := Scalar.indexCast v7110
  let c0_2174 : Index := 0#32
  ![v7130.toNat, 0]

def k0_off104 (i : grid0.Coords) (v7116 : BitVec 32) : Fin 2 → Nat :=
  let arg0 : BitVec 32 := BitVec.ofNat 32 (i 0).val
  let c128_i32_2164 : BitVec 32 := 128#32
  let v7111 : BitVec 32 := Scalar.muli arg0 c128_i32_2164
  let c50_i32_2165 : BitVec 32 := 50#32
  let v7112 : BitVec 32 := Scalar.addi v7111 c50_i32_2165
  let c1_i32_2166 : BitVec 32 := 1#32
  let v7113 : BitVec 32 := Scalar.addi v7112 c1_i32_2166
  let c2040_i32_2168 : BitVec 32 := 2040#32
  let v7117 : BitVec 1 := Scalar.cmpi .slt v7113 c2040_i32_2168
  let c256_i32_2169 : BitVec 32 := 256#32
  let v7118 : BitVec 32 := Scalar.select v7117 v7116 c256_i32_2169
  let c9_i32_2170 : BitVec 32 := 9#32
  let v7119 : BitVec 32 := Scalar.muli v7118 c9_i32_2170
  let v7141 : Index := Scalar.indexCast v7119
  let c0_2176 : Index := 0#32
  ![v7141.toNat, 0]

def k0_chk52 (i : grid0.Coords) (v7116 : BitVec 32) : Prop :=
  (∀ a, (k0_off104 i v7116) a + S8x128.size a ≤ S2432x128.size a)
theorem k0_off104_inb : ∀ (i : grid0.Coords) (v7116 : BitVec 32) (k0_hw52 : k0_chk52 i v7116), ∀ a, (k0_off104 i v7116) a + S8x128.size a ≤ S2432x128.size a := fun i v7116 k0_hw52 => k0_hw52

def k0_off105 (i : grid0.Coords) (v7107 : BitVec 32) : Fin 2 → Nat :=
  let arg0 : BitVec 32 := BitVec.ofNat 32 (i 0).val
  let c128_i32_2158 : BitVec 32 := 128#32
  let v7102 : BitVec 32 := Scalar.muli arg0 c128_i32_2158
  let c50_i32 : BitVec 32 := 50#32
  let v7103 : BitVec 32 := Scalar.addi v7102 c50_i32
  let c0_i32_2159 : BitVec 32 := 0#32
  let v7104 : BitVec 32 := Scalar.addi v7103 c0_i32_2159
  let c2040_i32_2161 : BitVec 32 := 2040#32
  let v7108 : BitVec 1 := Scalar.cmpi .slt v7104 c2040_i32_2161
  let c256_i32_2162 : BitVec 32 := 256#32
  let v7109 : BitVec 32 := Scalar.select v7108 v7107 c256_i32_2162
  let c9_i32_2163 : BitVec 32 := 9#32
  let v7110 : BitVec 32 := Scalar.muli v7109 c9_i32_2163
  let v7159 : Index := Scalar.indexCast v7110
  let c0_2181 : Index := 0#32
  ![v7159.toNat, 0]

def k0_chk51 (i : grid0.Coords) (v7107 : BitVec 32) : Prop :=
  (∀ a, (k0_off103 i v7107) a + S8x128.size a ≤ S2432x128.size a) ∧
  (∀ a, (k0_off105 i v7107) a + S8x128.size a ≤ S2432x128.size a)
theorem k0_off103_inb : ∀ (i : grid0.Coords) (v7107 : BitVec 32) (k0_hw51 : k0_chk51 i v7107), ∀ a, (k0_off103 i v7107) a + S8x128.size a ≤ S2432x128.size a := fun i v7107 k0_hw51 => k0_hw51.1
theorem k0_off105_inb : ∀ (i : grid0.Coords) (v7107 : BitVec 32) (k0_hw51 : k0_chk51 i v7107), ∀ a, (k0_off105 i v7107) a + S8x128.size a ≤ S2432x128.size a := fun i v7107 k0_hw51 => k0_hw51.2

def k0_off106 (i : grid0.Coords) (c0_i32_2221 : BitVec 32) : Fin 1 → Nat :=
  let arg0 : BitVec 32 := BitVec.ofNat 32 (i 0).val
  let c128_i32_2220 : BitVec 32 := 128#32
  let v7323 : BitVec 32 := Scalar.muli arg0 c128_i32_2220
  let c52_i32 : BitVec 32 := 52#32
  let v7324 : BitVec 32 := Scalar.addi v7323 c52_i32
  let v7325 : BitVec 32 := Scalar.addi v7324 c0_i32_2221
  let c2039_i32_2222 : BitVec 32 := 2039#32
  let v7326 : BitVec 32 := Scalar.minsi v7325 c2039_i32_2222
  let v7327 : Index := Scalar.indexCast v7326
  ![v7327.toNat]
def k0_off107 (i : grid0.Coords) (v7328 : BitVec 32) : Fin 2 → Nat :=
  let arg0 : BitVec 32 := BitVec.ofNat 32 (i 0).val
  let c128_i32_2220 : BitVec 32 := 128#32
  let v7323 : BitVec 32 := Scalar.muli arg0 c128_i32_2220
  let c52_i32 : BitVec 32 := 52#32
  let v7324 : BitVec 32 := Scalar.addi v7323 c52_i32
  let c0_i32_2221 : BitVec 32 := 0#32
  let v7325 : BitVec 32 := Scalar.addi v7324 c0_i32_2221
  let c2040_i32_2223 : BitVec 32 := 2040#32
  let v7329 : BitVec 1 := Scalar.cmpi .slt v7325 c2040_i32_2223
  let c256_i32_2224 : BitVec 32 := 256#32
  let v7330 : BitVec 32 := Scalar.select v7329 v7328 c256_i32_2224
  let c9_i32_2225 : BitVec 32 := 9#32
  let v7331 : BitVec 32 := Scalar.muli v7330 c9_i32_2225
  let v7351 : Index := Scalar.indexCast v7331
  let c0_2236 : Index := 0#32
  ![v7351.toNat, 0]

def k0_off108 (i : grid0.Coords) (v7337 : BitVec 32) : Fin 2 → Nat :=
  let arg0 : BitVec 32 := BitVec.ofNat 32 (i 0).val
  let c128_i32_2226 : BitVec 32 := 128#32
  let v7332 : BitVec 32 := Scalar.muli arg0 c128_i32_2226
  let c52_i32_2227 : BitVec 32 := 52#32
  let v7333 : BitVec 32 := Scalar.addi v7332 c52_i32_2227
  let c1_i32_2228 : BitVec 32 := 1#32
  let v7334 : BitVec 32 := Scalar.addi v7333 c1_i32_2228
  let c2040_i32_2230 : BitVec 32 := 2040#32
  let v7338 : BitVec 1 := Scalar.cmpi .slt v7334 c2040_i32_2230
  let c256_i32_2231 : BitVec 32 := 256#32
  let v7339 : BitVec 32 := Scalar.select v7338 v7337 c256_i32_2231
  let c9_i32_2232 : BitVec 32 := 9#32
  let v7340 : BitVec 32 := Scalar.muli v7339 c9_i32_2232
  let v7362 : Index := Scalar.indexCast v7340
  let c0_2238 : Index := 0#32
  ![v7362.toNat, 0]

def k0_chk54 (i : grid0.Coords) (v7337 : BitVec 32) : Prop :=
  (∀ a, (k0_off108 i v7337) a + S8x128.size a ≤ S2432x128.size a)
theorem k0_off108_inb : ∀ (i : grid0.Coords) (v7337 : BitVec 32) (k0_hw54 : k0_chk54 i v7337), ∀ a, (k0_off108 i v7337) a + S8x128.size a ≤ S2432x128.size a := fun i v7337 k0_hw54 => k0_hw54

def k0_off109 (i : grid0.Coords) (v7328 : BitVec 32) : Fin 2 → Nat :=
  let arg0 : BitVec 32 := BitVec.ofNat 32 (i 0).val
  let c128_i32_2220 : BitVec 32 := 128#32
  let v7323 : BitVec 32 := Scalar.muli arg0 c128_i32_2220
  let c52_i32 : BitVec 32 := 52#32
  let v7324 : BitVec 32 := Scalar.addi v7323 c52_i32
  let c0_i32_2221 : BitVec 32 := 0#32
  let v7325 : BitVec 32 := Scalar.addi v7324 c0_i32_2221
  let c2040_i32_2223 : BitVec 32 := 2040#32
  let v7329 : BitVec 1 := Scalar.cmpi .slt v7325 c2040_i32_2223
  let c256_i32_2224 : BitVec 32 := 256#32
  let v7330 : BitVec 32 := Scalar.select v7329 v7328 c256_i32_2224
  let c9_i32_2225 : BitVec 32 := 9#32
  let v7331 : BitVec 32 := Scalar.muli v7330 c9_i32_2225
  let v7380 : Index := Scalar.indexCast v7331
  let c0_2243 : Index := 0#32
  ![v7380.toNat, 0]

def k0_chk53 (i : grid0.Coords) (v7328 : BitVec 32) : Prop :=
  (∀ a, (k0_off107 i v7328) a + S8x128.size a ≤ S2432x128.size a) ∧
  (∀ a, (k0_off109 i v7328) a + S8x128.size a ≤ S2432x128.size a)
theorem k0_off107_inb : ∀ (i : grid0.Coords) (v7328 : BitVec 32) (k0_hw53 : k0_chk53 i v7328), ∀ a, (k0_off107 i v7328) a + S8x128.size a ≤ S2432x128.size a := fun i v7328 k0_hw53 => k0_hw53.1
theorem k0_off109_inb : ∀ (i : grid0.Coords) (v7328 : BitVec 32) (k0_hw53 : k0_chk53 i v7328), ∀ a, (k0_off109 i v7328) a + S8x128.size a ≤ S2432x128.size a := fun i v7328 k0_hw53 => k0_hw53.2

def k0_off110 (i : grid0.Coords) (c0_i32_2283 : BitVec 32) : Fin 1 → Nat :=
  let arg0 : BitVec 32 := BitVec.ofNat 32 (i 0).val
  let c128_i32_2282 : BitVec 32 := 128#32
  let v7544 : BitVec 32 := Scalar.muli arg0 c128_i32_2282
  let c54_i32 : BitVec 32 := 54#32
  let v7545 : BitVec 32 := Scalar.addi v7544 c54_i32
  let v7546 : BitVec 32 := Scalar.addi v7545 c0_i32_2283
  let c2039_i32_2284 : BitVec 32 := 2039#32
  let v7547 : BitVec 32 := Scalar.minsi v7546 c2039_i32_2284
  let v7548 : Index := Scalar.indexCast v7547
  ![v7548.toNat]
def k0_off111 (i : grid0.Coords) (v7549 : BitVec 32) : Fin 2 → Nat :=
  let arg0 : BitVec 32 := BitVec.ofNat 32 (i 0).val
  let c128_i32_2282 : BitVec 32 := 128#32
  let v7544 : BitVec 32 := Scalar.muli arg0 c128_i32_2282
  let c54_i32 : BitVec 32 := 54#32
  let v7545 : BitVec 32 := Scalar.addi v7544 c54_i32
  let c0_i32_2283 : BitVec 32 := 0#32
  let v7546 : BitVec 32 := Scalar.addi v7545 c0_i32_2283
  let c2040_i32_2285 : BitVec 32 := 2040#32
  let v7550 : BitVec 1 := Scalar.cmpi .slt v7546 c2040_i32_2285
  let c256_i32_2286 : BitVec 32 := 256#32
  let v7551 : BitVec 32 := Scalar.select v7550 v7549 c256_i32_2286
  let c9_i32_2287 : BitVec 32 := 9#32
  let v7552 : BitVec 32 := Scalar.muli v7551 c9_i32_2287
  let v7572 : Index := Scalar.indexCast v7552
  let c0_2298 : Index := 0#32
  ![v7572.toNat, 0]

def k0_off112 (i : grid0.Coords) (v7558 : BitVec 32) : Fin 2 → Nat :=
  let arg0 : BitVec 32 := BitVec.ofNat 32 (i 0).val
  let c128_i32_2288 : BitVec 32 := 128#32
  let v7553 : BitVec 32 := Scalar.muli arg0 c128_i32_2288
  let c54_i32_2289 : BitVec 32 := 54#32
  let v7554 : BitVec 32 := Scalar.addi v7553 c54_i32_2289
  let c1_i32_2290 : BitVec 32 := 1#32
  let v7555 : BitVec 32 := Scalar.addi v7554 c1_i32_2290
  let c2040_i32_2292 : BitVec 32 := 2040#32
  let v7559 : BitVec 1 := Scalar.cmpi .slt v7555 c2040_i32_2292
  let c256_i32_2293 : BitVec 32 := 256#32
  let v7560 : BitVec 32 := Scalar.select v7559 v7558 c256_i32_2293
  let c9_i32_2294 : BitVec 32 := 9#32
  let v7561 : BitVec 32 := Scalar.muli v7560 c9_i32_2294
  let v7583 : Index := Scalar.indexCast v7561
  let c0_2300 : Index := 0#32
  ![v7583.toNat, 0]

def k0_chk56 (i : grid0.Coords) (v7558 : BitVec 32) : Prop :=
  (∀ a, (k0_off112 i v7558) a + S8x128.size a ≤ S2432x128.size a)
theorem k0_off112_inb : ∀ (i : grid0.Coords) (v7558 : BitVec 32) (k0_hw56 : k0_chk56 i v7558), ∀ a, (k0_off112 i v7558) a + S8x128.size a ≤ S2432x128.size a := fun i v7558 k0_hw56 => k0_hw56

def k0_off113 (i : grid0.Coords) (v7549 : BitVec 32) : Fin 2 → Nat :=
  let arg0 : BitVec 32 := BitVec.ofNat 32 (i 0).val
  let c128_i32_2282 : BitVec 32 := 128#32
  let v7544 : BitVec 32 := Scalar.muli arg0 c128_i32_2282
  let c54_i32 : BitVec 32 := 54#32
  let v7545 : BitVec 32 := Scalar.addi v7544 c54_i32
  let c0_i32_2283 : BitVec 32 := 0#32
  let v7546 : BitVec 32 := Scalar.addi v7545 c0_i32_2283
  let c2040_i32_2285 : BitVec 32 := 2040#32
  let v7550 : BitVec 1 := Scalar.cmpi .slt v7546 c2040_i32_2285
  let c256_i32_2286 : BitVec 32 := 256#32
  let v7551 : BitVec 32 := Scalar.select v7550 v7549 c256_i32_2286
  let c9_i32_2287 : BitVec 32 := 9#32
  let v7552 : BitVec 32 := Scalar.muli v7551 c9_i32_2287
  let v7601 : Index := Scalar.indexCast v7552
  let c0_2305 : Index := 0#32
  ![v7601.toNat, 0]

def k0_chk55 (i : grid0.Coords) (v7549 : BitVec 32) : Prop :=
  (∀ a, (k0_off111 i v7549) a + S8x128.size a ≤ S2432x128.size a) ∧
  (∀ a, (k0_off113 i v7549) a + S8x128.size a ≤ S2432x128.size a)
theorem k0_off111_inb : ∀ (i : grid0.Coords) (v7549 : BitVec 32) (k0_hw55 : k0_chk55 i v7549), ∀ a, (k0_off111 i v7549) a + S8x128.size a ≤ S2432x128.size a := fun i v7549 k0_hw55 => k0_hw55.1
theorem k0_off113_inb : ∀ (i : grid0.Coords) (v7549 : BitVec 32) (k0_hw55 : k0_chk55 i v7549), ∀ a, (k0_off113 i v7549) a + S8x128.size a ≤ S2432x128.size a := fun i v7549 k0_hw55 => k0_hw55.2

def k0_off114 (i : grid0.Coords) (c0_i32_2345 : BitVec 32) : Fin 1 → Nat :=
  let arg0 : BitVec 32 := BitVec.ofNat 32 (i 0).val
  let c128_i32_2344 : BitVec 32 := 128#32
  let v7765 : BitVec 32 := Scalar.muli arg0 c128_i32_2344
  let c56_i32 : BitVec 32 := 56#32
  let v7766 : BitVec 32 := Scalar.addi v7765 c56_i32
  let v7767 : BitVec 32 := Scalar.addi v7766 c0_i32_2345
  let c2039_i32_2346 : BitVec 32 := 2039#32
  let v7768 : BitVec 32 := Scalar.minsi v7767 c2039_i32_2346
  let v7769 : Index := Scalar.indexCast v7768
  ![v7769.toNat]
def k0_off115 (i : grid0.Coords) (v7770 : BitVec 32) : Fin 2 → Nat :=
  let arg0 : BitVec 32 := BitVec.ofNat 32 (i 0).val
  let c128_i32_2344 : BitVec 32 := 128#32
  let v7765 : BitVec 32 := Scalar.muli arg0 c128_i32_2344
  let c56_i32 : BitVec 32 := 56#32
  let v7766 : BitVec 32 := Scalar.addi v7765 c56_i32
  let c0_i32_2345 : BitVec 32 := 0#32
  let v7767 : BitVec 32 := Scalar.addi v7766 c0_i32_2345
  let c2040_i32_2347 : BitVec 32 := 2040#32
  let v7771 : BitVec 1 := Scalar.cmpi .slt v7767 c2040_i32_2347
  let c256_i32_2348 : BitVec 32 := 256#32
  let v7772 : BitVec 32 := Scalar.select v7771 v7770 c256_i32_2348
  let c9_i32_2349 : BitVec 32 := 9#32
  let v7773 : BitVec 32 := Scalar.muli v7772 c9_i32_2349
  let v7793 : Index := Scalar.indexCast v7773
  let c0_2361 : Index := 0#32
  ![v7793.toNat, 0]

def k0_off116 (i : grid0.Coords) (v7779 : BitVec 32) : Fin 2 → Nat :=
  let arg0 : BitVec 32 := BitVec.ofNat 32 (i 0).val
  let c128_i32_2350 : BitVec 32 := 128#32
  let v7774 : BitVec 32 := Scalar.muli arg0 c128_i32_2350
  let c56_i32_2351 : BitVec 32 := 56#32
  let v7775 : BitVec 32 := Scalar.addi v7774 c56_i32_2351
  let c1_i32_2352 : BitVec 32 := 1#32
  let v7776 : BitVec 32 := Scalar.addi v7775 c1_i32_2352
  let c2040_i32_2354 : BitVec 32 := 2040#32
  let v7780 : BitVec 1 := Scalar.cmpi .slt v7776 c2040_i32_2354
  let c256_i32_2355 : BitVec 32 := 256#32
  let v7781 : BitVec 32 := Scalar.select v7780 v7779 c256_i32_2355
  let c9_i32_2356 : BitVec 32 := 9#32
  let v7782 : BitVec 32 := Scalar.muli v7781 c9_i32_2356
  let v7804 : Index := Scalar.indexCast v7782
  let c0_2363 : Index := 0#32
  ![v7804.toNat, 0]

def k0_chk58 (i : grid0.Coords) (v7779 : BitVec 32) : Prop :=
  (∀ a, (k0_off116 i v7779) a + S8x128.size a ≤ S2432x128.size a)
theorem k0_off116_inb : ∀ (i : grid0.Coords) (v7779 : BitVec 32) (k0_hw58 : k0_chk58 i v7779), ∀ a, (k0_off116 i v7779) a + S8x128.size a ≤ S2432x128.size a := fun i v7779 k0_hw58 => k0_hw58

def k0_off117 (i : grid0.Coords) (v7770 : BitVec 32) : Fin 2 → Nat :=
  let arg0 : BitVec 32 := BitVec.ofNat 32 (i 0).val
  let c128_i32_2344 : BitVec 32 := 128#32
  let v7765 : BitVec 32 := Scalar.muli arg0 c128_i32_2344
  let c56_i32 : BitVec 32 := 56#32
  let v7766 : BitVec 32 := Scalar.addi v7765 c56_i32
  let c0_i32_2345 : BitVec 32 := 0#32
  let v7767 : BitVec 32 := Scalar.addi v7766 c0_i32_2345
  let c2040_i32_2347 : BitVec 32 := 2040#32
  let v7771 : BitVec 1 := Scalar.cmpi .slt v7767 c2040_i32_2347
  let c256_i32_2348 : BitVec 32 := 256#32
  let v7772 : BitVec 32 := Scalar.select v7771 v7770 c256_i32_2348
  let c9_i32_2349 : BitVec 32 := 9#32
  let v7773 : BitVec 32 := Scalar.muli v7772 c9_i32_2349
  let v7822 : Index := Scalar.indexCast v7773
  let c0_2369 : Index := 0#32
  ![v7822.toNat, 0]

def k0_chk57 (i : grid0.Coords) (v7770 : BitVec 32) : Prop :=
  (∀ a, (k0_off115 i v7770) a + S8x128.size a ≤ S2432x128.size a) ∧
  (∀ a, (k0_off117 i v7770) a + S8x128.size a ≤ S2432x128.size a)
theorem k0_off115_inb : ∀ (i : grid0.Coords) (v7770 : BitVec 32) (k0_hw57 : k0_chk57 i v7770), ∀ a, (k0_off115 i v7770) a + S8x128.size a ≤ S2432x128.size a := fun i v7770 k0_hw57 => k0_hw57.1
theorem k0_off117_inb : ∀ (i : grid0.Coords) (v7770 : BitVec 32) (k0_hw57 : k0_chk57 i v7770), ∀ a, (k0_off117 i v7770) a + S8x128.size a ≤ S2432x128.size a := fun i v7770 k0_hw57 => k0_hw57.2

def k0_off118 (i : grid0.Coords) (c0_i32_2414 : BitVec 32) : Fin 1 → Nat :=
  let arg0 : BitVec 32 := BitVec.ofNat 32 (i 0).val
  let c128_i32_2413 : BitVec 32 := 128#32
  let v7986 : BitVec 32 := Scalar.muli arg0 c128_i32_2413
  let c58_i32 : BitVec 32 := 58#32
  let v7987 : BitVec 32 := Scalar.addi v7986 c58_i32
  let v7988 : BitVec 32 := Scalar.addi v7987 c0_i32_2414
  let c2039_i32_2415 : BitVec 32 := 2039#32
  let v7989 : BitVec 32 := Scalar.minsi v7988 c2039_i32_2415
  let v7990 : Index := Scalar.indexCast v7989
  ![v7990.toNat]
def k0_off119 (i : grid0.Coords) (v7991 : BitVec 32) : Fin 2 → Nat :=
  let arg0 : BitVec 32 := BitVec.ofNat 32 (i 0).val
  let c128_i32_2413 : BitVec 32 := 128#32
  let v7986 : BitVec 32 := Scalar.muli arg0 c128_i32_2413
  let c58_i32 : BitVec 32 := 58#32
  let v7987 : BitVec 32 := Scalar.addi v7986 c58_i32
  let c0_i32_2414 : BitVec 32 := 0#32
  let v7988 : BitVec 32 := Scalar.addi v7987 c0_i32_2414
  let c2040_i32_2416 : BitVec 32 := 2040#32
  let v7992 : BitVec 1 := Scalar.cmpi .slt v7988 c2040_i32_2416
  let c256_i32_2417 : BitVec 32 := 256#32
  let v7993 : BitVec 32 := Scalar.select v7992 v7991 c256_i32_2417
  let c9_i32_2418 : BitVec 32 := 9#32
  let v7994 : BitVec 32 := Scalar.muli v7993 c9_i32_2418
  let v8014 : Index := Scalar.indexCast v7994
  let c0_2429 : Index := 0#32
  ![v8014.toNat, 0]

def k0_off120 (i : grid0.Coords) (v8000 : BitVec 32) : Fin 2 → Nat :=
  let arg0 : BitVec 32 := BitVec.ofNat 32 (i 0).val
  let c128_i32_2419 : BitVec 32 := 128#32
  let v7995 : BitVec 32 := Scalar.muli arg0 c128_i32_2419
  let c58_i32_2420 : BitVec 32 := 58#32
  let v7996 : BitVec 32 := Scalar.addi v7995 c58_i32_2420
  let c1_i32_2421 : BitVec 32 := 1#32
  let v7997 : BitVec 32 := Scalar.addi v7996 c1_i32_2421
  let c2040_i32_2423 : BitVec 32 := 2040#32
  let v8001 : BitVec 1 := Scalar.cmpi .slt v7997 c2040_i32_2423
  let c256_i32_2424 : BitVec 32 := 256#32
  let v8002 : BitVec 32 := Scalar.select v8001 v8000 c256_i32_2424
  let c9_i32_2425 : BitVec 32 := 9#32
  let v8003 : BitVec 32 := Scalar.muli v8002 c9_i32_2425
  let v8025 : Index := Scalar.indexCast v8003
  let c0_2431 : Index := 0#32
  ![v8025.toNat, 0]

def k0_chk60 (i : grid0.Coords) (v8000 : BitVec 32) : Prop :=
  (∀ a, (k0_off120 i v8000) a + S8x128.size a ≤ S2432x128.size a)
theorem k0_off120_inb : ∀ (i : grid0.Coords) (v8000 : BitVec 32) (k0_hw60 : k0_chk60 i v8000), ∀ a, (k0_off120 i v8000) a + S8x128.size a ≤ S2432x128.size a := fun i v8000 k0_hw60 => k0_hw60

def k0_off121 (i : grid0.Coords) (v7991 : BitVec 32) : Fin 2 → Nat :=
  let arg0 : BitVec 32 := BitVec.ofNat 32 (i 0).val
  let c128_i32_2413 : BitVec 32 := 128#32
  let v7986 : BitVec 32 := Scalar.muli arg0 c128_i32_2413
  let c58_i32 : BitVec 32 := 58#32
  let v7987 : BitVec 32 := Scalar.addi v7986 c58_i32
  let c0_i32_2414 : BitVec 32 := 0#32
  let v7988 : BitVec 32 := Scalar.addi v7987 c0_i32_2414
  let c2040_i32_2416 : BitVec 32 := 2040#32
  let v7992 : BitVec 1 := Scalar.cmpi .slt v7988 c2040_i32_2416
  let c256_i32_2417 : BitVec 32 := 256#32
  let v7993 : BitVec 32 := Scalar.select v7992 v7991 c256_i32_2417
  let c9_i32_2418 : BitVec 32 := 9#32
  let v7994 : BitVec 32 := Scalar.muli v7993 c9_i32_2418
  let v8043 : Index := Scalar.indexCast v7994
  let c0_2436 : Index := 0#32
  ![v8043.toNat, 0]

def k0_chk59 (i : grid0.Coords) (v7991 : BitVec 32) : Prop :=
  (∀ a, (k0_off119 i v7991) a + S8x128.size a ≤ S2432x128.size a) ∧
  (∀ a, (k0_off121 i v7991) a + S8x128.size a ≤ S2432x128.size a)
theorem k0_off119_inb : ∀ (i : grid0.Coords) (v7991 : BitVec 32) (k0_hw59 : k0_chk59 i v7991), ∀ a, (k0_off119 i v7991) a + S8x128.size a ≤ S2432x128.size a := fun i v7991 k0_hw59 => k0_hw59.1
theorem k0_off121_inb : ∀ (i : grid0.Coords) (v7991 : BitVec 32) (k0_hw59 : k0_chk59 i v7991), ∀ a, (k0_off121 i v7991) a + S8x128.size a ≤ S2432x128.size a := fun i v7991 k0_hw59 => k0_hw59.2

def k0_off122 (i : grid0.Coords) (c0_i32_2476 : BitVec 32) : Fin 1 → Nat :=
  let arg0 : BitVec 32 := BitVec.ofNat 32 (i 0).val
  let c128_i32_2475 : BitVec 32 := 128#32
  let v8207 : BitVec 32 := Scalar.muli arg0 c128_i32_2475
  let c60_i32 : BitVec 32 := 60#32
  let v8208 : BitVec 32 := Scalar.addi v8207 c60_i32
  let v8209 : BitVec 32 := Scalar.addi v8208 c0_i32_2476
  let c2039_i32_2477 : BitVec 32 := 2039#32
  let v8210 : BitVec 32 := Scalar.minsi v8209 c2039_i32_2477
  let v8211 : Index := Scalar.indexCast v8210
  ![v8211.toNat]
def k0_off123 (i : grid0.Coords) (v8212 : BitVec 32) : Fin 2 → Nat :=
  let arg0 : BitVec 32 := BitVec.ofNat 32 (i 0).val
  let c128_i32_2475 : BitVec 32 := 128#32
  let v8207 : BitVec 32 := Scalar.muli arg0 c128_i32_2475
  let c60_i32 : BitVec 32 := 60#32
  let v8208 : BitVec 32 := Scalar.addi v8207 c60_i32
  let c0_i32_2476 : BitVec 32 := 0#32
  let v8209 : BitVec 32 := Scalar.addi v8208 c0_i32_2476
  let c2040_i32_2478 : BitVec 32 := 2040#32
  let v8213 : BitVec 1 := Scalar.cmpi .slt v8209 c2040_i32_2478
  let c256_i32_2479 : BitVec 32 := 256#32
  let v8214 : BitVec 32 := Scalar.select v8213 v8212 c256_i32_2479
  let c9_i32_2480 : BitVec 32 := 9#32
  let v8215 : BitVec 32 := Scalar.muli v8214 c9_i32_2480
  let v8235 : Index := Scalar.indexCast v8215
  let c0_2491 : Index := 0#32
  ![v8235.toNat, 0]

def k0_off124 (i : grid0.Coords) (v8221 : BitVec 32) : Fin 2 → Nat :=
  let arg0 : BitVec 32 := BitVec.ofNat 32 (i 0).val
  let c128_i32_2481 : BitVec 32 := 128#32
  let v8216 : BitVec 32 := Scalar.muli arg0 c128_i32_2481
  let c60_i32_2482 : BitVec 32 := 60#32
  let v8217 : BitVec 32 := Scalar.addi v8216 c60_i32_2482
  let c1_i32_2483 : BitVec 32 := 1#32
  let v8218 : BitVec 32 := Scalar.addi v8217 c1_i32_2483
  let c2040_i32_2485 : BitVec 32 := 2040#32
  let v8222 : BitVec 1 := Scalar.cmpi .slt v8218 c2040_i32_2485
  let c256_i32_2486 : BitVec 32 := 256#32
  let v8223 : BitVec 32 := Scalar.select v8222 v8221 c256_i32_2486
  let c9_i32_2487 : BitVec 32 := 9#32
  let v8224 : BitVec 32 := Scalar.muli v8223 c9_i32_2487
  let v8246 : Index := Scalar.indexCast v8224
  let c0_2493 : Index := 0#32
  ![v8246.toNat, 0]

def k0_chk62 (i : grid0.Coords) (v8221 : BitVec 32) : Prop :=
  (∀ a, (k0_off124 i v8221) a + S8x128.size a ≤ S2432x128.size a)
theorem k0_off124_inb : ∀ (i : grid0.Coords) (v8221 : BitVec 32) (k0_hw62 : k0_chk62 i v8221), ∀ a, (k0_off124 i v8221) a + S8x128.size a ≤ S2432x128.size a := fun i v8221 k0_hw62 => k0_hw62

def k0_off125 (i : grid0.Coords) (v8212 : BitVec 32) : Fin 2 → Nat :=
  let arg0 : BitVec 32 := BitVec.ofNat 32 (i 0).val
  let c128_i32_2475 : BitVec 32 := 128#32
  let v8207 : BitVec 32 := Scalar.muli arg0 c128_i32_2475
  let c60_i32 : BitVec 32 := 60#32
  let v8208 : BitVec 32 := Scalar.addi v8207 c60_i32
  let c0_i32_2476 : BitVec 32 := 0#32
  let v8209 : BitVec 32 := Scalar.addi v8208 c0_i32_2476
  let c2040_i32_2478 : BitVec 32 := 2040#32
  let v8213 : BitVec 1 := Scalar.cmpi .slt v8209 c2040_i32_2478
  let c256_i32_2479 : BitVec 32 := 256#32
  let v8214 : BitVec 32 := Scalar.select v8213 v8212 c256_i32_2479
  let c9_i32_2480 : BitVec 32 := 9#32
  let v8215 : BitVec 32 := Scalar.muli v8214 c9_i32_2480
  let v8264 : Index := Scalar.indexCast v8215
  let c0_2498 : Index := 0#32
  ![v8264.toNat, 0]

def k0_chk61 (i : grid0.Coords) (v8212 : BitVec 32) : Prop :=
  (∀ a, (k0_off123 i v8212) a + S8x128.size a ≤ S2432x128.size a) ∧
  (∀ a, (k0_off125 i v8212) a + S8x128.size a ≤ S2432x128.size a)
theorem k0_off123_inb : ∀ (i : grid0.Coords) (v8212 : BitVec 32) (k0_hw61 : k0_chk61 i v8212), ∀ a, (k0_off123 i v8212) a + S8x128.size a ≤ S2432x128.size a := fun i v8212 k0_hw61 => k0_hw61.1
theorem k0_off125_inb : ∀ (i : grid0.Coords) (v8212 : BitVec 32) (k0_hw61 : k0_chk61 i v8212), ∀ a, (k0_off125 i v8212) a + S8x128.size a ≤ S2432x128.size a := fun i v8212 k0_hw61 => k0_hw61.2

def k0_off126 (i : grid0.Coords) (c0_i32_2538 : BitVec 32) : Fin 1 → Nat :=
  let arg0 : BitVec 32 := BitVec.ofNat 32 (i 0).val
  let c128_i32_2537 : BitVec 32 := 128#32
  let v8428 : BitVec 32 := Scalar.muli arg0 c128_i32_2537
  let c62_i32 : BitVec 32 := 62#32
  let v8429 : BitVec 32 := Scalar.addi v8428 c62_i32
  let v8430 : BitVec 32 := Scalar.addi v8429 c0_i32_2538
  let c2039_i32_2539 : BitVec 32 := 2039#32
  let v8431 : BitVec 32 := Scalar.minsi v8430 c2039_i32_2539
  let v8432 : Index := Scalar.indexCast v8431
  ![v8432.toNat]
def k0_off127 (i : grid0.Coords) (v8433 : BitVec 32) : Fin 2 → Nat :=
  let arg0 : BitVec 32 := BitVec.ofNat 32 (i 0).val
  let c128_i32_2537 : BitVec 32 := 128#32
  let v8428 : BitVec 32 := Scalar.muli arg0 c128_i32_2537
  let c62_i32 : BitVec 32 := 62#32
  let v8429 : BitVec 32 := Scalar.addi v8428 c62_i32
  let c0_i32_2538 : BitVec 32 := 0#32
  let v8430 : BitVec 32 := Scalar.addi v8429 c0_i32_2538
  let c2040_i32_2540 : BitVec 32 := 2040#32
  let v8434 : BitVec 1 := Scalar.cmpi .slt v8430 c2040_i32_2540
  let c256_i32_2541 : BitVec 32 := 256#32
  let v8435 : BitVec 32 := Scalar.select v8434 v8433 c256_i32_2541
  let c9_i32_2542 : BitVec 32 := 9#32
  let v8436 : BitVec 32 := Scalar.muli v8435 c9_i32_2542
  let v8456 : Index := Scalar.indexCast v8436
  let c0_2553 : Index := 0#32
  ![v8456.toNat, 0]

def k0_off128 (i : grid0.Coords) (v8442 : BitVec 32) : Fin 2 → Nat :=
  let arg0 : BitVec 32 := BitVec.ofNat 32 (i 0).val
  let c128_i32_2543 : BitVec 32 := 128#32
  let v8437 : BitVec 32 := Scalar.muli arg0 c128_i32_2543
  let c62_i32_2544 : BitVec 32 := 62#32
  let v8438 : BitVec 32 := Scalar.addi v8437 c62_i32_2544
  let c1_i32_2545 : BitVec 32 := 1#32
  let v8439 : BitVec 32 := Scalar.addi v8438 c1_i32_2545
  let c2040_i32_2547 : BitVec 32 := 2040#32
  let v8443 : BitVec 1 := Scalar.cmpi .slt v8439 c2040_i32_2547
  let c256_i32_2548 : BitVec 32 := 256#32
  let v8444 : BitVec 32 := Scalar.select v8443 v8442 c256_i32_2548
  let c9_i32_2549 : BitVec 32 := 9#32
  let v8445 : BitVec 32 := Scalar.muli v8444 c9_i32_2549
  let v8467 : Index := Scalar.indexCast v8445
  let c0_2555 : Index := 0#32
  ![v8467.toNat, 0]

def k0_chk64 (i : grid0.Coords) (v8442 : BitVec 32) : Prop :=
  (∀ a, (k0_off128 i v8442) a + S8x128.size a ≤ S2432x128.size a)
theorem k0_off128_inb : ∀ (i : grid0.Coords) (v8442 : BitVec 32) (k0_hw64 : k0_chk64 i v8442), ∀ a, (k0_off128 i v8442) a + S8x128.size a ≤ S2432x128.size a := fun i v8442 k0_hw64 => k0_hw64

def k0_off129 (i : grid0.Coords) (v8433 : BitVec 32) : Fin 2 → Nat :=
  let arg0 : BitVec 32 := BitVec.ofNat 32 (i 0).val
  let c128_i32_2537 : BitVec 32 := 128#32
  let v8428 : BitVec 32 := Scalar.muli arg0 c128_i32_2537
  let c62_i32 : BitVec 32 := 62#32
  let v8429 : BitVec 32 := Scalar.addi v8428 c62_i32
  let c0_i32_2538 : BitVec 32 := 0#32
  let v8430 : BitVec 32 := Scalar.addi v8429 c0_i32_2538
  let c2040_i32_2540 : BitVec 32 := 2040#32
  let v8434 : BitVec 1 := Scalar.cmpi .slt v8430 c2040_i32_2540
  let c256_i32_2541 : BitVec 32 := 256#32
  let v8435 : BitVec 32 := Scalar.select v8434 v8433 c256_i32_2541
  let c9_i32_2542 : BitVec 32 := 9#32
  let v8436 : BitVec 32 := Scalar.muli v8435 c9_i32_2542
  let v8485 : Index := Scalar.indexCast v8436
  let c0_2560 : Index := 0#32
  ![v8485.toNat, 0]

def k0_chk63 (i : grid0.Coords) (v8433 : BitVec 32) : Prop :=
  (∀ a, (k0_off127 i v8433) a + S8x128.size a ≤ S2432x128.size a) ∧
  (∀ a, (k0_off129 i v8433) a + S8x128.size a ≤ S2432x128.size a)
theorem k0_off127_inb : ∀ (i : grid0.Coords) (v8433 : BitVec 32) (k0_hw63 : k0_chk63 i v8433), ∀ a, (k0_off127 i v8433) a + S8x128.size a ≤ S2432x128.size a := fun i v8433 k0_hw63 => k0_hw63.1
theorem k0_off129_inb : ∀ (i : grid0.Coords) (v8433 : BitVec 32) (k0_hw63 : k0_chk63 i v8433), ∀ a, (k0_off129 i v8433) a + S8x128.size a ≤ S2432x128.size a := fun i v8433 k0_hw63 => k0_hw63.2

def k0_off130 (i : grid0.Coords) (c0_i32_2600 : BitVec 32) : Fin 1 → Nat :=
  let arg0 : BitVec 32 := BitVec.ofNat 32 (i 0).val
  let c128_i32_2599 : BitVec 32 := 128#32
  let v8649 : BitVec 32 := Scalar.muli arg0 c128_i32_2599
  let c64_i32 : BitVec 32 := 64#32
  let v8650 : BitVec 32 := Scalar.addi v8649 c64_i32
  let v8651 : BitVec 32 := Scalar.addi v8650 c0_i32_2600
  let c2039_i32_2601 : BitVec 32 := 2039#32
  let v8652 : BitVec 32 := Scalar.minsi v8651 c2039_i32_2601
  let v8653 : Index := Scalar.indexCast v8652
  ![v8653.toNat]
def k0_off131 (i : grid0.Coords) (v8654 : BitVec 32) : Fin 2 → Nat :=
  let arg0 : BitVec 32 := BitVec.ofNat 32 (i 0).val
  let c128_i32_2599 : BitVec 32 := 128#32
  let v8649 : BitVec 32 := Scalar.muli arg0 c128_i32_2599
  let c64_i32 : BitVec 32 := 64#32
  let v8650 : BitVec 32 := Scalar.addi v8649 c64_i32
  let c0_i32_2600 : BitVec 32 := 0#32
  let v8651 : BitVec 32 := Scalar.addi v8650 c0_i32_2600
  let c2040_i32_2602 : BitVec 32 := 2040#32
  let v8655 : BitVec 1 := Scalar.cmpi .slt v8651 c2040_i32_2602
  let c256_i32_2603 : BitVec 32 := 256#32
  let v8656 : BitVec 32 := Scalar.select v8655 v8654 c256_i32_2603
  let c9_i32_2604 : BitVec 32 := 9#32
  let v8657 : BitVec 32 := Scalar.muli v8656 c9_i32_2604
  let v8677 : Index := Scalar.indexCast v8657
  let c0_2616 : Index := 0#32
  ![v8677.toNat, 0]

def k0_off132 (i : grid0.Coords) (v8663 : BitVec 32) : Fin 2 → Nat :=
  let arg0 : BitVec 32 := BitVec.ofNat 32 (i 0).val
  let c128_i32_2605 : BitVec 32 := 128#32
  let v8658 : BitVec 32 := Scalar.muli arg0 c128_i32_2605
  let c64_i32_2606 : BitVec 32 := 64#32
  let v8659 : BitVec 32 := Scalar.addi v8658 c64_i32_2606
  let c1_i32_2607 : BitVec 32 := 1#32
  let v8660 : BitVec 32 := Scalar.addi v8659 c1_i32_2607
  let c2040_i32_2609 : BitVec 32 := 2040#32
  let v8664 : BitVec 1 := Scalar.cmpi .slt v8660 c2040_i32_2609
  let c256_i32_2610 : BitVec 32 := 256#32
  let v8665 : BitVec 32 := Scalar.select v8664 v8663 c256_i32_2610
  let c9_i32_2611 : BitVec 32 := 9#32
  let v8666 : BitVec 32 := Scalar.muli v8665 c9_i32_2611
  let v8688 : Index := Scalar.indexCast v8666
  let c0_2618 : Index := 0#32
  ![v8688.toNat, 0]

def k0_chk66 (i : grid0.Coords) (v8663 : BitVec 32) : Prop :=
  (∀ a, (k0_off132 i v8663) a + S8x128.size a ≤ S2432x128.size a)
theorem k0_off132_inb : ∀ (i : grid0.Coords) (v8663 : BitVec 32) (k0_hw66 : k0_chk66 i v8663), ∀ a, (k0_off132 i v8663) a + S8x128.size a ≤ S2432x128.size a := fun i v8663 k0_hw66 => k0_hw66

def k0_off133 (i : grid0.Coords) (v8654 : BitVec 32) : Fin 2 → Nat :=
  let arg0 : BitVec 32 := BitVec.ofNat 32 (i 0).val
  let c128_i32_2599 : BitVec 32 := 128#32
  let v8649 : BitVec 32 := Scalar.muli arg0 c128_i32_2599
  let c64_i32 : BitVec 32 := 64#32
  let v8650 : BitVec 32 := Scalar.addi v8649 c64_i32
  let c0_i32_2600 : BitVec 32 := 0#32
  let v8651 : BitVec 32 := Scalar.addi v8650 c0_i32_2600
  let c2040_i32_2602 : BitVec 32 := 2040#32
  let v8655 : BitVec 1 := Scalar.cmpi .slt v8651 c2040_i32_2602
  let c256_i32_2603 : BitVec 32 := 256#32
  let v8656 : BitVec 32 := Scalar.select v8655 v8654 c256_i32_2603
  let c9_i32_2604 : BitVec 32 := 9#32
  let v8657 : BitVec 32 := Scalar.muli v8656 c9_i32_2604
  let v8706 : Index := Scalar.indexCast v8657
  let c0_2624 : Index := 0#32
  ![v8706.toNat, 0]

def k0_chk65 (i : grid0.Coords) (v8654 : BitVec 32) : Prop :=
  (∀ a, (k0_off131 i v8654) a + S8x128.size a ≤ S2432x128.size a) ∧
  (∀ a, (k0_off133 i v8654) a + S8x128.size a ≤ S2432x128.size a)
theorem k0_off131_inb : ∀ (i : grid0.Coords) (v8654 : BitVec 32) (k0_hw65 : k0_chk65 i v8654), ∀ a, (k0_off131 i v8654) a + S8x128.size a ≤ S2432x128.size a := fun i v8654 k0_hw65 => k0_hw65.1
theorem k0_off133_inb : ∀ (i : grid0.Coords) (v8654 : BitVec 32) (k0_hw65 : k0_chk65 i v8654), ∀ a, (k0_off133 i v8654) a + S8x128.size a ≤ S2432x128.size a := fun i v8654 k0_hw65 => k0_hw65.2

def k0_off134 (i : grid0.Coords) (c0_i32_2669 : BitVec 32) : Fin 1 → Nat :=
  let arg0 : BitVec 32 := BitVec.ofNat 32 (i 0).val
  let c128_i32_2668 : BitVec 32 := 128#32
  let v8870 : BitVec 32 := Scalar.muli arg0 c128_i32_2668
  let c66_i32 : BitVec 32 := 66#32
  let v8871 : BitVec 32 := Scalar.addi v8870 c66_i32
  let v8872 : BitVec 32 := Scalar.addi v8871 c0_i32_2669
  let c2039_i32_2670 : BitVec 32 := 2039#32
  let v8873 : BitVec 32 := Scalar.minsi v8872 c2039_i32_2670
  let v8874 : Index := Scalar.indexCast v8873
  ![v8874.toNat]
def k0_off135 (i : grid0.Coords) (v8875 : BitVec 32) : Fin 2 → Nat :=
  let arg0 : BitVec 32 := BitVec.ofNat 32 (i 0).val
  let c128_i32_2668 : BitVec 32 := 128#32
  let v8870 : BitVec 32 := Scalar.muli arg0 c128_i32_2668
  let c66_i32 : BitVec 32 := 66#32
  let v8871 : BitVec 32 := Scalar.addi v8870 c66_i32
  let c0_i32_2669 : BitVec 32 := 0#32
  let v8872 : BitVec 32 := Scalar.addi v8871 c0_i32_2669
  let c2040_i32_2671 : BitVec 32 := 2040#32
  let v8876 : BitVec 1 := Scalar.cmpi .slt v8872 c2040_i32_2671
  let c256_i32_2672 : BitVec 32 := 256#32
  let v8877 : BitVec 32 := Scalar.select v8876 v8875 c256_i32_2672
  let c9_i32_2673 : BitVec 32 := 9#32
  let v8878 : BitVec 32 := Scalar.muli v8877 c9_i32_2673
  let v8898 : Index := Scalar.indexCast v8878
  let c0_2684 : Index := 0#32
  ![v8898.toNat, 0]

def k0_off136 (i : grid0.Coords) (v8884 : BitVec 32) : Fin 2 → Nat :=
  let arg0 : BitVec 32 := BitVec.ofNat 32 (i 0).val
  let c128_i32_2674 : BitVec 32 := 128#32
  let v8879 : BitVec 32 := Scalar.muli arg0 c128_i32_2674
  let c66_i32_2675 : BitVec 32 := 66#32
  let v8880 : BitVec 32 := Scalar.addi v8879 c66_i32_2675
  let c1_i32_2676 : BitVec 32 := 1#32
  let v8881 : BitVec 32 := Scalar.addi v8880 c1_i32_2676
  let c2040_i32_2678 : BitVec 32 := 2040#32
  let v8885 : BitVec 1 := Scalar.cmpi .slt v8881 c2040_i32_2678
  let c256_i32_2679 : BitVec 32 := 256#32
  let v8886 : BitVec 32 := Scalar.select v8885 v8884 c256_i32_2679
  let c9_i32_2680 : BitVec 32 := 9#32
  let v8887 : BitVec 32 := Scalar.muli v8886 c9_i32_2680
  let v8909 : Index := Scalar.indexCast v8887
  let c0_2686 : Index := 0#32
  ![v8909.toNat, 0]

def k0_chk68 (i : grid0.Coords) (v8884 : BitVec 32) : Prop :=
  (∀ a, (k0_off136 i v8884) a + S8x128.size a ≤ S2432x128.size a)
theorem k0_off136_inb : ∀ (i : grid0.Coords) (v8884 : BitVec 32) (k0_hw68 : k0_chk68 i v8884), ∀ a, (k0_off136 i v8884) a + S8x128.size a ≤ S2432x128.size a := fun i v8884 k0_hw68 => k0_hw68

def k0_off137 (i : grid0.Coords) (v8875 : BitVec 32) : Fin 2 → Nat :=
  let arg0 : BitVec 32 := BitVec.ofNat 32 (i 0).val
  let c128_i32_2668 : BitVec 32 := 128#32
  let v8870 : BitVec 32 := Scalar.muli arg0 c128_i32_2668
  let c66_i32 : BitVec 32 := 66#32
  let v8871 : BitVec 32 := Scalar.addi v8870 c66_i32
  let c0_i32_2669 : BitVec 32 := 0#32
  let v8872 : BitVec 32 := Scalar.addi v8871 c0_i32_2669
  let c2040_i32_2671 : BitVec 32 := 2040#32
  let v8876 : BitVec 1 := Scalar.cmpi .slt v8872 c2040_i32_2671
  let c256_i32_2672 : BitVec 32 := 256#32
  let v8877 : BitVec 32 := Scalar.select v8876 v8875 c256_i32_2672
  let c9_i32_2673 : BitVec 32 := 9#32
  let v8878 : BitVec 32 := Scalar.muli v8877 c9_i32_2673
  let v8927 : Index := Scalar.indexCast v8878
  let c0_2691 : Index := 0#32
  ![v8927.toNat, 0]

def k0_chk67 (i : grid0.Coords) (v8875 : BitVec 32) : Prop :=
  (∀ a, (k0_off135 i v8875) a + S8x128.size a ≤ S2432x128.size a) ∧
  (∀ a, (k0_off137 i v8875) a + S8x128.size a ≤ S2432x128.size a)
theorem k0_off135_inb : ∀ (i : grid0.Coords) (v8875 : BitVec 32) (k0_hw67 : k0_chk67 i v8875), ∀ a, (k0_off135 i v8875) a + S8x128.size a ≤ S2432x128.size a := fun i v8875 k0_hw67 => k0_hw67.1
theorem k0_off137_inb : ∀ (i : grid0.Coords) (v8875 : BitVec 32) (k0_hw67 : k0_chk67 i v8875), ∀ a, (k0_off137 i v8875) a + S8x128.size a ≤ S2432x128.size a := fun i v8875 k0_hw67 => k0_hw67.2

def k0_off138 (i : grid0.Coords) (c0_i32_2731 : BitVec 32) : Fin 1 → Nat :=
  let arg0 : BitVec 32 := BitVec.ofNat 32 (i 0).val
  let c128_i32_2730 : BitVec 32 := 128#32
  let v9091 : BitVec 32 := Scalar.muli arg0 c128_i32_2730
  let c68_i32 : BitVec 32 := 68#32
  let v9092 : BitVec 32 := Scalar.addi v9091 c68_i32
  let v9093 : BitVec 32 := Scalar.addi v9092 c0_i32_2731
  let c2039_i32_2732 : BitVec 32 := 2039#32
  let v9094 : BitVec 32 := Scalar.minsi v9093 c2039_i32_2732
  let v9095 : Index := Scalar.indexCast v9094
  ![v9095.toNat]
def k0_off139 (i : grid0.Coords) (v9096 : BitVec 32) : Fin 2 → Nat :=
  let arg0 : BitVec 32 := BitVec.ofNat 32 (i 0).val
  let c128_i32_2730 : BitVec 32 := 128#32
  let v9091 : BitVec 32 := Scalar.muli arg0 c128_i32_2730
  let c68_i32 : BitVec 32 := 68#32
  let v9092 : BitVec 32 := Scalar.addi v9091 c68_i32
  let c0_i32_2731 : BitVec 32 := 0#32
  let v9093 : BitVec 32 := Scalar.addi v9092 c0_i32_2731
  let c2040_i32_2733 : BitVec 32 := 2040#32
  let v9097 : BitVec 1 := Scalar.cmpi .slt v9093 c2040_i32_2733
  let c256_i32_2734 : BitVec 32 := 256#32
  let v9098 : BitVec 32 := Scalar.select v9097 v9096 c256_i32_2734
  let c9_i32_2735 : BitVec 32 := 9#32
  let v9099 : BitVec 32 := Scalar.muli v9098 c9_i32_2735
  let v9119 : Index := Scalar.indexCast v9099
  let c0_2746 : Index := 0#32
  ![v9119.toNat, 0]

def k0_off140 (i : grid0.Coords) (v9105 : BitVec 32) : Fin 2 → Nat :=
  let arg0 : BitVec 32 := BitVec.ofNat 32 (i 0).val
  let c128_i32_2736 : BitVec 32 := 128#32
  let v9100 : BitVec 32 := Scalar.muli arg0 c128_i32_2736
  let c68_i32_2737 : BitVec 32 := 68#32
  let v9101 : BitVec 32 := Scalar.addi v9100 c68_i32_2737
  let c1_i32_2738 : BitVec 32 := 1#32
  let v9102 : BitVec 32 := Scalar.addi v9101 c1_i32_2738
  let c2040_i32_2740 : BitVec 32 := 2040#32
  let v9106 : BitVec 1 := Scalar.cmpi .slt v9102 c2040_i32_2740
  let c256_i32_2741 : BitVec 32 := 256#32
  let v9107 : BitVec 32 := Scalar.select v9106 v9105 c256_i32_2741
  let c9_i32_2742 : BitVec 32 := 9#32
  let v9108 : BitVec 32 := Scalar.muli v9107 c9_i32_2742
  let v9130 : Index := Scalar.indexCast v9108
  let c0_2748 : Index := 0#32
  ![v9130.toNat, 0]

def k0_chk70 (i : grid0.Coords) (v9105 : BitVec 32) : Prop :=
  (∀ a, (k0_off140 i v9105) a + S8x128.size a ≤ S2432x128.size a)
theorem k0_off140_inb : ∀ (i : grid0.Coords) (v9105 : BitVec 32) (k0_hw70 : k0_chk70 i v9105), ∀ a, (k0_off140 i v9105) a + S8x128.size a ≤ S2432x128.size a := fun i v9105 k0_hw70 => k0_hw70

def k0_off141 (i : grid0.Coords) (v9096 : BitVec 32) : Fin 2 → Nat :=
  let arg0 : BitVec 32 := BitVec.ofNat 32 (i 0).val
  let c128_i32_2730 : BitVec 32 := 128#32
  let v9091 : BitVec 32 := Scalar.muli arg0 c128_i32_2730
  let c68_i32 : BitVec 32 := 68#32
  let v9092 : BitVec 32 := Scalar.addi v9091 c68_i32
  let c0_i32_2731 : BitVec 32 := 0#32
  let v9093 : BitVec 32 := Scalar.addi v9092 c0_i32_2731
  let c2040_i32_2733 : BitVec 32 := 2040#32
  let v9097 : BitVec 1 := Scalar.cmpi .slt v9093 c2040_i32_2733
  let c256_i32_2734 : BitVec 32 := 256#32
  let v9098 : BitVec 32 := Scalar.select v9097 v9096 c256_i32_2734
  let c9_i32_2735 : BitVec 32 := 9#32
  let v9099 : BitVec 32 := Scalar.muli v9098 c9_i32_2735
  let v9148 : Index := Scalar.indexCast v9099
  let c0_2753 : Index := 0#32
  ![v9148.toNat, 0]

def k0_chk69 (i : grid0.Coords) (v9096 : BitVec 32) : Prop :=
  (∀ a, (k0_off139 i v9096) a + S8x128.size a ≤ S2432x128.size a) ∧
  (∀ a, (k0_off141 i v9096) a + S8x128.size a ≤ S2432x128.size a)
theorem k0_off139_inb : ∀ (i : grid0.Coords) (v9096 : BitVec 32) (k0_hw69 : k0_chk69 i v9096), ∀ a, (k0_off139 i v9096) a + S8x128.size a ≤ S2432x128.size a := fun i v9096 k0_hw69 => k0_hw69.1
theorem k0_off141_inb : ∀ (i : grid0.Coords) (v9096 : BitVec 32) (k0_hw69 : k0_chk69 i v9096), ∀ a, (k0_off141 i v9096) a + S8x128.size a ≤ S2432x128.size a := fun i v9096 k0_hw69 => k0_hw69.2

def k0_off142 (i : grid0.Coords) (c0_i32_2793 : BitVec 32) : Fin 1 → Nat :=
  let arg0 : BitVec 32 := BitVec.ofNat 32 (i 0).val
  let c128_i32_2792 : BitVec 32 := 128#32
  let v9312 : BitVec 32 := Scalar.muli arg0 c128_i32_2792
  let c70_i32 : BitVec 32 := 70#32
  let v9313 : BitVec 32 := Scalar.addi v9312 c70_i32
  let v9314 : BitVec 32 := Scalar.addi v9313 c0_i32_2793
  let c2039_i32_2794 : BitVec 32 := 2039#32
  let v9315 : BitVec 32 := Scalar.minsi v9314 c2039_i32_2794
  let v9316 : Index := Scalar.indexCast v9315
  ![v9316.toNat]
def k0_off143 (i : grid0.Coords) (v9317 : BitVec 32) : Fin 2 → Nat :=
  let arg0 : BitVec 32 := BitVec.ofNat 32 (i 0).val
  let c128_i32_2792 : BitVec 32 := 128#32
  let v9312 : BitVec 32 := Scalar.muli arg0 c128_i32_2792
  let c70_i32 : BitVec 32 := 70#32
  let v9313 : BitVec 32 := Scalar.addi v9312 c70_i32
  let c0_i32_2793 : BitVec 32 := 0#32
  let v9314 : BitVec 32 := Scalar.addi v9313 c0_i32_2793
  let c2040_i32_2795 : BitVec 32 := 2040#32
  let v9318 : BitVec 1 := Scalar.cmpi .slt v9314 c2040_i32_2795
  let c256_i32_2796 : BitVec 32 := 256#32
  let v9319 : BitVec 32 := Scalar.select v9318 v9317 c256_i32_2796
  let c9_i32_2797 : BitVec 32 := 9#32
  let v9320 : BitVec 32 := Scalar.muli v9319 c9_i32_2797
  let v9340 : Index := Scalar.indexCast v9320
  let c0_2808 : Index := 0#32
  ![v9340.toNat, 0]

def k0_off144 (i : grid0.Coords) (v9326 : BitVec 32) : Fin 2 → Nat :=
  let arg0 : BitVec 32 := BitVec.ofNat 32 (i 0).val
  let c128_i32_2798 : BitVec 32 := 128#32
  let v9321 : BitVec 32 := Scalar.muli arg0 c128_i32_2798
  let c70_i32_2799 : BitVec 32 := 70#32
  let v9322 : BitVec 32 := Scalar.addi v9321 c70_i32_2799
  let c1_i32_2800 : BitVec 32 := 1#32
  let v9323 : BitVec 32 := Scalar.addi v9322 c1_i32_2800
  let c2040_i32_2802 : BitVec 32 := 2040#32
  let v9327 : BitVec 1 := Scalar.cmpi .slt v9323 c2040_i32_2802
  let c256_i32_2803 : BitVec 32 := 256#32
  let v9328 : BitVec 32 := Scalar.select v9327 v9326 c256_i32_2803
  let c9_i32_2804 : BitVec 32 := 9#32
  let v9329 : BitVec 32 := Scalar.muli v9328 c9_i32_2804
  let v9351 : Index := Scalar.indexCast v9329
  let c0_2810 : Index := 0#32
  ![v9351.toNat, 0]

def k0_chk72 (i : grid0.Coords) (v9326 : BitVec 32) : Prop :=
  (∀ a, (k0_off144 i v9326) a + S8x128.size a ≤ S2432x128.size a)
theorem k0_off144_inb : ∀ (i : grid0.Coords) (v9326 : BitVec 32) (k0_hw72 : k0_chk72 i v9326), ∀ a, (k0_off144 i v9326) a + S8x128.size a ≤ S2432x128.size a := fun i v9326 k0_hw72 => k0_hw72

def k0_off145 (i : grid0.Coords) (v9317 : BitVec 32) : Fin 2 → Nat :=
  let arg0 : BitVec 32 := BitVec.ofNat 32 (i 0).val
  let c128_i32_2792 : BitVec 32 := 128#32
  let v9312 : BitVec 32 := Scalar.muli arg0 c128_i32_2792
  let c70_i32 : BitVec 32 := 70#32
  let v9313 : BitVec 32 := Scalar.addi v9312 c70_i32
  let c0_i32_2793 : BitVec 32 := 0#32
  let v9314 : BitVec 32 := Scalar.addi v9313 c0_i32_2793
  let c2040_i32_2795 : BitVec 32 := 2040#32
  let v9318 : BitVec 1 := Scalar.cmpi .slt v9314 c2040_i32_2795
  let c256_i32_2796 : BitVec 32 := 256#32
  let v9319 : BitVec 32 := Scalar.select v9318 v9317 c256_i32_2796
  let c9_i32_2797 : BitVec 32 := 9#32
  let v9320 : BitVec 32 := Scalar.muli v9319 c9_i32_2797
  let v9369 : Index := Scalar.indexCast v9320
  let c0_2815 : Index := 0#32
  ![v9369.toNat, 0]

def k0_chk71 (i : grid0.Coords) (v9317 : BitVec 32) : Prop :=
  (∀ a, (k0_off143 i v9317) a + S8x128.size a ≤ S2432x128.size a) ∧
  (∀ a, (k0_off145 i v9317) a + S8x128.size a ≤ S2432x128.size a)
theorem k0_off143_inb : ∀ (i : grid0.Coords) (v9317 : BitVec 32) (k0_hw71 : k0_chk71 i v9317), ∀ a, (k0_off143 i v9317) a + S8x128.size a ≤ S2432x128.size a := fun i v9317 k0_hw71 => k0_hw71.1
theorem k0_off145_inb : ∀ (i : grid0.Coords) (v9317 : BitVec 32) (k0_hw71 : k0_chk71 i v9317), ∀ a, (k0_off145 i v9317) a + S8x128.size a ≤ S2432x128.size a := fun i v9317 k0_hw71 => k0_hw71.2

def k0_off146 (i : grid0.Coords) (c0_i32_2855 : BitVec 32) : Fin 1 → Nat :=
  let arg0 : BitVec 32 := BitVec.ofNat 32 (i 0).val
  let c128_i32_2854 : BitVec 32 := 128#32
  let v9533 : BitVec 32 := Scalar.muli arg0 c128_i32_2854
  let c72_i32 : BitVec 32 := 72#32
  let v9534 : BitVec 32 := Scalar.addi v9533 c72_i32
  let v9535 : BitVec 32 := Scalar.addi v9534 c0_i32_2855
  let c2039_i32_2856 : BitVec 32 := 2039#32
  let v9536 : BitVec 32 := Scalar.minsi v9535 c2039_i32_2856
  let v9537 : Index := Scalar.indexCast v9536
  ![v9537.toNat]
def k0_off147 (i : grid0.Coords) (v9538 : BitVec 32) : Fin 2 → Nat :=
  let arg0 : BitVec 32 := BitVec.ofNat 32 (i 0).val
  let c128_i32_2854 : BitVec 32 := 128#32
  let v9533 : BitVec 32 := Scalar.muli arg0 c128_i32_2854
  let c72_i32 : BitVec 32 := 72#32
  let v9534 : BitVec 32 := Scalar.addi v9533 c72_i32
  let c0_i32_2855 : BitVec 32 := 0#32
  let v9535 : BitVec 32 := Scalar.addi v9534 c0_i32_2855
  let c2040_i32_2857 : BitVec 32 := 2040#32
  let v9539 : BitVec 1 := Scalar.cmpi .slt v9535 c2040_i32_2857
  let c256_i32_2858 : BitVec 32 := 256#32
  let v9540 : BitVec 32 := Scalar.select v9539 v9538 c256_i32_2858
  let c9_i32_2859 : BitVec 32 := 9#32
  let v9541 : BitVec 32 := Scalar.muli v9540 c9_i32_2859
  let v9561 : Index := Scalar.indexCast v9541
  let c0_2871 : Index := 0#32
  ![v9561.toNat, 0]

def k0_off148 (i : grid0.Coords) (v9547 : BitVec 32) : Fin 2 → Nat :=
  let arg0 : BitVec 32 := BitVec.ofNat 32 (i 0).val
  let c128_i32_2860 : BitVec 32 := 128#32
  let v9542 : BitVec 32 := Scalar.muli arg0 c128_i32_2860
  let c72_i32_2861 : BitVec 32 := 72#32
  let v9543 : BitVec 32 := Scalar.addi v9542 c72_i32_2861
  let c1_i32_2862 : BitVec 32 := 1#32
  let v9544 : BitVec 32 := Scalar.addi v9543 c1_i32_2862
  let c2040_i32_2864 : BitVec 32 := 2040#32
  let v9548 : BitVec 1 := Scalar.cmpi .slt v9544 c2040_i32_2864
  let c256_i32_2865 : BitVec 32 := 256#32
  let v9549 : BitVec 32 := Scalar.select v9548 v9547 c256_i32_2865
  let c9_i32_2866 : BitVec 32 := 9#32
  let v9550 : BitVec 32 := Scalar.muli v9549 c9_i32_2866
  let v9572 : Index := Scalar.indexCast v9550
  let c0_2873 : Index := 0#32
  ![v9572.toNat, 0]

def k0_chk74 (i : grid0.Coords) (v9547 : BitVec 32) : Prop :=
  (∀ a, (k0_off148 i v9547) a + S8x128.size a ≤ S2432x128.size a)
theorem k0_off148_inb : ∀ (i : grid0.Coords) (v9547 : BitVec 32) (k0_hw74 : k0_chk74 i v9547), ∀ a, (k0_off148 i v9547) a + S8x128.size a ≤ S2432x128.size a := fun i v9547 k0_hw74 => k0_hw74

def k0_off149 (i : grid0.Coords) (v9538 : BitVec 32) : Fin 2 → Nat :=
  let arg0 : BitVec 32 := BitVec.ofNat 32 (i 0).val
  let c128_i32_2854 : BitVec 32 := 128#32
  let v9533 : BitVec 32 := Scalar.muli arg0 c128_i32_2854
  let c72_i32 : BitVec 32 := 72#32
  let v9534 : BitVec 32 := Scalar.addi v9533 c72_i32
  let c0_i32_2855 : BitVec 32 := 0#32
  let v9535 : BitVec 32 := Scalar.addi v9534 c0_i32_2855
  let c2040_i32_2857 : BitVec 32 := 2040#32
  let v9539 : BitVec 1 := Scalar.cmpi .slt v9535 c2040_i32_2857
  let c256_i32_2858 : BitVec 32 := 256#32
  let v9540 : BitVec 32 := Scalar.select v9539 v9538 c256_i32_2858
  let c9_i32_2859 : BitVec 32 := 9#32
  let v9541 : BitVec 32 := Scalar.muli v9540 c9_i32_2859
  let v9590 : Index := Scalar.indexCast v9541
  let c0_2879 : Index := 0#32
  ![v9590.toNat, 0]

def k0_chk73 (i : grid0.Coords) (v9538 : BitVec 32) : Prop :=
  (∀ a, (k0_off147 i v9538) a + S8x128.size a ≤ S2432x128.size a) ∧
  (∀ a, (k0_off149 i v9538) a + S8x128.size a ≤ S2432x128.size a)
theorem k0_off147_inb : ∀ (i : grid0.Coords) (v9538 : BitVec 32) (k0_hw73 : k0_chk73 i v9538), ∀ a, (k0_off147 i v9538) a + S8x128.size a ≤ S2432x128.size a := fun i v9538 k0_hw73 => k0_hw73.1
theorem k0_off149_inb : ∀ (i : grid0.Coords) (v9538 : BitVec 32) (k0_hw73 : k0_chk73 i v9538), ∀ a, (k0_off149 i v9538) a + S8x128.size a ≤ S2432x128.size a := fun i v9538 k0_hw73 => k0_hw73.2

def k0_off150 (i : grid0.Coords) (c0_i32_2924 : BitVec 32) : Fin 1 → Nat :=
  let arg0 : BitVec 32 := BitVec.ofNat 32 (i 0).val
  let c128_i32_2923 : BitVec 32 := 128#32
  let v9754 : BitVec 32 := Scalar.muli arg0 c128_i32_2923
  let c74_i32 : BitVec 32 := 74#32
  let v9755 : BitVec 32 := Scalar.addi v9754 c74_i32
  let v9756 : BitVec 32 := Scalar.addi v9755 c0_i32_2924
  let c2039_i32_2925 : BitVec 32 := 2039#32
  let v9757 : BitVec 32 := Scalar.minsi v9756 c2039_i32_2925
  let v9758 : Index := Scalar.indexCast v9757
  ![v9758.toNat]
def k0_off151 (i : grid0.Coords) (v9759 : BitVec 32) : Fin 2 → Nat :=
  let arg0 : BitVec 32 := BitVec.ofNat 32 (i 0).val
  let c128_i32_2923 : BitVec 32 := 128#32
  let v9754 : BitVec 32 := Scalar.muli arg0 c128_i32_2923
  let c74_i32 : BitVec 32 := 74#32
  let v9755 : BitVec 32 := Scalar.addi v9754 c74_i32
  let c0_i32_2924 : BitVec 32 := 0#32
  let v9756 : BitVec 32 := Scalar.addi v9755 c0_i32_2924
  let c2040_i32_2926 : BitVec 32 := 2040#32
  let v9760 : BitVec 1 := Scalar.cmpi .slt v9756 c2040_i32_2926
  let c256_i32_2927 : BitVec 32 := 256#32
  let v9761 : BitVec 32 := Scalar.select v9760 v9759 c256_i32_2927
  let c9_i32_2928 : BitVec 32 := 9#32
  let v9762 : BitVec 32 := Scalar.muli v9761 c9_i32_2928
  let v9782 : Index := Scalar.indexCast v9762
  let c0_2939 : Index := 0#32
  ![v9782.toNat, 0]

def k0_off152 (i : grid0.Coords) (v9768 : BitVec 32) : Fin 2 → Nat :=
  let arg0 : BitVec 32 := BitVec.ofNat 32 (i 0).val
  let c128_i32_2929 : BitVec 32 := 128#32
  let v9763 : BitVec 32 := Scalar.muli arg0 c128_i32_2929
  let c74_i32_2930 : BitVec 32 := 74#32
  let v9764 : BitVec 32 := Scalar.addi v9763 c74_i32_2930
  let c1_i32_2931 : BitVec 32 := 1#32
  let v9765 : BitVec 32 := Scalar.addi v9764 c1_i32_2931
  let c2040_i32_2933 : BitVec 32 := 2040#32
  let v9769 : BitVec 1 := Scalar.cmpi .slt v9765 c2040_i32_2933
  let c256_i32_2934 : BitVec 32 := 256#32
  let v9770 : BitVec 32 := Scalar.select v9769 v9768 c256_i32_2934
  let c9_i32_2935 : BitVec 32 := 9#32
  let v9771 : BitVec 32 := Scalar.muli v9770 c9_i32_2935
  let v9793 : Index := Scalar.indexCast v9771
  let c0_2941 : Index := 0#32
  ![v9793.toNat, 0]

def k0_chk76 (i : grid0.Coords) (v9768 : BitVec 32) : Prop :=
  (∀ a, (k0_off152 i v9768) a + S8x128.size a ≤ S2432x128.size a)
theorem k0_off152_inb : ∀ (i : grid0.Coords) (v9768 : BitVec 32) (k0_hw76 : k0_chk76 i v9768), ∀ a, (k0_off152 i v9768) a + S8x128.size a ≤ S2432x128.size a := fun i v9768 k0_hw76 => k0_hw76

def k0_off153 (i : grid0.Coords) (v9759 : BitVec 32) : Fin 2 → Nat :=
  let arg0 : BitVec 32 := BitVec.ofNat 32 (i 0).val
  let c128_i32_2923 : BitVec 32 := 128#32
  let v9754 : BitVec 32 := Scalar.muli arg0 c128_i32_2923
  let c74_i32 : BitVec 32 := 74#32
  let v9755 : BitVec 32 := Scalar.addi v9754 c74_i32
  let c0_i32_2924 : BitVec 32 := 0#32
  let v9756 : BitVec 32 := Scalar.addi v9755 c0_i32_2924
  let c2040_i32_2926 : BitVec 32 := 2040#32
  let v9760 : BitVec 1 := Scalar.cmpi .slt v9756 c2040_i32_2926
  let c256_i32_2927 : BitVec 32 := 256#32
  let v9761 : BitVec 32 := Scalar.select v9760 v9759 c256_i32_2927
  let c9_i32_2928 : BitVec 32 := 9#32
  let v9762 : BitVec 32 := Scalar.muli v9761 c9_i32_2928
  let v9811 : Index := Scalar.indexCast v9762
  let c0_2946 : Index := 0#32
  ![v9811.toNat, 0]

def k0_chk75 (i : grid0.Coords) (v9759 : BitVec 32) : Prop :=
  (∀ a, (k0_off151 i v9759) a + S8x128.size a ≤ S2432x128.size a) ∧
  (∀ a, (k0_off153 i v9759) a + S8x128.size a ≤ S2432x128.size a)
theorem k0_off151_inb : ∀ (i : grid0.Coords) (v9759 : BitVec 32) (k0_hw75 : k0_chk75 i v9759), ∀ a, (k0_off151 i v9759) a + S8x128.size a ≤ S2432x128.size a := fun i v9759 k0_hw75 => k0_hw75.1
theorem k0_off153_inb : ∀ (i : grid0.Coords) (v9759 : BitVec 32) (k0_hw75 : k0_chk75 i v9759), ∀ a, (k0_off153 i v9759) a + S8x128.size a ≤ S2432x128.size a := fun i v9759 k0_hw75 => k0_hw75.2

def k0_off154 (i : grid0.Coords) (c0_i32_2986 : BitVec 32) : Fin 1 → Nat :=
  let arg0 : BitVec 32 := BitVec.ofNat 32 (i 0).val
  let c128_i32_2985 : BitVec 32 := 128#32
  let v9975 : BitVec 32 := Scalar.muli arg0 c128_i32_2985
  let c76_i32 : BitVec 32 := 76#32
  let v9976 : BitVec 32 := Scalar.addi v9975 c76_i32
  let v9977 : BitVec 32 := Scalar.addi v9976 c0_i32_2986
  let c2039_i32_2987 : BitVec 32 := 2039#32
  let v9978 : BitVec 32 := Scalar.minsi v9977 c2039_i32_2987
  let v9979 : Index := Scalar.indexCast v9978
  ![v9979.toNat]
def k0_off155 (i : grid0.Coords) (v9980 : BitVec 32) : Fin 2 → Nat :=
  let arg0 : BitVec 32 := BitVec.ofNat 32 (i 0).val
  let c128_i32_2985 : BitVec 32 := 128#32
  let v9975 : BitVec 32 := Scalar.muli arg0 c128_i32_2985
  let c76_i32 : BitVec 32 := 76#32
  let v9976 : BitVec 32 := Scalar.addi v9975 c76_i32
  let c0_i32_2986 : BitVec 32 := 0#32
  let v9977 : BitVec 32 := Scalar.addi v9976 c0_i32_2986
  let c2040_i32_2988 : BitVec 32 := 2040#32
  let v9981 : BitVec 1 := Scalar.cmpi .slt v9977 c2040_i32_2988
  let c256_i32_2989 : BitVec 32 := 256#32
  let v9982 : BitVec 32 := Scalar.select v9981 v9980 c256_i32_2989
  let c9_i32_2990 : BitVec 32 := 9#32
  let v9983 : BitVec 32 := Scalar.muli v9982 c9_i32_2990
  let v10003 : Index := Scalar.indexCast v9983
  let c0_3001 : Index := 0#32
  ![v10003.toNat, 0]

def k0_off156 (i : grid0.Coords) (v9989 : BitVec 32) : Fin 2 → Nat :=
  let arg0 : BitVec 32 := BitVec.ofNat 32 (i 0).val
  let c128_i32_2991 : BitVec 32 := 128#32
  let v9984 : BitVec 32 := Scalar.muli arg0 c128_i32_2991
  let c76_i32_2992 : BitVec 32 := 76#32
  let v9985 : BitVec 32 := Scalar.addi v9984 c76_i32_2992
  let c1_i32_2993 : BitVec 32 := 1#32
  let v9986 : BitVec 32 := Scalar.addi v9985 c1_i32_2993
  let c2040_i32_2995 : BitVec 32 := 2040#32
  let v9990 : BitVec 1 := Scalar.cmpi .slt v9986 c2040_i32_2995
  let c256_i32_2996 : BitVec 32 := 256#32
  let v9991 : BitVec 32 := Scalar.select v9990 v9989 c256_i32_2996
  let c9_i32_2997 : BitVec 32 := 9#32
  let v9992 : BitVec 32 := Scalar.muli v9991 c9_i32_2997
  let v10014 : Index := Scalar.indexCast v9992
  let c0_3003 : Index := 0#32
  ![v10014.toNat, 0]

def k0_chk78 (i : grid0.Coords) (v9989 : BitVec 32) : Prop :=
  (∀ a, (k0_off156 i v9989) a + S8x128.size a ≤ S2432x128.size a)
theorem k0_off156_inb : ∀ (i : grid0.Coords) (v9989 : BitVec 32) (k0_hw78 : k0_chk78 i v9989), ∀ a, (k0_off156 i v9989) a + S8x128.size a ≤ S2432x128.size a := fun i v9989 k0_hw78 => k0_hw78

def k0_off157 (i : grid0.Coords) (v9980 : BitVec 32) : Fin 2 → Nat :=
  let arg0 : BitVec 32 := BitVec.ofNat 32 (i 0).val
  let c128_i32_2985 : BitVec 32 := 128#32
  let v9975 : BitVec 32 := Scalar.muli arg0 c128_i32_2985
  let c76_i32 : BitVec 32 := 76#32
  let v9976 : BitVec 32 := Scalar.addi v9975 c76_i32
  let c0_i32_2986 : BitVec 32 := 0#32
  let v9977 : BitVec 32 := Scalar.addi v9976 c0_i32_2986
  let c2040_i32_2988 : BitVec 32 := 2040#32
  let v9981 : BitVec 1 := Scalar.cmpi .slt v9977 c2040_i32_2988
  let c256_i32_2989 : BitVec 32 := 256#32
  let v9982 : BitVec 32 := Scalar.select v9981 v9980 c256_i32_2989
  let c9_i32_2990 : BitVec 32 := 9#32
  let v9983 : BitVec 32 := Scalar.muli v9982 c9_i32_2990
  let v10032 : Index := Scalar.indexCast v9983
  let c0_3008 : Index := 0#32
  ![v10032.toNat, 0]

def k0_chk77 (i : grid0.Coords) (v9980 : BitVec 32) : Prop :=
  (∀ a, (k0_off155 i v9980) a + S8x128.size a ≤ S2432x128.size a) ∧
  (∀ a, (k0_off157 i v9980) a + S8x128.size a ≤ S2432x128.size a)
theorem k0_off155_inb : ∀ (i : grid0.Coords) (v9980 : BitVec 32) (k0_hw77 : k0_chk77 i v9980), ∀ a, (k0_off155 i v9980) a + S8x128.size a ≤ S2432x128.size a := fun i v9980 k0_hw77 => k0_hw77.1
theorem k0_off157_inb : ∀ (i : grid0.Coords) (v9980 : BitVec 32) (k0_hw77 : k0_chk77 i v9980), ∀ a, (k0_off157 i v9980) a + S8x128.size a ≤ S2432x128.size a := fun i v9980 k0_hw77 => k0_hw77.2

def k0_off158 (i : grid0.Coords) (c0_i32_3048 : BitVec 32) : Fin 1 → Nat :=
  let arg0 : BitVec 32 := BitVec.ofNat 32 (i 0).val
  let c128_i32_3047 : BitVec 32 := 128#32
  let v10196 : BitVec 32 := Scalar.muli arg0 c128_i32_3047
  let c78_i32 : BitVec 32 := 78#32
  let v10197 : BitVec 32 := Scalar.addi v10196 c78_i32
  let v10198 : BitVec 32 := Scalar.addi v10197 c0_i32_3048
  let c2039_i32_3049 : BitVec 32 := 2039#32
  let v10199 : BitVec 32 := Scalar.minsi v10198 c2039_i32_3049
  let v10200 : Index := Scalar.indexCast v10199
  ![v10200.toNat]
def k0_off159 (i : grid0.Coords) (v10201 : BitVec 32) : Fin 2 → Nat :=
  let arg0 : BitVec 32 := BitVec.ofNat 32 (i 0).val
  let c128_i32_3047 : BitVec 32 := 128#32
  let v10196 : BitVec 32 := Scalar.muli arg0 c128_i32_3047
  let c78_i32 : BitVec 32 := 78#32
  let v10197 : BitVec 32 := Scalar.addi v10196 c78_i32
  let c0_i32_3048 : BitVec 32 := 0#32
  let v10198 : BitVec 32 := Scalar.addi v10197 c0_i32_3048
  let c2040_i32_3050 : BitVec 32 := 2040#32
  let v10202 : BitVec 1 := Scalar.cmpi .slt v10198 c2040_i32_3050
  let c256_i32_3051 : BitVec 32 := 256#32
  let v10203 : BitVec 32 := Scalar.select v10202 v10201 c256_i32_3051
  let c9_i32_3052 : BitVec 32 := 9#32
  let v10204 : BitVec 32 := Scalar.muli v10203 c9_i32_3052
  let v10224 : Index := Scalar.indexCast v10204
  let c0_3063 : Index := 0#32
  ![v10224.toNat, 0]

def k0_off160 (i : grid0.Coords) (v10210 : BitVec 32) : Fin 2 → Nat :=
  let arg0 : BitVec 32 := BitVec.ofNat 32 (i 0).val
  let c128_i32_3053 : BitVec 32 := 128#32
  let v10205 : BitVec 32 := Scalar.muli arg0 c128_i32_3053
  let c78_i32_3054 : BitVec 32 := 78#32
  let v10206 : BitVec 32 := Scalar.addi v10205 c78_i32_3054
  let c1_i32_3055 : BitVec 32 := 1#32
  let v10207 : BitVec 32 := Scalar.addi v10206 c1_i32_3055
  let c2040_i32_3057 : BitVec 32 := 2040#32
  let v10211 : BitVec 1 := Scalar.cmpi .slt v10207 c2040_i32_3057
  let c256_i32_3058 : BitVec 32 := 256#32
  let v10212 : BitVec 32 := Scalar.select v10211 v10210 c256_i32_3058
  let c9_i32_3059 : BitVec 32 := 9#32
  let v10213 : BitVec 32 := Scalar.muli v10212 c9_i32_3059
  let v10235 : Index := Scalar.indexCast v10213
  let c0_3065 : Index := 0#32
  ![v10235.toNat, 0]

def k0_chk80 (i : grid0.Coords) (v10210 : BitVec 32) : Prop :=
  (∀ a, (k0_off160 i v10210) a + S8x128.size a ≤ S2432x128.size a)
theorem k0_off160_inb : ∀ (i : grid0.Coords) (v10210 : BitVec 32) (k0_hw80 : k0_chk80 i v10210), ∀ a, (k0_off160 i v10210) a + S8x128.size a ≤ S2432x128.size a := fun i v10210 k0_hw80 => k0_hw80

def k0_off161 (i : grid0.Coords) (v10201 : BitVec 32) : Fin 2 → Nat :=
  let arg0 : BitVec 32 := BitVec.ofNat 32 (i 0).val
  let c128_i32_3047 : BitVec 32 := 128#32
  let v10196 : BitVec 32 := Scalar.muli arg0 c128_i32_3047
  let c78_i32 : BitVec 32 := 78#32
  let v10197 : BitVec 32 := Scalar.addi v10196 c78_i32
  let c0_i32_3048 : BitVec 32 := 0#32
  let v10198 : BitVec 32 := Scalar.addi v10197 c0_i32_3048
  let c2040_i32_3050 : BitVec 32 := 2040#32
  let v10202 : BitVec 1 := Scalar.cmpi .slt v10198 c2040_i32_3050
  let c256_i32_3051 : BitVec 32 := 256#32
  let v10203 : BitVec 32 := Scalar.select v10202 v10201 c256_i32_3051
  let c9_i32_3052 : BitVec 32 := 9#32
  let v10204 : BitVec 32 := Scalar.muli v10203 c9_i32_3052
  let v10253 : Index := Scalar.indexCast v10204
  let c0_3070 : Index := 0#32
  ![v10253.toNat, 0]

def k0_chk79 (i : grid0.Coords) (v10201 : BitVec 32) : Prop :=
  (∀ a, (k0_off159 i v10201) a + S8x128.size a ≤ S2432x128.size a) ∧
  (∀ a, (k0_off161 i v10201) a + S8x128.size a ≤ S2432x128.size a)
theorem k0_off159_inb : ∀ (i : grid0.Coords) (v10201 : BitVec 32) (k0_hw79 : k0_chk79 i v10201), ∀ a, (k0_off159 i v10201) a + S8x128.size a ≤ S2432x128.size a := fun i v10201 k0_hw79 => k0_hw79.1
theorem k0_off161_inb : ∀ (i : grid0.Coords) (v10201 : BitVec 32) (k0_hw79 : k0_chk79 i v10201), ∀ a, (k0_off161 i v10201) a + S8x128.size a ≤ S2432x128.size a := fun i v10201 k0_hw79 => k0_hw79.2

def k0_off162 (i : grid0.Coords) (c0_i32_3110 : BitVec 32) : Fin 1 → Nat :=
  let arg0 : BitVec 32 := BitVec.ofNat 32 (i 0).val
  let c128_i32_3109 : BitVec 32 := 128#32
  let v10417 : BitVec 32 := Scalar.muli arg0 c128_i32_3109
  let c80_i32 : BitVec 32 := 80#32
  let v10418 : BitVec 32 := Scalar.addi v10417 c80_i32
  let v10419 : BitVec 32 := Scalar.addi v10418 c0_i32_3110
  let c2039_i32_3111 : BitVec 32 := 2039#32
  let v10420 : BitVec 32 := Scalar.minsi v10419 c2039_i32_3111
  let v10421 : Index := Scalar.indexCast v10420
  ![v10421.toNat]
def k0_off163 (i : grid0.Coords) (v10422 : BitVec 32) : Fin 2 → Nat :=
  let arg0 : BitVec 32 := BitVec.ofNat 32 (i 0).val
  let c128_i32_3109 : BitVec 32 := 128#32
  let v10417 : BitVec 32 := Scalar.muli arg0 c128_i32_3109
  let c80_i32 : BitVec 32 := 80#32
  let v10418 : BitVec 32 := Scalar.addi v10417 c80_i32
  let c0_i32_3110 : BitVec 32 := 0#32
  let v10419 : BitVec 32 := Scalar.addi v10418 c0_i32_3110
  let c2040_i32_3112 : BitVec 32 := 2040#32
  let v10423 : BitVec 1 := Scalar.cmpi .slt v10419 c2040_i32_3112
  let c256_i32_3113 : BitVec 32 := 256#32
  let v10424 : BitVec 32 := Scalar.select v10423 v10422 c256_i32_3113
  let c9_i32_3114 : BitVec 32 := 9#32
  let v10425 : BitVec 32 := Scalar.muli v10424 c9_i32_3114
  let v10445 : Index := Scalar.indexCast v10425
  let c0_3126 : Index := 0#32
  ![v10445.toNat, 0]

def k0_off164 (i : grid0.Coords) (v10431 : BitVec 32) : Fin 2 → Nat :=
  let arg0 : BitVec 32 := BitVec.ofNat 32 (i 0).val
  let c128_i32_3115 : BitVec 32 := 128#32
  let v10426 : BitVec 32 := Scalar.muli arg0 c128_i32_3115
  let c80_i32_3116 : BitVec 32 := 80#32
  let v10427 : BitVec 32 := Scalar.addi v10426 c80_i32_3116
  let c1_i32_3117 : BitVec 32 := 1#32
  let v10428 : BitVec 32 := Scalar.addi v10427 c1_i32_3117
  let c2040_i32_3119 : BitVec 32 := 2040#32
  let v10432 : BitVec 1 := Scalar.cmpi .slt v10428 c2040_i32_3119
  let c256_i32_3120 : BitVec 32 := 256#32
  let v10433 : BitVec 32 := Scalar.select v10432 v10431 c256_i32_3120
  let c9_i32_3121 : BitVec 32 := 9#32
  let v10434 : BitVec 32 := Scalar.muli v10433 c9_i32_3121
  let v10456 : Index := Scalar.indexCast v10434
  let c0_3128 : Index := 0#32
  ![v10456.toNat, 0]

def k0_chk82 (i : grid0.Coords) (v10431 : BitVec 32) : Prop :=
  (∀ a, (k0_off164 i v10431) a + S8x128.size a ≤ S2432x128.size a)
theorem k0_off164_inb : ∀ (i : grid0.Coords) (v10431 : BitVec 32) (k0_hw82 : k0_chk82 i v10431), ∀ a, (k0_off164 i v10431) a + S8x128.size a ≤ S2432x128.size a := fun i v10431 k0_hw82 => k0_hw82

def k0_off165 (i : grid0.Coords) (v10422 : BitVec 32) : Fin 2 → Nat :=
  let arg0 : BitVec 32 := BitVec.ofNat 32 (i 0).val
  let c128_i32_3109 : BitVec 32 := 128#32
  let v10417 : BitVec 32 := Scalar.muli arg0 c128_i32_3109
  let c80_i32 : BitVec 32 := 80#32
  let v10418 : BitVec 32 := Scalar.addi v10417 c80_i32
  let c0_i32_3110 : BitVec 32 := 0#32
  let v10419 : BitVec 32 := Scalar.addi v10418 c0_i32_3110
  let c2040_i32_3112 : BitVec 32 := 2040#32
  let v10423 : BitVec 1 := Scalar.cmpi .slt v10419 c2040_i32_3112
  let c256_i32_3113 : BitVec 32 := 256#32
  let v10424 : BitVec 32 := Scalar.select v10423 v10422 c256_i32_3113
  let c9_i32_3114 : BitVec 32 := 9#32
  let v10425 : BitVec 32 := Scalar.muli v10424 c9_i32_3114
  let v10474 : Index := Scalar.indexCast v10425
  let c0_3134 : Index := 0#32
  ![v10474.toNat, 0]

def k0_chk81 (i : grid0.Coords) (v10422 : BitVec 32) : Prop :=
  (∀ a, (k0_off163 i v10422) a + S8x128.size a ≤ S2432x128.size a) ∧
  (∀ a, (k0_off165 i v10422) a + S8x128.size a ≤ S2432x128.size a)
theorem k0_off163_inb : ∀ (i : grid0.Coords) (v10422 : BitVec 32) (k0_hw81 : k0_chk81 i v10422), ∀ a, (k0_off163 i v10422) a + S8x128.size a ≤ S2432x128.size a := fun i v10422 k0_hw81 => k0_hw81.1
theorem k0_off165_inb : ∀ (i : grid0.Coords) (v10422 : BitVec 32) (k0_hw81 : k0_chk81 i v10422), ∀ a, (k0_off165 i v10422) a + S8x128.size a ≤ S2432x128.size a := fun i v10422 k0_hw81 => k0_hw81.2

def k0_off166 (i : grid0.Coords) (c0_i32_3179 : BitVec 32) : Fin 1 → Nat :=
  let arg0 : BitVec 32 := BitVec.ofNat 32 (i 0).val
  let c128_i32_3178 : BitVec 32 := 128#32
  let v10638 : BitVec 32 := Scalar.muli arg0 c128_i32_3178
  let c82_i32 : BitVec 32 := 82#32
  let v10639 : BitVec 32 := Scalar.addi v10638 c82_i32
  let v10640 : BitVec 32 := Scalar.addi v10639 c0_i32_3179
  let c2039_i32_3180 : BitVec 32 := 2039#32
  let v10641 : BitVec 32 := Scalar.minsi v10640 c2039_i32_3180
  let v10642 : Index := Scalar.indexCast v10641
  ![v10642.toNat]
def k0_off167 (i : grid0.Coords) (v10643 : BitVec 32) : Fin 2 → Nat :=
  let arg0 : BitVec 32 := BitVec.ofNat 32 (i 0).val
  let c128_i32_3178 : BitVec 32 := 128#32
  let v10638 : BitVec 32 := Scalar.muli arg0 c128_i32_3178
  let c82_i32 : BitVec 32 := 82#32
  let v10639 : BitVec 32 := Scalar.addi v10638 c82_i32
  let c0_i32_3179 : BitVec 32 := 0#32
  let v10640 : BitVec 32 := Scalar.addi v10639 c0_i32_3179
  let c2040_i32_3181 : BitVec 32 := 2040#32
  let v10644 : BitVec 1 := Scalar.cmpi .slt v10640 c2040_i32_3181
  let c256_i32_3182 : BitVec 32 := 256#32
  let v10645 : BitVec 32 := Scalar.select v10644 v10643 c256_i32_3182
  let c9_i32_3183 : BitVec 32 := 9#32
  let v10646 : BitVec 32 := Scalar.muli v10645 c9_i32_3183
  let v10666 : Index := Scalar.indexCast v10646
  let c0_3194 : Index := 0#32
  ![v10666.toNat, 0]

def k0_off168 (i : grid0.Coords) (v10652 : BitVec 32) : Fin 2 → Nat :=
  let arg0 : BitVec 32 := BitVec.ofNat 32 (i 0).val
  let c128_i32_3184 : BitVec 32 := 128#32
  let v10647 : BitVec 32 := Scalar.muli arg0 c128_i32_3184
  let c82_i32_3185 : BitVec 32 := 82#32
  let v10648 : BitVec 32 := Scalar.addi v10647 c82_i32_3185
  let c1_i32_3186 : BitVec 32 := 1#32
  let v10649 : BitVec 32 := Scalar.addi v10648 c1_i32_3186
  let c2040_i32_3188 : BitVec 32 := 2040#32
  let v10653 : BitVec 1 := Scalar.cmpi .slt v10649 c2040_i32_3188
  let c256_i32_3189 : BitVec 32 := 256#32
  let v10654 : BitVec 32 := Scalar.select v10653 v10652 c256_i32_3189
  let c9_i32_3190 : BitVec 32 := 9#32
  let v10655 : BitVec 32 := Scalar.muli v10654 c9_i32_3190
  let v10677 : Index := Scalar.indexCast v10655
  let c0_3196 : Index := 0#32
  ![v10677.toNat, 0]

def k0_chk84 (i : grid0.Coords) (v10652 : BitVec 32) : Prop :=
  (∀ a, (k0_off168 i v10652) a + S8x128.size a ≤ S2432x128.size a)
theorem k0_off168_inb : ∀ (i : grid0.Coords) (v10652 : BitVec 32) (k0_hw84 : k0_chk84 i v10652), ∀ a, (k0_off168 i v10652) a + S8x128.size a ≤ S2432x128.size a := fun i v10652 k0_hw84 => k0_hw84

def k0_off169 (i : grid0.Coords) (v10643 : BitVec 32) : Fin 2 → Nat :=
  let arg0 : BitVec 32 := BitVec.ofNat 32 (i 0).val
  let c128_i32_3178 : BitVec 32 := 128#32
  let v10638 : BitVec 32 := Scalar.muli arg0 c128_i32_3178
  let c82_i32 : BitVec 32 := 82#32
  let v10639 : BitVec 32 := Scalar.addi v10638 c82_i32
  let c0_i32_3179 : BitVec 32 := 0#32
  let v10640 : BitVec 32 := Scalar.addi v10639 c0_i32_3179
  let c2040_i32_3181 : BitVec 32 := 2040#32
  let v10644 : BitVec 1 := Scalar.cmpi .slt v10640 c2040_i32_3181
  let c256_i32_3182 : BitVec 32 := 256#32
  let v10645 : BitVec 32 := Scalar.select v10644 v10643 c256_i32_3182
  let c9_i32_3183 : BitVec 32 := 9#32
  let v10646 : BitVec 32 := Scalar.muli v10645 c9_i32_3183
  let v10695 : Index := Scalar.indexCast v10646
  let c0_3201 : Index := 0#32
  ![v10695.toNat, 0]

def k0_chk83 (i : grid0.Coords) (v10643 : BitVec 32) : Prop :=
  (∀ a, (k0_off167 i v10643) a + S8x128.size a ≤ S2432x128.size a) ∧
  (∀ a, (k0_off169 i v10643) a + S8x128.size a ≤ S2432x128.size a)
theorem k0_off167_inb : ∀ (i : grid0.Coords) (v10643 : BitVec 32) (k0_hw83 : k0_chk83 i v10643), ∀ a, (k0_off167 i v10643) a + S8x128.size a ≤ S2432x128.size a := fun i v10643 k0_hw83 => k0_hw83.1
theorem k0_off169_inb : ∀ (i : grid0.Coords) (v10643 : BitVec 32) (k0_hw83 : k0_chk83 i v10643), ∀ a, (k0_off169 i v10643) a + S8x128.size a ≤ S2432x128.size a := fun i v10643 k0_hw83 => k0_hw83.2

def k0_off170 (i : grid0.Coords) (c0_i32_3241 : BitVec 32) : Fin 1 → Nat :=
  let arg0 : BitVec 32 := BitVec.ofNat 32 (i 0).val
  let c128_i32_3240 : BitVec 32 := 128#32
  let v10859 : BitVec 32 := Scalar.muli arg0 c128_i32_3240
  let c84_i32 : BitVec 32 := 84#32
  let v10860 : BitVec 32 := Scalar.addi v10859 c84_i32
  let v10861 : BitVec 32 := Scalar.addi v10860 c0_i32_3241
  let c2039_i32_3242 : BitVec 32 := 2039#32
  let v10862 : BitVec 32 := Scalar.minsi v10861 c2039_i32_3242
  let v10863 : Index := Scalar.indexCast v10862
  ![v10863.toNat]
def k0_off171 (i : grid0.Coords) (v10864 : BitVec 32) : Fin 2 → Nat :=
  let arg0 : BitVec 32 := BitVec.ofNat 32 (i 0).val
  let c128_i32_3240 : BitVec 32 := 128#32
  let v10859 : BitVec 32 := Scalar.muli arg0 c128_i32_3240
  let c84_i32 : BitVec 32 := 84#32
  let v10860 : BitVec 32 := Scalar.addi v10859 c84_i32
  let c0_i32_3241 : BitVec 32 := 0#32
  let v10861 : BitVec 32 := Scalar.addi v10860 c0_i32_3241
  let c2040_i32_3243 : BitVec 32 := 2040#32
  let v10865 : BitVec 1 := Scalar.cmpi .slt v10861 c2040_i32_3243
  let c256_i32_3244 : BitVec 32 := 256#32
  let v10866 : BitVec 32 := Scalar.select v10865 v10864 c256_i32_3244
  let c9_i32_3245 : BitVec 32 := 9#32
  let v10867 : BitVec 32 := Scalar.muli v10866 c9_i32_3245
  let v10887 : Index := Scalar.indexCast v10867
  let c0_3256 : Index := 0#32
  ![v10887.toNat, 0]

def k0_off172 (i : grid0.Coords) (v10873 : BitVec 32) : Fin 2 → Nat :=
  let arg0 : BitVec 32 := BitVec.ofNat 32 (i 0).val
  let c128_i32_3246 : BitVec 32 := 128#32
  let v10868 : BitVec 32 := Scalar.muli arg0 c128_i32_3246
  let c84_i32_3247 : BitVec 32 := 84#32
  let v10869 : BitVec 32 := Scalar.addi v10868 c84_i32_3247
  let c1_i32_3248 : BitVec 32 := 1#32
  let v10870 : BitVec 32 := Scalar.addi v10869 c1_i32_3248
  let c2040_i32_3250 : BitVec 32 := 2040#32
  let v10874 : BitVec 1 := Scalar.cmpi .slt v10870 c2040_i32_3250
  let c256_i32_3251 : BitVec 32 := 256#32
  let v10875 : BitVec 32 := Scalar.select v10874 v10873 c256_i32_3251
  let c9_i32_3252 : BitVec 32 := 9#32
  let v10876 : BitVec 32 := Scalar.muli v10875 c9_i32_3252
  let v10898 : Index := Scalar.indexCast v10876
  let c0_3258 : Index := 0#32
  ![v10898.toNat, 0]

def k0_chk86 (i : grid0.Coords) (v10873 : BitVec 32) : Prop :=
  (∀ a, (k0_off172 i v10873) a + S8x128.size a ≤ S2432x128.size a)
theorem k0_off172_inb : ∀ (i : grid0.Coords) (v10873 : BitVec 32) (k0_hw86 : k0_chk86 i v10873), ∀ a, (k0_off172 i v10873) a + S8x128.size a ≤ S2432x128.size a := fun i v10873 k0_hw86 => k0_hw86

def k0_off173 (i : grid0.Coords) (v10864 : BitVec 32) : Fin 2 → Nat :=
  let arg0 : BitVec 32 := BitVec.ofNat 32 (i 0).val
  let c128_i32_3240 : BitVec 32 := 128#32
  let v10859 : BitVec 32 := Scalar.muli arg0 c128_i32_3240
  let c84_i32 : BitVec 32 := 84#32
  let v10860 : BitVec 32 := Scalar.addi v10859 c84_i32
  let c0_i32_3241 : BitVec 32 := 0#32
  let v10861 : BitVec 32 := Scalar.addi v10860 c0_i32_3241
  let c2040_i32_3243 : BitVec 32 := 2040#32
  let v10865 : BitVec 1 := Scalar.cmpi .slt v10861 c2040_i32_3243
  let c256_i32_3244 : BitVec 32 := 256#32
  let v10866 : BitVec 32 := Scalar.select v10865 v10864 c256_i32_3244
  let c9_i32_3245 : BitVec 32 := 9#32
  let v10867 : BitVec 32 := Scalar.muli v10866 c9_i32_3245
  let v10916 : Index := Scalar.indexCast v10867
  let c0_3263 : Index := 0#32
  ![v10916.toNat, 0]

def k0_chk85 (i : grid0.Coords) (v10864 : BitVec 32) : Prop :=
  (∀ a, (k0_off171 i v10864) a + S8x128.size a ≤ S2432x128.size a) ∧
  (∀ a, (k0_off173 i v10864) a + S8x128.size a ≤ S2432x128.size a)
theorem k0_off171_inb : ∀ (i : grid0.Coords) (v10864 : BitVec 32) (k0_hw85 : k0_chk85 i v10864), ∀ a, (k0_off171 i v10864) a + S8x128.size a ≤ S2432x128.size a := fun i v10864 k0_hw85 => k0_hw85.1
theorem k0_off173_inb : ∀ (i : grid0.Coords) (v10864 : BitVec 32) (k0_hw85 : k0_chk85 i v10864), ∀ a, (k0_off173 i v10864) a + S8x128.size a ≤ S2432x128.size a := fun i v10864 k0_hw85 => k0_hw85.2

def k0_off174 (i : grid0.Coords) (c0_i32_3303 : BitVec 32) : Fin 1 → Nat :=
  let arg0 : BitVec 32 := BitVec.ofNat 32 (i 0).val
  let c128_i32_3302 : BitVec 32 := 128#32
  let v11080 : BitVec 32 := Scalar.muli arg0 c128_i32_3302
  let c86_i32 : BitVec 32 := 86#32
  let v11081 : BitVec 32 := Scalar.addi v11080 c86_i32
  let v11082 : BitVec 32 := Scalar.addi v11081 c0_i32_3303
  let c2039_i32_3304 : BitVec 32 := 2039#32
  let v11083 : BitVec 32 := Scalar.minsi v11082 c2039_i32_3304
  let v11084 : Index := Scalar.indexCast v11083
  ![v11084.toNat]
def k0_off175 (i : grid0.Coords) (v11085 : BitVec 32) : Fin 2 → Nat :=
  let arg0 : BitVec 32 := BitVec.ofNat 32 (i 0).val
  let c128_i32_3302 : BitVec 32 := 128#32
  let v11080 : BitVec 32 := Scalar.muli arg0 c128_i32_3302
  let c86_i32 : BitVec 32 := 86#32
  let v11081 : BitVec 32 := Scalar.addi v11080 c86_i32
  let c0_i32_3303 : BitVec 32 := 0#32
  let v11082 : BitVec 32 := Scalar.addi v11081 c0_i32_3303
  let c2040_i32_3305 : BitVec 32 := 2040#32
  let v11086 : BitVec 1 := Scalar.cmpi .slt v11082 c2040_i32_3305
  let c256_i32_3306 : BitVec 32 := 256#32
  let v11087 : BitVec 32 := Scalar.select v11086 v11085 c256_i32_3306
  let c9_i32_3307 : BitVec 32 := 9#32
  let v11088 : BitVec 32 := Scalar.muli v11087 c9_i32_3307
  let v11108 : Index := Scalar.indexCast v11088
  let c0_3318 : Index := 0#32
  ![v11108.toNat, 0]

def k0_off176 (i : grid0.Coords) (v11094 : BitVec 32) : Fin 2 → Nat :=
  let arg0 : BitVec 32 := BitVec.ofNat 32 (i 0).val
  let c128_i32_3308 : BitVec 32 := 128#32
  let v11089 : BitVec 32 := Scalar.muli arg0 c128_i32_3308
  let c86_i32_3309 : BitVec 32 := 86#32
  let v11090 : BitVec 32 := Scalar.addi v11089 c86_i32_3309
  let c1_i32_3310 : BitVec 32 := 1#32
  let v11091 : BitVec 32 := Scalar.addi v11090 c1_i32_3310
  let c2040_i32_3312 : BitVec 32 := 2040#32
  let v11095 : BitVec 1 := Scalar.cmpi .slt v11091 c2040_i32_3312
  let c256_i32_3313 : BitVec 32 := 256#32
  let v11096 : BitVec 32 := Scalar.select v11095 v11094 c256_i32_3313
  let c9_i32_3314 : BitVec 32 := 9#32
  let v11097 : BitVec 32 := Scalar.muli v11096 c9_i32_3314
  let v11119 : Index := Scalar.indexCast v11097
  let c0_3320 : Index := 0#32
  ![v11119.toNat, 0]

def k0_chk88 (i : grid0.Coords) (v11094 : BitVec 32) : Prop :=
  (∀ a, (k0_off176 i v11094) a + S8x128.size a ≤ S2432x128.size a)
theorem k0_off176_inb : ∀ (i : grid0.Coords) (v11094 : BitVec 32) (k0_hw88 : k0_chk88 i v11094), ∀ a, (k0_off176 i v11094) a + S8x128.size a ≤ S2432x128.size a := fun i v11094 k0_hw88 => k0_hw88

def k0_off177 (i : grid0.Coords) (v11085 : BitVec 32) : Fin 2 → Nat :=
  let arg0 : BitVec 32 := BitVec.ofNat 32 (i 0).val
  let c128_i32_3302 : BitVec 32 := 128#32
  let v11080 : BitVec 32 := Scalar.muli arg0 c128_i32_3302
  let c86_i32 : BitVec 32 := 86#32
  let v11081 : BitVec 32 := Scalar.addi v11080 c86_i32
  let c0_i32_3303 : BitVec 32 := 0#32
  let v11082 : BitVec 32 := Scalar.addi v11081 c0_i32_3303
  let c2040_i32_3305 : BitVec 32 := 2040#32
  let v11086 : BitVec 1 := Scalar.cmpi .slt v11082 c2040_i32_3305
  let c256_i32_3306 : BitVec 32 := 256#32
  let v11087 : BitVec 32 := Scalar.select v11086 v11085 c256_i32_3306
  let c9_i32_3307 : BitVec 32 := 9#32
  let v11088 : BitVec 32 := Scalar.muli v11087 c9_i32_3307
  let v11137 : Index := Scalar.indexCast v11088
  let c0_3325 : Index := 0#32
  ![v11137.toNat, 0]

def k0_chk87 (i : grid0.Coords) (v11085 : BitVec 32) : Prop :=
  (∀ a, (k0_off175 i v11085) a + S8x128.size a ≤ S2432x128.size a) ∧
  (∀ a, (k0_off177 i v11085) a + S8x128.size a ≤ S2432x128.size a)
theorem k0_off175_inb : ∀ (i : grid0.Coords) (v11085 : BitVec 32) (k0_hw87 : k0_chk87 i v11085), ∀ a, (k0_off175 i v11085) a + S8x128.size a ≤ S2432x128.size a := fun i v11085 k0_hw87 => k0_hw87.1
theorem k0_off177_inb : ∀ (i : grid0.Coords) (v11085 : BitVec 32) (k0_hw87 : k0_chk87 i v11085), ∀ a, (k0_off177 i v11085) a + S8x128.size a ≤ S2432x128.size a := fun i v11085 k0_hw87 => k0_hw87.2

def k0_off178 (i : grid0.Coords) (c0_i32_3365 : BitVec 32) : Fin 1 → Nat :=
  let arg0 : BitVec 32 := BitVec.ofNat 32 (i 0).val
  let c128_i32_3364 : BitVec 32 := 128#32
  let v11301 : BitVec 32 := Scalar.muli arg0 c128_i32_3364
  let c88_i32 : BitVec 32 := 88#32
  let v11302 : BitVec 32 := Scalar.addi v11301 c88_i32
  let v11303 : BitVec 32 := Scalar.addi v11302 c0_i32_3365
  let c2039_i32_3366 : BitVec 32 := 2039#32
  let v11304 : BitVec 32 := Scalar.minsi v11303 c2039_i32_3366
  let v11305 : Index := Scalar.indexCast v11304
  ![v11305.toNat]
def k0_off179 (i : grid0.Coords) (v11306 : BitVec 32) : Fin 2 → Nat :=
  let arg0 : BitVec 32 := BitVec.ofNat 32 (i 0).val
  let c128_i32_3364 : BitVec 32 := 128#32
  let v11301 : BitVec 32 := Scalar.muli arg0 c128_i32_3364
  let c88_i32 : BitVec 32 := 88#32
  let v11302 : BitVec 32 := Scalar.addi v11301 c88_i32
  let c0_i32_3365 : BitVec 32 := 0#32
  let v11303 : BitVec 32 := Scalar.addi v11302 c0_i32_3365
  let c2040_i32_3367 : BitVec 32 := 2040#32
  let v11307 : BitVec 1 := Scalar.cmpi .slt v11303 c2040_i32_3367
  let c256_i32_3368 : BitVec 32 := 256#32
  let v11308 : BitVec 32 := Scalar.select v11307 v11306 c256_i32_3368
  let c9_i32_3369 : BitVec 32 := 9#32
  let v11309 : BitVec 32 := Scalar.muli v11308 c9_i32_3369
  let v11329 : Index := Scalar.indexCast v11309
  let c0_3381 : Index := 0#32
  ![v11329.toNat, 0]

def k0_off180 (i : grid0.Coords) (v11315 : BitVec 32) : Fin 2 → Nat :=
  let arg0 : BitVec 32 := BitVec.ofNat 32 (i 0).val
  let c128_i32_3370 : BitVec 32 := 128#32
  let v11310 : BitVec 32 := Scalar.muli arg0 c128_i32_3370
  let c88_i32_3371 : BitVec 32 := 88#32
  let v11311 : BitVec 32 := Scalar.addi v11310 c88_i32_3371
  let c1_i32_3372 : BitVec 32 := 1#32
  let v11312 : BitVec 32 := Scalar.addi v11311 c1_i32_3372
  let c2040_i32_3374 : BitVec 32 := 2040#32
  let v11316 : BitVec 1 := Scalar.cmpi .slt v11312 c2040_i32_3374
  let c256_i32_3375 : BitVec 32 := 256#32
  let v11317 : BitVec 32 := Scalar.select v11316 v11315 c256_i32_3375
  let c9_i32_3376 : BitVec 32 := 9#32
  let v11318 : BitVec 32 := Scalar.muli v11317 c9_i32_3376
  let v11340 : Index := Scalar.indexCast v11318
  let c0_3383 : Index := 0#32
  ![v11340.toNat, 0]

def k0_chk90 (i : grid0.Coords) (v11315 : BitVec 32) : Prop :=
  (∀ a, (k0_off180 i v11315) a + S8x128.size a ≤ S2432x128.size a)
theorem k0_off180_inb : ∀ (i : grid0.Coords) (v11315 : BitVec 32) (k0_hw90 : k0_chk90 i v11315), ∀ a, (k0_off180 i v11315) a + S8x128.size a ≤ S2432x128.size a := fun i v11315 k0_hw90 => k0_hw90

def k0_off181 (i : grid0.Coords) (v11306 : BitVec 32) : Fin 2 → Nat :=
  let arg0 : BitVec 32 := BitVec.ofNat 32 (i 0).val
  let c128_i32_3364 : BitVec 32 := 128#32
  let v11301 : BitVec 32 := Scalar.muli arg0 c128_i32_3364
  let c88_i32 : BitVec 32 := 88#32
  let v11302 : BitVec 32 := Scalar.addi v11301 c88_i32
  let c0_i32_3365 : BitVec 32 := 0#32
  let v11303 : BitVec 32 := Scalar.addi v11302 c0_i32_3365
  let c2040_i32_3367 : BitVec 32 := 2040#32
  let v11307 : BitVec 1 := Scalar.cmpi .slt v11303 c2040_i32_3367
  let c256_i32_3368 : BitVec 32 := 256#32
  let v11308 : BitVec 32 := Scalar.select v11307 v11306 c256_i32_3368
  let c9_i32_3369 : BitVec 32 := 9#32
  let v11309 : BitVec 32 := Scalar.muli v11308 c9_i32_3369
  let v11358 : Index := Scalar.indexCast v11309
  let c0_3389 : Index := 0#32
  ![v11358.toNat, 0]

def k0_chk89 (i : grid0.Coords) (v11306 : BitVec 32) : Prop :=
  (∀ a, (k0_off179 i v11306) a + S8x128.size a ≤ S2432x128.size a) ∧
  (∀ a, (k0_off181 i v11306) a + S8x128.size a ≤ S2432x128.size a)
theorem k0_off179_inb : ∀ (i : grid0.Coords) (v11306 : BitVec 32) (k0_hw89 : k0_chk89 i v11306), ∀ a, (k0_off179 i v11306) a + S8x128.size a ≤ S2432x128.size a := fun i v11306 k0_hw89 => k0_hw89.1
theorem k0_off181_inb : ∀ (i : grid0.Coords) (v11306 : BitVec 32) (k0_hw89 : k0_chk89 i v11306), ∀ a, (k0_off181 i v11306) a + S8x128.size a ≤ S2432x128.size a := fun i v11306 k0_hw89 => k0_hw89.2

def k0_off182 (i : grid0.Coords) (c0_i32_3434 : BitVec 32) : Fin 1 → Nat :=
  let arg0 : BitVec 32 := BitVec.ofNat 32 (i 0).val
  let c128_i32_3433 : BitVec 32 := 128#32
  let v11522 : BitVec 32 := Scalar.muli arg0 c128_i32_3433
  let c90_i32 : BitVec 32 := 90#32
  let v11523 : BitVec 32 := Scalar.addi v11522 c90_i32
  let v11524 : BitVec 32 := Scalar.addi v11523 c0_i32_3434
  let c2039_i32_3435 : BitVec 32 := 2039#32
  let v11525 : BitVec 32 := Scalar.minsi v11524 c2039_i32_3435
  let v11526 : Index := Scalar.indexCast v11525
  ![v11526.toNat]
def k0_off183 (i : grid0.Coords) (v11527 : BitVec 32) : Fin 2 → Nat :=
  let arg0 : BitVec 32 := BitVec.ofNat 32 (i 0).val
  let c128_i32_3433 : BitVec 32 := 128#32
  let v11522 : BitVec 32 := Scalar.muli arg0 c128_i32_3433
  let c90_i32 : BitVec 32 := 90#32
  let v11523 : BitVec 32 := Scalar.addi v11522 c90_i32
  let c0_i32_3434 : BitVec 32 := 0#32
  let v11524 : BitVec 32 := Scalar.addi v11523 c0_i32_3434
  let c2040_i32_3436 : BitVec 32 := 2040#32
  let v11528 : BitVec 1 := Scalar.cmpi .slt v11524 c2040_i32_3436
  let c256_i32_3437 : BitVec 32 := 256#32
  let v11529 : BitVec 32 := Scalar.select v11528 v11527 c256_i32_3437
  let c9_i32_3438 : BitVec 32 := 9#32
  let v11530 : BitVec 32 := Scalar.muli v11529 c9_i32_3438
  let v11550 : Index := Scalar.indexCast v11530
  let c0_3449 : Index := 0#32
  ![v11550.toNat, 0]

def k0_off184 (i : grid0.Coords) (v11536 : BitVec 32) : Fin 2 → Nat :=
  let arg0 : BitVec 32 := BitVec.ofNat 32 (i 0).val
  let c128_i32_3439 : BitVec 32 := 128#32
  let v11531 : BitVec 32 := Scalar.muli arg0 c128_i32_3439
  let c90_i32_3440 : BitVec 32 := 90#32
  let v11532 : BitVec 32 := Scalar.addi v11531 c90_i32_3440
  let c1_i32_3441 : BitVec 32 := 1#32
  let v11533 : BitVec 32 := Scalar.addi v11532 c1_i32_3441
  let c2040_i32_3443 : BitVec 32 := 2040#32
  let v11537 : BitVec 1 := Scalar.cmpi .slt v11533 c2040_i32_3443
  let c256_i32_3444 : BitVec 32 := 256#32
  let v11538 : BitVec 32 := Scalar.select v11537 v11536 c256_i32_3444
  let c9_i32_3445 : BitVec 32 := 9#32
  let v11539 : BitVec 32 := Scalar.muli v11538 c9_i32_3445
  let v11561 : Index := Scalar.indexCast v11539
  let c0_3451 : Index := 0#32
  ![v11561.toNat, 0]

def k0_chk92 (i : grid0.Coords) (v11536 : BitVec 32) : Prop :=
  (∀ a, (k0_off184 i v11536) a + S8x128.size a ≤ S2432x128.size a)
theorem k0_off184_inb : ∀ (i : grid0.Coords) (v11536 : BitVec 32) (k0_hw92 : k0_chk92 i v11536), ∀ a, (k0_off184 i v11536) a + S8x128.size a ≤ S2432x128.size a := fun i v11536 k0_hw92 => k0_hw92

def k0_off185 (i : grid0.Coords) (v11527 : BitVec 32) : Fin 2 → Nat :=
  let arg0 : BitVec 32 := BitVec.ofNat 32 (i 0).val
  let c128_i32_3433 : BitVec 32 := 128#32
  let v11522 : BitVec 32 := Scalar.muli arg0 c128_i32_3433
  let c90_i32 : BitVec 32 := 90#32
  let v11523 : BitVec 32 := Scalar.addi v11522 c90_i32
  let c0_i32_3434 : BitVec 32 := 0#32
  let v11524 : BitVec 32 := Scalar.addi v11523 c0_i32_3434
  let c2040_i32_3436 : BitVec 32 := 2040#32
  let v11528 : BitVec 1 := Scalar.cmpi .slt v11524 c2040_i32_3436
  let c256_i32_3437 : BitVec 32 := 256#32
  let v11529 : BitVec 32 := Scalar.select v11528 v11527 c256_i32_3437
  let c9_i32_3438 : BitVec 32 := 9#32
  let v11530 : BitVec 32 := Scalar.muli v11529 c9_i32_3438
  let v11579 : Index := Scalar.indexCast v11530
  let c0_3456 : Index := 0#32
  ![v11579.toNat, 0]

def k0_chk91 (i : grid0.Coords) (v11527 : BitVec 32) : Prop :=
  (∀ a, (k0_off183 i v11527) a + S8x128.size a ≤ S2432x128.size a) ∧
  (∀ a, (k0_off185 i v11527) a + S8x128.size a ≤ S2432x128.size a)
theorem k0_off183_inb : ∀ (i : grid0.Coords) (v11527 : BitVec 32) (k0_hw91 : k0_chk91 i v11527), ∀ a, (k0_off183 i v11527) a + S8x128.size a ≤ S2432x128.size a := fun i v11527 k0_hw91 => k0_hw91.1
theorem k0_off185_inb : ∀ (i : grid0.Coords) (v11527 : BitVec 32) (k0_hw91 : k0_chk91 i v11527), ∀ a, (k0_off185 i v11527) a + S8x128.size a ≤ S2432x128.size a := fun i v11527 k0_hw91 => k0_hw91.2

def k0_off186 (i : grid0.Coords) (c0_i32_3496 : BitVec 32) : Fin 1 → Nat :=
  let arg0 : BitVec 32 := BitVec.ofNat 32 (i 0).val
  let c128_i32_3495 : BitVec 32 := 128#32
  let v11743 : BitVec 32 := Scalar.muli arg0 c128_i32_3495
  let c92_i32 : BitVec 32 := 92#32
  let v11744 : BitVec 32 := Scalar.addi v11743 c92_i32
  let v11745 : BitVec 32 := Scalar.addi v11744 c0_i32_3496
  let c2039_i32_3497 : BitVec 32 := 2039#32
  let v11746 : BitVec 32 := Scalar.minsi v11745 c2039_i32_3497
  let v11747 : Index := Scalar.indexCast v11746
  ![v11747.toNat]
def k0_off187 (i : grid0.Coords) (v11748 : BitVec 32) : Fin 2 → Nat :=
  let arg0 : BitVec 32 := BitVec.ofNat 32 (i 0).val
  let c128_i32_3495 : BitVec 32 := 128#32
  let v11743 : BitVec 32 := Scalar.muli arg0 c128_i32_3495
  let c92_i32 : BitVec 32 := 92#32
  let v11744 : BitVec 32 := Scalar.addi v11743 c92_i32
  let c0_i32_3496 : BitVec 32 := 0#32
  let v11745 : BitVec 32 := Scalar.addi v11744 c0_i32_3496
  let c2040_i32_3498 : BitVec 32 := 2040#32
  let v11749 : BitVec 1 := Scalar.cmpi .slt v11745 c2040_i32_3498
  let c256_i32_3499 : BitVec 32 := 256#32
  let v11750 : BitVec 32 := Scalar.select v11749 v11748 c256_i32_3499
  let c9_i32_3500 : BitVec 32 := 9#32
  let v11751 : BitVec 32 := Scalar.muli v11750 c9_i32_3500
  let v11771 : Index := Scalar.indexCast v11751
  let c0_3511 : Index := 0#32
  ![v11771.toNat, 0]

def k0_off188 (i : grid0.Coords) (v11757 : BitVec 32) : Fin 2 → Nat :=
  let arg0 : BitVec 32 := BitVec.ofNat 32 (i 0).val
  let c128_i32_3501 : BitVec 32 := 128#32
  let v11752 : BitVec 32 := Scalar.muli arg0 c128_i32_3501
  let c92_i32_3502 : BitVec 32 := 92#32
  let v11753 : BitVec 32 := Scalar.addi v11752 c92_i32_3502
  let c1_i32_3503 : BitVec 32 := 1#32
  let v11754 : BitVec 32 := Scalar.addi v11753 c1_i32_3503
  let c2040_i32_3505 : BitVec 32 := 2040#32
  let v11758 : BitVec 1 := Scalar.cmpi .slt v11754 c2040_i32_3505
  let c256_i32_3506 : BitVec 32 := 256#32
  let v11759 : BitVec 32 := Scalar.select v11758 v11757 c256_i32_3506
  let c9_i32_3507 : BitVec 32 := 9#32
  let v11760 : BitVec 32 := Scalar.muli v11759 c9_i32_3507
  let v11782 : Index := Scalar.indexCast v11760
  let c0_3513 : Index := 0#32
  ![v11782.toNat, 0]

def k0_chk94 (i : grid0.Coords) (v11757 : BitVec 32) : Prop :=
  (∀ a, (k0_off188 i v11757) a + S8x128.size a ≤ S2432x128.size a)
theorem k0_off188_inb : ∀ (i : grid0.Coords) (v11757 : BitVec 32) (k0_hw94 : k0_chk94 i v11757), ∀ a, (k0_off188 i v11757) a + S8x128.size a ≤ S2432x128.size a := fun i v11757 k0_hw94 => k0_hw94

def k0_off189 (i : grid0.Coords) (v11748 : BitVec 32) : Fin 2 → Nat :=
  let arg0 : BitVec 32 := BitVec.ofNat 32 (i 0).val
  let c128_i32_3495 : BitVec 32 := 128#32
  let v11743 : BitVec 32 := Scalar.muli arg0 c128_i32_3495
  let c92_i32 : BitVec 32 := 92#32
  let v11744 : BitVec 32 := Scalar.addi v11743 c92_i32
  let c0_i32_3496 : BitVec 32 := 0#32
  let v11745 : BitVec 32 := Scalar.addi v11744 c0_i32_3496
  let c2040_i32_3498 : BitVec 32 := 2040#32
  let v11749 : BitVec 1 := Scalar.cmpi .slt v11745 c2040_i32_3498
  let c256_i32_3499 : BitVec 32 := 256#32
  let v11750 : BitVec 32 := Scalar.select v11749 v11748 c256_i32_3499
  let c9_i32_3500 : BitVec 32 := 9#32
  let v11751 : BitVec 32 := Scalar.muli v11750 c9_i32_3500
  let v11800 : Index := Scalar.indexCast v11751
  let c0_3518 : Index := 0#32
  ![v11800.toNat, 0]

def k0_chk93 (i : grid0.Coords) (v11748 : BitVec 32) : Prop :=
  (∀ a, (k0_off187 i v11748) a + S8x128.size a ≤ S2432x128.size a) ∧
  (∀ a, (k0_off189 i v11748) a + S8x128.size a ≤ S2432x128.size a)
theorem k0_off187_inb : ∀ (i : grid0.Coords) (v11748 : BitVec 32) (k0_hw93 : k0_chk93 i v11748), ∀ a, (k0_off187 i v11748) a + S8x128.size a ≤ S2432x128.size a := fun i v11748 k0_hw93 => k0_hw93.1
theorem k0_off189_inb : ∀ (i : grid0.Coords) (v11748 : BitVec 32) (k0_hw93 : k0_chk93 i v11748), ∀ a, (k0_off189 i v11748) a + S8x128.size a ≤ S2432x128.size a := fun i v11748 k0_hw93 => k0_hw93.2

def k0_off190 (i : grid0.Coords) (c0_i32_3558 : BitVec 32) : Fin 1 → Nat :=
  let arg0 : BitVec 32 := BitVec.ofNat 32 (i 0).val
  let c128_i32_3557 : BitVec 32 := 128#32
  let v11964 : BitVec 32 := Scalar.muli arg0 c128_i32_3557
  let c94_i32 : BitVec 32 := 94#32
  let v11965 : BitVec 32 := Scalar.addi v11964 c94_i32
  let v11966 : BitVec 32 := Scalar.addi v11965 c0_i32_3558
  let c2039_i32_3559 : BitVec 32 := 2039#32
  let v11967 : BitVec 32 := Scalar.minsi v11966 c2039_i32_3559
  let v11968 : Index := Scalar.indexCast v11967
  ![v11968.toNat]
def k0_off191 (i : grid0.Coords) (v11969 : BitVec 32) : Fin 2 → Nat :=
  let arg0 : BitVec 32 := BitVec.ofNat 32 (i 0).val
  let c128_i32_3557 : BitVec 32 := 128#32
  let v11964 : BitVec 32 := Scalar.muli arg0 c128_i32_3557
  let c94_i32 : BitVec 32 := 94#32
  let v11965 : BitVec 32 := Scalar.addi v11964 c94_i32
  let c0_i32_3558 : BitVec 32 := 0#32
  let v11966 : BitVec 32 := Scalar.addi v11965 c0_i32_3558
  let c2040_i32_3560 : BitVec 32 := 2040#32
  let v11970 : BitVec 1 := Scalar.cmpi .slt v11966 c2040_i32_3560
  let c256_i32_3561 : BitVec 32 := 256#32
  let v11971 : BitVec 32 := Scalar.select v11970 v11969 c256_i32_3561
  let c9_i32_3562 : BitVec 32 := 9#32
  let v11972 : BitVec 32 := Scalar.muli v11971 c9_i32_3562
  let v11992 : Index := Scalar.indexCast v11972
  let c0_3573 : Index := 0#32
  ![v11992.toNat, 0]

def k0_off192 (i : grid0.Coords) (v11978 : BitVec 32) : Fin 2 → Nat :=
  let arg0 : BitVec 32 := BitVec.ofNat 32 (i 0).val
  let c128_i32_3563 : BitVec 32 := 128#32
  let v11973 : BitVec 32 := Scalar.muli arg0 c128_i32_3563
  let c94_i32_3564 : BitVec 32 := 94#32
  let v11974 : BitVec 32 := Scalar.addi v11973 c94_i32_3564
  let c1_i32_3565 : BitVec 32 := 1#32
  let v11975 : BitVec 32 := Scalar.addi v11974 c1_i32_3565
  let c2040_i32_3567 : BitVec 32 := 2040#32
  let v11979 : BitVec 1 := Scalar.cmpi .slt v11975 c2040_i32_3567
  let c256_i32_3568 : BitVec 32 := 256#32
  let v11980 : BitVec 32 := Scalar.select v11979 v11978 c256_i32_3568
  let c9_i32_3569 : BitVec 32 := 9#32
  let v11981 : BitVec 32 := Scalar.muli v11980 c9_i32_3569
  let v12003 : Index := Scalar.indexCast v11981
  let c0_3575 : Index := 0#32
  ![v12003.toNat, 0]

def k0_chk96 (i : grid0.Coords) (v11978 : BitVec 32) : Prop :=
  (∀ a, (k0_off192 i v11978) a + S8x128.size a ≤ S2432x128.size a)
theorem k0_off192_inb : ∀ (i : grid0.Coords) (v11978 : BitVec 32) (k0_hw96 : k0_chk96 i v11978), ∀ a, (k0_off192 i v11978) a + S8x128.size a ≤ S2432x128.size a := fun i v11978 k0_hw96 => k0_hw96

def k0_off193 (i : grid0.Coords) (v11969 : BitVec 32) : Fin 2 → Nat :=
  let arg0 : BitVec 32 := BitVec.ofNat 32 (i 0).val
  let c128_i32_3557 : BitVec 32 := 128#32
  let v11964 : BitVec 32 := Scalar.muli arg0 c128_i32_3557
  let c94_i32 : BitVec 32 := 94#32
  let v11965 : BitVec 32 := Scalar.addi v11964 c94_i32
  let c0_i32_3558 : BitVec 32 := 0#32
  let v11966 : BitVec 32 := Scalar.addi v11965 c0_i32_3558
  let c2040_i32_3560 : BitVec 32 := 2040#32
  let v11970 : BitVec 1 := Scalar.cmpi .slt v11966 c2040_i32_3560
  let c256_i32_3561 : BitVec 32 := 256#32
  let v11971 : BitVec 32 := Scalar.select v11970 v11969 c256_i32_3561
  let c9_i32_3562 : BitVec 32 := 9#32
  let v11972 : BitVec 32 := Scalar.muli v11971 c9_i32_3562
  let v12021 : Index := Scalar.indexCast v11972
  let c0_3580 : Index := 0#32
  ![v12021.toNat, 0]

def k0_chk95 (i : grid0.Coords) (v11969 : BitVec 32) : Prop :=
  (∀ a, (k0_off191 i v11969) a + S8x128.size a ≤ S2432x128.size a) ∧
  (∀ a, (k0_off193 i v11969) a + S8x128.size a ≤ S2432x128.size a)
theorem k0_off191_inb : ∀ (i : grid0.Coords) (v11969 : BitVec 32) (k0_hw95 : k0_chk95 i v11969), ∀ a, (k0_off191 i v11969) a + S8x128.size a ≤ S2432x128.size a := fun i v11969 k0_hw95 => k0_hw95.1
theorem k0_off193_inb : ∀ (i : grid0.Coords) (v11969 : BitVec 32) (k0_hw95 : k0_chk95 i v11969), ∀ a, (k0_off193 i v11969) a + S8x128.size a ≤ S2432x128.size a := fun i v11969 k0_hw95 => k0_hw95.2

def k0_off194 (i : grid0.Coords) (c0_i32_3620 : BitVec 32) : Fin 1 → Nat :=
  let arg0 : BitVec 32 := BitVec.ofNat 32 (i 0).val
  let c128_i32_3619 : BitVec 32 := 128#32
  let v12185 : BitVec 32 := Scalar.muli arg0 c128_i32_3619
  let c96_i32 : BitVec 32 := 96#32
  let v12186 : BitVec 32 := Scalar.addi v12185 c96_i32
  let v12187 : BitVec 32 := Scalar.addi v12186 c0_i32_3620
  let c2039_i32_3621 : BitVec 32 := 2039#32
  let v12188 : BitVec 32 := Scalar.minsi v12187 c2039_i32_3621
  let v12189 : Index := Scalar.indexCast v12188
  ![v12189.toNat]
def k0_off195 (i : grid0.Coords) (v12190 : BitVec 32) : Fin 2 → Nat :=
  let arg0 : BitVec 32 := BitVec.ofNat 32 (i 0).val
  let c128_i32_3619 : BitVec 32 := 128#32
  let v12185 : BitVec 32 := Scalar.muli arg0 c128_i32_3619
  let c96_i32 : BitVec 32 := 96#32
  let v12186 : BitVec 32 := Scalar.addi v12185 c96_i32
  let c0_i32_3620 : BitVec 32 := 0#32
  let v12187 : BitVec 32 := Scalar.addi v12186 c0_i32_3620
  let c2040_i32_3622 : BitVec 32 := 2040#32
  let v12191 : BitVec 1 := Scalar.cmpi .slt v12187 c2040_i32_3622
  let c256_i32_3623 : BitVec 32 := 256#32
  let v12192 : BitVec 32 := Scalar.select v12191 v12190 c256_i32_3623
  let c9_i32_3624 : BitVec 32 := 9#32
  let v12193 : BitVec 32 := Scalar.muli v12192 c9_i32_3624
  let v12213 : Index := Scalar.indexCast v12193
  let c0_3636 : Index := 0#32
  ![v12213.toNat, 0]

def k0_off196 (i : grid0.Coords) (v12199 : BitVec 32) : Fin 2 → Nat :=
  let arg0 : BitVec 32 := BitVec.ofNat 32 (i 0).val
  let c128_i32_3625 : BitVec 32 := 128#32
  let v12194 : BitVec 32 := Scalar.muli arg0 c128_i32_3625
  let c96_i32_3626 : BitVec 32 := 96#32
  let v12195 : BitVec 32 := Scalar.addi v12194 c96_i32_3626
  let c1_i32_3627 : BitVec 32 := 1#32
  let v12196 : BitVec 32 := Scalar.addi v12195 c1_i32_3627
  let c2040_i32_3629 : BitVec 32 := 2040#32
  let v12200 : BitVec 1 := Scalar.cmpi .slt v12196 c2040_i32_3629
  let c256_i32_3630 : BitVec 32 := 256#32
  let v12201 : BitVec 32 := Scalar.select v12200 v12199 c256_i32_3630
  let c9_i32_3631 : BitVec 32 := 9#32
  let v12202 : BitVec 32 := Scalar.muli v12201 c9_i32_3631
  let v12224 : Index := Scalar.indexCast v12202
  let c0_3638 : Index := 0#32
  ![v12224.toNat, 0]

def k0_chk98 (i : grid0.Coords) (v12199 : BitVec 32) : Prop :=
  (∀ a, (k0_off196 i v12199) a + S8x128.size a ≤ S2432x128.size a)
theorem k0_off196_inb : ∀ (i : grid0.Coords) (v12199 : BitVec 32) (k0_hw98 : k0_chk98 i v12199), ∀ a, (k0_off196 i v12199) a + S8x128.size a ≤ S2432x128.size a := fun i v12199 k0_hw98 => k0_hw98

def k0_off197 (i : grid0.Coords) (v12190 : BitVec 32) : Fin 2 → Nat :=
  let arg0 : BitVec 32 := BitVec.ofNat 32 (i 0).val
  let c128_i32_3619 : BitVec 32 := 128#32
  let v12185 : BitVec 32 := Scalar.muli arg0 c128_i32_3619
  let c96_i32 : BitVec 32 := 96#32
  let v12186 : BitVec 32 := Scalar.addi v12185 c96_i32
  let c0_i32_3620 : BitVec 32 := 0#32
  let v12187 : BitVec 32 := Scalar.addi v12186 c0_i32_3620
  let c2040_i32_3622 : BitVec 32 := 2040#32
  let v12191 : BitVec 1 := Scalar.cmpi .slt v12187 c2040_i32_3622
  let c256_i32_3623 : BitVec 32 := 256#32
  let v12192 : BitVec 32 := Scalar.select v12191 v12190 c256_i32_3623
  let c9_i32_3624 : BitVec 32 := 9#32
  let v12193 : BitVec 32 := Scalar.muli v12192 c9_i32_3624
  let v12242 : Index := Scalar.indexCast v12193
  let c0_3644 : Index := 0#32
  ![v12242.toNat, 0]

def k0_chk97 (i : grid0.Coords) (v12190 : BitVec 32) : Prop :=
  (∀ a, (k0_off195 i v12190) a + S8x128.size a ≤ S2432x128.size a) ∧
  (∀ a, (k0_off197 i v12190) a + S8x128.size a ≤ S2432x128.size a)
theorem k0_off195_inb : ∀ (i : grid0.Coords) (v12190 : BitVec 32) (k0_hw97 : k0_chk97 i v12190), ∀ a, (k0_off195 i v12190) a + S8x128.size a ≤ S2432x128.size a := fun i v12190 k0_hw97 => k0_hw97.1
theorem k0_off197_inb : ∀ (i : grid0.Coords) (v12190 : BitVec 32) (k0_hw97 : k0_chk97 i v12190), ∀ a, (k0_off197 i v12190) a + S8x128.size a ≤ S2432x128.size a := fun i v12190 k0_hw97 => k0_hw97.2

def k0_off198 (i : grid0.Coords) (c0_i32_3689 : BitVec 32) : Fin 1 → Nat :=
  let arg0 : BitVec 32 := BitVec.ofNat 32 (i 0).val
  let c128_i32_3688 : BitVec 32 := 128#32
  let v12406 : BitVec 32 := Scalar.muli arg0 c128_i32_3688
  let c98_i32 : BitVec 32 := 98#32
  let v12407 : BitVec 32 := Scalar.addi v12406 c98_i32
  let v12408 : BitVec 32 := Scalar.addi v12407 c0_i32_3689
  let c2039_i32_3690 : BitVec 32 := 2039#32
  let v12409 : BitVec 32 := Scalar.minsi v12408 c2039_i32_3690
  let v12410 : Index := Scalar.indexCast v12409
  ![v12410.toNat]
def k0_off199 (i : grid0.Coords) (v12411 : BitVec 32) : Fin 2 → Nat :=
  let arg0 : BitVec 32 := BitVec.ofNat 32 (i 0).val
  let c128_i32_3688 : BitVec 32 := 128#32
  let v12406 : BitVec 32 := Scalar.muli arg0 c128_i32_3688
  let c98_i32 : BitVec 32 := 98#32
  let v12407 : BitVec 32 := Scalar.addi v12406 c98_i32
  let c0_i32_3689 : BitVec 32 := 0#32
  let v12408 : BitVec 32 := Scalar.addi v12407 c0_i32_3689
  let c2040_i32_3691 : BitVec 32 := 2040#32
  let v12412 : BitVec 1 := Scalar.cmpi .slt v12408 c2040_i32_3691
  let c256_i32_3692 : BitVec 32 := 256#32
  let v12413 : BitVec 32 := Scalar.select v12412 v12411 c256_i32_3692
  let c9_i32_3693 : BitVec 32 := 9#32
  let v12414 : BitVec 32 := Scalar.muli v12413 c9_i32_3693
  let v12434 : Index := Scalar.indexCast v12414
  let c0_3704 : Index := 0#32
  ![v12434.toNat, 0]

def k0_off200 (i : grid0.Coords) (v12420 : BitVec 32) : Fin 2 → Nat :=
  let arg0 : BitVec 32 := BitVec.ofNat 32 (i 0).val
  let c128_i32_3694 : BitVec 32 := 128#32
  let v12415 : BitVec 32 := Scalar.muli arg0 c128_i32_3694
  let c98_i32_3695 : BitVec 32 := 98#32
  let v12416 : BitVec 32 := Scalar.addi v12415 c98_i32_3695
  let c1_i32_3696 : BitVec 32 := 1#32
  let v12417 : BitVec 32 := Scalar.addi v12416 c1_i32_3696
  let c2040_i32_3698 : BitVec 32 := 2040#32
  let v12421 : BitVec 1 := Scalar.cmpi .slt v12417 c2040_i32_3698
  let c256_i32_3699 : BitVec 32 := 256#32
  let v12422 : BitVec 32 := Scalar.select v12421 v12420 c256_i32_3699
  let c9_i32_3700 : BitVec 32 := 9#32
  let v12423 : BitVec 32 := Scalar.muli v12422 c9_i32_3700
  let v12445 : Index := Scalar.indexCast v12423
  let c0_3706 : Index := 0#32
  ![v12445.toNat, 0]

def k0_chk100 (i : grid0.Coords) (v12420 : BitVec 32) : Prop :=
  (∀ a, (k0_off200 i v12420) a + S8x128.size a ≤ S2432x128.size a)
theorem k0_off200_inb : ∀ (i : grid0.Coords) (v12420 : BitVec 32) (k0_hw100 : k0_chk100 i v12420), ∀ a, (k0_off200 i v12420) a + S8x128.size a ≤ S2432x128.size a := fun i v12420 k0_hw100 => k0_hw100

def k0_off201 (i : grid0.Coords) (v12411 : BitVec 32) : Fin 2 → Nat :=
  let arg0 : BitVec 32 := BitVec.ofNat 32 (i 0).val
  let c128_i32_3688 : BitVec 32 := 128#32
  let v12406 : BitVec 32 := Scalar.muli arg0 c128_i32_3688
  let c98_i32 : BitVec 32 := 98#32
  let v12407 : BitVec 32 := Scalar.addi v12406 c98_i32
  let c0_i32_3689 : BitVec 32 := 0#32
  let v12408 : BitVec 32 := Scalar.addi v12407 c0_i32_3689
  let c2040_i32_3691 : BitVec 32 := 2040#32
  let v12412 : BitVec 1 := Scalar.cmpi .slt v12408 c2040_i32_3691
  let c256_i32_3692 : BitVec 32 := 256#32
  let v12413 : BitVec 32 := Scalar.select v12412 v12411 c256_i32_3692
  let c9_i32_3693 : BitVec 32 := 9#32
  let v12414 : BitVec 32 := Scalar.muli v12413 c9_i32_3693
  let v12463 : Index := Scalar.indexCast v12414
  let c0_3711 : Index := 0#32
  ![v12463.toNat, 0]

def k0_chk99 (i : grid0.Coords) (v12411 : BitVec 32) : Prop :=
  (∀ a, (k0_off199 i v12411) a + S8x128.size a ≤ S2432x128.size a) ∧
  (∀ a, (k0_off201 i v12411) a + S8x128.size a ≤ S2432x128.size a)
theorem k0_off199_inb : ∀ (i : grid0.Coords) (v12411 : BitVec 32) (k0_hw99 : k0_chk99 i v12411), ∀ a, (k0_off199 i v12411) a + S8x128.size a ≤ S2432x128.size a := fun i v12411 k0_hw99 => k0_hw99.1
theorem k0_off201_inb : ∀ (i : grid0.Coords) (v12411 : BitVec 32) (k0_hw99 : k0_chk99 i v12411), ∀ a, (k0_off201 i v12411) a + S8x128.size a ≤ S2432x128.size a := fun i v12411 k0_hw99 => k0_hw99.2

def k0_off202 (i : grid0.Coords) (c0_i32_3751 : BitVec 32) : Fin 1 → Nat :=
  let arg0 : BitVec 32 := BitVec.ofNat 32 (i 0).val
  let c128_i32_3750 : BitVec 32 := 128#32
  let v12627 : BitVec 32 := Scalar.muli arg0 c128_i32_3750
  let c100_i32 : BitVec 32 := 100#32
  let v12628 : BitVec 32 := Scalar.addi v12627 c100_i32
  let v12629 : BitVec 32 := Scalar.addi v12628 c0_i32_3751
  let c2039_i32_3752 : BitVec 32 := 2039#32
  let v12630 : BitVec 32 := Scalar.minsi v12629 c2039_i32_3752
  let v12631 : Index := Scalar.indexCast v12630
  ![v12631.toNat]
def k0_off203 (i : grid0.Coords) (v12632 : BitVec 32) : Fin 2 → Nat :=
  let arg0 : BitVec 32 := BitVec.ofNat 32 (i 0).val
  let c128_i32_3750 : BitVec 32 := 128#32
  let v12627 : BitVec 32 := Scalar.muli arg0 c128_i32_3750
  let c100_i32 : BitVec 32 := 100#32
  let v12628 : BitVec 32 := Scalar.addi v12627 c100_i32
  let c0_i32_3751 : BitVec 32 := 0#32
  let v12629 : BitVec 32 := Scalar.addi v12628 c0_i32_3751
  let c2040_i32_3753 : BitVec 32 := 2040#32
  let v12633 : BitVec 1 := Scalar.cmpi .slt v12629 c2040_i32_3753
  let c256_i32_3754 : BitVec 32 := 256#32
  let v12634 : BitVec 32 := Scalar.select v12633 v12632 c256_i32_3754
  let c9_i32_3755 : BitVec 32 := 9#32
  let v12635 : BitVec 32 := Scalar.muli v12634 c9_i32_3755
  let v12655 : Index := Scalar.indexCast v12635
  let c0_3766 : Index := 0#32
  ![v12655.toNat, 0]

def k0_off204 (i : grid0.Coords) (v12641 : BitVec 32) : Fin 2 → Nat :=
  let arg0 : BitVec 32 := BitVec.ofNat 32 (i 0).val
  let c128_i32_3756 : BitVec 32 := 128#32
  let v12636 : BitVec 32 := Scalar.muli arg0 c128_i32_3756
  let c100_i32_3757 : BitVec 32 := 100#32
  let v12637 : BitVec 32 := Scalar.addi v12636 c100_i32_3757
  let c1_i32_3758 : BitVec 32 := 1#32
  let v12638 : BitVec 32 := Scalar.addi v12637 c1_i32_3758
  let c2040_i32_3760 : BitVec 32 := 2040#32
  let v12642 : BitVec 1 := Scalar.cmpi .slt v12638 c2040_i32_3760
  let c256_i32_3761 : BitVec 32 := 256#32
  let v12643 : BitVec 32 := Scalar.select v12642 v12641 c256_i32_3761
  let c9_i32_3762 : BitVec 32 := 9#32
  let v12644 : BitVec 32 := Scalar.muli v12643 c9_i32_3762
  let v12666 : Index := Scalar.indexCast v12644
  let c0_3768 : Index := 0#32
  ![v12666.toNat, 0]

def k0_chk102 (i : grid0.Coords) (v12641 : BitVec 32) : Prop :=
  (∀ a, (k0_off204 i v12641) a + S8x128.size a ≤ S2432x128.size a)
theorem k0_off204_inb : ∀ (i : grid0.Coords) (v12641 : BitVec 32) (k0_hw102 : k0_chk102 i v12641), ∀ a, (k0_off204 i v12641) a + S8x128.size a ≤ S2432x128.size a := fun i v12641 k0_hw102 => k0_hw102

def k0_off205 (i : grid0.Coords) (v12632 : BitVec 32) : Fin 2 → Nat :=
  let arg0 : BitVec 32 := BitVec.ofNat 32 (i 0).val
  let c128_i32_3750 : BitVec 32 := 128#32
  let v12627 : BitVec 32 := Scalar.muli arg0 c128_i32_3750
  let c100_i32 : BitVec 32 := 100#32
  let v12628 : BitVec 32 := Scalar.addi v12627 c100_i32
  let c0_i32_3751 : BitVec 32 := 0#32
  let v12629 : BitVec 32 := Scalar.addi v12628 c0_i32_3751
  let c2040_i32_3753 : BitVec 32 := 2040#32
  let v12633 : BitVec 1 := Scalar.cmpi .slt v12629 c2040_i32_3753
  let c256_i32_3754 : BitVec 32 := 256#32
  let v12634 : BitVec 32 := Scalar.select v12633 v12632 c256_i32_3754
  let c9_i32_3755 : BitVec 32 := 9#32
  let v12635 : BitVec 32 := Scalar.muli v12634 c9_i32_3755
  let v12684 : Index := Scalar.indexCast v12635
  let c0_3773 : Index := 0#32
  ![v12684.toNat, 0]

def k0_chk101 (i : grid0.Coords) (v12632 : BitVec 32) : Prop :=
  (∀ a, (k0_off203 i v12632) a + S8x128.size a ≤ S2432x128.size a) ∧
  (∀ a, (k0_off205 i v12632) a + S8x128.size a ≤ S2432x128.size a)
theorem k0_off203_inb : ∀ (i : grid0.Coords) (v12632 : BitVec 32) (k0_hw101 : k0_chk101 i v12632), ∀ a, (k0_off203 i v12632) a + S8x128.size a ≤ S2432x128.size a := fun i v12632 k0_hw101 => k0_hw101.1
theorem k0_off205_inb : ∀ (i : grid0.Coords) (v12632 : BitVec 32) (k0_hw101 : k0_chk101 i v12632), ∀ a, (k0_off205 i v12632) a + S8x128.size a ≤ S2432x128.size a := fun i v12632 k0_hw101 => k0_hw101.2

def k0_off206 (i : grid0.Coords) (c0_i32_3813 : BitVec 32) : Fin 1 → Nat :=
  let arg0 : BitVec 32 := BitVec.ofNat 32 (i 0).val
  let c128_i32_3812 : BitVec 32 := 128#32
  let v12848 : BitVec 32 := Scalar.muli arg0 c128_i32_3812
  let c102_i32 : BitVec 32 := 102#32
  let v12849 : BitVec 32 := Scalar.addi v12848 c102_i32
  let v12850 : BitVec 32 := Scalar.addi v12849 c0_i32_3813
  let c2039_i32_3814 : BitVec 32 := 2039#32
  let v12851 : BitVec 32 := Scalar.minsi v12850 c2039_i32_3814
  let v12852 : Index := Scalar.indexCast v12851
  ![v12852.toNat]
def k0_off207 (i : grid0.Coords) (v12853 : BitVec 32) : Fin 2 → Nat :=
  let arg0 : BitVec 32 := BitVec.ofNat 32 (i 0).val
  let c128_i32_3812 : BitVec 32 := 128#32
  let v12848 : BitVec 32 := Scalar.muli arg0 c128_i32_3812
  let c102_i32 : BitVec 32 := 102#32
  let v12849 : BitVec 32 := Scalar.addi v12848 c102_i32
  let c0_i32_3813 : BitVec 32 := 0#32
  let v12850 : BitVec 32 := Scalar.addi v12849 c0_i32_3813
  let c2040_i32_3815 : BitVec 32 := 2040#32
  let v12854 : BitVec 1 := Scalar.cmpi .slt v12850 c2040_i32_3815
  let c256_i32_3816 : BitVec 32 := 256#32
  let v12855 : BitVec 32 := Scalar.select v12854 v12853 c256_i32_3816
  let c9_i32_3817 : BitVec 32 := 9#32
  let v12856 : BitVec 32 := Scalar.muli v12855 c9_i32_3817
  let v12876 : Index := Scalar.indexCast v12856
  let c0_3828 : Index := 0#32
  ![v12876.toNat, 0]

def k0_off208 (i : grid0.Coords) (v12862 : BitVec 32) : Fin 2 → Nat :=
  let arg0 : BitVec 32 := BitVec.ofNat 32 (i 0).val
  let c128_i32_3818 : BitVec 32 := 128#32
  let v12857 : BitVec 32 := Scalar.muli arg0 c128_i32_3818
  let c102_i32_3819 : BitVec 32 := 102#32
  let v12858 : BitVec 32 := Scalar.addi v12857 c102_i32_3819
  let c1_i32_3820 : BitVec 32 := 1#32
  let v12859 : BitVec 32 := Scalar.addi v12858 c1_i32_3820
  let c2040_i32_3822 : BitVec 32 := 2040#32
  let v12863 : BitVec 1 := Scalar.cmpi .slt v12859 c2040_i32_3822
  let c256_i32_3823 : BitVec 32 := 256#32
  let v12864 : BitVec 32 := Scalar.select v12863 v12862 c256_i32_3823
  let c9_i32_3824 : BitVec 32 := 9#32
  let v12865 : BitVec 32 := Scalar.muli v12864 c9_i32_3824
  let v12887 : Index := Scalar.indexCast v12865
  let c0_3830 : Index := 0#32
  ![v12887.toNat, 0]

def k0_chk104 (i : grid0.Coords) (v12862 : BitVec 32) : Prop :=
  (∀ a, (k0_off208 i v12862) a + S8x128.size a ≤ S2432x128.size a)
theorem k0_off208_inb : ∀ (i : grid0.Coords) (v12862 : BitVec 32) (k0_hw104 : k0_chk104 i v12862), ∀ a, (k0_off208 i v12862) a + S8x128.size a ≤ S2432x128.size a := fun i v12862 k0_hw104 => k0_hw104

def k0_off209 (i : grid0.Coords) (v12853 : BitVec 32) : Fin 2 → Nat :=
  let arg0 : BitVec 32 := BitVec.ofNat 32 (i 0).val
  let c128_i32_3812 : BitVec 32 := 128#32
  let v12848 : BitVec 32 := Scalar.muli arg0 c128_i32_3812
  let c102_i32 : BitVec 32 := 102#32
  let v12849 : BitVec 32 := Scalar.addi v12848 c102_i32
  let c0_i32_3813 : BitVec 32 := 0#32
  let v12850 : BitVec 32 := Scalar.addi v12849 c0_i32_3813
  let c2040_i32_3815 : BitVec 32 := 2040#32
  let v12854 : BitVec 1 := Scalar.cmpi .slt v12850 c2040_i32_3815
  let c256_i32_3816 : BitVec 32 := 256#32
  let v12855 : BitVec 32 := Scalar.select v12854 v12853 c256_i32_3816
  let c9_i32_3817 : BitVec 32 := 9#32
  let v12856 : BitVec 32 := Scalar.muli v12855 c9_i32_3817
  let v12905 : Index := Scalar.indexCast v12856
  let c0_3835 : Index := 0#32
  ![v12905.toNat, 0]

def k0_chk103 (i : grid0.Coords) (v12853 : BitVec 32) : Prop :=
  (∀ a, (k0_off207 i v12853) a + S8x128.size a ≤ S2432x128.size a) ∧
  (∀ a, (k0_off209 i v12853) a + S8x128.size a ≤ S2432x128.size a)
theorem k0_off207_inb : ∀ (i : grid0.Coords) (v12853 : BitVec 32) (k0_hw103 : k0_chk103 i v12853), ∀ a, (k0_off207 i v12853) a + S8x128.size a ≤ S2432x128.size a := fun i v12853 k0_hw103 => k0_hw103.1
theorem k0_off209_inb : ∀ (i : grid0.Coords) (v12853 : BitVec 32) (k0_hw103 : k0_chk103 i v12853), ∀ a, (k0_off209 i v12853) a + S8x128.size a ≤ S2432x128.size a := fun i v12853 k0_hw103 => k0_hw103.2

def k0_off210 (i : grid0.Coords) (c0_i32_3875 : BitVec 32) : Fin 1 → Nat :=
  let arg0 : BitVec 32 := BitVec.ofNat 32 (i 0).val
  let c128_i32_3874 : BitVec 32 := 128#32
  let v13069 : BitVec 32 := Scalar.muli arg0 c128_i32_3874
  let c104_i32 : BitVec 32 := 104#32
  let v13070 : BitVec 32 := Scalar.addi v13069 c104_i32
  let v13071 : BitVec 32 := Scalar.addi v13070 c0_i32_3875
  let c2039_i32_3876 : BitVec 32 := 2039#32
  let v13072 : BitVec 32 := Scalar.minsi v13071 c2039_i32_3876
  let v13073 : Index := Scalar.indexCast v13072
  ![v13073.toNat]
def k0_off211 (i : grid0.Coords) (v13074 : BitVec 32) : Fin 2 → Nat :=
  let arg0 : BitVec 32 := BitVec.ofNat 32 (i 0).val
  let c128_i32_3874 : BitVec 32 := 128#32
  let v13069 : BitVec 32 := Scalar.muli arg0 c128_i32_3874
  let c104_i32 : BitVec 32 := 104#32
  let v13070 : BitVec 32 := Scalar.addi v13069 c104_i32
  let c0_i32_3875 : BitVec 32 := 0#32
  let v13071 : BitVec 32 := Scalar.addi v13070 c0_i32_3875
  let c2040_i32_3877 : BitVec 32 := 2040#32
  let v13075 : BitVec 1 := Scalar.cmpi .slt v13071 c2040_i32_3877
  let c256_i32_3878 : BitVec 32 := 256#32
  let v13076 : BitVec 32 := Scalar.select v13075 v13074 c256_i32_3878
  let c9_i32_3879 : BitVec 32 := 9#32
  let v13077 : BitVec 32 := Scalar.muli v13076 c9_i32_3879
  let v13097 : Index := Scalar.indexCast v13077
  let c0_3891 : Index := 0#32
  ![v13097.toNat, 0]

def k0_off212 (i : grid0.Coords) (v13083 : BitVec 32) : Fin 2 → Nat :=
  let arg0 : BitVec 32 := BitVec.ofNat 32 (i 0).val
  let c128_i32_3880 : BitVec 32 := 128#32
  let v13078 : BitVec 32 := Scalar.muli arg0 c128_i32_3880
  let c104_i32_3881 : BitVec 32 := 104#32
  let v13079 : BitVec 32 := Scalar.addi v13078 c104_i32_3881
  let c1_i32_3882 : BitVec 32 := 1#32
  let v13080 : BitVec 32 := Scalar.addi v13079 c1_i32_3882
  let c2040_i32_3884 : BitVec 32 := 2040#32
  let v13084 : BitVec 1 := Scalar.cmpi .slt v13080 c2040_i32_3884
  let c256_i32_3885 : BitVec 32 := 256#32
  let v13085 : BitVec 32 := Scalar.select v13084 v13083 c256_i32_3885
  let c9_i32_3886 : BitVec 32 := 9#32
  let v13086 : BitVec 32 := Scalar.muli v13085 c9_i32_3886
  let v13108 : Index := Scalar.indexCast v13086
  let c0_3893 : Index := 0#32
  ![v13108.toNat, 0]

def k0_chk106 (i : grid0.Coords) (v13083 : BitVec 32) : Prop :=
  (∀ a, (k0_off212 i v13083) a + S8x128.size a ≤ S2432x128.size a)
theorem k0_off212_inb : ∀ (i : grid0.Coords) (v13083 : BitVec 32) (k0_hw106 : k0_chk106 i v13083), ∀ a, (k0_off212 i v13083) a + S8x128.size a ≤ S2432x128.size a := fun i v13083 k0_hw106 => k0_hw106

def k0_off213 (i : grid0.Coords) (v13074 : BitVec 32) : Fin 2 → Nat :=
  let arg0 : BitVec 32 := BitVec.ofNat 32 (i 0).val
  let c128_i32_3874 : BitVec 32 := 128#32
  let v13069 : BitVec 32 := Scalar.muli arg0 c128_i32_3874
  let c104_i32 : BitVec 32 := 104#32
  let v13070 : BitVec 32 := Scalar.addi v13069 c104_i32
  let c0_i32_3875 : BitVec 32 := 0#32
  let v13071 : BitVec 32 := Scalar.addi v13070 c0_i32_3875
  let c2040_i32_3877 : BitVec 32 := 2040#32
  let v13075 : BitVec 1 := Scalar.cmpi .slt v13071 c2040_i32_3877
  let c256_i32_3878 : BitVec 32 := 256#32
  let v13076 : BitVec 32 := Scalar.select v13075 v13074 c256_i32_3878
  let c9_i32_3879 : BitVec 32 := 9#32
  let v13077 : BitVec 32 := Scalar.muli v13076 c9_i32_3879
  let v13126 : Index := Scalar.indexCast v13077
  let c0_3899 : Index := 0#32
  ![v13126.toNat, 0]

def k0_chk105 (i : grid0.Coords) (v13074 : BitVec 32) : Prop :=
  (∀ a, (k0_off211 i v13074) a + S8x128.size a ≤ S2432x128.size a) ∧
  (∀ a, (k0_off213 i v13074) a + S8x128.size a ≤ S2432x128.size a)
theorem k0_off211_inb : ∀ (i : grid0.Coords) (v13074 : BitVec 32) (k0_hw105 : k0_chk105 i v13074), ∀ a, (k0_off211 i v13074) a + S8x128.size a ≤ S2432x128.size a := fun i v13074 k0_hw105 => k0_hw105.1
theorem k0_off213_inb : ∀ (i : grid0.Coords) (v13074 : BitVec 32) (k0_hw105 : k0_chk105 i v13074), ∀ a, (k0_off213 i v13074) a + S8x128.size a ≤ S2432x128.size a := fun i v13074 k0_hw105 => k0_hw105.2

def k0_off214 (i : grid0.Coords) (c0_i32_3944 : BitVec 32) : Fin 1 → Nat :=
  let arg0 : BitVec 32 := BitVec.ofNat 32 (i 0).val
  let c128_i32_3943 : BitVec 32 := 128#32
  let v13290 : BitVec 32 := Scalar.muli arg0 c128_i32_3943
  let c106_i32 : BitVec 32 := 106#32
  let v13291 : BitVec 32 := Scalar.addi v13290 c106_i32
  let v13292 : BitVec 32 := Scalar.addi v13291 c0_i32_3944
  let c2039_i32_3945 : BitVec 32 := 2039#32
  let v13293 : BitVec 32 := Scalar.minsi v13292 c2039_i32_3945
  let v13294 : Index := Scalar.indexCast v13293
  ![v13294.toNat]
def k0_off215 (i : grid0.Coords) (v13295 : BitVec 32) : Fin 2 → Nat :=
  let arg0 : BitVec 32 := BitVec.ofNat 32 (i 0).val
  let c128_i32_3943 : BitVec 32 := 128#32
  let v13290 : BitVec 32 := Scalar.muli arg0 c128_i32_3943
  let c106_i32 : BitVec 32 := 106#32
  let v13291 : BitVec 32 := Scalar.addi v13290 c106_i32
  let c0_i32_3944 : BitVec 32 := 0#32
  let v13292 : BitVec 32 := Scalar.addi v13291 c0_i32_3944
  let c2040_i32_3946 : BitVec 32 := 2040#32
  let v13296 : BitVec 1 := Scalar.cmpi .slt v13292 c2040_i32_3946
  let c256_i32_3947 : BitVec 32 := 256#32
  let v13297 : BitVec 32 := Scalar.select v13296 v13295 c256_i32_3947
  let c9_i32_3948 : BitVec 32 := 9#32
  let v13298 : BitVec 32 := Scalar.muli v13297 c9_i32_3948
  let v13318 : Index := Scalar.indexCast v13298
  let c0_3959 : Index := 0#32
  ![v13318.toNat, 0]

def k0_off216 (i : grid0.Coords) (v13304 : BitVec 32) : Fin 2 → Nat :=
  let arg0 : BitVec 32 := BitVec.ofNat 32 (i 0).val
  let c128_i32_3949 : BitVec 32 := 128#32
  let v13299 : BitVec 32 := Scalar.muli arg0 c128_i32_3949
  let c106_i32_3950 : BitVec 32 := 106#32
  let v13300 : BitVec 32 := Scalar.addi v13299 c106_i32_3950
  let c1_i32_3951 : BitVec 32 := 1#32
  let v13301 : BitVec 32 := Scalar.addi v13300 c1_i32_3951
  let c2040_i32_3953 : BitVec 32 := 2040#32
  let v13305 : BitVec 1 := Scalar.cmpi .slt v13301 c2040_i32_3953
  let c256_i32_3954 : BitVec 32 := 256#32
  let v13306 : BitVec 32 := Scalar.select v13305 v13304 c256_i32_3954
  let c9_i32_3955 : BitVec 32 := 9#32
  let v13307 : BitVec 32 := Scalar.muli v13306 c9_i32_3955
  let v13329 : Index := Scalar.indexCast v13307
  let c0_3961 : Index := 0#32
  ![v13329.toNat, 0]

def k0_chk108 (i : grid0.Coords) (v13304 : BitVec 32) : Prop :=
  (∀ a, (k0_off216 i v13304) a + S8x128.size a ≤ S2432x128.size a)
theorem k0_off216_inb : ∀ (i : grid0.Coords) (v13304 : BitVec 32) (k0_hw108 : k0_chk108 i v13304), ∀ a, (k0_off216 i v13304) a + S8x128.size a ≤ S2432x128.size a := fun i v13304 k0_hw108 => k0_hw108

def k0_off217 (i : grid0.Coords) (v13295 : BitVec 32) : Fin 2 → Nat :=
  let arg0 : BitVec 32 := BitVec.ofNat 32 (i 0).val
  let c128_i32_3943 : BitVec 32 := 128#32
  let v13290 : BitVec 32 := Scalar.muli arg0 c128_i32_3943
  let c106_i32 : BitVec 32 := 106#32
  let v13291 : BitVec 32 := Scalar.addi v13290 c106_i32
  let c0_i32_3944 : BitVec 32 := 0#32
  let v13292 : BitVec 32 := Scalar.addi v13291 c0_i32_3944
  let c2040_i32_3946 : BitVec 32 := 2040#32
  let v13296 : BitVec 1 := Scalar.cmpi .slt v13292 c2040_i32_3946
  let c256_i32_3947 : BitVec 32 := 256#32
  let v13297 : BitVec 32 := Scalar.select v13296 v13295 c256_i32_3947
  let c9_i32_3948 : BitVec 32 := 9#32
  let v13298 : BitVec 32 := Scalar.muli v13297 c9_i32_3948
  let v13347 : Index := Scalar.indexCast v13298
  let c0_3966 : Index := 0#32
  ![v13347.toNat, 0]

def k0_chk107 (i : grid0.Coords) (v13295 : BitVec 32) : Prop :=
  (∀ a, (k0_off215 i v13295) a + S8x128.size a ≤ S2432x128.size a) ∧
  (∀ a, (k0_off217 i v13295) a + S8x128.size a ≤ S2432x128.size a)
theorem k0_off215_inb : ∀ (i : grid0.Coords) (v13295 : BitVec 32) (k0_hw107 : k0_chk107 i v13295), ∀ a, (k0_off215 i v13295) a + S8x128.size a ≤ S2432x128.size a := fun i v13295 k0_hw107 => k0_hw107.1
theorem k0_off217_inb : ∀ (i : grid0.Coords) (v13295 : BitVec 32) (k0_hw107 : k0_chk107 i v13295), ∀ a, (k0_off217 i v13295) a + S8x128.size a ≤ S2432x128.size a := fun i v13295 k0_hw107 => k0_hw107.2

def k0_off218 (i : grid0.Coords) (c0_i32_4006 : BitVec 32) : Fin 1 → Nat :=
  let arg0 : BitVec 32 := BitVec.ofNat 32 (i 0).val
  let c128_i32_4005 : BitVec 32 := 128#32
  let v13511 : BitVec 32 := Scalar.muli arg0 c128_i32_4005
  let c108_i32 : BitVec 32 := 108#32
  let v13512 : BitVec 32 := Scalar.addi v13511 c108_i32
  let v13513 : BitVec 32 := Scalar.addi v13512 c0_i32_4006
  let c2039_i32_4007 : BitVec 32 := 2039#32
  let v13514 : BitVec 32 := Scalar.minsi v13513 c2039_i32_4007
  let v13515 : Index := Scalar.indexCast v13514
  ![v13515.toNat]
def k0_off219 (i : grid0.Coords) (v13516 : BitVec 32) : Fin 2 → Nat :=
  let arg0 : BitVec 32 := BitVec.ofNat 32 (i 0).val
  let c128_i32_4005 : BitVec 32 := 128#32
  let v13511 : BitVec 32 := Scalar.muli arg0 c128_i32_4005
  let c108_i32 : BitVec 32 := 108#32
  let v13512 : BitVec 32 := Scalar.addi v13511 c108_i32
  let c0_i32_4006 : BitVec 32 := 0#32
  let v13513 : BitVec 32 := Scalar.addi v13512 c0_i32_4006
  let c2040_i32_4008 : BitVec 32 := 2040#32
  let v13517 : BitVec 1 := Scalar.cmpi .slt v13513 c2040_i32_4008
  let c256_i32_4009 : BitVec 32 := 256#32
  let v13518 : BitVec 32 := Scalar.select v13517 v13516 c256_i32_4009
  let c9_i32_4010 : BitVec 32 := 9#32
  let v13519 : BitVec 32 := Scalar.muli v13518 c9_i32_4010
  let v13539 : Index := Scalar.indexCast v13519
  let c0_4021 : Index := 0#32
  ![v13539.toNat, 0]

def k0_off220 (i : grid0.Coords) (v13525 : BitVec 32) : Fin 2 → Nat :=
  let arg0 : BitVec 32 := BitVec.ofNat 32 (i 0).val
  let c128_i32_4011 : BitVec 32 := 128#32
  let v13520 : BitVec 32 := Scalar.muli arg0 c128_i32_4011
  let c108_i32_4012 : BitVec 32 := 108#32
  let v13521 : BitVec 32 := Scalar.addi v13520 c108_i32_4012
  let c1_i32_4013 : BitVec 32 := 1#32
  let v13522 : BitVec 32 := Scalar.addi v13521 c1_i32_4013
  let c2040_i32_4015 : BitVec 32 := 2040#32
  let v13526 : BitVec 1 := Scalar.cmpi .slt v13522 c2040_i32_4015
  let c256_i32_4016 : BitVec 32 := 256#32
  let v13527 : BitVec 32 := Scalar.select v13526 v13525 c256_i32_4016
  let c9_i32_4017 : BitVec 32 := 9#32
  let v13528 : BitVec 32 := Scalar.muli v13527 c9_i32_4017
  let v13550 : Index := Scalar.indexCast v13528
  let c0_4023 : Index := 0#32
  ![v13550.toNat, 0]

def k0_chk110 (i : grid0.Coords) (v13525 : BitVec 32) : Prop :=
  (∀ a, (k0_off220 i v13525) a + S8x128.size a ≤ S2432x128.size a)
theorem k0_off220_inb : ∀ (i : grid0.Coords) (v13525 : BitVec 32) (k0_hw110 : k0_chk110 i v13525), ∀ a, (k0_off220 i v13525) a + S8x128.size a ≤ S2432x128.size a := fun i v13525 k0_hw110 => k0_hw110

def k0_off221 (i : grid0.Coords) (v13516 : BitVec 32) : Fin 2 → Nat :=
  let arg0 : BitVec 32 := BitVec.ofNat 32 (i 0).val
  let c128_i32_4005 : BitVec 32 := 128#32
  let v13511 : BitVec 32 := Scalar.muli arg0 c128_i32_4005
  let c108_i32 : BitVec 32 := 108#32
  let v13512 : BitVec 32 := Scalar.addi v13511 c108_i32
  let c0_i32_4006 : BitVec 32 := 0#32
  let v13513 : BitVec 32 := Scalar.addi v13512 c0_i32_4006
  let c2040_i32_4008 : BitVec 32 := 2040#32
  let v13517 : BitVec 1 := Scalar.cmpi .slt v13513 c2040_i32_4008
  let c256_i32_4009 : BitVec 32 := 256#32
  let v13518 : BitVec 32 := Scalar.select v13517 v13516 c256_i32_4009
  let c9_i32_4010 : BitVec 32 := 9#32
  let v13519 : BitVec 32 := Scalar.muli v13518 c9_i32_4010
  let v13568 : Index := Scalar.indexCast v13519
  let c0_4028 : Index := 0#32
  ![v13568.toNat, 0]

def k0_chk109 (i : grid0.Coords) (v13516 : BitVec 32) : Prop :=
  (∀ a, (k0_off219 i v13516) a + S8x128.size a ≤ S2432x128.size a) ∧
  (∀ a, (k0_off221 i v13516) a + S8x128.size a ≤ S2432x128.size a)
theorem k0_off219_inb : ∀ (i : grid0.Coords) (v13516 : BitVec 32) (k0_hw109 : k0_chk109 i v13516), ∀ a, (k0_off219 i v13516) a + S8x128.size a ≤ S2432x128.size a := fun i v13516 k0_hw109 => k0_hw109.1
theorem k0_off221_inb : ∀ (i : grid0.Coords) (v13516 : BitVec 32) (k0_hw109 : k0_chk109 i v13516), ∀ a, (k0_off221 i v13516) a + S8x128.size a ≤ S2432x128.size a := fun i v13516 k0_hw109 => k0_hw109.2

def k0_off222 (i : grid0.Coords) (c0_i32_4068 : BitVec 32) : Fin 1 → Nat :=
  let arg0 : BitVec 32 := BitVec.ofNat 32 (i 0).val
  let c128_i32_4067 : BitVec 32 := 128#32
  let v13732 : BitVec 32 := Scalar.muli arg0 c128_i32_4067
  let c110_i32 : BitVec 32 := 110#32
  let v13733 : BitVec 32 := Scalar.addi v13732 c110_i32
  let v13734 : BitVec 32 := Scalar.addi v13733 c0_i32_4068
  let c2039_i32_4069 : BitVec 32 := 2039#32
  let v13735 : BitVec 32 := Scalar.minsi v13734 c2039_i32_4069
  let v13736 : Index := Scalar.indexCast v13735
  ![v13736.toNat]
def k0_off223 (i : grid0.Coords) (v13737 : BitVec 32) : Fin 2 → Nat :=
  let arg0 : BitVec 32 := BitVec.ofNat 32 (i 0).val
  let c128_i32_4067 : BitVec 32 := 128#32
  let v13732 : BitVec 32 := Scalar.muli arg0 c128_i32_4067
  let c110_i32 : BitVec 32 := 110#32
  let v13733 : BitVec 32 := Scalar.addi v13732 c110_i32
  let c0_i32_4068 : BitVec 32 := 0#32
  let v13734 : BitVec 32 := Scalar.addi v13733 c0_i32_4068
  let c2040_i32_4070 : BitVec 32 := 2040#32
  let v13738 : BitVec 1 := Scalar.cmpi .slt v13734 c2040_i32_4070
  let c256_i32_4071 : BitVec 32 := 256#32
  let v13739 : BitVec 32 := Scalar.select v13738 v13737 c256_i32_4071
  let c9_i32_4072 : BitVec 32 := 9#32
  let v13740 : BitVec 32 := Scalar.muli v13739 c9_i32_4072
  let v13760 : Index := Scalar.indexCast v13740
  let c0_4083 : Index := 0#32
  ![v13760.toNat, 0]

def k0_off224 (i : grid0.Coords) (v13746 : BitVec 32) : Fin 2 → Nat :=
  let arg0 : BitVec 32 := BitVec.ofNat 32 (i 0).val
  let c128_i32_4073 : BitVec 32 := 128#32
  let v13741 : BitVec 32 := Scalar.muli arg0 c128_i32_4073
  let c110_i32_4074 : BitVec 32 := 110#32
  let v13742 : BitVec 32 := Scalar.addi v13741 c110_i32_4074
  let c1_i32_4075 : BitVec 32 := 1#32
  let v13743 : BitVec 32 := Scalar.addi v13742 c1_i32_4075
  let c2040_i32_4077 : BitVec 32 := 2040#32
  let v13747 : BitVec 1 := Scalar.cmpi .slt v13743 c2040_i32_4077
  let c256_i32_4078 : BitVec 32 := 256#32
  let v13748 : BitVec 32 := Scalar.select v13747 v13746 c256_i32_4078
  let c9_i32_4079 : BitVec 32 := 9#32
  let v13749 : BitVec 32 := Scalar.muli v13748 c9_i32_4079
  let v13771 : Index := Scalar.indexCast v13749
  let c0_4085 : Index := 0#32
  ![v13771.toNat, 0]

def k0_chk112 (i : grid0.Coords) (v13746 : BitVec 32) : Prop :=
  (∀ a, (k0_off224 i v13746) a + S8x128.size a ≤ S2432x128.size a)
theorem k0_off224_inb : ∀ (i : grid0.Coords) (v13746 : BitVec 32) (k0_hw112 : k0_chk112 i v13746), ∀ a, (k0_off224 i v13746) a + S8x128.size a ≤ S2432x128.size a := fun i v13746 k0_hw112 => k0_hw112

def k0_off225 (i : grid0.Coords) (v13737 : BitVec 32) : Fin 2 → Nat :=
  let arg0 : BitVec 32 := BitVec.ofNat 32 (i 0).val
  let c128_i32_4067 : BitVec 32 := 128#32
  let v13732 : BitVec 32 := Scalar.muli arg0 c128_i32_4067
  let c110_i32 : BitVec 32 := 110#32
  let v13733 : BitVec 32 := Scalar.addi v13732 c110_i32
  let c0_i32_4068 : BitVec 32 := 0#32
  let v13734 : BitVec 32 := Scalar.addi v13733 c0_i32_4068
  let c2040_i32_4070 : BitVec 32 := 2040#32
  let v13738 : BitVec 1 := Scalar.cmpi .slt v13734 c2040_i32_4070
  let c256_i32_4071 : BitVec 32 := 256#32
  let v13739 : BitVec 32 := Scalar.select v13738 v13737 c256_i32_4071
  let c9_i32_4072 : BitVec 32 := 9#32
  let v13740 : BitVec 32 := Scalar.muli v13739 c9_i32_4072
  let v13789 : Index := Scalar.indexCast v13740
  let c0_4090 : Index := 0#32
  ![v13789.toNat, 0]

def k0_chk111 (i : grid0.Coords) (v13737 : BitVec 32) : Prop :=
  (∀ a, (k0_off223 i v13737) a + S8x128.size a ≤ S2432x128.size a) ∧
  (∀ a, (k0_off225 i v13737) a + S8x128.size a ≤ S2432x128.size a)
theorem k0_off223_inb : ∀ (i : grid0.Coords) (v13737 : BitVec 32) (k0_hw111 : k0_chk111 i v13737), ∀ a, (k0_off223 i v13737) a + S8x128.size a ≤ S2432x128.size a := fun i v13737 k0_hw111 => k0_hw111.1
theorem k0_off225_inb : ∀ (i : grid0.Coords) (v13737 : BitVec 32) (k0_hw111 : k0_chk111 i v13737), ∀ a, (k0_off225 i v13737) a + S8x128.size a ≤ S2432x128.size a := fun i v13737 k0_hw111 => k0_hw111.2

def k0_off226 (i : grid0.Coords) (c0_i32_4130 : BitVec 32) : Fin 1 → Nat :=
  let arg0 : BitVec 32 := BitVec.ofNat 32 (i 0).val
  let c128_i32_4129 : BitVec 32 := 128#32
  let v13953 : BitVec 32 := Scalar.muli arg0 c128_i32_4129
  let c112_i32 : BitVec 32 := 112#32
  let v13954 : BitVec 32 := Scalar.addi v13953 c112_i32
  let v13955 : BitVec 32 := Scalar.addi v13954 c0_i32_4130
  let c2039_i32_4131 : BitVec 32 := 2039#32
  let v13956 : BitVec 32 := Scalar.minsi v13955 c2039_i32_4131
  let v13957 : Index := Scalar.indexCast v13956
  ![v13957.toNat]
def k0_off227 (i : grid0.Coords) (v13958 : BitVec 32) : Fin 2 → Nat :=
  let arg0 : BitVec 32 := BitVec.ofNat 32 (i 0).val
  let c128_i32_4129 : BitVec 32 := 128#32
  let v13953 : BitVec 32 := Scalar.muli arg0 c128_i32_4129
  let c112_i32 : BitVec 32 := 112#32
  let v13954 : BitVec 32 := Scalar.addi v13953 c112_i32
  let c0_i32_4130 : BitVec 32 := 0#32
  let v13955 : BitVec 32 := Scalar.addi v13954 c0_i32_4130
  let c2040_i32_4132 : BitVec 32 := 2040#32
  let v13959 : BitVec 1 := Scalar.cmpi .slt v13955 c2040_i32_4132
  let c256_i32_4133 : BitVec 32 := 256#32
  let v13960 : BitVec 32 := Scalar.select v13959 v13958 c256_i32_4133
  let c9_i32_4134 : BitVec 32 := 9#32
  let v13961 : BitVec 32 := Scalar.muli v13960 c9_i32_4134
  let v13981 : Index := Scalar.indexCast v13961
  let c0_4146 : Index := 0#32
  ![v13981.toNat, 0]

def k0_off228 (i : grid0.Coords) (v13967 : BitVec 32) : Fin 2 → Nat :=
  let arg0 : BitVec 32 := BitVec.ofNat 32 (i 0).val
  let c128_i32_4135 : BitVec 32 := 128#32
  let v13962 : BitVec 32 := Scalar.muli arg0 c128_i32_4135
  let c112_i32_4136 : BitVec 32 := 112#32
  let v13963 : BitVec 32 := Scalar.addi v13962 c112_i32_4136
  let c1_i32_4137 : BitVec 32 := 1#32
  let v13964 : BitVec 32 := Scalar.addi v13963 c1_i32_4137
  let c2040_i32_4139 : BitVec 32 := 2040#32
  let v13968 : BitVec 1 := Scalar.cmpi .slt v13964 c2040_i32_4139
  let c256_i32_4140 : BitVec 32 := 256#32
  let v13969 : BitVec 32 := Scalar.select v13968 v13967 c256_i32_4140
  let c9_i32_4141 : BitVec 32 := 9#32
  let v13970 : BitVec 32 := Scalar.muli v13969 c9_i32_4141
  let v13992 : Index := Scalar.indexCast v13970
  let c0_4148 : Index := 0#32
  ![v13992.toNat, 0]

def k0_chk114 (i : grid0.Coords) (v13967 : BitVec 32) : Prop :=
  (∀ a, (k0_off228 i v13967) a + S8x128.size a ≤ S2432x128.size a)
theorem k0_off228_inb : ∀ (i : grid0.Coords) (v13967 : BitVec 32) (k0_hw114 : k0_chk114 i v13967), ∀ a, (k0_off228 i v13967) a + S8x128.size a ≤ S2432x128.size a := fun i v13967 k0_hw114 => k0_hw114

def k0_off229 (i : grid0.Coords) (v13958 : BitVec 32) : Fin 2 → Nat :=
  let arg0 : BitVec 32 := BitVec.ofNat 32 (i 0).val
  let c128_i32_4129 : BitVec 32 := 128#32
  let v13953 : BitVec 32 := Scalar.muli arg0 c128_i32_4129
  let c112_i32 : BitVec 32 := 112#32
  let v13954 : BitVec 32 := Scalar.addi v13953 c112_i32
  let c0_i32_4130 : BitVec 32 := 0#32
  let v13955 : BitVec 32 := Scalar.addi v13954 c0_i32_4130
  let c2040_i32_4132 : BitVec 32 := 2040#32
  let v13959 : BitVec 1 := Scalar.cmpi .slt v13955 c2040_i32_4132
  let c256_i32_4133 : BitVec 32 := 256#32
  let v13960 : BitVec 32 := Scalar.select v13959 v13958 c256_i32_4133
  let c9_i32_4134 : BitVec 32 := 9#32
  let v13961 : BitVec 32 := Scalar.muli v13960 c9_i32_4134
  let v14010 : Index := Scalar.indexCast v13961
  let c0_4154 : Index := 0#32
  ![v14010.toNat, 0]

def k0_chk113 (i : grid0.Coords) (v13958 : BitVec 32) : Prop :=
  (∀ a, (k0_off227 i v13958) a + S8x128.size a ≤ S2432x128.size a) ∧
  (∀ a, (k0_off229 i v13958) a + S8x128.size a ≤ S2432x128.size a)
theorem k0_off227_inb : ∀ (i : grid0.Coords) (v13958 : BitVec 32) (k0_hw113 : k0_chk113 i v13958), ∀ a, (k0_off227 i v13958) a + S8x128.size a ≤ S2432x128.size a := fun i v13958 k0_hw113 => k0_hw113.1
theorem k0_off229_inb : ∀ (i : grid0.Coords) (v13958 : BitVec 32) (k0_hw113 : k0_chk113 i v13958), ∀ a, (k0_off229 i v13958) a + S8x128.size a ≤ S2432x128.size a := fun i v13958 k0_hw113 => k0_hw113.2

def k0_off230 (i : grid0.Coords) (c0_i32_4199 : BitVec 32) : Fin 1 → Nat :=
  let arg0 : BitVec 32 := BitVec.ofNat 32 (i 0).val
  let c128_i32_4198 : BitVec 32 := 128#32
  let v14174 : BitVec 32 := Scalar.muli arg0 c128_i32_4198
  let c114_i32 : BitVec 32 := 114#32
  let v14175 : BitVec 32 := Scalar.addi v14174 c114_i32
  let v14176 : BitVec 32 := Scalar.addi v14175 c0_i32_4199
  let c2039_i32_4200 : BitVec 32 := 2039#32
  let v14177 : BitVec 32 := Scalar.minsi v14176 c2039_i32_4200
  let v14178 : Index := Scalar.indexCast v14177
  ![v14178.toNat]
def k0_off231 (i : grid0.Coords) (v14179 : BitVec 32) : Fin 2 → Nat :=
  let arg0 : BitVec 32 := BitVec.ofNat 32 (i 0).val
  let c128_i32_4198 : BitVec 32 := 128#32
  let v14174 : BitVec 32 := Scalar.muli arg0 c128_i32_4198
  let c114_i32 : BitVec 32 := 114#32
  let v14175 : BitVec 32 := Scalar.addi v14174 c114_i32
  let c0_i32_4199 : BitVec 32 := 0#32
  let v14176 : BitVec 32 := Scalar.addi v14175 c0_i32_4199
  let c2040_i32_4201 : BitVec 32 := 2040#32
  let v14180 : BitVec 1 := Scalar.cmpi .slt v14176 c2040_i32_4201
  let c256_i32_4202 : BitVec 32 := 256#32
  let v14181 : BitVec 32 := Scalar.select v14180 v14179 c256_i32_4202
  let c9_i32_4203 : BitVec 32 := 9#32
  let v14182 : BitVec 32 := Scalar.muli v14181 c9_i32_4203
  let v14202 : Index := Scalar.indexCast v14182
  let c0_4214 : Index := 0#32
  ![v14202.toNat, 0]

def k0_off232 (i : grid0.Coords) (v14188 : BitVec 32) : Fin 2 → Nat :=
  let arg0 : BitVec 32 := BitVec.ofNat 32 (i 0).val
  let c128_i32_4204 : BitVec 32 := 128#32
  let v14183 : BitVec 32 := Scalar.muli arg0 c128_i32_4204
  let c114_i32_4205 : BitVec 32 := 114#32
  let v14184 : BitVec 32 := Scalar.addi v14183 c114_i32_4205
  let c1_i32_4206 : BitVec 32 := 1#32
  let v14185 : BitVec 32 := Scalar.addi v14184 c1_i32_4206
  let c2040_i32_4208 : BitVec 32 := 2040#32
  let v14189 : BitVec 1 := Scalar.cmpi .slt v14185 c2040_i32_4208
  let c256_i32_4209 : BitVec 32 := 256#32
  let v14190 : BitVec 32 := Scalar.select v14189 v14188 c256_i32_4209
  let c9_i32_4210 : BitVec 32 := 9#32
  let v14191 : BitVec 32 := Scalar.muli v14190 c9_i32_4210
  let v14213 : Index := Scalar.indexCast v14191
  let c0_4216 : Index := 0#32
  ![v14213.toNat, 0]

def k0_chk116 (i : grid0.Coords) (v14188 : BitVec 32) : Prop :=
  (∀ a, (k0_off232 i v14188) a + S8x128.size a ≤ S2432x128.size a)
theorem k0_off232_inb : ∀ (i : grid0.Coords) (v14188 : BitVec 32) (k0_hw116 : k0_chk116 i v14188), ∀ a, (k0_off232 i v14188) a + S8x128.size a ≤ S2432x128.size a := fun i v14188 k0_hw116 => k0_hw116

def k0_off233 (i : grid0.Coords) (v14179 : BitVec 32) : Fin 2 → Nat :=
  let arg0 : BitVec 32 := BitVec.ofNat 32 (i 0).val
  let c128_i32_4198 : BitVec 32 := 128#32
  let v14174 : BitVec 32 := Scalar.muli arg0 c128_i32_4198
  let c114_i32 : BitVec 32 := 114#32
  let v14175 : BitVec 32 := Scalar.addi v14174 c114_i32
  let c0_i32_4199 : BitVec 32 := 0#32
  let v14176 : BitVec 32 := Scalar.addi v14175 c0_i32_4199
  let c2040_i32_4201 : BitVec 32 := 2040#32
  let v14180 : BitVec 1 := Scalar.cmpi .slt v14176 c2040_i32_4201
  let c256_i32_4202 : BitVec 32 := 256#32
  let v14181 : BitVec 32 := Scalar.select v14180 v14179 c256_i32_4202
  let c9_i32_4203 : BitVec 32 := 9#32
  let v14182 : BitVec 32 := Scalar.muli v14181 c9_i32_4203
  let v14231 : Index := Scalar.indexCast v14182
  let c0_4221 : Index := 0#32
  ![v14231.toNat, 0]

def k0_chk115 (i : grid0.Coords) (v14179 : BitVec 32) : Prop :=
  (∀ a, (k0_off231 i v14179) a + S8x128.size a ≤ S2432x128.size a) ∧
  (∀ a, (k0_off233 i v14179) a + S8x128.size a ≤ S2432x128.size a)
theorem k0_off231_inb : ∀ (i : grid0.Coords) (v14179 : BitVec 32) (k0_hw115 : k0_chk115 i v14179), ∀ a, (k0_off231 i v14179) a + S8x128.size a ≤ S2432x128.size a := fun i v14179 k0_hw115 => k0_hw115.1
theorem k0_off233_inb : ∀ (i : grid0.Coords) (v14179 : BitVec 32) (k0_hw115 : k0_chk115 i v14179), ∀ a, (k0_off233 i v14179) a + S8x128.size a ≤ S2432x128.size a := fun i v14179 k0_hw115 => k0_hw115.2

def k0_off234 (i : grid0.Coords) (c0_i32_4261 : BitVec 32) : Fin 1 → Nat :=
  let arg0 : BitVec 32 := BitVec.ofNat 32 (i 0).val
  let c128_i32_4260 : BitVec 32 := 128#32
  let v14395 : BitVec 32 := Scalar.muli arg0 c128_i32_4260
  let c116_i32 : BitVec 32 := 116#32
  let v14396 : BitVec 32 := Scalar.addi v14395 c116_i32
  let v14397 : BitVec 32 := Scalar.addi v14396 c0_i32_4261
  let c2039_i32_4262 : BitVec 32 := 2039#32
  let v14398 : BitVec 32 := Scalar.minsi v14397 c2039_i32_4262
  let v14399 : Index := Scalar.indexCast v14398
  ![v14399.toNat]
def k0_off235 (i : grid0.Coords) (v14400 : BitVec 32) : Fin 2 → Nat :=
  let arg0 : BitVec 32 := BitVec.ofNat 32 (i 0).val
  let c128_i32_4260 : BitVec 32 := 128#32
  let v14395 : BitVec 32 := Scalar.muli arg0 c128_i32_4260
  let c116_i32 : BitVec 32 := 116#32
  let v14396 : BitVec 32 := Scalar.addi v14395 c116_i32
  let c0_i32_4261 : BitVec 32 := 0#32
  let v14397 : BitVec 32 := Scalar.addi v14396 c0_i32_4261
  let c2040_i32_4263 : BitVec 32 := 2040#32
  let v14401 : BitVec 1 := Scalar.cmpi .slt v14397 c2040_i32_4263
  let c256_i32_4264 : BitVec 32 := 256#32
  let v14402 : BitVec 32 := Scalar.select v14401 v14400 c256_i32_4264
  let c9_i32_4265 : BitVec 32 := 9#32
  let v14403 : BitVec 32 := Scalar.muli v14402 c9_i32_4265
  let v14423 : Index := Scalar.indexCast v14403
  let c0_4276 : Index := 0#32
  ![v14423.toNat, 0]

def k0_off236 (i : grid0.Coords) (v14409 : BitVec 32) : Fin 2 → Nat :=
  let arg0 : BitVec 32 := BitVec.ofNat 32 (i 0).val
  let c128_i32_4266 : BitVec 32 := 128#32
  let v14404 : BitVec 32 := Scalar.muli arg0 c128_i32_4266
  let c116_i32_4267 : BitVec 32 := 116#32
  let v14405 : BitVec 32 := Scalar.addi v14404 c116_i32_4267
  let c1_i32_4268 : BitVec 32 := 1#32
  let v14406 : BitVec 32 := Scalar.addi v14405 c1_i32_4268
  let c2040_i32_4270 : BitVec 32 := 2040#32
  let v14410 : BitVec 1 := Scalar.cmpi .slt v14406 c2040_i32_4270
  let c256_i32_4271 : BitVec 32 := 256#32
  let v14411 : BitVec 32 := Scalar.select v14410 v14409 c256_i32_4271
  let c9_i32_4272 : BitVec 32 := 9#32
  let v14412 : BitVec 32 := Scalar.muli v14411 c9_i32_4272
  let v14434 : Index := Scalar.indexCast v14412
  let c0_4278 : Index := 0#32
  ![v14434.toNat, 0]

def k0_chk118 (i : grid0.Coords) (v14409 : BitVec 32) : Prop :=
  (∀ a, (k0_off236 i v14409) a + S8x128.size a ≤ S2432x128.size a)
theorem k0_off236_inb : ∀ (i : grid0.Coords) (v14409 : BitVec 32) (k0_hw118 : k0_chk118 i v14409), ∀ a, (k0_off236 i v14409) a + S8x128.size a ≤ S2432x128.size a := fun i v14409 k0_hw118 => k0_hw118

def k0_off237 (i : grid0.Coords) (v14400 : BitVec 32) : Fin 2 → Nat :=
  let arg0 : BitVec 32 := BitVec.ofNat 32 (i 0).val
  let c128_i32_4260 : BitVec 32 := 128#32
  let v14395 : BitVec 32 := Scalar.muli arg0 c128_i32_4260
  let c116_i32 : BitVec 32 := 116#32
  let v14396 : BitVec 32 := Scalar.addi v14395 c116_i32
  let c0_i32_4261 : BitVec 32 := 0#32
  let v14397 : BitVec 32 := Scalar.addi v14396 c0_i32_4261
  let c2040_i32_4263 : BitVec 32 := 2040#32
  let v14401 : BitVec 1 := Scalar.cmpi .slt v14397 c2040_i32_4263
  let c256_i32_4264 : BitVec 32 := 256#32
  let v14402 : BitVec 32 := Scalar.select v14401 v14400 c256_i32_4264
  let c9_i32_4265 : BitVec 32 := 9#32
  let v14403 : BitVec 32 := Scalar.muli v14402 c9_i32_4265
  let v14452 : Index := Scalar.indexCast v14403
  let c0_4283 : Index := 0#32
  ![v14452.toNat, 0]

def k0_chk117 (i : grid0.Coords) (v14400 : BitVec 32) : Prop :=
  (∀ a, (k0_off235 i v14400) a + S8x128.size a ≤ S2432x128.size a) ∧
  (∀ a, (k0_off237 i v14400) a + S8x128.size a ≤ S2432x128.size a)
theorem k0_off235_inb : ∀ (i : grid0.Coords) (v14400 : BitVec 32) (k0_hw117 : k0_chk117 i v14400), ∀ a, (k0_off235 i v14400) a + S8x128.size a ≤ S2432x128.size a := fun i v14400 k0_hw117 => k0_hw117.1
theorem k0_off237_inb : ∀ (i : grid0.Coords) (v14400 : BitVec 32) (k0_hw117 : k0_chk117 i v14400), ∀ a, (k0_off237 i v14400) a + S8x128.size a ≤ S2432x128.size a := fun i v14400 k0_hw117 => k0_hw117.2

def k0_off238 (i : grid0.Coords) (c0_i32_4323 : BitVec 32) : Fin 1 → Nat :=
  let arg0 : BitVec 32 := BitVec.ofNat 32 (i 0).val
  let c128_i32_4322 : BitVec 32 := 128#32
  let v14616 : BitVec 32 := Scalar.muli arg0 c128_i32_4322
  let c118_i32 : BitVec 32 := 118#32
  let v14617 : BitVec 32 := Scalar.addi v14616 c118_i32
  let v14618 : BitVec 32 := Scalar.addi v14617 c0_i32_4323
  let c2039_i32_4324 : BitVec 32 := 2039#32
  let v14619 : BitVec 32 := Scalar.minsi v14618 c2039_i32_4324
  let v14620 : Index := Scalar.indexCast v14619
  ![v14620.toNat]
def k0_off239 (i : grid0.Coords) (v14621 : BitVec 32) : Fin 2 → Nat :=
  let arg0 : BitVec 32 := BitVec.ofNat 32 (i 0).val
  let c128_i32_4322 : BitVec 32 := 128#32
  let v14616 : BitVec 32 := Scalar.muli arg0 c128_i32_4322
  let c118_i32 : BitVec 32 := 118#32
  let v14617 : BitVec 32 := Scalar.addi v14616 c118_i32
  let c0_i32_4323 : BitVec 32 := 0#32
  let v14618 : BitVec 32 := Scalar.addi v14617 c0_i32_4323
  let c2040_i32_4325 : BitVec 32 := 2040#32
  let v14622 : BitVec 1 := Scalar.cmpi .slt v14618 c2040_i32_4325
  let c256_i32_4326 : BitVec 32 := 256#32
  let v14623 : BitVec 32 := Scalar.select v14622 v14621 c256_i32_4326
  let c9_i32_4327 : BitVec 32 := 9#32
  let v14624 : BitVec 32 := Scalar.muli v14623 c9_i32_4327
  let v14644 : Index := Scalar.indexCast v14624
  let c0_4338 : Index := 0#32
  ![v14644.toNat, 0]

def k0_off240 (i : grid0.Coords) (v14630 : BitVec 32) : Fin 2 → Nat :=
  let arg0 : BitVec 32 := BitVec.ofNat 32 (i 0).val
  let c128_i32_4328 : BitVec 32 := 128#32
  let v14625 : BitVec 32 := Scalar.muli arg0 c128_i32_4328
  let c118_i32_4329 : BitVec 32 := 118#32
  let v14626 : BitVec 32 := Scalar.addi v14625 c118_i32_4329
  let c1_i32_4330 : BitVec 32 := 1#32
  let v14627 : BitVec 32 := Scalar.addi v14626 c1_i32_4330
  let c2040_i32_4332 : BitVec 32 := 2040#32
  let v14631 : BitVec 1 := Scalar.cmpi .slt v14627 c2040_i32_4332
  let c256_i32_4333 : BitVec 32 := 256#32
  let v14632 : BitVec 32 := Scalar.select v14631 v14630 c256_i32_4333
  let c9_i32_4334 : BitVec 32 := 9#32
  let v14633 : BitVec 32 := Scalar.muli v14632 c9_i32_4334
  let v14655 : Index := Scalar.indexCast v14633
  let c0_4340 : Index := 0#32
  ![v14655.toNat, 0]

def k0_chk120 (i : grid0.Coords) (v14630 : BitVec 32) : Prop :=
  (∀ a, (k0_off240 i v14630) a + S8x128.size a ≤ S2432x128.size a)
theorem k0_off240_inb : ∀ (i : grid0.Coords) (v14630 : BitVec 32) (k0_hw120 : k0_chk120 i v14630), ∀ a, (k0_off240 i v14630) a + S8x128.size a ≤ S2432x128.size a := fun i v14630 k0_hw120 => k0_hw120

def k0_off241 (i : grid0.Coords) (v14621 : BitVec 32) : Fin 2 → Nat :=
  let arg0 : BitVec 32 := BitVec.ofNat 32 (i 0).val
  let c128_i32_4322 : BitVec 32 := 128#32
  let v14616 : BitVec 32 := Scalar.muli arg0 c128_i32_4322
  let c118_i32 : BitVec 32 := 118#32
  let v14617 : BitVec 32 := Scalar.addi v14616 c118_i32
  let c0_i32_4323 : BitVec 32 := 0#32
  let v14618 : BitVec 32 := Scalar.addi v14617 c0_i32_4323
  let c2040_i32_4325 : BitVec 32 := 2040#32
  let v14622 : BitVec 1 := Scalar.cmpi .slt v14618 c2040_i32_4325
  let c256_i32_4326 : BitVec 32 := 256#32
  let v14623 : BitVec 32 := Scalar.select v14622 v14621 c256_i32_4326
  let c9_i32_4327 : BitVec 32 := 9#32
  let v14624 : BitVec 32 := Scalar.muli v14623 c9_i32_4327
  let v14673 : Index := Scalar.indexCast v14624
  let c0_4345 : Index := 0#32
  ![v14673.toNat, 0]

def k0_chk119 (i : grid0.Coords) (v14621 : BitVec 32) : Prop :=
  (∀ a, (k0_off239 i v14621) a + S8x128.size a ≤ S2432x128.size a) ∧
  (∀ a, (k0_off241 i v14621) a + S8x128.size a ≤ S2432x128.size a)
theorem k0_off239_inb : ∀ (i : grid0.Coords) (v14621 : BitVec 32) (k0_hw119 : k0_chk119 i v14621), ∀ a, (k0_off239 i v14621) a + S8x128.size a ≤ S2432x128.size a := fun i v14621 k0_hw119 => k0_hw119.1
theorem k0_off241_inb : ∀ (i : grid0.Coords) (v14621 : BitVec 32) (k0_hw119 : k0_chk119 i v14621), ∀ a, (k0_off241 i v14621) a + S8x128.size a ≤ S2432x128.size a := fun i v14621 k0_hw119 => k0_hw119.2

def k0_off242 (i : grid0.Coords) (c0_i32_4385 : BitVec 32) : Fin 1 → Nat :=
  let arg0 : BitVec 32 := BitVec.ofNat 32 (i 0).val
  let c128_i32_4384 : BitVec 32 := 128#32
  let v14837 : BitVec 32 := Scalar.muli arg0 c128_i32_4384
  let c120_i32 : BitVec 32 := 120#32
  let v14838 : BitVec 32 := Scalar.addi v14837 c120_i32
  let v14839 : BitVec 32 := Scalar.addi v14838 c0_i32_4385
  let c2039_i32_4386 : BitVec 32 := 2039#32
  let v14840 : BitVec 32 := Scalar.minsi v14839 c2039_i32_4386
  let v14841 : Index := Scalar.indexCast v14840
  ![v14841.toNat]
def k0_off243 (i : grid0.Coords) (v14842 : BitVec 32) : Fin 2 → Nat :=
  let arg0 : BitVec 32 := BitVec.ofNat 32 (i 0).val
  let c128_i32_4384 : BitVec 32 := 128#32
  let v14837 : BitVec 32 := Scalar.muli arg0 c128_i32_4384
  let c120_i32 : BitVec 32 := 120#32
  let v14838 : BitVec 32 := Scalar.addi v14837 c120_i32
  let c0_i32_4385 : BitVec 32 := 0#32
  let v14839 : BitVec 32 := Scalar.addi v14838 c0_i32_4385
  let c2040_i32_4387 : BitVec 32 := 2040#32
  let v14843 : BitVec 1 := Scalar.cmpi .slt v14839 c2040_i32_4387
  let c256_i32_4388 : BitVec 32 := 256#32
  let v14844 : BitVec 32 := Scalar.select v14843 v14842 c256_i32_4388
  let c9_i32_4389 : BitVec 32 := 9#32
  let v14845 : BitVec 32 := Scalar.muli v14844 c9_i32_4389
  let v14865 : Index := Scalar.indexCast v14845
  let c0_4401 : Index := 0#32
  ![v14865.toNat, 0]

def k0_off244 (i : grid0.Coords) (v14851 : BitVec 32) : Fin 2 → Nat :=
  let arg0 : BitVec 32 := BitVec.ofNat 32 (i 0).val
  let c128_i32_4390 : BitVec 32 := 128#32
  let v14846 : BitVec 32 := Scalar.muli arg0 c128_i32_4390
  let c120_i32_4391 : BitVec 32 := 120#32
  let v14847 : BitVec 32 := Scalar.addi v14846 c120_i32_4391
  let c1_i32_4392 : BitVec 32 := 1#32
  let v14848 : BitVec 32 := Scalar.addi v14847 c1_i32_4392
  let c2040_i32_4394 : BitVec 32 := 2040#32
  let v14852 : BitVec 1 := Scalar.cmpi .slt v14848 c2040_i32_4394
  let c256_i32_4395 : BitVec 32 := 256#32
  let v14853 : BitVec 32 := Scalar.select v14852 v14851 c256_i32_4395
  let c9_i32_4396 : BitVec 32 := 9#32
  let v14854 : BitVec 32 := Scalar.muli v14853 c9_i32_4396
  let v14876 : Index := Scalar.indexCast v14854
  let c0_4403 : Index := 0#32
  ![v14876.toNat, 0]

def k0_chk122 (i : grid0.Coords) (v14851 : BitVec 32) : Prop :=
  (∀ a, (k0_off244 i v14851) a + S8x128.size a ≤ S2432x128.size a)
theorem k0_off244_inb : ∀ (i : grid0.Coords) (v14851 : BitVec 32) (k0_hw122 : k0_chk122 i v14851), ∀ a, (k0_off244 i v14851) a + S8x128.size a ≤ S2432x128.size a := fun i v14851 k0_hw122 => k0_hw122

def k0_off245 (i : grid0.Coords) (v14842 : BitVec 32) : Fin 2 → Nat :=
  let arg0 : BitVec 32 := BitVec.ofNat 32 (i 0).val
  let c128_i32_4384 : BitVec 32 := 128#32
  let v14837 : BitVec 32 := Scalar.muli arg0 c128_i32_4384
  let c120_i32 : BitVec 32 := 120#32
  let v14838 : BitVec 32 := Scalar.addi v14837 c120_i32
  let c0_i32_4385 : BitVec 32 := 0#32
  let v14839 : BitVec 32 := Scalar.addi v14838 c0_i32_4385
  let c2040_i32_4387 : BitVec 32 := 2040#32
  let v14843 : BitVec 1 := Scalar.cmpi .slt v14839 c2040_i32_4387
  let c256_i32_4388 : BitVec 32 := 256#32
  let v14844 : BitVec 32 := Scalar.select v14843 v14842 c256_i32_4388
  let c9_i32_4389 : BitVec 32 := 9#32
  let v14845 : BitVec 32 := Scalar.muli v14844 c9_i32_4389
  let v14894 : Index := Scalar.indexCast v14845
  let c0_4409 : Index := 0#32
  ![v14894.toNat, 0]

def k0_chk121 (i : grid0.Coords) (v14842 : BitVec 32) : Prop :=
  (∀ a, (k0_off243 i v14842) a + S8x128.size a ≤ S2432x128.size a) ∧
  (∀ a, (k0_off245 i v14842) a + S8x128.size a ≤ S2432x128.size a)
theorem k0_off243_inb : ∀ (i : grid0.Coords) (v14842 : BitVec 32) (k0_hw121 : k0_chk121 i v14842), ∀ a, (k0_off243 i v14842) a + S8x128.size a ≤ S2432x128.size a := fun i v14842 k0_hw121 => k0_hw121.1
theorem k0_off245_inb : ∀ (i : grid0.Coords) (v14842 : BitVec 32) (k0_hw121 : k0_chk121 i v14842), ∀ a, (k0_off245 i v14842) a + S8x128.size a ≤ S2432x128.size a := fun i v14842 k0_hw121 => k0_hw121.2

def k0_off246 (i : grid0.Coords) (c0_i32_4454 : BitVec 32) : Fin 1 → Nat :=
  let arg0 : BitVec 32 := BitVec.ofNat 32 (i 0).val
  let c128_i32_4453 : BitVec 32 := 128#32
  let v15058 : BitVec 32 := Scalar.muli arg0 c128_i32_4453
  let c122_i32 : BitVec 32 := 122#32
  let v15059 : BitVec 32 := Scalar.addi v15058 c122_i32
  let v15060 : BitVec 32 := Scalar.addi v15059 c0_i32_4454
  let c2039_i32_4455 : BitVec 32 := 2039#32
  let v15061 : BitVec 32 := Scalar.minsi v15060 c2039_i32_4455
  let v15062 : Index := Scalar.indexCast v15061
  ![v15062.toNat]
def k0_off247 (i : grid0.Coords) (v15063 : BitVec 32) : Fin 2 → Nat :=
  let arg0 : BitVec 32 := BitVec.ofNat 32 (i 0).val
  let c128_i32_4453 : BitVec 32 := 128#32
  let v15058 : BitVec 32 := Scalar.muli arg0 c128_i32_4453
  let c122_i32 : BitVec 32 := 122#32
  let v15059 : BitVec 32 := Scalar.addi v15058 c122_i32
  let c0_i32_4454 : BitVec 32 := 0#32
  let v15060 : BitVec 32 := Scalar.addi v15059 c0_i32_4454
  let c2040_i32_4456 : BitVec 32 := 2040#32
  let v15064 : BitVec 1 := Scalar.cmpi .slt v15060 c2040_i32_4456
  let c256_i32_4457 : BitVec 32 := 256#32
  let v15065 : BitVec 32 := Scalar.select v15064 v15063 c256_i32_4457
  let c9_i32_4458 : BitVec 32 := 9#32
  let v15066 : BitVec 32 := Scalar.muli v15065 c9_i32_4458
  let v15086 : Index := Scalar.indexCast v15066
  let c0_4469 : Index := 0#32
  ![v15086.toNat, 0]

def k0_off248 (i : grid0.Coords) (v15072 : BitVec 32) : Fin 2 → Nat :=
  let arg0 : BitVec 32 := BitVec.ofNat 32 (i 0).val
  let c128_i32_4459 : BitVec 32 := 128#32
  let v15067 : BitVec 32 := Scalar.muli arg0 c128_i32_4459
  let c122_i32_4460 : BitVec 32 := 122#32
  let v15068 : BitVec 32 := Scalar.addi v15067 c122_i32_4460
  let c1_i32_4461 : BitVec 32 := 1#32
  let v15069 : BitVec 32 := Scalar.addi v15068 c1_i32_4461
  let c2040_i32_4463 : BitVec 32 := 2040#32
  let v15073 : BitVec 1 := Scalar.cmpi .slt v15069 c2040_i32_4463
  let c256_i32_4464 : BitVec 32 := 256#32
  let v15074 : BitVec 32 := Scalar.select v15073 v15072 c256_i32_4464
  let c9_i32_4465 : BitVec 32 := 9#32
  let v15075 : BitVec 32 := Scalar.muli v15074 c9_i32_4465
  let v15097 : Index := Scalar.indexCast v15075
  let c0_4471 : Index := 0#32
  ![v15097.toNat, 0]

def k0_chk124 (i : grid0.Coords) (v15072 : BitVec 32) : Prop :=
  (∀ a, (k0_off248 i v15072) a + S8x128.size a ≤ S2432x128.size a)
theorem k0_off248_inb : ∀ (i : grid0.Coords) (v15072 : BitVec 32) (k0_hw124 : k0_chk124 i v15072), ∀ a, (k0_off248 i v15072) a + S8x128.size a ≤ S2432x128.size a := fun i v15072 k0_hw124 => k0_hw124

def k0_off249 (i : grid0.Coords) (v15063 : BitVec 32) : Fin 2 → Nat :=
  let arg0 : BitVec 32 := BitVec.ofNat 32 (i 0).val
  let c128_i32_4453 : BitVec 32 := 128#32
  let v15058 : BitVec 32 := Scalar.muli arg0 c128_i32_4453
  let c122_i32 : BitVec 32 := 122#32
  let v15059 : BitVec 32 := Scalar.addi v15058 c122_i32
  let c0_i32_4454 : BitVec 32 := 0#32
  let v15060 : BitVec 32 := Scalar.addi v15059 c0_i32_4454
  let c2040_i32_4456 : BitVec 32 := 2040#32
  let v15064 : BitVec 1 := Scalar.cmpi .slt v15060 c2040_i32_4456
  let c256_i32_4457 : BitVec 32 := 256#32
  let v15065 : BitVec 32 := Scalar.select v15064 v15063 c256_i32_4457
  let c9_i32_4458 : BitVec 32 := 9#32
  let v15066 : BitVec 32 := Scalar.muli v15065 c9_i32_4458
  let v15115 : Index := Scalar.indexCast v15066
  let c0_4476 : Index := 0#32
  ![v15115.toNat, 0]

def k0_chk123 (i : grid0.Coords) (v15063 : BitVec 32) : Prop :=
  (∀ a, (k0_off247 i v15063) a + S8x128.size a ≤ S2432x128.size a) ∧
  (∀ a, (k0_off249 i v15063) a + S8x128.size a ≤ S2432x128.size a)
theorem k0_off247_inb : ∀ (i : grid0.Coords) (v15063 : BitVec 32) (k0_hw123 : k0_chk123 i v15063), ∀ a, (k0_off247 i v15063) a + S8x128.size a ≤ S2432x128.size a := fun i v15063 k0_hw123 => k0_hw123.1
theorem k0_off249_inb : ∀ (i : grid0.Coords) (v15063 : BitVec 32) (k0_hw123 : k0_chk123 i v15063), ∀ a, (k0_off249 i v15063) a + S8x128.size a ≤ S2432x128.size a := fun i v15063 k0_hw123 => k0_hw123.2

def k0_off250 (i : grid0.Coords) (c0_i32_4516 : BitVec 32) : Fin 1 → Nat :=
  let arg0 : BitVec 32 := BitVec.ofNat 32 (i 0).val
  let c128_i32_4515 : BitVec 32 := 128#32
  let v15279 : BitVec 32 := Scalar.muli arg0 c128_i32_4515
  let c124_i32 : BitVec 32 := 124#32
  let v15280 : BitVec 32 := Scalar.addi v15279 c124_i32
  let v15281 : BitVec 32 := Scalar.addi v15280 c0_i32_4516
  let c2039_i32_4517 : BitVec 32 := 2039#32
  let v15282 : BitVec 32 := Scalar.minsi v15281 c2039_i32_4517
  let v15283 : Index := Scalar.indexCast v15282
  ![v15283.toNat]
def k0_off251 (i : grid0.Coords) (v15284 : BitVec 32) : Fin 2 → Nat :=
  let arg0 : BitVec 32 := BitVec.ofNat 32 (i 0).val
  let c128_i32_4515 : BitVec 32 := 128#32
  let v15279 : BitVec 32 := Scalar.muli arg0 c128_i32_4515
  let c124_i32 : BitVec 32 := 124#32
  let v15280 : BitVec 32 := Scalar.addi v15279 c124_i32
  let c0_i32_4516 : BitVec 32 := 0#32
  let v15281 : BitVec 32 := Scalar.addi v15280 c0_i32_4516
  let c2040_i32_4518 : BitVec 32 := 2040#32
  let v15285 : BitVec 1 := Scalar.cmpi .slt v15281 c2040_i32_4518
  let c256_i32_4519 : BitVec 32 := 256#32
  let v15286 : BitVec 32 := Scalar.select v15285 v15284 c256_i32_4519
  let c9_i32_4520 : BitVec 32 := 9#32
  let v15287 : BitVec 32 := Scalar.muli v15286 c9_i32_4520
  let v15307 : Index := Scalar.indexCast v15287
  let c0_4531 : Index := 0#32
  ![v15307.toNat, 0]

def k0_off252 (i : grid0.Coords) (v15293 : BitVec 32) : Fin 2 → Nat :=
  let arg0 : BitVec 32 := BitVec.ofNat 32 (i 0).val
  let c128_i32_4521 : BitVec 32 := 128#32
  let v15288 : BitVec 32 := Scalar.muli arg0 c128_i32_4521
  let c124_i32_4522 : BitVec 32 := 124#32
  let v15289 : BitVec 32 := Scalar.addi v15288 c124_i32_4522
  let c1_i32_4523 : BitVec 32 := 1#32
  let v15290 : BitVec 32 := Scalar.addi v15289 c1_i32_4523
  let c2040_i32_4525 : BitVec 32 := 2040#32
  let v15294 : BitVec 1 := Scalar.cmpi .slt v15290 c2040_i32_4525
  let c256_i32_4526 : BitVec 32 := 256#32
  let v15295 : BitVec 32 := Scalar.select v15294 v15293 c256_i32_4526
  let c9_i32_4527 : BitVec 32 := 9#32
  let v15296 : BitVec 32 := Scalar.muli v15295 c9_i32_4527
  let v15318 : Index := Scalar.indexCast v15296
  let c0_4533 : Index := 0#32
  ![v15318.toNat, 0]

def k0_chk126 (i : grid0.Coords) (v15293 : BitVec 32) : Prop :=
  (∀ a, (k0_off252 i v15293) a + S8x128.size a ≤ S2432x128.size a)
theorem k0_off252_inb : ∀ (i : grid0.Coords) (v15293 : BitVec 32) (k0_hw126 : k0_chk126 i v15293), ∀ a, (k0_off252 i v15293) a + S8x128.size a ≤ S2432x128.size a := fun i v15293 k0_hw126 => k0_hw126

def k0_off253 (i : grid0.Coords) (v15284 : BitVec 32) : Fin 2 → Nat :=
  let arg0 : BitVec 32 := BitVec.ofNat 32 (i 0).val
  let c128_i32_4515 : BitVec 32 := 128#32
  let v15279 : BitVec 32 := Scalar.muli arg0 c128_i32_4515
  let c124_i32 : BitVec 32 := 124#32
  let v15280 : BitVec 32 := Scalar.addi v15279 c124_i32
  let c0_i32_4516 : BitVec 32 := 0#32
  let v15281 : BitVec 32 := Scalar.addi v15280 c0_i32_4516
  let c2040_i32_4518 : BitVec 32 := 2040#32
  let v15285 : BitVec 1 := Scalar.cmpi .slt v15281 c2040_i32_4518
  let c256_i32_4519 : BitVec 32 := 256#32
  let v15286 : BitVec 32 := Scalar.select v15285 v15284 c256_i32_4519
  let c9_i32_4520 : BitVec 32 := 9#32
  let v15287 : BitVec 32 := Scalar.muli v15286 c9_i32_4520
  let v15336 : Index := Scalar.indexCast v15287
  let c0_4538 : Index := 0#32
  ![v15336.toNat, 0]

def k0_chk125 (i : grid0.Coords) (v15284 : BitVec 32) : Prop :=
  (∀ a, (k0_off251 i v15284) a + S8x128.size a ≤ S2432x128.size a) ∧
  (∀ a, (k0_off253 i v15284) a + S8x128.size a ≤ S2432x128.size a)
theorem k0_off251_inb : ∀ (i : grid0.Coords) (v15284 : BitVec 32) (k0_hw125 : k0_chk125 i v15284), ∀ a, (k0_off251 i v15284) a + S8x128.size a ≤ S2432x128.size a := fun i v15284 k0_hw125 => k0_hw125.1
theorem k0_off253_inb : ∀ (i : grid0.Coords) (v15284 : BitVec 32) (k0_hw125 : k0_chk125 i v15284), ∀ a, (k0_off253 i v15284) a + S8x128.size a ≤ S2432x128.size a := fun i v15284 k0_hw125 => k0_hw125.2

def k0_off254 (i : grid0.Coords) (c0_i32_4578 : BitVec 32) : Fin 1 → Nat :=
  let arg0 : BitVec 32 := BitVec.ofNat 32 (i 0).val
  let c128_i32_4577 : BitVec 32 := 128#32
  let v15500 : BitVec 32 := Scalar.muli arg0 c128_i32_4577
  let c126_i32 : BitVec 32 := 126#32
  let v15501 : BitVec 32 := Scalar.addi v15500 c126_i32
  let v15502 : BitVec 32 := Scalar.addi v15501 c0_i32_4578
  let c2039_i32_4579 : BitVec 32 := 2039#32
  let v15503 : BitVec 32 := Scalar.minsi v15502 c2039_i32_4579
  let v15504 : Index := Scalar.indexCast v15503
  ![v15504.toNat]
def k0_off255 (i : grid0.Coords) (v15505 : BitVec 32) : Fin 2 → Nat :=
  let arg0 : BitVec 32 := BitVec.ofNat 32 (i 0).val
  let c128_i32_4577 : BitVec 32 := 128#32
  let v15500 : BitVec 32 := Scalar.muli arg0 c128_i32_4577
  let c126_i32 : BitVec 32 := 126#32
  let v15501 : BitVec 32 := Scalar.addi v15500 c126_i32
  let c0_i32_4578 : BitVec 32 := 0#32
  let v15502 : BitVec 32 := Scalar.addi v15501 c0_i32_4578
  let c2040_i32_4580 : BitVec 32 := 2040#32
  let v15506 : BitVec 1 := Scalar.cmpi .slt v15502 c2040_i32_4580
  let c256_i32_4581 : BitVec 32 := 256#32
  let v15507 : BitVec 32 := Scalar.select v15506 v15505 c256_i32_4581
  let c9_i32_4582 : BitVec 32 := 9#32
  let v15508 : BitVec 32 := Scalar.muli v15507 c9_i32_4582
  let v15528 : Index := Scalar.indexCast v15508
  let c0_4593 : Index := 0#32
  ![v15528.toNat, 0]

def k0_off256 (i : grid0.Coords) (v15514 : BitVec 32) : Fin 2 → Nat :=
  let arg0 : BitVec 32 := BitVec.ofNat 32 (i 0).val
  let c128_i32_4583 : BitVec 32 := 128#32
  let v15509 : BitVec 32 := Scalar.muli arg0 c128_i32_4583
  let c126_i32_4584 : BitVec 32 := 126#32
  let v15510 : BitVec 32 := Scalar.addi v15509 c126_i32_4584
  let c1_i32_4585 : BitVec 32 := 1#32
  let v15511 : BitVec 32 := Scalar.addi v15510 c1_i32_4585
  let c2040_i32_4587 : BitVec 32 := 2040#32
  let v15515 : BitVec 1 := Scalar.cmpi .slt v15511 c2040_i32_4587
  let c256_i32_4588 : BitVec 32 := 256#32
  let v15516 : BitVec 32 := Scalar.select v15515 v15514 c256_i32_4588
  let c9_i32_4589 : BitVec 32 := 9#32
  let v15517 : BitVec 32 := Scalar.muli v15516 c9_i32_4589
  let v15539 : Index := Scalar.indexCast v15517
  let c0_4595 : Index := 0#32
  ![v15539.toNat, 0]

def k0_chk128 (i : grid0.Coords) (v15514 : BitVec 32) : Prop :=
  (∀ a, (k0_off256 i v15514) a + S8x128.size a ≤ S2432x128.size a)
theorem k0_off256_inb : ∀ (i : grid0.Coords) (v15514 : BitVec 32) (k0_hw128 : k0_chk128 i v15514), ∀ a, (k0_off256 i v15514) a + S8x128.size a ≤ S2432x128.size a := fun i v15514 k0_hw128 => k0_hw128

def k0_off257 (i : grid0.Coords) (v15505 : BitVec 32) : Fin 2 → Nat :=
  let arg0 : BitVec 32 := BitVec.ofNat 32 (i 0).val
  let c128_i32_4577 : BitVec 32 := 128#32
  let v15500 : BitVec 32 := Scalar.muli arg0 c128_i32_4577
  let c126_i32 : BitVec 32 := 126#32
  let v15501 : BitVec 32 := Scalar.addi v15500 c126_i32
  let c0_i32_4578 : BitVec 32 := 0#32
  let v15502 : BitVec 32 := Scalar.addi v15501 c0_i32_4578
  let c2040_i32_4580 : BitVec 32 := 2040#32
  let v15506 : BitVec 1 := Scalar.cmpi .slt v15502 c2040_i32_4580
  let c256_i32_4581 : BitVec 32 := 256#32
  let v15507 : BitVec 32 := Scalar.select v15506 v15505 c256_i32_4581
  let c9_i32_4582 : BitVec 32 := 9#32
  let v15508 : BitVec 32 := Scalar.muli v15507 c9_i32_4582
  let v15557 : Index := Scalar.indexCast v15508
  let c0_4600 : Index := 0#32
  ![v15557.toNat, 0]

def k0_chk127 (i : grid0.Coords) (v15505 : BitVec 32) : Prop :=
  (∀ a, (k0_off255 i v15505) a + S8x128.size a ≤ S2432x128.size a) ∧
  (∀ a, (k0_off257 i v15505) a + S8x128.size a ≤ S2432x128.size a)
theorem k0_off255_inb : ∀ (i : grid0.Coords) (v15505 : BitVec 32) (k0_hw127 : k0_chk127 i v15505), ∀ a, (k0_off255 i v15505) a + S8x128.size a ≤ S2432x128.size a := fun i v15505 k0_hw127 => k0_hw127.1
theorem k0_off257_inb : ∀ (i : grid0.Coords) (v15505 : BitVec 32) (k0_hw127 : k0_chk127 i v15505), ∀ a, (k0_off257 i v15505) a + S8x128.size a ≤ S2432x128.size a := fun i v15505 k0_hw127 => k0_hw127.2

def k0_cond2 (i : grid0.Coords) : BitVec 1 :=
  let arg0 : BitVec 32 := BitVec.ofNat 32 (i 0).val
  let c15_i32 : BitVec 32 := 15#32
  let v15721 : BitVec 1 := Scalar.cmpi .eq arg0 c15_i32
  let v15722 : BitVec 32 := Scalar.extui v15721
  let c0_i32_4639 : BitVec 32 := 0#32
  let v15723 : BitVec 1 := Scalar.cmpi .ne v15722 c0_i32_4639
  v15723

@[reducible] def k0_t2_loop : Scf.Loop 32 :=
  let c0_i32_4640 : BitVec 32 := 0#32
  let c32_i32_4641 : BitVec 32 := 32#32
  let v15724 : BitVec 32 := Scalar.addi c0_i32_4640 c32_i32_4641
  let c1_i32_4642 : BitVec 32 := 1#32
  ⟨c0_i32_4640, v15724, c1_i32_4642⟩
def k0_off258 (k0_t2 : Fin k0_t2_loop.trips) (c0_i32_4646 : BitVec 32) : Fin 2 → Nat :=
  let c0_i32_4640 : BitVec 32 := 0#32
  let c1_i32_4642 : BitVec 32 := 1#32
  let arg29 : BitVec 32 := Scf.iv c0_i32_4640 c1_i32_4642 k0_t2
  let c8_i32_4644 : BitVec 32 := 8#32
  let v15725 : BitVec 32 := Scalar.muli arg29 c8_i32_4644
  let c9_i32_4645 : BitVec 32 := 9#32
  let v15726 : BitVec 32 := Scalar.muli v15725 c9_i32_4645
  let v15727 : BitVec 32 := Scalar.addi v15726 c0_i32_4646
  let v15728 : Index := Scalar.indexCast v15727
  let c0_4647 : Index := 0#32
  ![v15728.toNat, 0]
def k0_off259 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4650 : BitVec 32 := 8#32
  let v15736 : BitVec 32 := Scalar.muli arg29 c8_i32_4650
  let v15737 : Index := Scalar.indexCast v15736
  let c0_4651 : Index := 0#32
  ![v15737.toNat, 0]
def k0_off260 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4659 : BitVec 32 := 8#32
  let v15756 : BitVec 32 := Scalar.muli arg29 c8_i32_4659
  let v15757 : Index := Scalar.indexCast v15756
  let c128_4660 : Index := 128#32
  ![v15757.toNat, 128]
def k0_off261 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4668 : BitVec 32 := 8#32
  let v15776 : BitVec 32 := Scalar.muli arg29 c8_i32_4668
  let v15777 : Index := Scalar.indexCast v15776
  let c256_4669 : Index := 256#32
  ![v15777.toNat, 256]
def k0_off262 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4676 : BitVec 32 := 8#32
  let v15796 : BitVec 32 := Scalar.muli arg29 c8_i32_4676
  let v15797 : Index := Scalar.indexCast v15796
  let c384_4677 : Index := 384#32
  ![v15797.toNat, 384]
def k0_off263 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4685 : BitVec 32 := 8#32
  let v15816 : BitVec 32 := Scalar.muli arg29 c8_i32_4685
  let v15817 : Index := Scalar.indexCast v15816
  let c512_4686 : Index := 512#32
  ![v15817.toNat, 512]
def k0_off264 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4693 : BitVec 32 := 8#32
  let v15836 : BitVec 32 := Scalar.muli arg29 c8_i32_4693
  let v15837 : Index := Scalar.indexCast v15836
  let c640_4694 : Index := 640#32
  ![v15837.toNat, 640]
def k0_off265 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4702 : BitVec 32 := 8#32
  let v15856 : BitVec 32 := Scalar.muli arg29 c8_i32_4702
  let v15857 : Index := Scalar.indexCast v15856
  let c768_4703 : Index := 768#32
  ![v15857.toNat, 768]
def k0_off266 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4710 : BitVec 32 := 8#32
  let v15876 : BitVec 32 := Scalar.muli arg29 c8_i32_4710
  let v15877 : Index := Scalar.indexCast v15876
  let c896_4711 : Index := 896#32
  ![v15877.toNat, 896]
def k0_off267 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4719 : BitVec 32 := 8#32
  let v15896 : BitVec 32 := Scalar.muli arg29 c8_i32_4719
  let v15897 : Index := Scalar.indexCast v15896
  let c1024_4720 : Index := 1024#32
  ![v15897.toNat, 1024]
def k0_off268 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4728 : BitVec 32 := 8#32
  let v15916 : BitVec 32 := Scalar.muli arg29 c8_i32_4728
  let v15917 : Index := Scalar.indexCast v15916
  let c1152_4729 : Index := 1152#32
  ![v15917.toNat, 1152]
def k0_off269 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4737 : BitVec 32 := 8#32
  let v15936 : BitVec 32 := Scalar.muli arg29 c8_i32_4737
  let v15937 : Index := Scalar.indexCast v15936
  let c1280_4738 : Index := 1280#32
  ![v15937.toNat, 1280]
def k0_off270 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4746 : BitVec 32 := 8#32
  let v15956 : BitVec 32 := Scalar.muli arg29 c8_i32_4746
  let v15957 : Index := Scalar.indexCast v15956
  let c1408_4747 : Index := 1408#32
  ![v15957.toNat, 1408]
def k0_off271 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4755 : BitVec 32 := 8#32
  let v15976 : BitVec 32 := Scalar.muli arg29 c8_i32_4755
  let v15977 : Index := Scalar.indexCast v15976
  let c1536_4756 : Index := 1536#32
  ![v15977.toNat, 1536]
def k0_off272 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4764 : BitVec 32 := 8#32
  let v15996 : BitVec 32 := Scalar.muli arg29 c8_i32_4764
  let v15997 : Index := Scalar.indexCast v15996
  let c1664_4765 : Index := 1664#32
  ![v15997.toNat, 1664]
def k0_off273 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4773 : BitVec 32 := 8#32
  let v16016 : BitVec 32 := Scalar.muli arg29 c8_i32_4773
  let v16017 : Index := Scalar.indexCast v16016
  let c1792_4774 : Index := 1792#32
  ![v16017.toNat, 1792]
def k0_off274 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4782 : BitVec 32 := 8#32
  let v16036 : BitVec 32 := Scalar.muli arg29 c8_i32_4782
  let v16037 : Index := Scalar.indexCast v16036
  let c1920_4783 : Index := 1920#32
  ![v16037.toNat, 1920]
def k0_off275 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4791 : BitVec 32 := 8#32
  let v16056 : BitVec 32 := Scalar.muli arg29 c8_i32_4791
  let v16057 : Index := Scalar.indexCast v16056
  let c2048_4792 : Index := 2048#32
  ![v16057.toNat, 2048]
def k0_off276 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4800 : BitVec 32 := 8#32
  let v16076 : BitVec 32 := Scalar.muli arg29 c8_i32_4800
  let v16077 : Index := Scalar.indexCast v16076
  let c2176_4801 : Index := 2176#32
  ![v16077.toNat, 2176]
def k0_off277 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4809 : BitVec 32 := 8#32
  let v16096 : BitVec 32 := Scalar.muli arg29 c8_i32_4809
  let v16097 : Index := Scalar.indexCast v16096
  let c2304_4810 : Index := 2304#32
  ![v16097.toNat, 2304]
def k0_off278 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4818 : BitVec 32 := 8#32
  let v16116 : BitVec 32 := Scalar.muli arg29 c8_i32_4818
  let v16117 : Index := Scalar.indexCast v16116
  let c2432_4819 : Index := 2432#32
  ![v16117.toNat, 2432]
def k0_off279 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4827 : BitVec 32 := 8#32
  let v16136 : BitVec 32 := Scalar.muli arg29 c8_i32_4827
  let v16137 : Index := Scalar.indexCast v16136
  let c2560_4828 : Index := 2560#32
  ![v16137.toNat, 2560]
def k0_off280 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4836 : BitVec 32 := 8#32
  let v16156 : BitVec 32 := Scalar.muli arg29 c8_i32_4836
  let v16157 : Index := Scalar.indexCast v16156
  let c2688_4837 : Index := 2688#32
  ![v16157.toNat, 2688]
def k0_off281 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4845 : BitVec 32 := 8#32
  let v16176 : BitVec 32 := Scalar.muli arg29 c8_i32_4845
  let v16177 : Index := Scalar.indexCast v16176
  let c2816_4846 : Index := 2816#32
  ![v16177.toNat, 2816]
def k0_off282 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4854 : BitVec 32 := 8#32
  let v16196 : BitVec 32 := Scalar.muli arg29 c8_i32_4854
  let v16197 : Index := Scalar.indexCast v16196
  let c2944_4855 : Index := 2944#32
  ![v16197.toNat, 2944]
def k0_off283 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4863 : BitVec 32 := 8#32
  let v16216 : BitVec 32 := Scalar.muli arg29 c8_i32_4863
  let v16217 : Index := Scalar.indexCast v16216
  let c3072_4864 : Index := 3072#32
  ![v16217.toNat, 3072]
def k0_off284 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4872 : BitVec 32 := 8#32
  let v16236 : BitVec 32 := Scalar.muli arg29 c8_i32_4872
  let v16237 : Index := Scalar.indexCast v16236
  let c3200_4873 : Index := 3200#32
  ![v16237.toNat, 3200]
def k0_off285 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4881 : BitVec 32 := 8#32
  let v16256 : BitVec 32 := Scalar.muli arg29 c8_i32_4881
  let v16257 : Index := Scalar.indexCast v16256
  let c3328_4882 : Index := 3328#32
  ![v16257.toNat, 3328]
def k0_off286 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4890 : BitVec 32 := 8#32
  let v16276 : BitVec 32 := Scalar.muli arg29 c8_i32_4890
  let v16277 : Index := Scalar.indexCast v16276
  let c3456_4891 : Index := 3456#32
  ![v16277.toNat, 3456]
def k0_off287 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4899 : BitVec 32 := 8#32
  let v16296 : BitVec 32 := Scalar.muli arg29 c8_i32_4899
  let v16297 : Index := Scalar.indexCast v16296
  let c3584_4900 : Index := 3584#32
  ![v16297.toNat, 3584]
def k0_off288 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4908 : BitVec 32 := 8#32
  let v16316 : BitVec 32 := Scalar.muli arg29 c8_i32_4908
  let v16317 : Index := Scalar.indexCast v16316
  let c3712_4909 : Index := 3712#32
  ![v16317.toNat, 3712]
def k0_off289 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4917 : BitVec 32 := 8#32
  let v16336 : BitVec 32 := Scalar.muli arg29 c8_i32_4917
  let v16337 : Index := Scalar.indexCast v16336
  let c3840_4918 : Index := 3840#32
  ![v16337.toNat, 3840]
def k0_off290 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4926 : BitVec 32 := 8#32
  let v16356 : BitVec 32 := Scalar.muli arg29 c8_i32_4926
  let v16357 : Index := Scalar.indexCast v16356
  let c3968_4927 : Index := 3968#32
  ![v16357.toNat, 3968]
def k0_off291 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4935 : BitVec 32 := 8#32
  let v16376 : BitVec 32 := Scalar.muli arg29 c8_i32_4935
  let v16377 : Index := Scalar.indexCast v16376
  let c4096_4936 : Index := 4096#32
  ![v16377.toNat, 4096]
def k0_off292 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4944 : BitVec 32 := 8#32
  let v16396 : BitVec 32 := Scalar.muli arg29 c8_i32_4944
  let v16397 : Index := Scalar.indexCast v16396
  let c4224_4945 : Index := 4224#32
  ![v16397.toNat, 4224]
def k0_off293 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4953 : BitVec 32 := 8#32
  let v16416 : BitVec 32 := Scalar.muli arg29 c8_i32_4953
  let v16417 : Index := Scalar.indexCast v16416
  let c4352_4954 : Index := 4352#32
  ![v16417.toNat, 4352]
def k0_off294 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4962 : BitVec 32 := 8#32
  let v16436 : BitVec 32 := Scalar.muli arg29 c8_i32_4962
  let v16437 : Index := Scalar.indexCast v16436
  let c4480_4963 : Index := 4480#32
  ![v16437.toNat, 4480]
def k0_off295 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4971 : BitVec 32 := 8#32
  let v16456 : BitVec 32 := Scalar.muli arg29 c8_i32_4971
  let v16457 : Index := Scalar.indexCast v16456
  let c4608_4972 : Index := 4608#32
  ![v16457.toNat, 4608]
def k0_off296 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4980 : BitVec 32 := 8#32
  let v16476 : BitVec 32 := Scalar.muli arg29 c8_i32_4980
  let v16477 : Index := Scalar.indexCast v16476
  let c4736_4981 : Index := 4736#32
  ![v16477.toNat, 4736]
def k0_off297 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4989 : BitVec 32 := 8#32
  let v16496 : BitVec 32 := Scalar.muli arg29 c8_i32_4989
  let v16497 : Index := Scalar.indexCast v16496
  let c4864_4990 : Index := 4864#32
  ![v16497.toNat, 4864]
def k0_off298 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_4998 : BitVec 32 := 8#32
  let v16516 : BitVec 32 := Scalar.muli arg29 c8_i32_4998
  let v16517 : Index := Scalar.indexCast v16516
  let c4992_4999 : Index := 4992#32
  ![v16517.toNat, 4992]
def k0_off299 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5007 : BitVec 32 := 8#32
  let v16536 : BitVec 32 := Scalar.muli arg29 c8_i32_5007
  let v16537 : Index := Scalar.indexCast v16536
  let c5120_5008 : Index := 5120#32
  ![v16537.toNat, 5120]
def k0_off300 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5016 : BitVec 32 := 8#32
  let v16556 : BitVec 32 := Scalar.muli arg29 c8_i32_5016
  let v16557 : Index := Scalar.indexCast v16556
  let c5248_5017 : Index := 5248#32
  ![v16557.toNat, 5248]
def k0_off301 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5025 : BitVec 32 := 8#32
  let v16576 : BitVec 32 := Scalar.muli arg29 c8_i32_5025
  let v16577 : Index := Scalar.indexCast v16576
  let c5376_5026 : Index := 5376#32
  ![v16577.toNat, 5376]
def k0_off302 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5034 : BitVec 32 := 8#32
  let v16596 : BitVec 32 := Scalar.muli arg29 c8_i32_5034
  let v16597 : Index := Scalar.indexCast v16596
  let c5504_5035 : Index := 5504#32
  ![v16597.toNat, 5504]
def k0_off303 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5043 : BitVec 32 := 8#32
  let v16616 : BitVec 32 := Scalar.muli arg29 c8_i32_5043
  let v16617 : Index := Scalar.indexCast v16616
  let c5632_5044 : Index := 5632#32
  ![v16617.toNat, 5632]
def k0_off304 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5052 : BitVec 32 := 8#32
  let v16636 : BitVec 32 := Scalar.muli arg29 c8_i32_5052
  let v16637 : Index := Scalar.indexCast v16636
  let c5760_5053 : Index := 5760#32
  ![v16637.toNat, 5760]
def k0_off305 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5061 : BitVec 32 := 8#32
  let v16656 : BitVec 32 := Scalar.muli arg29 c8_i32_5061
  let v16657 : Index := Scalar.indexCast v16656
  let c5888_5062 : Index := 5888#32
  ![v16657.toNat, 5888]
def k0_off306 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5070 : BitVec 32 := 8#32
  let v16676 : BitVec 32 := Scalar.muli arg29 c8_i32_5070
  let v16677 : Index := Scalar.indexCast v16676
  let c6016_5071 : Index := 6016#32
  ![v16677.toNat, 6016]
def k0_off307 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5079 : BitVec 32 := 8#32
  let v16696 : BitVec 32 := Scalar.muli arg29 c8_i32_5079
  let v16697 : Index := Scalar.indexCast v16696
  let c6144_5080 : Index := 6144#32
  ![v16697.toNat, 6144]
def k0_off308 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5088 : BitVec 32 := 8#32
  let v16716 : BitVec 32 := Scalar.muli arg29 c8_i32_5088
  let v16717 : Index := Scalar.indexCast v16716
  let c6272_5089 : Index := 6272#32
  ![v16717.toNat, 6272]
def k0_off309 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5097 : BitVec 32 := 8#32
  let v16736 : BitVec 32 := Scalar.muli arg29 c8_i32_5097
  let v16737 : Index := Scalar.indexCast v16736
  let c6400_5098 : Index := 6400#32
  ![v16737.toNat, 6400]
def k0_off310 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5106 : BitVec 32 := 8#32
  let v16756 : BitVec 32 := Scalar.muli arg29 c8_i32_5106
  let v16757 : Index := Scalar.indexCast v16756
  let c6528_5107 : Index := 6528#32
  ![v16757.toNat, 6528]
def k0_off311 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5115 : BitVec 32 := 8#32
  let v16776 : BitVec 32 := Scalar.muli arg29 c8_i32_5115
  let v16777 : Index := Scalar.indexCast v16776
  let c6656_5116 : Index := 6656#32
  ![v16777.toNat, 6656]
def k0_off312 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5124 : BitVec 32 := 8#32
  let v16796 : BitVec 32 := Scalar.muli arg29 c8_i32_5124
  let v16797 : Index := Scalar.indexCast v16796
  let c6784_5125 : Index := 6784#32
  ![v16797.toNat, 6784]
def k0_off313 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5133 : BitVec 32 := 8#32
  let v16816 : BitVec 32 := Scalar.muli arg29 c8_i32_5133
  let v16817 : Index := Scalar.indexCast v16816
  let c6912_5134 : Index := 6912#32
  ![v16817.toNat, 6912]
def k0_off314 (k0_t2 : Fin k0_t2_loop.trips) : Fin 2 → Nat :=
  let c0_i32_4640 : BitVec 32 := 0#32
  let c1_i32_4642 : BitVec 32 := 1#32
  let arg29 : BitVec 32 := Scf.iv c0_i32_4640 c1_i32_4642 k0_t2
  let c8_i32_5142 : BitVec 32 := 8#32
  let v16836 : BitVec 32 := Scalar.muli arg29 c8_i32_5142
  let v16837 : Index := Scalar.indexCast v16836
  let c7040_5143 : Index := 7040#32
  ![v16837.toNat, 7040]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2040 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7168x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S3584x2x128 : Shape := ⟨3, ![3584, 2, 128]⟩
abbrev S3584x1x128 : Shape := ⟨3, ![3584, 1, 128]⟩
abbrev S16x2x128 : Shape := ⟨3, ![16, 2, 128]⟩
abbrev S16x1x128 : Shape := ⟨3, ![16, 1, 128]⟩
abbrev S8x2x128 : Shape := ⟨3, ![8, 2, 128]⟩
abbrev S8x1x128 : Shape := ⟨3, ![8, 1, 128]⟩
  | .local _ .vmem, ⟨8, _⟩ => ⟨S3584x2x128, .bf16⟩
variable {F : FTy → Type} [FloatOps F]
-- ==== ReferenceIdeal.lean ====
abbrev S2x128x7168 : Shape := ⟨3, ![2, 128, 7168]⟩
abbrev S2040 : Shape := ⟨1, ![2040]⟩
abbrev S2040x7168 : Shape := ⟨2, ![2040, 7168]⟩
abbrev S2040x56 : Shape := ⟨2, ![2040, 56]⟩
abbrev S2040x56x128 : Shape := ⟨3, ![2040, 56, 128]⟩
abbrev S2040x56x1 : Shape := ⟨3, ![2040, 56, 1]⟩
abbrev S2040x1 : Shape := ⟨2, ![2040, 1]⟩
abbrev S_ : Shape := ⟨0, ![]⟩
abbrev S256x7168 : Shape := ⟨2, ![256, 7168]⟩

abbrev nBuf : Space → Nat
  | .hbm => 23
  | .vmem => 2
  | .smem => 0
  | _ => 0

abbrev bufTy : (tb : Table) → Fin (tcTables nBuf tb) → BufTy
  | .hbm, ⟨0, _⟩ => ⟨S2x128x7168, .bf16⟩
  | .hbm, ⟨1, _⟩ => ⟨S2040, .i32⟩
  | .hbm, ⟨2, _⟩ => ⟨S2040, .f32⟩
  | .hbm, ⟨3, _⟩ => ⟨S2040x7168, .fp8e4m3⟩
  | .hbm, ⟨4, _⟩ => ⟨S2040x56, .f32⟩
  | .hbm, ⟨5, _⟩ => ⟨S2040x7168, .f32⟩
  | .hbm, ⟨6, _⟩ => ⟨S2040x56x128, .f32⟩
  | .hbm, ⟨7, _⟩ => ⟨S2040x56x1, .f32⟩
  | .hbm, ⟨8, _⟩ => ⟨S2040x56x128, .f32⟩
  | .hbm, ⟨9, _⟩ => ⟨S2040x56x128, .f32⟩
  | .hbm, ⟨10, _⟩ => ⟨S2040x7168, .f32⟩
  | .hbm, ⟨11, _⟩ => ⟨S2040x1, .f32⟩
  | .hbm, ⟨12, _⟩ => ⟨S2040x7168, .f32⟩
  | .hbm, ⟨13, _⟩ => ⟨S2040x7168, .f32⟩
  | .hbm, ⟨14, _⟩ => ⟨S_, .f32⟩
  | .hbm, ⟨15, _⟩ => ⟨S256x7168, .f32⟩
  | .hbm, ⟨16, _⟩ => ⟨S2040x1, .i32⟩
  | .hbm, ⟨17, _⟩ => ⟨S256x7168, .f32⟩
  | .hbm, ⟨18, _⟩ => ⟨S256x7168, .bf16⟩
  | .hbm, ⟨19, _⟩ => ⟨S256x7168, .f32⟩
  | .hbm, ⟨20, _⟩ => ⟨S256x7168, .f32⟩
  | .hbm, ⟨21, _⟩ => ⟨S256x7168, .bf16⟩
  | .hbm, ⟨22, _⟩ => ⟨S2x128x7168, .bf16⟩
  | .local _ .vmem, ⟨0, _⟩ => ⟨S2040x7168, .fp8e4m3⟩
  | .local _ .vmem, ⟨1, _⟩ => ⟨S2040x7168, .f32⟩
  | _, _ => ⟨S2x128x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2040x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2040x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Rolled.lean ====
/-
The body of the kernel written with loops, over any two-word view of the staged rows.
The printed body is this program with every loop unrolled (`KernelRolled.lean`, `KernelIdealRolled.lean`).
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Combine

open Idealize.ShloMosaic Idealize.SL.Sem

abbrev S1 : Shape := ⟨1, ![1]⟩
abbrev S2040 : Shape := ⟨1, ![2040]⟩
abbrev S1x128 : Shape := ⟨2, ![1, 128]⟩
abbrev S56x128 : Shape := ⟨2, ![56, 128]⟩
abbrev S7168x128 : Shape := ⟨2, ![7168, 128]⟩
abbrev S256x7168 : Shape := ⟨2, ![256, 7168]⟩
abbrev S2432x128 : Shape := ⟨2, ![2432, 128]⟩
abbrev S128x128 : Shape := ⟨2, ![128, 128]⟩
abbrev S32x128 : Shape := ⟨2, ![32, 128]⟩
abbrev S8x128 : Shape := ⟨2, ![8, 128]⟩
abbrev S16x128 : Shape := ⟨2, ![16, 128]⟩
abbrev S3584x128 : Shape := ⟨2, ![3584, 128]⟩
abbrev S16x2x128 : Shape := ⟨3, ![16, 2, 128]⟩
abbrev S8x2x128 : Shape := ⟨3, ![8, 2, 128]⟩
abbrev S3584x2x128 : Shape := ⟨3, ![3584, 2, 128]⟩
abbrev S8x1 : Shape := ⟨2, ![8, 1]⟩

/-! ## Facts about the shapes -/

theorem pos_rank2 {s : Shape} (h : ∀ a, 0 < s.size a) : 0 < s.numel := Shape.numel_pos h

theorem h_S8x128 : 0 < S8x128.numel := pos_rank2 (by decide)
theorem h_S128x128 : 0 < S128x128.numel := pos_rank2 (by decide)
theorem h_S56x128 : 0 < S56x128.numel := pos_rank2 (by decide)
theorem h_S1x128 : 0 < S1x128.numel := pos_rank2 (by decide)
theorem h_S32x128 : 0 < S32x128.numel := pos_rank2 (by decide)
theorem numel_S1 : S1.numel = 1 := rfl
theorem broadcasts_ft : S1x128.Broadcasts S56x128 := by decide
theorem broadcasts_scale : S8x1.Broadcasts S8x128 := by decide
theorem slices_scale {o c : ℕ} (ho : o < 7) (hc : c < 128) : S56x128.Slices ![8 * o, c] S8x1 :=
  ⟨rfl, fun a => by
    match a with
    | 0 => show 8 * o + 8 ≤ 56; omega
    | 1 => show c + 1 ≤ 128; omega⟩

/-- A box of rows of a two-axis array, all of its lanes. -/
theorem inb_rows {R C n r : ℕ} (h : r + n ≤ R) :
    ∀ a, (![r, 0] : Fin 2 → ℕ) a + (⟨2, ![n, C]⟩ : Shape).size a ≤ (⟨2, ![R, C]⟩ : Shape).size a := fun a => by
  match a with
  | 0 => exact h
  | 1 => show 0 + C ≤ C; omega

theorem h_S16x128 : 0 < S16x128.numel := pos_rank2 (by decide)
theorem h_S16x2x128 : 0 < S16x2x128.numel := pos_rank2 (by decide)
theorem h_S8x2x128 : 0 < S8x2x128.numel := pos_rank2 (by decide)

/-- A box of row pairs, all of their lanes. -/
theorem inb_pairs {R n r : ℕ} (h : r + n ≤ R) :
    ∀ a, (![r, 0, 0] : Fin 3 → ℕ) a + (⟨3, ![n, 2, 128]⟩ : Shape).size a ≤ (⟨3, ![R, 2, 128]⟩ : Shape).size a := fun a => by
  match a with
  | 0 => exact h
  | 1 => exact le_rfl
  | 2 => exact le_rfl

/-- Where the pair `p` of rows begins in octet `o` of the staged rows. -/
def row0 (p o : ℕ) : ℕ := ((p / 4) * 56 + o * 8) * 4 + p % 4

theorem row0_lt (p : Fin 64) (o : Fin 7) : row0 p o + 4 * 7 < 3584 := by
  have hp := p.2
  have ho := o.2
  unfold row0
  omega

theorem inb_row0 (p : Fin 64) (o : Fin 7) : ∀ a, S8x128.size a = 0 ∨
    (![row0 p o, 0] : Fin 2 → ℕ) a + (![4, 1] : Fin 2 → ℕ) a * (S8x128.size a - 1) < S3584x128.size a := fun a => by
  match a with
  | 0 => exact .inr (row0_lt p o)
  | 1 => exact .inr (show 0 + 1 * 127 < 128 by decide)

theorem inb_pairs0 (p : Fin 64) (o : Fin 7) : ∀ a, S8x2x128.size a = 0 ∨
    (![row0 p o, 0, 0] : Fin 3 → ℕ) a + (![4, 1, 1] : Fin 3 → ℕ) a * (S8x2x128.size a - 1) < S3584x2x128.size a := fun a => by
  match a with
  | 0 => exact .inr (row0_lt p o)
  | 1 => exact .inr (show 0 + 1 * 1 < 2 by decide)
  | 2 => exact .inr (show 0 + 1 * 127 < 128 by decide)

/-! ## The words the body computes -/

variable {F : FTy → Type} [FloatOps F] {nD : ℕ} {τ : Topo} {sig : RefSig} {Λ : Labels}

/-- The row `k` of the pair `p` that grid step `i` takes. -/
def rowWord (i : BitVec 32) (p k : ℕ) : BitVec 32 :=
  Scalar.addi (Scalar.addi (Scalar.muli i 128#32) (BitVec.ofNat 32 (2 * p))) (BitVec.ofNat 32 k)

/-- Where its token number is read: the last row's past the end. -/
def tokOff (i : BitVec 32) (p k : ℕ) : Fin 1 → ℕ :=
  ![(Scalar.indexCast (Scalar.minsi (rowWord i p k) 2039#32)).toNat]

/-- Where its row is added in an accumulator, its token number being `v`: past the last token's rows past the end. -/
def accOff (i : BitVec 32) (p k : ℕ) (v : BitVec 32) : Fin 2 → ℕ :=
  ![(Scalar.indexCast (Scalar.muli (Scalar.select (Scalar.cmpi .slt (rowWord i p k) 2040#32) v 256#32) 9#32)).toNat, 0]

/-- The eight rows written there are the accumulator's. -/
def Fits (i : BitVec 32) (p : ℕ) (v : BitVec 32) : Prop :=
  ∀ a, accOff i p 1 v a + S8x128.size a ≤ S2432x128.size a

/-- The same of the first row of a pair, stated twice. -/
def Fits2 (i : BitVec 32) (p : ℕ) (v : BitVec 32) : Prop :=
  (∀ a, accOff i p 0 v a + S8x128.size a ≤ S2432x128.size a) ∧
  (∀ a, accOff i p 0 v a + S8x128.size a ≤ S2432x128.size a)

instance Fits.dec : ∀ (i : BitVec 32) (p : ℕ) (v : BitVec 32), Decidable (Fits i p v) :=
  fun i p v => decidable_of_iff' _ (Iff.of_eq (Fits.eq_1 i p v))
instance Fits2.dec : ∀ (i : BitVec 32) (p : ℕ) (v : BitVec 32), Decidable (Fits2 i p v) :=
  fun i p v => decidable_of_iff' _ (Iff.of_eq (Fits2.eq_1 i p v))

theorem rowWord_toNat (i : Fin 16) (p : Fin 64) (k : Fin 2) :
    (rowWord (BitVec.ofNat 32 i) p k).toNat = 128 * i + 2 * p + k := by
  have hi := i.2
  have hp := p.2
  have hk := k.2
  simp only [rowWord, Scalar.addi, Scalar.muli, IntOp.addi, IntOp.muli, BitVec.toNat_add, BitVec.toNat_mul,
    BitVec.toNat_ofNat]
  omega

theorem rowWord_toInt (i : Fin 16) (p : Fin 64) (k : Fin 2) :
    (rowWord (BitVec.ofNat 32 i) p k).toInt = ((128 * i.val + 2 * p.val + k.val : ℕ) : ℤ) := by
  have h := rowWord_toNat i p k
  rw [BitVec.toInt_eq_toNat_of_lt (by omega), h]

theorem tokOff_eq (i : Fin 16) (p : Fin 64) (k : Fin 2) :
    tokOff (BitVec.ofNat 32 i) p k = ![min (128 * i.val + 2 * p.val + k.val) 2039] := by
  have h := rowWord_toNat i p k
  have h1 := rowWord_toInt i p k
  have h2 : (Scalar.minsi (rowWord (BitVec.ofNat 32 i) p k) 2039#32).toNat = min (128 * i.val + 2 * p.val + k.val) 2039 := by
    have h3 : (2039#32 : BitVec 32).toInt = 2039 := by decide
    unfold Scalar.minsi IntOp.minsi
    by_cases h4 : (rowWord (BitVec.ofNat 32 i) p k).slt 2039#32 = true
    · rw [if_pos h4, h]
      rw [BitVec.slt_iff_toInt_lt, h1, h3] at h4
      omega
    · rw [if_neg h4]
      rw [BitVec.slt_iff_toInt_lt, h1, h3] at h4
      show 2039 = _
      omega
  unfold tokOff
  rw [← h2]
  rfl

theorem tokOff_inb (i : Fin 16) (p : Fin 64) (k : Fin 2) :
    ∀ a, tokOff (BitVec.ofNat 32 i) p k a + S1.size a ≤ S2040.size a := by
  rw [tokOff_eq]
  intro a
  match a with
  | 0 => show min (128 * i.val + 2 * p.val + k.val) 2039 + 1 ≤ 2040; omega

/-- The first row of a trip of the first step's loop. -/
def zeroRow (t : ℕ) : ℕ := (Scalar.indexCast (Scalar.muli (Scf.iv 0#32 1#32 t) 128#32)).toNat

/-- The first of the rows of the result of a trip of the last step's loop. -/
def outRow0 (t : ℕ) : ℕ := (Scalar.indexCast (Scalar.muli (Scf.iv 0#32 1#32 t) 8#32)).toNat

/-- Where their sums begin, in the accumulators of an octet, for the lane group `s`. -/
def accRow (t s : ℕ) : ℕ :=
  (Scalar.indexCast (Scalar.addi (Scalar.muli (Scalar.muli (Scf.iv 0#32 1#32 t) 8#32) 9#32) (BitVec.ofNat 32 s))).toNat

theorem zeroRow_eq {t : ℕ} (ht : t < 19) : zeroRow t = 128 * t :=
  (by decide : ∀ t : Fin 19, zeroRow t = 128 * t.val) ⟨t, ht⟩

theorem outRow0_eq {t : ℕ} (ht : t < 32) : outRow0 t = 8 * t :=
  (by decide : ∀ t : Fin 32, outRow0 t = 8 * t.val) ⟨t, ht⟩

theorem accRow_eq {t s : ℕ} (ht : t < 32) (hs : s < 8) : accRow t s = 72 * t + s :=
  (by decide +kernel : ∀ (t : Fin 32) (s : Fin 8), accRow t s = 72 * t.val + s.val) ⟨t, ht⟩ ⟨s, hs⟩

theorem zeroRow_le {t : ℕ} (ht : t < 19) : zeroRow t + 128 ≤ 2432 := by rw [zeroRow_eq ht]; omega

theorem inb_accRow {t s : ℕ} (ht : t < 32) (hs : s < 8) : ∀ a, S8x128.size a = 0 ∨
    (![accRow t s, 0] : Fin 2 → ℕ) a + (![9, 1] : Fin 2 → ℕ) a * (S8x128.size a - 1) < S2432x128.size a := fun a => by
  match a with
  | 0 => exact .inr (show accRow t s + 9 * 7 < 2432 by rw [accRow_eq ht hs]; omega)
  | 1 => exact .inr (show 0 + 1 * 127 < 128 by decide)

theorem inb_out {t : ℕ} (ht : t < 32) (j : Fin 56) :
    ∀ a, (![outRow0 t, 128 * j.val] : Fin 2 → ℕ) a + S8x128.size a ≤ S256x7168.size a := fun a => by
  have hj := j.2
  match a with
  | 0 => show outRow0 t + 8 ≤ 256; rw [outRow0_eq ht]; omega
  | 1 => show 128 * j.val + 128 ≤ 7168; omega

theorem packed_out {t : ℕ} (ht : t < 32) (j : Fin 56) :
    (Rect.unit (s := S256x7168) ![outRow0 t, 128 * j.val] S8x128.size (inb_out ht j)).PackedRows (EltTy.packing .bf16) := by
  refine .inr ⟨(le_rfl : 2 ≤ 2), rfl, .inl ⟨?_, ?_⟩⟩
  · show 2 ∣ outRow0 t
    rw [outRow0_eq ht]; omega
  · show 2 ∣ 8
    decide

/-! ## Loops of known length -/

/-- Run `f` at the last `n` of `N` numbers, in order. -/
def each {E : Type → Type} {N : ℕ} (f : Fin N → Prog E PUnit) (n : ℕ) : n ≤ N → Prog E PUnit :=
  Nat.rec (motive := fun n => n ≤ N → Prog E PUnit) (fun _ => pure ⟨⟩)
    (fun n ih h => f ⟨N - (n + 1), Nat.sub_lt (Nat.lt_of_lt_of_le (Nat.succ_pos n) h) (Nat.succ_pos n)⟩ >>= fun _ =>
      ih (Nat.le_of_succ_le h)) n

theorem each_zero {E : Type → Type} {N : ℕ} (f : Fin N → Prog E PUnit) (h : 0 ≤ N) : each f 0 h = pure ⟨⟩ := rfl

theorem each_succ {E : Type → Type} {N : ℕ} (f : Fin N → Prog E PUnit) (n : ℕ) (h : n + 1 ≤ N) :
    each f (n + 1) h = f ⟨N - (n + 1), Nat.sub_lt (Nat.lt_of_lt_of_le (Nat.succ_pos n) h) (Nat.succ_pos n)⟩ >>= fun _ =>
      each f n (Nat.le_of_succ_le h) := rfl

/-- A program whose first part begins with a value and a second program is that second program, then the rest. -/
theorem open_first {E : Type → Type} {α β γ δ : Type} {a : α} {p : Prog E α} {q : Prog E β} {f : α → β → Prog E γ} {k : γ → Prog E δ}
    (h : ∀ {ε : Type} (g : α → Prog E ε), (p >>= g) = g a) :
    ((p >>= fun x => q >>= fun y => f x y) >>= k) = q >>= fun y => f a y >>= k := by
  rw [h, bind_assoc]

/-! ## The body -/

/-- The accumulator of octet `o` of the lane groups, copy `c`. -/
def ix (o c : ℕ) (ho : o < 7) (hc : c < 3) : Fin 21 := ⟨3 * o + c, by omega⟩

section Body

/-- Load a box of a two-axis array. -/
def loadBox {R C R' C' : ℕ} {e : EltTy} (m : Memref sig .tc .vmem ⟨2, ![R, C]⟩ e) (off : Fin 2 → ℕ)
    (h : ∀ a, off a + (⟨2, ![R', C']⟩ : Shape).size a ≤ (⟨2, ![R, C]⟩ : Shape).size a)
    (h0 : 0 < (⟨2, ![R', C']⟩ : Shape).numel) :
    Prog (TpuEff nD τ sig (Elt F) Λ .tc) ((⟨2, ![R', C']⟩ : Shape).Idx → Elt F e) :=
  Prog.lift (.load m (Rect.unit (s := ⟨2, ![R, C]⟩) off (⟨2, ![R', C']⟩ : Shape).size h).toLoadRect (View.loadsAt_vmem h0))

/-- Load eight rows, each the fourth after the one before. -/
def loadStrided (m : Memref sig .tc .vmem S3584x128 .i32) (r : ℕ)
    (h : ∀ a, S8x128.size a = 0 ∨ (![r, 0] : Fin 2 → ℕ) a + (![4, 1] : Fin 2 → ℕ) a * (S8x128.size a - 1) < S3584x128.size a)
    (h0 : 0 < S8x128.numel) : Prog (TpuEff nD τ sig (Elt F) Λ .tc) (S8x128.Idx → Elt F .i32) :=
  Prog.lift (.load m (⟨![r, 0], S8x128.size, ![4, 1], h⟩ : LoadRect S3584x128) (View.loadsAt_vmem h0))

/-- Store a box of a two-axis array of 32-bit elements, all of it. -/
def storeBox {R C R' C' : ℕ} (m : Memref sig .tc .vmem ⟨2, ![R, C]⟩ .f32) (off : Fin 2 → ℕ)
    (h : ∀ a, off a + (⟨2, ![R', C']⟩ : Shape).size a ≤ (⟨2, ![R, C]⟩ : Shape).size a)
    (h0 : 0 < (⟨2, ![R', C']⟩ : Shape).numel) (v : FVec F ⟨2, ![R', C']⟩ .f32) :
    Prog (TpuEff nD τ sig (Elt F) Λ .tc) PUnit :=
  Prog.lift (.store m (Rect.unit (s := ⟨2, ![R, C]⟩) off (⟨2, ![R', C']⟩ : Shape).size h) (shapeCast ⟨2, ![R', C']⟩ v rfl)
    Finset.univ (View.stores_vmem_bits_univ h0 rfl) (.inl rfl))

/-- Add `x` to eight rows of an accumulator. -/
def update (acc : Memref sig .tc .vmem S2432x128 .f32) (off : Fin 2 → ℕ)
    (h : ∀ a, off a + S8x128.size a ≤ S2432x128.size a) (x : FVec F S8x128 .f32) :
    Prog (TpuEff nD τ sig (Elt F) Λ .tc) PUnit :=
  loadBox acc off h h_S8x128 >>= fun v =>
  loadBox acc off h h_S8x128 >>= fun _ =>
  storeBox acc off h h_S8x128 (addf (F := F) (s := S8x128) v x)

/-- The column of scales that row `c` of the block takes in octet `o`, along the lanes. -/
def scale (ft : FVec F S56x128 .f32) (o c : ℕ) (ho : o < 7) (hc : c < 128) : FVec F S8x128 .f32 :=
  broadcastTo S8x128 (shapeCast S8x1 (extractStridedSlice S8x1 ![8 * o, c] ft (slices_scale ho hc)) rfl) broadcasts_scale

variable (tok : Memref sig .tc .smem S2040 .i32) (w : Memref sig .tc .vmem S1x128 .f32) (s : Memref sig .tc .vmem S56x128 .f32)
  (y : Memref sig .tc .vmem S7168x128 .fp8e4m3) (x out : Memref sig .tc .vmem S256x7168 .bf16)
  (A : Fin 21 → Memref sig .tc .vmem S2432x128 .f32)

/-- Octet `o` of the pair `p` of rows, whose token numbers are `t0` and `t1`. -/
def octet (fetch : (p : Fin 64) → (o : Fin 7) → Prog (TpuEff nD τ sig (Elt F) Λ .tc) (FVec F S8x128 .f32 × FVec F S8x128 .f32)) (ft : FVec F S56x128 .f32)
    (i : Fin 16) (p : Fin 64) (t0 t1 : BitVec 32) (h0 : Fits2 (BitVec.ofNat 32 i) p t0) (h1 : Fits (BitVec.ofNat 32 i) p t1)
    (o : Fin 7) : Prog (TpuEff nD τ sig (Elt F) Λ .tc) PUnit :=
  fetch p o >>= fun v =>
  update (A (ix o ((2 * p) % 3) o.2 (Nat.mod_lt _ (by decide)))) (accOff (BitVec.ofNat 32 i) p 0 t0) h0.1
    (mulf v.1 (scale ft o (2 * p) o.2 (by omega))) >>= fun _ =>
  update (A (ix o ((2 * p + 1) % 3) o.2 (Nat.mod_lt _ (by decide)))) (accOff (BitVec.ofNat 32 i) p 1 t1) h1
    (mulf v.2 (scale ft o (2 * p + 1) o.2 (by omega)))

/-- The pair `p` of rows. -/
def pair (fetch : (p : Fin 64) → (o : Fin 7) → Prog (TpuEff nD τ sig (Elt F) Λ .tc) (FVec F S8x128 .f32 × FVec F S8x128 .f32)) (ft : FVec F S56x128 .f32)
    (i : Fin 16) (p : Fin 64) : Prog (TpuEff nD τ sig (Elt F) Λ .tc) PUnit :=
  smemLoad tok (Rect.unit (s := S2040) (tokOff (BitVec.ofNat 32 i) p 0) S1.size (tokOff_inb i p 0)) numel_S1 rfl >>= fun t0 =>
  Prog.lift (.assume (Fits2 (BitVec.ofNat 32 i) p t0) (Fits2.dec _ _ _)) >>= fun h0 =>
  smemLoad tok (Rect.unit (s := S2040) (tokOff (BitVec.ofNat 32 i) p 1) S1.size (tokOff_inb i p 1)) numel_S1 rfl >>= fun t1 =>
  Prog.lift (.assume (Fits (BitVec.ofNat 32 i) p t1) (Fits.dec _ _ _)) >>= fun h1 =>
  each (octet A fetch ft i p t0 t1 h0.down h1.down) 7 le_rfl

/-- Stage 32 of the block's rows of codes, as floats. -/
def stageRows (put : (m : Fin 224) → FVec F S32x128 .bf16 → Prog (TpuEff nD τ sig (Elt F) Λ .tc) PUnit) (m : Fin 224) : Prog (TpuEff nD τ sig (Elt F) Λ .tc) PUnit :=
  loadBox y ![32 * m, 0] (inb_rows (by omega)) h_S32x128 >>= fun v =>
  put m (extf .bf16 (shapeCast S32x128 (v : FVec F S32x128 .fp8e4m3) rfl) (by decide))

/-- Every grid step: the factors, the staged rows, the pairs of rows. -/
def mid (put : (m : Fin 224) → FVec F S32x128 .bf16 → Prog (TpuEff nD τ sig (Elt F) Λ .tc) PUnit)
    (fetch : (p : Fin 64) → (o : Fin 7) → Prog (TpuEff nD τ sig (Elt F) Λ .tc) (FVec F S8x128 .f32 × FVec F S8x128 .f32)) (i : Fin 16) : Prog (TpuEff nD τ sig (Elt F) Λ .tc) PUnit :=
  loadBox s ![0, 0] (inb_rows (by decide)) h_S56x128 >>= fun sv =>
  loadBox w ![0, 0] (inb_rows (by decide)) h_S1x128 >>= fun wv =>
  each (stageRows y put) 224 le_rfl >>= fun _ =>
  each (pair tok A fetch (mulf (shapeCast S56x128 (sv : FVec F S56x128 .f32) rfl)
    (broadcastTo S56x128 (shapeCast S1x128 (wv : FVec F S1x128 .f32) rfl) broadcasts_ft)) i) 64 le_rfl

/-- Store zeros in 128 rows of every accumulator. -/
def zeroRows (t : ℕ) (ht : t < 19) (a : Fin 21) : Prog (TpuEff nD τ sig (Elt F) Λ .tc) PUnit :=
  loadBox (F := F) (A a) ![zeroRow t, 0] (inb_rows (zeroRow_le ht)) h_S128x128 >>= fun _ =>
  storeBox (A a) ![zeroRow t, 0] (inb_rows (zeroRow_le ht)) h_S128x128
    (broadcast S128x128 (Scalar.ofBits .f32 0x00000000#32) : FVec F S128x128 .f32)

/-- A trip of the first step's loop. -/
def zeroTrip (t : ℕ) (ht : t < 19) : Prog (TpuEff nD τ sig (Elt F) Λ .tc) PUnit := each (zeroRows (F := F) A t ht) 21 le_rfl

/-- Load eight rows of an accumulator, each the ninth after the one before. -/
def loadNinth (m : Memref sig .tc .vmem S2432x128 .f32) (r : ℕ)
    (h : ∀ a, S8x128.size a = 0 ∨ (![r, 0] : Fin 2 → ℕ) a + (![9, 1] : Fin 2 → ℕ) a * (S8x128.size a - 1) < S2432x128.size a) :
    Prog (TpuEff nD τ sig (Elt F) Λ .tc) (S8x128.Idx → Elt F .f32) :=
  Prog.lift (.load m (⟨![r, 0], S8x128.size, ![9, 1], h⟩ : LoadRect S2432x128) (View.loadsAt_vmem h_S8x128))

/-- Store eight rows of the block of lanes `j` of the result: the activations and the three copies of their sum. -/
def outRow (hout : out.IsWhole) (t : ℕ) (ht : t < 32) (j : Fin 56) : Prog (TpuEff nD τ sig (Elt F) Λ .tc) PUnit :=
  loadNinth (F := F) (A (ix (j / 8) 0 (by omega) (by decide))) (accRow t (j % 8)) (inb_accRow ht (Nat.mod_lt _ (by decide))) >>= fun a0 =>
  loadNinth (F := F) (A (ix (j / 8) 1 (by omega) (by decide))) (accRow t (j % 8)) (inb_accRow ht (Nat.mod_lt _ (by decide))) >>= fun a1 =>
  loadNinth (F := F) (A (ix (j / 8) 2 (by omega) (by decide))) (accRow t (j % 8)) (inb_accRow ht (Nat.mod_lt _ (by decide))) >>= fun a2 =>
  loadBox (F := F) x ![outRow0 t, 128 * j] (inb_out ht j) h_S8x128 >>= fun xv =>
  loadBox (F := F) out ![outRow0 t, 128 * j] (inb_out ht j) h_S8x128 >>= fun _ =>
  Prog.lift (.store out (Rect.unit (s := S256x7168) ![outRow0 t, 128 * j] S8x128.size (inb_out ht j))
    (truncf .bf16 (addf (F := F) (s := S8x128) (extf .f32 (shapeCast S8x128 (xv : FVec F S8x128 .bf16) rfl) (by decide))
      (addf (F := F) (s := S8x128) (addf (F := F) (s := S8x128) a0 a1) a2)) (by decide))
    Finset.univ (View.stores_vmem h_S8x128 (hout.storeExact_slice rfl _ (packed_out ht j)) (fun _ => rfl)) (.inl rfl))

/-- A trip of the last step's loop. -/
def outTrip (hout : out.IsWhole) (t : ℕ) (ht : t < 32) : Prog (TpuEff nD τ sig (Elt F) Λ .tc) PUnit :=
  each (outRow (F := F) x out A hout t ht) 56 le_rfl

end Body

end Cert.Combine

end

end
-- ==== Proof.KernelRolled.lean ====
/-
The printed body is the body written with loops: the step-0 part, the middle, the last step's part.
-/
module

public import proofs.«01_k».proof.Kernel
public import Idealize.ShloMosaic.Lib.Tactic
public import proofs.«01_k».proof.Proof.Rolled

@[expose] public section

set_option synthInstance.maxSize 4096

noncomputable section

namespace Cert.Kernel.Rolled

open Idealize.ShloMosaic Idealize.SL.Sem

variable {F : FTy → Type} [BitOps F] [Facts]

/-- The rows are staged as words, the even row of each two in the low half. -/
def put (arg7 : Memref sig .tc .vmem S3584x128 .i32) (m : Fin 224) (v : FVec F Combine.S32x128 .bf16) :
    Prog (TpuEff nD τ sig (Elt F) Λ₀ .tc) PUnit :=
  Combine.loadBox arg7 ![16 * m, 0] (Combine.inb_rows (by omega)) Combine.h_S16x128 >>= fun _ =>
  Prog.lift (.store arg7 (Rect.unit (s := S3584x128) ![16 * m, 0] S16x128.size (Combine.inb_rows (by omega)))
    (shapeCast S16x128 (bitcast S16x128 32 (bitcastToInt v) (by decide)) rfl)
    Finset.univ (View.stores_vmem_bits_univ Combine.h_S16x128 rfl) (.inl rfl))

/-- The eight words of the pair `p` of rows in octet `o`, as the two rows' eight floats. -/
def fetch (arg7 : Memref sig .tc .vmem S3584x128 .i32) (p : Fin 64) (o : Fin 7) :
    Prog (TpuEff nD τ sig (Elt F) Λ₀ .tc) (FVec F Combine.S8x128 .f32 × FVec F Combine.S8x128 .f32) :=
  Combine.loadStrided arg7 (Combine.row0 p o) (Combine.inb_row0 p o) Combine.h_S8x128 >>= fun v =>
  pure (bitcastToFloat .f32 (shli (v : IVec S8x128 32) (broadcast S8x128 16#32)),
    bitcastToFloat .f32 (andi (v : IVec S8x128 32) (broadcast S8x128 4294901760#32)))

set_option maxRecDepth 100000 in
set_option maxHeartbeats 4000000 in
theorem body_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x128 .i32) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 >>= fun _ =>
        (Combine.mid arg1 arg2 arg3 arg4 ![arg8, arg9, arg10, arg11, arg12, arg13, arg14, arg15, arg16, arg17, arg18, arg19, arg20, arg21, arg22, arg23, arg24, arg25, arg26, arg27, arg28] (put arg7) (fetch arg7) (i 0) >>= fun _ =>
          k0_part406 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 >>= fun _ => pure ⟨⟩)) := by
  refine (Combine.open_first (fun {β} f => rfl)).trans (congrArg _ (funext fun _ => ?_))
  sl_kernel_rfl

theorem zeroTrip_lt (t : Fin k0_t1_loop.trips) : t.val < 19 := Nat.lt_of_lt_of_le t.isLt (by decide)
theorem outTrip_lt (t : Fin k0_t2_loop.trips) : t.val < 32 := Nat.lt_of_lt_of_le t.isLt (by decide)

/-- The first step's part: zeros in the accumulators. -/
theorem first_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x128 .i32) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      if h : k0_cond1 i = 1#1 then
        Scf.Loop.for k0_t1_loop (K0.Facts₀.k0_t1_ok i h) ⟨⟩ (fun t _ => Combine.zeroTrip ![arg8, arg9, arg10, arg11, arg12, arg13, arg14, arg15, arg16, arg17, arg18, arg19, arg20, arg21, arg22, arg23, arg24, arg25, arg26, arg27, arg28] t.val (zeroTrip_lt t)) >>= fun _ =>
          pure ⟨⟩
      else pure ⟨⟩ := by
  unfold k0_part32
  by_cases h : k0_cond1 i = 1#1
  · simp only [dif_pos h]
    have hb : ∀ (b b' : Fin k0_t1_loop.trips → PUnit → Prog (TpuEff nD τ sig (Elt F) Λ₀ .tc) PUnit), b = b' →
        (Scf.Loop.for k0_t1_loop (K0.Facts₀.k0_t1_ok i h) ⟨⟩ b >>= fun _ => (pure ⟨⟩ : Prog (TpuEff nD τ sig (Elt F) Λ₀ .tc) PUnit)) =
          (Scf.Loop.for k0_t1_loop (K0.Facts₀.k0_t1_ok i h) ⟨⟩ b' >>= fun _ => (pure ⟨⟩ : Prog (TpuEff nD τ sig (Elt F) Λ₀ .tc) PUnit)) := fun b b' e => by rw [e]
    refine hb _ _ (funext fun t => funext fun _ => ?_)
    sl_kernel_rfl
  · simp only [dif_neg h]

/-- The last step's part: the result. -/
theorem last_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x128 .i32) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    k0_part406 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      if h : k0_cond2 i = 1#1 then
        Scf.Loop.for k0_t2_loop (K0.Facts₀.k0_t2_ok i h) ⟨⟩ (fun t _ => Combine.outTrip arg5 arg6 ![arg8, arg9, arg10, arg11, arg12, arg13, arg14, arg15, arg16, arg17, arg18, arg19, arg20, arg21, arg22, arg23, arg24, arg25, arg26, arg27, arg28] harg6 t.val (outTrip_lt t)) >>= fun _ =>
          pure ⟨⟩
      else pure ⟨⟩ := by
  unfold k0_part406
  by_cases h : k0_cond2 i = 1#1
  · simp only [dif_pos h]
    have hb : ∀ (b b' : Fin k0_t2_loop.trips → PUnit → Prog (TpuEff nD τ sig (Elt F) Λ₀ .tc) PUnit), b = b' →
        (Scf.Loop.for k0_t2_loop (K0.Facts₀.k0_t2_ok i h) ⟨⟩ b >>= fun _ => (pure ⟨⟩ : Prog (TpuEff nD τ sig (Elt F) Λ₀ .tc) PUnit)) =
          (Scf.Loop.for k0_t2_loop (K0.Facts₀.k0_t2_ok i h) ⟨⟩ b' >>= fun _ => (pure ⟨⟩ : Prog (TpuEff nD τ sig (Elt F) Λ₀ .tc) PUnit)) := fun b b' e => by rw [e]
    refine hb _ _ (funext fun t => funext fun _ => ?_)
    sl_kernel_rfl
  · simp only [dif_neg h]

end Cert.Kernel.Rolled

end

end
-- ==== Proof.Triples.lean ====
/-
Triples for the body written with loops: what each piece reads and leaves in the buffers it works on.
-/
module

public import proofs.«01_k».proof.Proof.Rolled
public import Idealize.ShloMosaic.Lib.Pipeline.FrameBody
public import Idealize.ShloMosaic.Lib.Tactic

@[expose] public section

noncomputable section

namespace Cert.Combine

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {Λ : Labels}

/-- Assertions about the buffers. -/
abbrev Asn (F : FTy → Type) (nD : ℕ) (τ : Topo) (sig : RefSig) := sProp (MT nD τ sig Unit (Elt F) ℕ (UR sig nD τ) ℕ)

/-- Run from `P`, the program ends in `Q` of what it returns. -/
abbrev Runs (defs : Defs nD τ sig (Elt F) Λ) (𝒱 : Variants) (c : Dev nD) {α : Type} (P : Asn F nD τ sig)
    (p : Prog (TpuEff nD τ sig (Elt F) Λ .tc) α) (Q : α → Asn F nD τ sig) : Prop :=
  P ⊢ wp frame (wpE defs 𝒱 (c.tc : Thread nD τ) none) Set.univ p Q

variable {defs : Defs nD τ sig (Elt F) Λ} {𝒱 : Variants} {c : Dev nD} {α β : Type}

theorem Runs.ret {P : Asn F nD τ sig} {a : α} {Q : α → Asn F nD τ sig} (h : P ⊢ Q a) :
    Runs defs 𝒱 c P (pure a : Prog (TpuEff nD τ sig (Elt F) Λ .tc) α) Q := h.trans (le_wp_ret _ _ _ a Q)

theorem Runs.post {P : Asn F nD τ sig} {p : Prog (TpuEff nD τ sig (Elt F) Λ .tc) α} {Q Q' : α → Asn F nD τ sig} (h : Runs defs 𝒱 c P p Q)
    (hQ : ∀ a, Q a ⊢ Q' a) : Runs defs 𝒱 c P p Q' := BIBase.Entails.trans h (wp_mono _ _ _ hQ)

theorem Runs.pre {P P' : Asn F nD τ sig} {p : Prog (TpuEff nD τ sig (Elt F) Λ .tc) α} {Q : α → Asn F nD τ sig} (hP : P' ⊢ P)
    (h : Runs defs 𝒱 c P p Q) : Runs defs 𝒱 c P' p Q := BIBase.Entails.trans hP h

/-- One program, then another. -/
theorem Runs.seq {P : Asn F nD τ sig} {p : Prog (TpuEff nD τ sig (Elt F) Λ .tc) α} {S : α → Asn F nD τ sig}
    {k : α → Prog (TpuEff nD τ sig (Elt F) Λ .tc) β} {Q : β → Asn F nD τ sig} (hp : Runs defs 𝒱 c P p S) (hk : ∀ a, Runs defs 𝒱 c (S a) (k a) Q) :
    Runs defs 𝒱 c P (p >>= k) Q := by
  unfold Runs
  rw [wp_bind]
  exact BIBase.Entails.trans hp (wp_mono _ _ _ hk)

/-- What a program does not work on stays. -/
theorem Runs.frame {P : Asn F nD τ sig} {p : Prog (TpuEff nD τ sig (Elt F) Λ .tc) α} {S : α → Asn F nD τ sig} (hp : Runs defs 𝒱 c P p S)
    (R : Asn F nD τ sig) : Runs defs 𝒱 c iprop(P ∗ R) p (fun a => iprop(S a ∗ R)) :=
  BIBase.Entails.trans (sep_mono_left hp) (wp_frame_r _ _ _)

/-- A known fact before a program. -/
theorem Runs.pure_left {φ : Prop} {P : Asn F nD τ sig} {p : Prog (TpuEff nD τ sig (Elt F) Λ .tc) α} {Q : α → Asn F nD τ sig}
    (h : φ → Runs defs 𝒱 c P p Q) : Runs defs 𝒱 c iprop(⌜φ⌝ ∗ P) p Q := by
  unfold Runs
  iintro ⟨%hφ, H⟩
  iapply (h hφ)
  iexact H

/-- Contents not named before a program. -/
theorem Runs.exists_left {ι : Type} {P : ι → Asn F nD τ sig} {p : Prog (TpuEff nD τ sig (Elt F) Λ .tc) α} {Q : α → Asn F nD τ sig}
    (h : ∀ i, Runs defs 𝒱 c (P i) p Q) : Runs defs 𝒱 c iprop(∃ i, P i) p Q := by
  unfold Runs
  iintro ⟨%i, H⟩
  iapply (h i)
  iexact H

/-! ## Loads and stores -/

theorem runs_load {s : Shape} {e : EltTy} {sp : CoreSpace} {m : Memref sig .tc sp s e} {r : LoadRect s} {hl : m.view.LoadsAt r}
    {q : PosShare TreeShare} {X : s.Idx → Elt F e} :
    Runs defs 𝒱 c (owns (c.tc : Thread nD τ) m q X) (Prog.lift (.load m r hl))
      (fun v => iprop(⌜v = fun j => X (r.idx j)⌝ ∗ owns (c.tc : Thread nD τ) m q X)) := by
  unfold Runs owns
  iintro ⟨%f, %hf, H⟩
  iapply (wp_load 𝒱 (c.tc : Thread nD τ) none Set.univ (View.setOn_subset_set _ _)) $$ H
  iintro H
  iapply (le_wp_ret _ _ _ _ _)
  isplitr
  · ipureintro; subst hf; rfl
  · iexists f; isplitr
    · ipureintro; exact hf
    · iexact H

theorem read_store {s : Shape} {e : EltTy} {κ : Kind} {sp : Space} (v : View sig κ sp s e) (r : Rect s) (f : v.ty.Contents (Elt F))
    (w : r.shape.Idx → Elt F e) : v.read (Elt F) ((v.slice r).write (Elt F) f w Finset.univ) = r.overlay (v.read (Elt F) f) w := by
  funext j
  by_cases hj : j ∈ r.set
  · obtain ⟨x, rfl⟩ := r.exists_idx_of_mem hj
    change v.read (Elt F) _ (r.emb x) = r.overlay _ w (r.emb x)
    rw [Rect.overlay_emb, View.read_slice_write_emb r f w (Finset.mem_univ x)]
  · rw [Rect.overlay_of_not_mem _ _ _ hj, View.read_slice_write_of_not_mem r f w _ (by rwa [Rect.map_emb_univ])]

theorem runs_store {s : Shape} {e : EltTy} {sp : CoreSpace} {m : Memref sig .tc sp s e} {r : Rect s} {w : r.shape.Idx → Elt F e}
    {hx : (m.access r).Stores Finset.univ} {hm : (Finset.univ : Finset r.shape.Idx) = Finset.univ ∨ ∀ a, r.stride a = 1} {X : s.Idx → Elt F e} :
    Runs defs 𝒱 c (owns (c.tc : Thread nD τ) m fullShare X) (Prog.lift (.store m r w Finset.univ hx hm))
      (fun _ => owns (c.tc : Thread nD τ) m fullShare (r.overlay X w)) := by
  unfold Runs owns
  iintro ⟨%f, %hf, H⟩
  iapply (wp_store 𝒱 (c.tc : Thread nD τ) none Set.univ (m := m) (r := r) (w := w) (Mk := Finset.univ) (S := m.view.set) (View.set_slice_subset _ _)) $$ H
  iintro H
  iapply (le_wp_ret _ _ _ _ _)
  iexists _; isplitr
  · ipureintro; subst hf; exact read_store m.view r f w
  · iexact H

theorem runs_smem {s : Shape} {e : EltTy} {m : Memref sig .tc .smem s e} {r : Rect s} {h1 : r.shape.numel = 1} {hp : e.packing = 1}
    {q : PosShare TreeShare} {X : s.Idx → Elt F e} :
    Runs defs 𝒱 c (owns (c.tc : Thread nD τ) m q X) (smemLoad m r h1 hp)
      (fun v => iprop(⌜v = X (r.point h1)⌝ ∗ owns (c.tc : Thread nD τ) m q X)) := by
  unfold Runs owns
  iintro ⟨%f, %hf, H⟩
  iapply (wp_load 𝒱 (c.tc : Thread nD τ) none Set.univ (View.setOn_subset_set _ _)) $$ H
  iintro H
  iapply (le_wp_ret _ _ _ _ _)
  isplitr
  · ipureintro; subst hf; rfl
  · iexists f; isplitr
    · ipureintro; exact hf
    · iexact H

theorem runs_assume {P : Asn F nD τ sig} {φ : Prop} {d : Decidable φ} (h : φ) :
    Runs defs 𝒱 c P (Prog.lift (.assume φ d)) (fun _ => P) :=
  BIBase.Entails.trans (le_wp_ret _ _ _ (PLift.up h) (fun _ => P)) (wp_assume 𝒱 (c.tc : Thread nD τ) none Set.univ h)

theorem runs_loadBox {R C R' C' : ℕ} {e : EltTy} {m : Memref sig .tc .vmem ⟨2, ![R, C]⟩ e} {off : Fin 2 → ℕ}
    {h : ∀ a, off a + (⟨2, ![R', C']⟩ : Shape).size a ≤ (⟨2, ![R, C]⟩ : Shape).size a} {h0 : 0 < (⟨2, ![R', C']⟩ : Shape).numel}
    {q : PosShare TreeShare} {X : (⟨2, ![R, C]⟩ : Shape).Idx → Elt F e} :
    Runs defs 𝒱 c (owns (c.tc : Thread nD τ) m q X) (loadBox m off h h0)
      (fun v => iprop(⌜v = fun j => X ((Rect.unit (s := ⟨2, ![R, C]⟩) off (⟨2, ![R', C']⟩ : Shape).size h).emb j)⌝ ∗ owns (c.tc : Thread nD τ) m q X)) :=
  runs_load

theorem runs_storeBox {R C R' C' : ℕ} {m : Memref sig .tc .vmem ⟨2, ![R, C]⟩ .f32} {off : Fin 2 → ℕ}
    {h : ∀ a, off a + (⟨2, ![R', C']⟩ : Shape).size a ≤ (⟨2, ![R, C]⟩ : Shape).size a} {h0 : 0 < (⟨2, ![R', C']⟩ : Shape).numel}
    {v : FVec F ⟨2, ![R', C']⟩ .f32} {X : (⟨2, ![R, C]⟩ : Shape).Idx → Elt F .f32} :
    Runs defs 𝒱 c (owns (c.tc : Thread nD τ) m fullShare X) (storeBox m off h h0 v)
      (fun _ => owns (c.tc : Thread nD τ) m fullShare
        ((Rect.unit (s := ⟨2, ![R, C]⟩) off (⟨2, ![R', C']⟩ : Shape).size h).overlay X (shapeCast ⟨2, ![R', C']⟩ v rfl))) :=
  runs_store

/-! ## What the pieces leave -/

/-- Contents with `x` added to eight rows. -/
def addRows (X : S2432x128.Idx → Elt F .f32) (off : Fin 2 → ℕ) (h : ∀ a, off a + S8x128.size a ≤ S2432x128.size a) (x : FVec F S8x128 .f32) :
    S2432x128.Idx → Elt F .f32 :=
  (Rect.unit (s := S2432x128) off S8x128.size h).overlay X
    (shapeCast S8x128 (addf (F := F) (s := S8x128) (fun j => X ((Rect.unit (s := S2432x128) off S8x128.size h).emb j)) x) rfl)

theorem runs_update {m : Memref sig .tc .vmem S2432x128 .f32} {off : Fin 2 → ℕ}
    {h : ∀ a, off a + S8x128.size a ≤ S2432x128.size a} {x : FVec F S8x128 .f32} {X : S2432x128.Idx → Elt F .f32} :
    Runs defs 𝒱 c (owns (c.tc : Thread nD τ) m fullShare X) (update m off h x)
      (fun _ => owns (c.tc : Thread nD τ) m fullShare (addRows X off h x)) :=
  runs_loadBox.seq fun v => Runs.pure_left fun hv => runs_loadBox.seq fun _ => Runs.pure_left fun _ => by
    subst hv
    exact runs_storeBox

/-- The steps of a loop, as functions. -/
def eachF {σ : Type} {N : ℕ} (f : Fin N → σ → σ) (n : ℕ) : n ≤ N → σ → σ :=
  Nat.rec (motive := fun n => n ≤ N → σ → σ) (fun _ s => s)
    (fun n ih h s => ih (Nat.le_of_succ_le h) (f ⟨N - (n + 1), Nat.sub_lt (Nat.lt_of_lt_of_le (Nat.succ_pos n) h) (Nat.succ_pos n)⟩ s)) n

/-- What every step keeps, the loop keeps, numbered by the step. -/
theorem eachF_ind {σ : Type} {N : ℕ} {f : Fin N → σ → σ} (P : ℕ → σ → Prop) (hf : ∀ (k : Fin N) s, P k s → P (k + 1) (f k s)) :
    ∀ (n : ℕ) (h : n ≤ N) (s : σ), P (N - n) s → P N (eachF f n h s)
  | 0, _, _, hs => hs
  | n + 1, h, s, hs => eachF_ind P hf n (Nat.le_of_succ_le h) _ (by
      have := hf ⟨N - (n + 1), Nat.sub_lt (Nat.lt_of_lt_of_le (Nat.succ_pos n) h) (Nat.succ_pos n)⟩ s hs
      have e : N - (n + 1) + 1 = N - n := by omega
      rwa [e] at this)

theorem runs_each {σ : Type} {N : ℕ} {f : Fin N → Prog (TpuEff nD τ sig (Elt F) Λ .tc) PUnit} {g : Fin N → σ → σ} {I : σ → Asn F nD τ sig}
    (hf : ∀ k s, Runs defs 𝒱 c (I s) (f k) (fun _ => I (g k s))) :
    ∀ (n : ℕ) (h : n ≤ N) (s : σ), Runs defs 𝒱 c (I s) (each f n h) (fun _ => I (eachF g n h s))
  | 0, _, _ => Runs.ret .rfl
  | n + 1, h, s => (hf _ s).seq fun _ => runs_each hf n (Nat.le_of_succ_le h) _

/-! ## The accumulators -/

/-- What the accumulators hold. -/
abbrev Accs (F : FTy → Type) := Fin 21 → S2432x128.Idx → Elt F .f32

/-- The accumulators hold `f`. -/
def accs (c : Dev nD) (A : Fin 21 → Memref sig .tc .vmem S2432x128 .f32) (f : Accs F) : Asn F nD τ sig :=
  bigSep Finset.univ fun a : Fin 21 => owns (c.tc : Thread nD τ) (A a) fullShare (f a)

variable {A : Fin 21 → Memref sig .tc .vmem S2432x128 .f32}

/-- One accumulator taken out, and put back at other contents. -/
theorem accs_split (f : Accs F) (a : Fin 21) :
    (accs c A f : Asn F nD τ sig) ⊢ iprop(owns (c.tc : Thread nD τ) (A a) fullShare (f a)
      ∗ bigSep (Finset.univ.erase a) fun b : Fin 21 => owns (c.tc : Thread nD τ) (A b) fullShare (f b)) := by
  unfold accs
  rw [bigSep_univ_split a]
  exact .rfl

theorem accs_join (f : Accs F) (a : Fin 21) (X : S2432x128.Idx → Elt F .f32) :
    (iprop(owns (c.tc : Thread nD τ) (A a) fullShare X
      ∗ bigSep (Finset.univ.erase a) fun b : Fin 21 => owns (c.tc : Thread nD τ) (A b) fullShare (f b)) : Asn F nD τ sig)
      ⊢ accs c A (Function.update f a X) := by
  unfold accs
  rw [bigSep_univ_split a, Function.update_self, bigSep_congr (s := Finset.univ.erase a) (Φ := fun b : Fin 21 => owns (c.tc : Thread nD τ) (A b) fullShare (f b))
    (Ψ := fun b : Fin 21 => owns (c.tc : Thread nD τ) (A b) fullShare (Function.update f a X b))
    (fun b hb => by rw [Function.update_of_ne (Finset.ne_of_mem_erase hb)])]
  exact .rfl

theorem runs_acc {f : Accs F} {a : Fin 21} {X : S2432x128.Idx → Elt F .f32} {p : Prog (TpuEff nD τ sig (Elt F) Λ .tc) PUnit}
    (h : Runs defs 𝒱 c (owns (c.tc : Thread nD τ) (A a) fullShare (f a)) p (fun _ => owns (c.tc : Thread nD τ) (A a) fullShare X)) :
    Runs defs 𝒱 c (accs c A f) p (fun _ => accs c A (Function.update f a X)) :=
  Runs.pre (accs_split f a) ((h.frame _).post fun _ => accs_join f a X)

theorem runs_accRead {f : Accs F} {a : Fin 21} {p : Prog (TpuEff nD τ sig (Elt F) Λ .tc) α} {Q : α → Prop}
    (h : Runs defs 𝒱 c (owns (c.tc : Thread nD τ) (A a) fullShare (f a)) p (fun v => iprop(⌜Q v⌝ ∗ owns (c.tc : Thread nD τ) (A a) fullShare (f a)))) :
    Runs defs 𝒱 c (accs c A f) p (fun v => iprop(⌜Q v⌝ ∗ accs c A f)) :=
  Runs.pre (accs_split f a) ((h.frame _).post fun v => by
    iintro ⟨⟨%hv, H⟩, R⟩
    isplitr
    · ipureintro; exact hv
    · have e := accs_join (c := c) (A := A) (τ := τ) f a (f a)
      rw [Function.update_eq_self] at e
      iapply e
      isplitl [H] <;> iassumption)

/-- The accumulators with `x` added to eight rows of one. -/
def bump (f : Accs F) (a : Fin 21) (off : Fin 2 → ℕ) (h : ∀ a, off a + S8x128.size a ≤ S2432x128.size a) (x : FVec F S8x128 .f32) : Accs F :=
  Function.update f a (addRows (f a) off h x)

/-- The accumulators after octet `o` of the pair `p` of rows, `v` being the rows' floats. -/
def octetF (ft : FVec F S56x128 .f32) (i : Fin 16) (p : Fin 64) (t0 t1 : BitVec 32) (h0 : Fits2 (BitVec.ofNat 32 i) p t0)
    (h1 : Fits (BitVec.ofNat 32 i) p t1) (v : Fin 7 → FVec F S8x128 .f32 × FVec F S8x128 .f32) (o : Fin 7) (f : Accs F) : Accs F :=
  bump (bump f (ix o ((2 * p) % 3) o.2 (Nat.mod_lt _ (by decide))) (accOff (BitVec.ofNat 32 i) p 0 t0) h0.1
      (mulf (v o).1 (scale ft o (2 * p) o.2 (by omega))))
    (ix o ((2 * p + 1) % 3) o.2 (Nat.mod_lt _ (by decide))) (accOff (BitVec.ofNat 32 i) p 1 t1) h1
    (mulf (v o).2 (scale ft o (2 * p + 1) o.2 (by omega)))

theorem runs_octet {fetch : (p : Fin 64) → (o : Fin 7) → Prog (TpuEff nD τ sig (Elt F) Λ .tc) (FVec F S8x128 .f32 × FVec F S8x128 .f32)}
    {ft : FVec F S56x128 .f32} {i : Fin 16} {p : Fin 64} {t0 t1 : BitVec 32} {h0 : Fits2 (BitVec.ofNat 32 i) p t0}
    {h1 : Fits (BitVec.ofNat 32 i) p t1} {G : Asn F nD τ sig} {v : Fin 7 → FVec F S8x128 .f32 × FVec F S8x128 .f32}
    (hfetch : ∀ o, Runs defs 𝒱 c G (fetch p o) (fun r => iprop(⌜r = v o⌝ ∗ G))) (o : Fin 7) (f : Accs F) :
    Runs defs 𝒱 c iprop(G ∗ accs c A f) (octet A fetch ft i p t0 t1 h0 h1 o) (fun _ => iprop(G ∗ accs c A (octetF ft i p t0 t1 h0 h1 v o f))) :=
  ((hfetch o).frame _).seq fun r => Runs.pre sep_assoc (Runs.pure_left fun hr => by
    subst hr
    refine Runs.seq (S := fun _ => iprop(accs c A (bump f _ _ h0.1 _) ∗ G)) (Runs.pre sep_comm ((runs_acc runs_update).frame G)) fun _ => ?_
    exact ((runs_acc runs_update).frame G).post fun _ => sep_comm)

/-- The word an accumulator's place is computed from. -/
def tokAt (tc : S2040.Idx → BitVec 32) (i : Fin 16) (p : Fin 64) (k : Fin 2) : BitVec 32 :=
  tc ((Rect.unit (s := S2040) (tokOff (BitVec.ofNat 32 i) p k) S1.size (tokOff_inb i p k)).point numel_S1)

theorem accOff_eq (i : Fin 16) (p : Fin 64) (k : Fin 2) (v : BitVec 32) (hv : v.toNat < 256) :
    accOff (BitVec.ofNat 32 i) p k v = ![9 * (if 128 * i.val + 2 * p.val + k.val < 2040 then v.toNat else 256), 0] := by
  have h1 := rowWord_toInt i p k
  have h2 : ∀ u : BitVec 32, u.toNat ≤ 256 → (Scalar.indexCast (Scalar.muli u 9#32)).toNat = 9 * u.toNat := fun u hu => by
    show (u * 9#32).toNat = _
    have e : (u * 9#32).toNat = 9 * u.toNat := by
      rw [BitVec.toNat_mul, BitVec.toNat_ofNat]; omega
    rw [e]
  have h3 : (2040#32 : BitVec 32).toInt = 2040 := by decide
  unfold accOff Scalar.select Scalar.cmpi IntOp.cmpi
  by_cases hr : 128 * i.val + 2 * p.val + k.val < 2040
  · have h4 : (rowWord (BitVec.ofNat 32 i) p k).slt 2040#32 = true := by
      rw [BitVec.slt_iff_toInt_lt, h1, h3]; omega
    rw [if_pos hr, h4]
    show ![(Scalar.indexCast (Scalar.muli v 9#32)).toNat, 0] = _
    rw [h2 v (by omega)]
  · have h4 : (rowWord (BitVec.ofNat 32 i) p k).slt 2040#32 = false := by
      rw [Bool.eq_false_iff, Ne, BitVec.slt_iff_toInt_lt, h1, h3]; omega
    rw [if_neg hr, h4]
    show ![(Scalar.indexCast (Scalar.muli 256#32 9#32)).toNat, 0] = _
    rw [h2 256#32 (by decide)]
    rfl

theorem accOff_inb (i : Fin 16) (p : Fin 64) (k : Fin 2) (v : BitVec 32) (hv : v.toNat < 256) :
    ∀ a, accOff (BitVec.ofNat 32 i) p k v a + S8x128.size a ≤ S2432x128.size a := by
  rw [accOff_eq i p k v hv]
  intro a
  match a with
  | 0 =>
    show 9 * (if 128 * i.val + 2 * p.val + k.val < 2040 then v.toNat else 256) + 8 ≤ 2432
    split <;> omega
  | 1 => exact le_rfl

theorem fits2_of (i : Fin 16) (p : Fin 64) (v : BitVec 32) (hv : v.toNat < 256) : Fits2 (BitVec.ofNat 32 i) p v :=
  ⟨accOff_inb i p 0 v hv, accOff_inb i p 0 v hv⟩

theorem fits_of (i : Fin 16) (p : Fin 64) (v : BitVec 32) (hv : v.toNat < 256) : Fits (BitVec.ofNat 32 i) p v := accOff_inb i p 1 v hv

variable {tc : S2040.Idx → BitVec 32} (htc : ∀ x, (tc x).toNat < 256)

/-- The accumulators after the pair `p` of rows. -/
def pairF (ft : FVec F S56x128 .f32) (i : Fin 16) (v : Fin 64 → Fin 7 → FVec F S8x128 .f32 × FVec F S8x128 .f32) (p : Fin 64) (f : Accs F) : Accs F :=
  eachF (octetF ft i p (tokAt tc i p 0) (tokAt tc i p 1) (fits2_of i p _ (htc _)) (fits_of i p _ (htc _)) (v p)) 7 le_rfl f

theorem runs_pair {tok : Memref sig .tc .smem S2040 .i32}
    {fetch : (p : Fin 64) → (o : Fin 7) → Prog (TpuEff nD τ sig (Elt F) Λ .tc) (FVec F S8x128 .f32 × FVec F S8x128 .f32)}
    {ft : FVec F S56x128 .f32} {i : Fin 16} {G : Asn F nD τ sig} {v : Fin 64 → Fin 7 → FVec F S8x128 .f32 × FVec F S8x128 .f32}
    (hfetch : ∀ p o, Runs defs 𝒱 c G (fetch p o) (fun r => iprop(⌜r = v p o⌝ ∗ G))) (p : Fin 64) (f : Accs F) :
    Runs defs 𝒱 c iprop(owns (c.tc : Thread nD τ) tok fullShare tc ∗ G ∗ accs c A f) (pair tok A fetch ft i p)
      (fun _ => iprop(owns (c.tc : Thread nD τ) tok fullShare tc ∗ G ∗ accs c A (pairF htc ft i v p f))) := by
  unfold pair
  refine (runs_smem.frame _).seq fun t0 => Runs.pre sep_assoc (Runs.pure_left fun e0 => ?_)
  refine (runs_assume (e0 ▸ fits2_of i p _ (htc _))).seq fun g0 => ?_
  refine (runs_smem.frame _).seq fun t1 => Runs.pre sep_assoc (Runs.pure_left fun e1 => ?_)
  refine (runs_assume (e1 ▸ fits_of i p _ (htc _))).seq fun g1 => ?_
  subst e0 e1
  exact Runs.pre sep_comm (((runs_each (I := fun f => iprop(G ∗ accs c A f)) (runs_octet (hfetch p)) 7 le_rfl f).frame _).post fun _ => sep_comm)

/-- The floats of 32 of the block's rows of codes. -/
def rowsOf (yc : S7168x128.Idx → Elt F .fp8e4m3) (m : Fin 224) : FVec F S32x128 .bf16 :=
  extf .bf16 (shapeCast S32x128 ((fun j => yc ((Rect.unit (s := S7168x128) ![32 * m, 0] S32x128.size (inb_rows (by omega))).emb j) : FVec F S32x128 .fp8e4m3)) rfl) (by decide)

/-- The block's factors: its rows' scales times its rows' weights. -/
def factors (sc : S56x128.Idx → Elt F .f32) (wc : S1x128.Idx → Elt F .f32) : FVec F S56x128 .f32 :=
  mulf (shapeCast S56x128 ((fun j => sc ((Rect.unit (s := S56x128) ![0, 0] S56x128.size (inb_rows (by decide))).emb j) : FVec F S56x128 .f32)) rfl)
    (broadcastTo S56x128 (shapeCast S1x128 ((fun j => wc ((Rect.unit (s := S1x128) ![0, 0] S1x128.size (inb_rows (by decide))).emb j) : FVec F S1x128 .f32)) rfl) broadcasts_ft)

section Mid

variable {Stg : Type} (putF : Fin 224 → FVec F S32x128 .bf16 → Stg → Stg) (fetchF : Stg → Fin 64 → Fin 7 → FVec F S8x128 .f32 × FVec F S8x128 .f32)

/-- The staged rows. -/
def stageF (yc : S7168x128.Idx → Elt F .fp8e4m3) (s : Stg) : Stg := eachF (fun m s => putF m (rowsOf yc m) s) 224 le_rfl s

/-- The accumulators after a grid step. -/
def midF (yc : S7168x128.Idx → Elt F .fp8e4m3) (sc : S56x128.Idx → Elt F .f32) (wc : S1x128.Idx → Elt F .f32) (i : Fin 16) (s : Stg) (f : Accs F) : Accs F :=
  eachF (pairF htc (factors sc wc) i (fetchF (stageF putF yc s))) 64 le_rfl f

/-- What a grid step works on. -/
def held (c : Dev nD) (tok : Memref sig .tc .smem S2040 .i32) (w : Memref sig .tc .vmem S1x128 .f32) (s : Memref sig .tc .vmem S56x128 .f32)
    (y : Memref sig .tc .vmem S7168x128 .fp8e4m3) (stg : Stg → Asn F nD τ sig) (A : Fin 21 → Memref sig .tc .vmem S2432x128 .f32)
    (tc : S2040.Idx → BitVec 32) (yc : S7168x128.Idx → Elt F .fp8e4m3) (sc : S56x128.Idx → Elt F .f32) (wc : S1x128.Idx → Elt F .f32)
    (g : Stg) (f : Accs F) : Asn F nD τ sig :=
  iprop(owns (c.tc : Thread nD τ) w fullShare wc ∗ owns (c.tc : Thread nD τ) s fullShare sc ∗ owns (c.tc : Thread nD τ) y fullShare yc
    ∗ owns (c.tc : Thread nD τ) tok fullShare tc ∗ stg g ∗ accs c A f)

variable {putF fetchF}

theorem runs_mid {tok : Memref sig .tc .smem S2040 .i32} {w : Memref sig .tc .vmem S1x128 .f32} {s : Memref sig .tc .vmem S56x128 .f32}
    {y : Memref sig .tc .vmem S7168x128 .fp8e4m3} {stg : Stg → Asn F nD τ sig} {put : (m : Fin 224) → FVec F S32x128 .bf16 → Prog (TpuEff nD τ sig (Elt F) Λ .tc) PUnit}
    {fetch : (p : Fin 64) → (o : Fin 7) → Prog (TpuEff nD τ sig (Elt F) Λ .tc) (FVec F S8x128 .f32 × FVec F S8x128 .f32)} {i : Fin 16}
    {yc : S7168x128.Idx → Elt F .fp8e4m3} {sc : S56x128.Idx → Elt F .f32} {wc : S1x128.Idx → Elt F .f32}
    (hput : ∀ m v g, Runs defs 𝒱 c (stg g) (put m v) (fun _ => stg (putF m v g)))
    (hfetch : ∀ g p o, Runs defs 𝒱 c (stg g) (fetch p o) (fun r => iprop(⌜r = fetchF g p o⌝ ∗ stg g))) (g : Stg) (f : Accs F) :
    Runs defs 𝒱 c (held c tok w s y stg A tc yc sc wc g f) (mid tok w s y A put fetch i)
      (fun _ => held c tok w s y stg A tc yc sc wc (stageF putF yc g) (midF htc putF fetchF yc sc wc i g f)) := by
  unfold held mid
  -- the scales and the weights
  refine Runs.seq (S := fun v => iprop(⌜v = fun j => sc ((Rect.unit (s := S56x128) ![0, 0] S56x128.size (inb_rows (by decide))).emb j)⌝
      ∗ held c tok w s y stg A tc yc sc wc g f)) ?_ fun sv => Runs.pure_left fun hsv => ?_
  · refine Runs.pre (P := iprop(owns (c.tc : Thread nD τ) s fullShare sc ∗ (owns (c.tc : Thread nD τ) w fullShare wc ∗ owns (c.tc : Thread nD τ) y fullShare yc
      ∗ owns (c.tc : Thread nD τ) tok fullShare tc ∗ stg g ∗ accs c A f))) ?_ ((runs_loadBox.frame _).post fun v => ?_)
    · iintro ⟨Hw, Hs, R⟩
      isplitl [Hs]; · iexact Hs
      isplitl [Hw] <;> iassumption
    · unfold held
      iintro ⟨⟨%hv, Hs⟩, Hw, R⟩
      isplitr; · ipureintro; exact hv
      isplitl [Hw]; · iexact Hw
      isplitl [Hs] <;> iassumption
  refine Runs.seq (S := fun v => iprop(⌜v = fun j => wc ((Rect.unit (s := S1x128) ![0, 0] S1x128.size (inb_rows (by decide))).emb j)⌝
      ∗ held c tok w s y stg A tc yc sc wc g f)) ((runs_loadBox.frame _).post fun v => sep_assoc) fun wv => Runs.pure_left fun hwv => ?_
  subst hsv hwv
  -- the staged rows
  refine Runs.seq (S := fun _ => held c tok w s y stg A tc yc sc wc (stageF putF yc g) f) ?_ fun _ => ?_
  · refine Runs.pre (P := iprop((owns (c.tc : Thread nD τ) y fullShare yc ∗ stg g) ∗ (owns (c.tc : Thread nD τ) w fullShare wc ∗ owns (c.tc : Thread nD τ) s fullShare sc
      ∗ owns (c.tc : Thread nD τ) tok fullShare tc ∗ accs c A f))) ?_
      (((runs_each (I := fun g => iprop(owns (c.tc : Thread nD τ) y fullShare yc ∗ stg g)) (g := fun m g => putF m (rowsOf yc m) g) (fun m g => ?_) 224 le_rfl g).frame _).post fun v => ?_)
    · unfold held
      iintro ⟨Hw, Hs, Hy, Ht, Hg, Ha⟩
      isplitl [Hy Hg]; · isplitl [Hy] <;> iassumption
      isplitl [Hw]; · iexact Hw
      isplitl [Hs]; · iexact Hs
      isplitl [Ht] <;> iassumption
    · refine (runs_loadBox.frame _).seq fun v => Runs.pre sep_assoc (Runs.pure_left fun hv => ?_)
      subst hv
      exact Runs.pre sep_comm (((hput m _ g).frame _).post fun _ => sep_comm)
    · unfold held stageF
      iintro ⟨⟨Hy, Hg⟩, Hw, Hs, Ht, Ha⟩
      isplitl [Hw]; · iexact Hw
      isplitl [Hs]; · iexact Hs
      isplitl [Hy]; · iexact Hy
      isplitl [Ht]; · iexact Ht
      isplitl [Hg]; · iexact Hg
      iexact Ha
  -- the pairs of rows
  refine Runs.pre (P := iprop((owns (c.tc : Thread nD τ) tok fullShare tc ∗ stg (stageF putF yc g) ∗ accs c A f) ∗ (owns (c.tc : Thread nD τ) w fullShare wc
      ∗ owns (c.tc : Thread nD τ) s fullShare sc ∗ owns (c.tc : Thread nD τ) y fullShare yc))) ?_
      (((runs_each (I := fun f => iprop(owns (c.tc : Thread nD τ) tok fullShare tc ∗ stg (stageF putF yc g) ∗ accs c A f))
        (runs_pair (tok := tok) htc (hfetch (stageF putF yc g))) 64 le_rfl f).frame _).post fun v => ?_)
  · unfold held
    iintro ⟨Hw, Hs, Hy, R⟩
    isplitl [R]; · iexact R
    isplitl [Hw]; · iexact Hw
    isplitl [Hs] <;> iassumption
  · iintro ⟨R, Hw, Hs, Hy⟩
    isplitl [Hw]; · iexact Hw
    isplitl [Hs]; · iexact Hs
    isplitl [Hy]; · iexact Hy
    iexact R

end Mid

/-! ## The first and the last step -/

/-- The accumulators after zeros are stored in 128 rows of one. -/
def zeroRowsF (t : ℕ) (ht : t < 19) (a : Fin 21) (f : Accs F) : Accs F :=
  Function.update f a ((Rect.unit (s := S2432x128) ![zeroRow t, 0] S128x128.size (inb_rows (zeroRow_le ht))).overlay (f a)
    (shapeCast S128x128 (broadcast S128x128 (Scalar.ofBits .f32 0x00000000#32) : FVec F S128x128 .f32) rfl))

def zeroTripF (t : ℕ) (ht : t < 19) (f : Accs F) : Accs F := eachF (zeroRowsF t ht) 21 le_rfl f

theorem runs_zeroRows (t : ℕ) (ht : t < 19) (a : Fin 21) (f : Accs F) :
    Runs defs 𝒱 c (accs c A f) (zeroRows (F := F) A t ht a) (fun _ => accs c A (zeroRowsF t ht a f)) := by
  unfold zeroRows zeroRowsF
  exact runs_acc (runs_loadBox.seq fun _ => Runs.pure_left fun _ => runs_storeBox)

theorem runs_zeroTrip (t : ℕ) (ht : t < 19) (f : Accs F) :
    Runs defs 𝒱 c (accs c A f) (zeroTrip (F := F) A t ht) (fun _ => accs c A (zeroTripF t ht f)) :=
  runs_each (I := fun f => accs c A f) (runs_zeroRows t ht) 21 le_rfl f

/-- The eight rows an octet's lane group has in a trip of the last step. -/
def ninth (X : S2432x128.Idx → Elt F .f32) (t : ℕ) (ht : t < 32) (j : Fin 56) : FVec F S8x128 .f32 :=
  fun k => X ((⟨![accRow t (j % 8), 0], S8x128.size, ![9, 1], inb_accRow ht (Nat.mod_lt _ (by decide))⟩ : LoadRect S2432x128).idx k)

/-- The eight rows of the block of lanes `j` that a trip of the last step stores. -/
def outVal (xc : S256x7168.Idx → Elt F .bf16) (f : Accs F) (t : ℕ) (ht : t < 32) (j : Fin 56) : FVec F S8x128 .bf16 :=
  truncf .bf16 (addf (F := F) (s := S8x128) (extf .f32 (shapeCast S8x128
      ((fun k => xc ((Rect.unit (s := S256x7168) ![outRow0 t, 128 * j] S8x128.size (inb_out ht j)).emb k) : FVec F S8x128 .bf16)) rfl) (by decide))
    (addf (F := F) (s := S8x128) (addf (F := F) (s := S8x128) (ninth (f (ix (j / 8) 0 (by omega) (by decide))) t ht j)
      (ninth (f (ix (j / 8) 1 (by omega) (by decide))) t ht j)) (ninth (f (ix (j / 8) 2 (by omega) (by decide))) t ht j))) (by decide)

/-- The result's block with them. -/
def outRowF (xc : S256x7168.Idx → Elt F .bf16) (f : Accs F) (t : ℕ) (ht : t < 32) (j : Fin 56) (O : S256x7168.Idx → Elt F .bf16) : S256x7168.Idx → Elt F .bf16 :=
  (Rect.unit (s := S256x7168) ![outRow0 t, 128 * j] S8x128.size (inb_out ht j)).overlay O (outVal xc f t ht j)

def outTripF (xc : S256x7168.Idx → Elt F .bf16) (f : Accs F) (t : ℕ) (ht : t < 32) (O : S256x7168.Idx → Elt F .bf16) : S256x7168.Idx → Elt F .bf16 :=
  eachF (outRowF xc f t ht) 56 le_rfl O

set_option maxRecDepth 8000 in
theorem runs_outRow {x out : Memref sig .tc .vmem S256x7168 .bf16} {hout : out.IsWhole} {xc : S256x7168.Idx → Elt F .bf16} {f : Accs F}
    (t : ℕ) (ht : t < 32) (j : Fin 56) (O : S256x7168.Idx → Elt F .bf16) :
    Runs defs 𝒱 c iprop(accs c A f ∗ owns (c.tc : Thread nD τ) x fullShare xc ∗ owns (c.tc : Thread nD τ) out fullShare O)
      (outRow (F := F) x out A hout t ht j)
      (fun _ => iprop(accs c A f ∗ owns (c.tc : Thread nD τ) x fullShare xc ∗ owns (c.tc : Thread nD τ) out fullShare (outRowF xc f t ht j O))) := by
  unfold outRow
  refine ((runs_accRead runs_load).frame _).seq fun a0 => Runs.pre sep_assoc (Runs.pure_left fun h0 => ?_)
  refine ((runs_accRead runs_load).frame _).seq fun a1 => Runs.pre sep_assoc (Runs.pure_left fun h1 => ?_)
  refine ((runs_accRead runs_load).frame _).seq fun a2 => Runs.pre sep_assoc (Runs.pure_left fun h2 => ?_)
  subst h0 h1 h2
  refine Runs.pre sep_comm (Runs.post (Q := fun _ => iprop((owns (c.tc : Thread nD τ) x fullShare xc ∗ owns (c.tc : Thread nD τ) out fullShare _) ∗ accs c A f))
    (Runs.frame ?_ _) fun _ => sep_comm)
  refine (runs_loadBox.frame _).seq fun xv => Runs.pre sep_assoc (Runs.pure_left fun hx => ?_)
  subst hx
  refine Runs.pre sep_comm (Runs.post (Q := fun _ => iprop(owns (c.tc : Thread nD τ) out fullShare _ ∗ owns (c.tc : Thread nD τ) x fullShare xc))
    (Runs.frame ?_ _) fun _ => sep_comm)
  exact runs_loadBox.seq fun _ => Runs.pure_left fun _ => runs_store

set_option maxRecDepth 8000 in
theorem runs_outTrip {x out : Memref sig .tc .vmem S256x7168 .bf16} {hout : out.IsWhole} {xc : S256x7168.Idx → Elt F .bf16} {f : Accs F}
    (t : ℕ) (ht : t < 32) (O : S256x7168.Idx → Elt F .bf16) :
    Runs defs 𝒱 c iprop(accs c A f ∗ owns (c.tc : Thread nD τ) x fullShare xc ∗ owns (c.tc : Thread nD τ) out fullShare O)
      (outTrip (F := F) x out A hout t ht)
      (fun _ => iprop(accs c A f ∗ owns (c.tc : Thread nD τ) x fullShare xc ∗ owns (c.tc : Thread nD τ) out fullShare (outTripF xc f t ht O))) := by
  unfold outTrip outTripF
  exact runs_each (I := fun O => iprop(accs c A f ∗ owns (c.tc : Thread nD τ) x fullShare xc ∗ owns (c.tc : Thread nD τ) out fullShare O))
    (fun j O => runs_outRow t ht j O) 56 le_rfl O

end Cert.Combine

end

end
-- ==== Proof.Steps.lean ====
/-
The first step's loop leaves zeros in every accumulator; the last step's loop leaves every element of the result.
-/
module

public import proofs.«01_k».proof.Proof.Triples
public import Idealize.ShloMosaic.Lib.ValueIdxCoords

@[expose] public section

noncomputable section

namespace Cert.Combine

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-! ## A box written over contents -/

section Box

variable {R C R' C' : ℕ} {β : Type} {off : Fin 2 → ℕ} (h : ∀ a, off a + (⟨2, ![R', C']⟩ : Shape).size a ≤ (⟨2, ![R, C]⟩ : Shape).size a)
  (X : (⟨2, ![R, C]⟩ : Shape).Idx → β) (G : (⟨2, ![R', C']⟩ : Shape).Idx → β)

/-- Inside the box, what was written. -/
theorem overlay_in (j : (⟨2, ![R, C]⟩ : Shape).Idx) (k : (⟨2, ![R', C']⟩ : Shape).Idx)
    (h0 : (j 0).val = off 0 + (k 0).val) (h1 : (j 1).val = off 1 + (k 1).val) :
    (Rect.unit (s := ⟨2, ![R, C]⟩) off (⟨2, ![R', C']⟩ : Shape).size h).overlay X G j = G k := by
  have e : j = (Rect.unit (s := ⟨2, ![R, C]⟩) off (⟨2, ![R', C']⟩ : Shape).size h).emb k := by
    funext a
    refine Fin.ext ?_
    match a with
    | 0 => show (j 0).val = off 0 + 1 * (k 0).val; omega
    | 1 => show (j 1).val = off 1 + 1 * (k 1).val; omega
  rw [e]
  exact Rect.overlay_emb _ _ _ _

/-- Outside the box, what was there. -/
theorem overlay_out (j : (⟨2, ![R, C]⟩ : Shape).Idx)
    (hj : ¬ (off 0 ≤ (j 0).val ∧ (j 0).val < off 0 + R') ∨ ¬ (off 1 ≤ (j 1).val ∧ (j 1).val < off 1 + C')) :
    (Rect.unit (s := ⟨2, ![R, C]⟩) off (⟨2, ![R', C']⟩ : Shape).size h).overlay X G j = X j := by
  refine Rect.overlay_of_not_mem _ _ _ fun hm => ?_
  rw [Rect.mem_set_unit] at hm
  rcases hj with hj | hj
  · exact hj (hm 0)
  · exact hj (hm 1)

end Box

variable {F : FTy → Type} [FloatOps F] {nD : ℕ} {τ : Topo} {sig : RefSig} {Λ : Labels}
variable {defs : Defs nD τ sig (Elt F) Λ} {𝒱 : Variants} {c : Dev nD}
variable {A : Fin 21 → Memref sig .tc .vmem S2432x128 .f32}

/-- A triple used with what is wanted after it. -/
theorem Runs.apply {α : Type} {P : Asn F nD τ sig} {p : Prog (TpuEff nD τ sig (Elt F) Λ .tc) α} {Q : α → Asn F nD τ sig} (h : Runs defs 𝒱 c P p Q)
    (Q' : α → Asn F nD τ sig) :
    iprop(P ∗ (∀ a, Q a -∗ Q' a)) ⊢ wp Idealize.ShloMosaic.frame (wpE defs 𝒱 (c.tc : Thread nD τ) none) Set.univ p Q' :=
  BIBase.Entails.trans (sep_mono_left h) (wp_wand_r _ _ _)

/-- The accumulators each at some contents. -/
theorem accs_in : (bigSep Finset.univ fun a : Fin 21 => iprop(∃ f : S2432x128.Idx → Elt F .f32, owns (c.tc : Thread nD τ) (A a) fullShare f) : Asn F nD τ sig)
    ⊢ iprop(∃ f : Accs F, accs c A f) :=
  haveI : Nonempty (S2432x128.Idx → Elt F .f32) := ⟨fun _ => Scalar.ofBits .f32 0#32⟩
  bigSep_exists_pi Finset.univ fun (a : Fin 21) (f : S2432x128.Idx → Elt F .f32) => owns (c.tc : Thread nD τ) (A a) fullShare f

theorem accs_out (f : Accs F) : accs c A f
    ⊢ (bigSep Finset.univ fun a : Fin 21 => iprop(∃ f : S2432x128.Idx → Elt F .f32, owns (c.tc : Thread nD τ) (A a) fullShare f) : Asn F nD τ sig) := by
  unfold accs
  refine bigSep_mono fun a _ => ?_
  exact Laws.exists_intro (Φ := fun f : S2432x128.Idx → Elt F .f32 => (owns (c.tc : Thread nD τ) (A a) fullShare f : Asn F nD τ sig)) (f a)

/-! ## The first step -/

/-- Zero. -/
def zero : Elt F .f32 := Scalar.ofBits .f32 0x00000000#32

/-- Accumulators of zeros. -/
def zeros : Accs F := fun _ _ => zero

theorem zeroTripF_eq (t : ℕ) (ht : t < 19) (f : Accs F) (hf : ∀ a j, (j 0).val < 128 * t → f a j = zero) (a : Fin 21)
    (j : S2432x128.Idx) (hj : (j 0).val < 128 * (t + 1)) : zeroTripF t ht f a j = zero := by
  refine (eachF_ind (f := zeroRowsF t ht) (fun n f' => (∀ a j, (j 0).val < 128 * t → f' a j = zero) ∧
    ∀ a : Fin 21, a.val < n → ∀ j, (j 0).val < 128 * (t + 1) → f' a j = zero) ?_ 21 le_rfl f ⟨hf, ?_⟩).2 a a.isLt j hj
  · rintro k f' ⟨h1, h2⟩
    have key : ∀ j, (j 0).val < 128 * (t + 1) → ((j 0).val < 128 * t → f' k j = zero) → zeroRowsF t ht k f' k j = zero := by
      intro j hj hlow
      unfold zeroRowsF
      rw [Function.update_self]
      by_cases h : (j 0).val < 128 * t
      · exact (overlay_out _ _ _ j (.inl fun hh => absurd hh.1 (by rw [show (![zeroRow t, 0] : Fin 2 → ℕ) 0 = zeroRow t from rfl, zeroRow_eq ht]; omega))).trans (hlow h)
      · refine (overlay_in _ _ _ j (ix2 ⟨(j 0).val - 128 * t, by omega⟩ (j 1)) ?_ ?_).trans ?_
        · rw [show (![zeroRow t, 0] : Fin 2 → ℕ) 0 = zeroRow t from rfl, zeroRow_eq ht]
          show (j 0).val = 128 * t + ((j 0).val - 128 * t)
          omega
        · show (j 1).val = 0 + (j 1).val
          omega
        · rfl
    have other : ∀ (b : Fin 21) j, b ≠ k → zeroRowsF t ht k f' b j = f' b j := fun b j hb => by
      unfold zeroRowsF
      rw [Function.update_of_ne hb]
    refine ⟨fun b j hj => ?_, fun b hb j hj => ?_⟩
    · by_cases hbk : b = k
      · subst hbk; exact key j (by omega) fun h => h1 _ _ h
      · rw [other b j hbk]; exact h1 b j hj
    · by_cases hbk : b = k
      · subst hbk; exact key j hj fun h => h1 _ _ h
      · rw [other b j hbk]
        refine h2 b ?_ j hj
        have : b.val ≠ k.val := fun e => hbk (Fin.ext e)
        omega
  · intro a ha; omega

theorem runs_zeros (l : Scf.Loop 32) (hok : l.OK) (hl : l.trips = 19) (hlt : ∀ t : Fin l.trips, t.val < 19) (f : Accs F) :
    Runs defs 𝒱 c (accs c A f)
      (Scf.Loop.for l hok (⟨⟩ : PUnit) (fun t _ => zeroTrip (F := F) A t.val (hlt t)) >>= fun _ => pure ⟨⟩ : Prog (TpuEff nD τ sig (Elt F) Λ .tc) PUnit)
      (fun _ => accs c A zeros) := by
  unfold Runs
  have hI := Scf.wp_for_bind (E := TpuEff nD τ sig (Elt F) Λ .tc) Idealize.ShloMosaic.frame (wpE defs 𝒱 (c.tc : Thread nD τ) none) Set.univ l.lb l.ub l.st hok (⟨⟩ : PUnit)
    (fun t _ => zeroTrip (F := F) A t.val (hlt t))
    (fun k _ => iprop(∃ f', ⌜∀ a j, (j 0).val < 128 * k → f' a j = zero⌝ ∗ accs c A f'))
    (fun k _ => Runs.exists_left fun f' => Runs.pure_left fun hf' => (runs_zeroTrip k.val (hlt k) f').post fun _ => by
      iintro H
      iexists _
      isplitr; · ipureintro; exact zeroTripF_eq k.val (hlt k) f' hf'
      iexact H)
    (kk := fun _ => (pure ⟨⟩ : Prog (TpuEff nD τ sig (Elt F) Λ .tc) PUnit)) (Q := fun _ => accs c A zeros)
  iintro H
  iapply hI $$ [H]
  · iexists f
    isplitr
    · ipureintro; intro a j hj; omega
    · iexact H
  · iintro %u ⟨%f', %hf', H⟩
    iapply (le_wp_ret _ _ _ _ _)
    have e : f' = zeros := by
      funext a j
      refine hf' a j ?_
      have := (j 0).isLt
      change (j 0).val < 128 * l.trips
      rw [hl]
      exact this
    subst e
    iexact H

/-! ## The last step -/

/-- An element of the result. -/
def outAt (xc : S256x7168.Idx → Elt F .bf16) (f : Accs F) (j : S256x7168.Idx) : Elt F .bf16 :=
  outVal xc f ((j 0).val / 8) (by have := idx2_lt0 j; omega) ⟨(j 1).val / 128, by have := idx2_lt1 j; omega⟩
    (ix2 ⟨(j 0).val % 8, Nat.mod_lt _ (by decide)⟩ ⟨(j 1).val % 128, Nat.mod_lt _ (by decide)⟩)

theorem outTripF_eq (xc : S256x7168.Idx → Elt F .bf16) (f : Accs F) (t : ℕ) (ht : t < 32) (O : S256x7168.Idx → Elt F .bf16)
    (hO : ∀ j, (j 0).val < 8 * t → O j = outAt xc f j) (j : S256x7168.Idx) (hj : (j 0).val < 8 * (t + 1)) :
    outTripF xc f t ht O j = outAt xc f j := by
  refine (eachF_ind (f := outRowF xc f t ht) (fun n O' => (∀ j, (j 0).val < 8 * t → O' j = outAt xc f j) ∧
    ∀ j, (j 0).val < 8 * (t + 1) → (j 1).val < 128 * n → O' j = outAt xc f j) ?_ 56 le_rfl O ⟨hO, ?_⟩).2 j hj (idx2_lt1 j)
  · rintro k O' ⟨h1, h2⟩
    have key : ∀ j, ((j 0).val < 8 * t ∨ ((j 0).val < 8 * (t + 1) ∧ (j 1).val < 128 * (k.val + 1))) → outRowF xc f t ht k O' j = outAt xc f j := by
      intro j hj
      unfold outRowF
      by_cases h : 8 * t ≤ (j 0).val ∧ 128 * k.val ≤ (j 1).val
      · obtain ⟨hj0, hj1⟩ : (j 0).val < 8 * (t + 1) ∧ (j 1).val < 128 * (k.val + 1) := by omega
        refine (overlay_in _ _ _ j (ix2 ⟨(j 0).val % 8, Nat.mod_lt _ (by decide)⟩ ⟨(j 1).val % 128, Nat.mod_lt _ (by decide)⟩) ?_ ?_).trans ?_
        · rw [show (![outRow0 t, 128 * k.val] : Fin 2 → ℕ) 0 = outRow0 t from rfl, outRow0_eq ht]
          show (j 0).val = 8 * t + (j 0).val % 8
          omega
        · show (j 1).val = 128 * k.val + (j 1).val % 128
          omega
        · unfold outAt
          have e0 : (j 0).val / 8 = t := by omega
          have e1 : (⟨(j 1).val / 128, by have := idx2_lt1 j; omega⟩ : Fin 56) = k := Fin.ext (by show (j 1).val / 128 = k.val; omega)
          have : ∀ (t' : ℕ) (ht' : t' < 32) (k' : Fin 56) (u : S8x128.Idx), t' = t → k' = k → outVal xc f t ht k u = outVal xc f t' ht' k' u := by
            rintro t' ht' k' u rfl rfl; rfl
          exact this _ _ _ _ e0 e1
      · refine (overlay_out _ _ _ j ?_).trans ?_
        · rw [show (![outRow0 t, 128 * k.val] : Fin 2 → ℕ) 0 = outRow0 t from rfl, outRow0_eq ht, show (![8 * t, 128 * k.val] : Fin 2 → ℕ) 1 = 128 * k.val from rfl]
          omega
        · rcases hj with hj | hj
          · exact h1 j hj
          · by_cases h8 : (j 0).val < 8 * t
            · exact h1 j h8
            · exact h2 j hj.1 (by omega)
    exact ⟨fun j hj => key j (.inl hj), fun j hj hj1 => key j (.inr ⟨hj, hj1⟩)⟩
  · intro j _ hj; omega

theorem runs_outs {x out : Memref sig .tc .vmem S256x7168 .bf16} {hout : out.IsWhole} {xc : S256x7168.Idx → Elt F .bf16} {f : Accs F}
    (l : Scf.Loop 32) (hok : l.OK) (hl : l.trips = 32) (hlt : ∀ t : Fin l.trips, t.val < 32) (O : S256x7168.Idx → Elt F .bf16) :
    Runs defs 𝒱 c iprop(accs c A f ∗ owns (c.tc : Thread nD τ) x fullShare xc ∗ owns (c.tc : Thread nD τ) out fullShare O)
      (Scf.Loop.for l hok (⟨⟩ : PUnit) (fun t _ => outTrip (F := F) x out A hout t.val (hlt t)) >>= fun _ => pure ⟨⟩ : Prog (TpuEff nD τ sig (Elt F) Λ .tc) PUnit)
      (fun _ => iprop(accs c A f ∗ owns (c.tc : Thread nD τ) x fullShare xc ∗ owns (c.tc : Thread nD τ) out fullShare (outAt xc f))) := by
  unfold Runs
  have hI := Scf.wp_for_bind (E := TpuEff nD τ sig (Elt F) Λ .tc) Idealize.ShloMosaic.frame (wpE defs 𝒱 (c.tc : Thread nD τ) none) Set.univ l.lb l.ub l.st hok (⟨⟩ : PUnit)
    (fun t _ => outTrip (F := F) x out A hout t.val (hlt t))
    (fun k _ => iprop(∃ O', ⌜∀ j, (j 0).val < 8 * k → O' j = outAt xc f j⌝ ∗ (accs c A f ∗ owns (c.tc : Thread nD τ) x fullShare xc ∗ owns (c.tc : Thread nD τ) out fullShare O')))
    (fun k _ => Runs.exists_left fun O' => Runs.pure_left fun hO' => (runs_outTrip k.val (hlt k) O').post fun _ => by
      iintro H
      iexists _
      isplitr; · ipureintro; exact outTripF_eq xc f k.val (hlt k) O' hO'
      iexact H)
    (kk := fun _ => (pure ⟨⟩ : Prog (TpuEff nD τ sig (Elt F) Λ .tc) PUnit))
    (Q := fun _ => iprop(accs c A f ∗ owns (c.tc : Thread nD τ) x fullShare xc ∗ owns (c.tc : Thread nD τ) out fullShare (outAt xc f)))
  iintro H
  iapply hI $$ [H]
  · iexists O
    isplitr
    · ipureintro; intro j hj; omega
    · iexact H
  · iintro %u ⟨%O', %hO', H⟩
    iapply (le_wp_ret _ _ _ _ _)
    have e : O' = outAt xc f := by
      funext j
      refine hO' j ?_
      have := (j 0).isLt
      change (j 0).val < 8 * l.trips
      rw [hl]
      exact this
    subst e
    iexact H

/-! ## A grid step -/

section Body

variable {tc : S2040.Idx → BitVec 32} (htc : ∀ x, (tc x).toNat < 256) {Stg : Type} (putF : Fin 224 → FVec F S32x128 .bf16 → Stg → Stg)
  (fetchF : Stg → Fin 64 → Fin 7 → FVec F S8x128 .f32 × FVec F S8x128 .f32)

/-- The accumulators after the grid step `i`, which the first step finds at zeros. -/
def stepF (yc : S7168x128.Idx → Elt F .fp8e4m3) (sc : S56x128.Idx → Elt F .f32) (wc : S1x128.Idx → Elt F .f32) (i : Fin 16) (g : Stg) (f : Accs F) : Accs F :=
  midF htc putF fetchF yc sc wc i g (if i = 0 then zeros else f)

variable {putF fetchF}

theorem runs_step {tok : Memref sig .tc .smem S2040 .i32} {w : Memref sig .tc .vmem S1x128 .f32} {s : Memref sig .tc .vmem S56x128 .f32}
    {y : Memref sig .tc .vmem S7168x128 .fp8e4m3} {x out : Memref sig .tc .vmem S256x7168 .bf16} {stg : Stg → Asn F nD τ sig}
    {put : (m : Fin 224) → FVec F S32x128 .bf16 → Prog (TpuEff nD τ sig (Elt F) Λ .tc) PUnit}
    {fetch : (p : Fin 64) → (o : Fin 7) → Prog (TpuEff nD τ sig (Elt F) Λ .tc) (FVec F S8x128 .f32 × FVec F S8x128 .f32)} {i : Fin 16}
    {first last : Prog (TpuEff nD τ sig (Elt F) Λ .tc) PUnit}
    {yc : S7168x128.Idx → Elt F .fp8e4m3} {sc : S56x128.Idx → Elt F .f32} {wc : S1x128.Idx → Elt F .f32} {xc : S256x7168.Idx → Elt F .bf16}
    (hput : ∀ m v g, Runs defs 𝒱 c (stg g) (put m v) (fun _ => stg (putF m v g)))
    (hfetch : ∀ g p o, Runs defs 𝒱 c (stg g) (fetch p o) (fun r => iprop(⌜r = fetchF g p o⌝ ∗ stg g)))
    (hfirst : ∀ f, Runs defs 𝒱 c (accs c A f) first (fun _ => accs c A (if i = 0 then zeros else f)))
    (hlast : ∀ f O, Runs defs 𝒱 c iprop(accs c A f ∗ owns (c.tc : Thread nD τ) x fullShare xc ∗ owns (c.tc : Thread nD τ) out fullShare O) last
      (fun _ => iprop(accs c A f ∗ owns (c.tc : Thread nD τ) x fullShare xc ∗ owns (c.tc : Thread nD τ) out fullShare (if i = 15 then outAt xc f else O))))
    (g : Stg) (f : Accs F) (O : S256x7168.Idx → Elt F .bf16) :
    Runs defs 𝒱 c iprop(held c tok w s y stg A tc yc sc wc g f ∗ owns (c.tc : Thread nD τ) x fullShare xc ∗ owns (c.tc : Thread nD τ) out fullShare O)
      (first >>= fun _ => (mid tok w s y A put fetch i >>= fun _ => last >>= fun _ => (pure ⟨⟩ : Prog (TpuEff nD τ sig (Elt F) Λ .tc) PUnit)))
      (fun _ => iprop(held c tok w s y stg A tc yc sc wc (stageF putF yc g) (stepF htc putF fetchF yc sc wc i g f)
        ∗ owns (c.tc : Thread nD τ) x fullShare xc
        ∗ owns (c.tc : Thread nD τ) out fullShare (if i = 15 then outAt xc (stepF htc putF fetchF yc sc wc i g f) else O))) := by
  refine Runs.seq (S := fun _ => iprop(held c tok w s y stg A tc yc sc wc g (if i = 0 then zeros else f)
    ∗ owns (c.tc : Thread nD τ) x fullShare xc ∗ owns (c.tc : Thread nD τ) out fullShare O)) ?_ fun _ => ?_
  · refine Runs.pre (P := iprop(accs c A f ∗ (owns (c.tc : Thread nD τ) w fullShare wc ∗ owns (c.tc : Thread nD τ) s fullShare sc ∗ owns (c.tc : Thread nD τ) y fullShare yc
      ∗ owns (c.tc : Thread nD τ) tok fullShare tc ∗ stg g ∗ owns (c.tc : Thread nD τ) x fullShare xc ∗ owns (c.tc : Thread nD τ) out fullShare O))) ?_ (((hfirst f).frame _).post fun v => ?_)
    · unfold held
      iintro ⟨⟨Hw, Hs, Hy, Ht, Hg, Ha⟩, Hx, Ho⟩
      isplitl [Ha]; · iexact Ha
      isplitl [Hw]; · iexact Hw
      isplitl [Hs]; · iexact Hs
      isplitl [Hy]; · iexact Hy
      isplitl [Ht]; · iexact Ht
      isplitl [Hg]; · iexact Hg
      isplitl [Hx] <;> iassumption
    · unfold held
      iintro ⟨Ha, Hw, Hs, Hy, Ht, Hg, Hx, Ho⟩
      isplitr [Hx Ho]
      · isplitl [Hw]; · iexact Hw
        isplitl [Hs]; · iexact Hs
        isplitl [Hy]; · iexact Hy
        isplitl [Ht]; · iexact Ht
        isplitl [Hg] <;> iassumption
      · isplitl [Hx] <;> iassumption
  refine Runs.seq ((runs_mid htc hput hfetch g _).frame _) fun _ => ?_
  refine Runs.pre (P := iprop((accs c A (stepF htc putF fetchF yc sc wc i g f) ∗ owns (c.tc : Thread nD τ) x fullShare xc ∗ owns (c.tc : Thread nD τ) out fullShare O)
      ∗ (owns (c.tc : Thread nD τ) w fullShare wc ∗ owns (c.tc : Thread nD τ) s fullShare sc ∗ owns (c.tc : Thread nD τ) y fullShare yc
      ∗ owns (c.tc : Thread nD τ) tok fullShare tc ∗ stg (stageF putF yc g)))) ?_ (((hlast _ O).frame _).seq fun _ => Runs.ret ?_)
  · unfold held stepF
    iintro ⟨⟨Hw, Hs, Hy, Ht, Hg, Ha⟩, Hx, Ho⟩
    isplitl [Ha Hx Ho]
    · isplitl [Ha]; · iexact Ha
      isplitl [Hx] <;> iassumption
    · isplitl [Hw]; · iexact Hw
      isplitl [Hs]; · iexact Hs
      isplitl [Hy]; · iexact Hy
      isplitl [Ht] <;> iassumption
  · unfold held
    iintro ⟨⟨Ha, Hx, Ho⟩, Hw, Hs, Hy, Ht, Hg⟩
    isplitr [Hx Ho]
    · isplitl [Hw]; · iexact Hw
      isplitl [Hs]; · iexact Hs
      isplitl [Hy]; · iexact Hy
      isplitl [Ht]; · iexact Ht
      isplitl [Hg] <;> iassumption
    · isplitl [Hx] <;> iassumption

end Body

end Cert.Combine

end

end
-- ==== Proof.KernelBody.lean ====
/-
One run of the kernel's body: what it leaves in its buffers, as a function of what it finds.
-/
module

public import proofs.«01_k».proof.Proof.KernelRolled
public import proofs.«01_k».proof.Proof.Steps

@[expose] public section

set_option synthInstance.maxSize 4096

noncomputable section

namespace Cert.Kernel.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Combine (Runs accs held Accs)

variable {F : FTy → Type} [BitOps F] [Facts]

/-- The staging buffer's contents. -/
abbrev Stage (F : FTy → Type) : Type := S3584x128.Idx → Elt F .i32

/-- The staging buffer after `put`. -/
def putF (m : Fin 224) (v : FVec F Combine.S32x128 .bf16) (g : Stage F) : Stage F :=
  (Rect.unit (s := S3584x128) ![16 * m, 0] S16x128.size (Combine.inb_rows (by omega))).overlay g
    (shapeCast S16x128 (bitcast S16x128 32 (bitcastToInt v) (by decide)) rfl)

/-- What `fetch` reads. -/
def fetchF (g : Stage F) (p : Fin 64) (o : Fin 7) : FVec F Combine.S8x128 .f32 × FVec F Combine.S8x128 .f32 :=
  (bitcastToFloat .f32 (shli ((fun j => g ((⟨![Combine.row0 p o, 0], S8x128.size, ![4, 1], Combine.inb_row0 p o⟩ : LoadRect S3584x128).idx j)) : IVec S8x128 32) (broadcast S8x128 16#32)),
    bitcastToFloat .f32 (andi ((fun j => g ((⟨![Combine.row0 p o, 0], S8x128.size, ![4, 1], Combine.inb_row0 p o⟩ : LoadRect S3584x128).idx j)) : IVec S8x128 32) (broadcast S8x128 4294901760#32)))

variable {defs : Defs nD τ sig (Elt F) Λ₀} {𝒱 : Variants} {c : Dev nD}

theorem runs_put {arg7 : Memref sig .tc .vmem S3584x128 .i32} (m : Fin 224) (v : FVec F Combine.S32x128 .bf16) (g : Stage F) :
    Runs defs 𝒱 c (owns (c.tc : Thread nD τ) arg7 fullShare g) (put arg7 m v) (fun _ => owns (c.tc : Thread nD τ) arg7 fullShare (putF m v g)) :=
  Combine.runs_loadBox.seq fun _ => Runs.pure_left fun _ => Combine.runs_store

theorem runs_fetch {arg7 : Memref sig .tc .vmem S3584x128 .i32} (g : Stage F) (p : Fin 64) (o : Fin 7) :
    Runs defs 𝒱 c (owns (c.tc : Thread nD τ) arg7 fullShare g) (fetch arg7 p o)
      (fun r => iprop(⌜r = fetchF g p o⌝ ∗ owns (c.tc : Thread nD τ) arg7 fullShare g)) := by
  refine Combine.runs_load.seq fun v => Runs.pure_left fun hv => Runs.ret ?_
  subst hv
  iintro H
  isplitr; · ipureintro; rfl
  iexact H

/-- The grid step. -/
def step (i : grid0.Coords) : Fin 16 := i 0

theorem cond1_iff (i : grid0.Coords) : k0_cond1 i = 1#1 ↔ step i = 0 :=
  (by decide : ∀ n : Fin 16, Scalar.cmpi .ne (Scalar.extui (Scalar.cmpi .eq (BitVec.ofNat 32 n.val) 0#32) : BitVec 32) 0#32 = 1#1 ↔ n = 0) (i 0)

theorem cond2_iff (i : grid0.Coords) : k0_cond2 i = 1#1 ↔ step i = 15 :=
  (by decide : ∀ n : Fin 16, Scalar.cmpi .ne (Scalar.extui (Scalar.cmpi .eq (BitVec.ofNat 32 n.val) 15#32) : BitVec 32) 0#32 = 1#1 ↔ n = 15) (i 0)

/-- What the body works on. -/
def work (c : Dev nD) (arg1 : Memref sig .tc .smem S2040 .i32) (arg2 : Memref sig .tc .vmem S1x128 .f32) (arg3 : Memref sig .tc .vmem S56x128 .f32)
    (arg4 : Memref sig .tc .vmem S7168x128 .fp8e4m3) (arg5 arg6 : Memref sig .tc .vmem S256x7168 .bf16) (arg7 : Memref sig .tc .vmem S3584x128 .i32)
    (A : Fin 21 → Memref sig .tc .vmem S2432x128 .f32) (tc : S2040.Idx → BitVec 32) (wc : S1x128.Idx → Elt F .f32) (sc : S56x128.Idx → Elt F .f32)
    (yc : S7168x128.Idx → Elt F .fp8e4m3) (xc O : S256x7168.Idx → Elt F .bf16) (g : Stage F) (f : Accs F) : Combine.Asn F nD τ sig :=
  iprop(held c arg1 arg2 arg3 arg4 (fun g => owns (c.tc : Thread nD τ) arg7 fullShare g) A tc yc sc wc g f
    ∗ owns (c.tc : Thread nD τ) arg5 fullShare xc ∗ owns (c.tc : Thread nD τ) arg6 fullShare O)

/-- The accumulators after the body. -/
def next {tc : S2040.Idx → BitVec 32} (htc : ∀ x, (tc x).toNat < 256) (wc : S1x128.Idx → Elt F .f32) (sc : S56x128.Idx → Elt F .f32)
    (yc : S7168x128.Idx → Elt F .fp8e4m3) (i : Fin 16) (g : Stage F) (f : Accs F) : Accs F :=
  Combine.stepF htc putF fetchF yc sc wc i g f

theorem runs_body (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x128 .i32) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole)
    (tc : S2040.Idx → BitVec 32) (htc : ∀ x, (tc x).toNat < 256) (wc : S1x128.Idx → Elt F .f32) (sc : S56x128.Idx → Elt F .f32)
    (yc : S7168x128.Idx → Elt F .fp8e4m3) (xc O : S256x7168.Idx → Elt F .bf16) (g : Stage F) (f : Accs F) :
    Runs defs 𝒱 c (work c arg1 arg2 arg3 arg4 arg5 arg6 arg7 ![arg8, arg9, arg10, arg11, arg12, arg13, arg14, arg15, arg16, arg17, arg18, arg19, arg20, arg21, arg22, arg23, arg24, arg25, arg26, arg27, arg28] tc wc sc yc xc O g f)
      (cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
      (fun _ => work c arg1 arg2 arg3 arg4 arg5 arg6 arg7 ![arg8, arg9, arg10, arg11, arg12, arg13, arg14, arg15, arg16, arg17, arg18, arg19, arg20, arg21, arg22, arg23, arg24, arg25, arg26, arg27, arg28] tc wc sc yc xc
        (if step i = 15 then Combine.outAt xc (next htc wc sc yc (step i) g f) else O) (Combine.stageF putF yc g) (next htc wc sc yc (step i) g f)) := by
  rw [body_eq]
  refine Combine.runs_step (i := step i) htc (putF := putF) (fetchF := fetchF) (fun m v g => runs_put m v g) (fun g p o => runs_fetch g p o) (fun f => ?_) (fun f O => ?_) g f O
  · rw [first_eq]
    by_cases h : k0_cond1 i = 1#1
    · rw [dif_pos h]
      have e : (if step i = 0 then Combine.zeros else f) = (Combine.zeros : Accs F) := if_pos ((cond1_iff i).1 h)
      exact (Combine.runs_zeros _ _ (by decide) _ f).post fun _ => BIBase.Entails.of_eq (congrArg (accs c _) e.symm)
    · rw [dif_neg h]
      have e : (if step i = 0 then Combine.zeros else f) = f := if_neg fun hi => h ((cond1_iff i).2 hi)
      exact Runs.ret (BIBase.Entails.of_eq (congrArg (accs c _) e.symm))
  · rw [last_eq]
    by_cases h : k0_cond2 i = 1#1
    · rw [dif_pos h]
      have e : (if step i = 15 then Combine.outAt xc f else O) = Combine.outAt xc f := if_pos ((cond2_iff i).1 h)
      exact (Combine.runs_outs _ _ (by decide) _ O).post fun _ => BIBase.Entails.of_eq (congrArg (fun Z => iprop(accs c _ f ∗ owns (c.tc : Thread nD τ) arg5 fullShare xc ∗ owns (c.tc : Thread nD τ) arg6 fullShare Z)) e.symm)
    · rw [dif_neg h]
      have e : (if step i = 15 then Combine.outAt xc f else O) = O := if_neg fun hi => h ((cond2_iff i).2 hi)
      exact Runs.ret (BIBase.Entails.of_eq (congrArg (fun Z => iprop(accs c _ f ∗ owns (c.tc : Thread nD τ) arg5 fullShare xc ∗ owns (c.tc : Thread nD τ) arg6 fullShare Z)) e.symm))

end Cert.Kernel.Rolled

end

end
-- ==== Proof.KernelRun.lean ====
/-
The kernel's launch: the body at a grid point, its obligation, and the run of @main.
-/
module

public import proofs.«01_k».proof.Proof.KernelBody
public import proofs.«01_k».proof.Proof.Gen.Kernel.Frame

@[expose] public section

set_option synthInstance.maxSize 4096
set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.Kernel.Gen Cert.Kernel.Rolled
open Combine (Runs accs held Accs)

variable {F : FTy → Type} [BitOps F]

/-- No variants. -/
abbrev 𝒱₀ : Variants := Variants.none

variable (m : (ℓ : Loc nD τ sig) → Buf (Elt F) ℓ) (ρ : Dev nD → PrngReg)

/-! ## The scratch -/

/-- The staging buffer. -/
abbrev stageM : Memref sig .tc .vmem S3584x128 .i32 := Memref.whole cc0_scratch0

/-- The accumulators. -/
def accM : Fin 21 → Memref sig .tc .vmem S2432x128 .f32 := ![Memref.whole cc0_scratch1, Memref.whole cc0_scratch2, Memref.whole cc0_scratch3, Memref.whole cc0_scratch4, Memref.whole cc0_scratch5, Memref.whole cc0_scratch6, Memref.whole cc0_scratch7, Memref.whole cc0_scratch8, Memref.whole cc0_scratch9, Memref.whole cc0_scratch10, Memref.whole cc0_scratch11, Memref.whole cc0_scratch12, Memref.whole cc0_scratch13, Memref.whole cc0_scratch14, Memref.whole cc0_scratch15, Memref.whole cc0_scratch16, Memref.whole cc0_scratch17, Memref.whole cc0_scratch18, Memref.whole cc0_scratch19, Memref.whole cc0_scratch20, Memref.whole cc0_scratch21]

/-- The scratch at some contents. -/
theorem scratch_eq (c : Dev nD) :
    (Pipeline.scopedRest (Ix := Unit) (Name := ℕ) (U := UR sig nD τ) (Lvl := ℕ) (Val := Elt F) spec0 c : Combine.Asn F nD τ sig)
      = iprop((∃ g : Stage F, owns (c.tc : Thread nD τ) stageM fullShare g)
        ∗ bigSep Finset.univ fun a : Fin 21 => iprop(∃ f : S2432x128.Idx → Elt F .f32, owns (c.tc : Thread nD τ) (accM a) fullShare f)) := by
  rw [scopedRest0_eq, bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)]
  show _ = iprop((∃ g : Stage F, owns (c.tc : Thread nD τ) stageM fullShare g) ∗ (∃ f : S2432x128.Idx → Elt F .f32, owns (c.tc : Thread nD τ) (Memref.whole cc0_scratch1 : Memref sig .tc .vmem S2432x128 .f32) fullShare f) ∗ (∃ f : S2432x128.Idx → Elt F .f32, owns (c.tc : Thread nD τ) (Memref.whole cc0_scratch2 : Memref sig .tc .vmem S2432x128 .f32) fullShare f) ∗ (∃ f : S2432x128.Idx → Elt F .f32, owns (c.tc : Thread nD τ) (Memref.whole cc0_scratch3 : Memref sig .tc .vmem S2432x128 .f32) fullShare f) ∗ (∃ f : S2432x128.Idx → Elt F .f32, owns (c.tc : Thread nD τ) (Memref.whole cc0_scratch4 : Memref sig .tc .vmem S2432x128 .f32) fullShare f) ∗ (∃ f : S2432x128.Idx → Elt F .f32, owns (c.tc : Thread nD τ) (Memref.whole cc0_scratch5 : Memref sig .tc .vmem S2432x128 .f32) fullShare f) ∗ (∃ f : S2432x128.Idx → Elt F .f32, owns (c.tc : Thread nD τ) (Memref.whole cc0_scratch6 : Memref sig .tc .vmem S2432x128 .f32) fullShare f) ∗ (∃ f : S2432x128.Idx → Elt F .f32, owns (c.tc : Thread nD τ) (Memref.whole cc0_scratch7 : Memref sig .tc .vmem S2432x128 .f32) fullShare f) ∗ (∃ f : S2432x128.Idx → Elt F .f32, owns (c.tc : Thread nD τ) (Memref.whole cc0_scratch8 : Memref sig .tc .vmem S2432x128 .f32) fullShare f) ∗ (∃ f : S2432x128.Idx → Elt F .f32, owns (c.tc : Thread nD τ) (Memref.whole cc0_scratch9 : Memref sig .tc .vmem S2432x128 .f32) fullShare f) ∗ (∃ f : S2432x128.Idx → Elt F .f32, owns (c.tc : Thread nD τ) (Memref.whole cc0_scratch10 : Memref sig .tc .vmem S2432x128 .f32) fullShare f) ∗ (∃ f : S2432x128.Idx → Elt F .f32, owns (c.tc : Thread nD τ) (Memref.whole cc0_scratch11 : Memref sig .tc .vmem S2432x128 .f32) fullShare f) ∗ (∃ f : S2432x128.Idx → Elt F .f32, owns (c.tc : Thread nD τ) (Memref.whole cc0_scratch12 : Memref sig .tc .vmem S2432x128 .f32) fullShare f) ∗ (∃ f : S2432x128.Idx → Elt F .f32, owns (c.tc : Thread nD τ) (Memref.whole cc0_scratch13 : Memref sig .tc .vmem S2432x128 .f32) fullShare f) ∗ (∃ f : S2432x128.Idx → Elt F .f32, owns (c.tc : Thread nD τ) (Memref.whole cc0_scratch14 : Memref sig .tc .vmem S2432x128 .f32) fullShare f) ∗ (∃ f : S2432x128.Idx → Elt F .f32, owns (c.tc : Thread nD τ) (Memref.whole cc0_scratch15 : Memref sig .tc .vmem S2432x128 .f32) fullShare f) ∗ (∃ f : S2432x128.Idx → Elt F .f32, owns (c.tc : Thread nD τ) (Memref.whole cc0_scratch16 : Memref sig .tc .vmem S2432x128 .f32) fullShare f) ∗ (∃ f : S2432x128.Idx → Elt F .f32, owns (c.tc : Thread nD τ) (Memref.whole cc0_scratch17 : Memref sig .tc .vmem S2432x128 .f32) fullShare f) ∗ (∃ f : S2432x128.Idx → Elt F .f32, owns (c.tc : Thread nD τ) (Memref.whole cc0_scratch18 : Memref sig .tc .vmem S2432x128 .f32) fullShare f) ∗ (∃ f : S2432x128.Idx → Elt F .f32, owns (c.tc : Thread nD τ) (Memref.whole cc0_scratch19 : Memref sig .tc .vmem S2432x128 .f32) fullShare f) ∗ (∃ f : S2432x128.Idx → Elt F .f32, owns (c.tc : Thread nD τ) (Memref.whole cc0_scratch20 : Memref sig .tc .vmem S2432x128 .f32) fullShare f) ∗ (∃ f : S2432x128.Idx → Elt F .f32, owns (c.tc : Thread nD τ) (Memref.whole cc0_scratch21 : Memref sig .tc .vmem S2432x128 .f32) fullShare f))
  simp only [owns_whole]
  rfl

/-! ## The proof data -/

/-- What holds of the accumulators before a grid step, and the result. -/
structure Spec (F : FTy → Type) where
  Inv : Dev nD → ℕ → Accs F → Prop
  res : Dev nD → S256x7168.Idx → Elt F .bf16

variable (S : Spec F)

/-- The scratch between two grid steps. -/
def Phi (c : Dev nD) (n : ℕ) : Combine.Asn F nD τ sig :=
  iprop(∃ g : Stage F, ∃ f : Accs F, ⌜S.Inv c n f⌝ ∗ owns (c.tc : Thread nD τ) stageM fullShare g ∗ accs c accM f ∗ ∃ r, prngReg c r)

/-- The proof data: every input window at its block, the result's at the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => iblk m c 4 t
    | ⟨5, _⟩ => S.res c
  Φ t := Phi S c t.val
  q _ := fullShare
  owed _ := 0

theorem before_0 (c : Dev nD) (t : Fin cfg0.N) (d) : (dats m S 0 c).before 0 t d = iblk m c 0 t :=
  before0_0_of m (dats m S 0 c) rfl (fun _ => rfl) t d
theorem before_4 (c : Dev nD) (t : Fin cfg0.N) (d) : (dats m S 0 c).before 4 t d = iblk m c 4 t :=
  before0_4_of m (dats m S 0 c) rfl (fun _ => rfl) t d
theorem before_1 (c : Dev nD) (t : Fin cfg0.N) (d) : (dats m S 0 c).before 1 t d = win0_1.fill (grid0.coords t) d (iblk m c 1 t) := by
  unfold Dat.before; rw [if_pos (fetch0_1 t)]; rfl
theorem before_2 (c : Dev nD) (t : Fin cfg0.N) (d) : (dats m S 0 c).before 2 t d = win0_2.fill (grid0.coords t) d (iblk m c 2 t) := by
  unfold Dat.before; rw [if_pos (fetch0_2 t)]; rfl
theorem before_3 (c : Dev nD) (t : Fin cfg0.N) (d) : (dats m S 0 c).before 3 t d = win0_3.fill (grid0.coords t) d (iblk m c 3 t) := by
  unfold Dat.before; rw [if_pos (fetch0_3 t)]; rfl

/-- Every token is below 256. -/
def InRange : Prop := ∀ (c : Dev nD) (x : S2040.Idx), BitVec.toNat (w := 32) (m ((c.tc : Thread nD τ).loc main_arg1) x) < 256

variable {m} (hm : InRange m)

include hm in
theorem tok_lt (c : Dev nD) (t : Fin cfg0.N) (x : S2040.Idx) : BitVec.toNat (w := 32) ((iblk m c 0 t : S2040.Idx → BitVec 32) x) < 256 := by
  have e : ∃ y : S2040.Idx, (iblk m c 0 t : S2040.Idx → BitVec 32) x = (m ((c.tc : Thread nD τ).loc main_arg1) y : BitVec 32) :=
    ⟨_, congrFun (V_main_arg1 m c) _⟩
  obtain ⟨y, hy⟩ := e
  rw [hy]
  exact hm c y

/-- The blocks of a grid step, past the arrays' ends at `d1`, `d2`, `d3`; the accumulators after it. -/
def stepAt (c : Dev nD) (t : Fin cfg0.N) (d1 : S1x128.Idx → Elt F .f32) (d2 : S56x128.Idx → Elt F .f32) (d3 : S7168x128.Idx → Elt F .fp8e4m3)
    (g : Stage F) (f : Accs F) : Accs F :=
  next (tok_lt hm c t) (win0_1.fill (grid0.coords t) d1 (iblk m c 1 t)) (win0_2.fill (grid0.coords t) d2 (iblk m c 2 t))
    (win0_3.fill (grid0.coords t) d3 (iblk m c 3 t)) (step (grid0.coords t)) g f

theorem body_at (t : Fin cfg0.N) :
    (defs₀ (F := F)) .tc cfg0.body (cfg0.bodyArgs t (cfg0.slots t)) = bodyAt0 t := by
  unfold defs₀; rw [Defs.onTc_tc]

/-- The six windows and the scratch around the body at a grid point. -/
theorem runs_point (c : Dev nD) (t : Fin cfg0.N) (d1 : S1x128.Idx → Elt F .f32) (d2 : S56x128.Idx → Elt F .f32) (d3 : S7168x128.Idx → Elt F .fp8e4m3)
    (g : Stage F) (f : Accs F) (O : S256x7168.Idx → Elt F .bf16) :
    Runs (defs₀ (F := F)) 𝒱₀ c (work c (st0_0 t) (st0_1 t) (st0_2 t) (st0_3 t) (st0_4 t) (st0_5 t) stageM accM (iblk m c 0 t)
        (win0_1.fill (grid0.coords t) d1 (iblk m c 1 t)) (win0_2.fill (grid0.coords t) d2 (iblk m c 2 t))
        (win0_3.fill (grid0.coords t) d3 (iblk m c 3 t)) (iblk m c 4 t) O g f)
      (bodyAt0 t)
      (fun _ => work c (st0_0 t) (st0_1 t) (st0_2 t) (st0_3 t) (st0_4 t) (st0_5 t) stageM accM (iblk m c 0 t)
        (win0_1.fill (grid0.coords t) d1 (iblk m c 1 t)) (win0_2.fill (grid0.coords t) d2 (iblk m c 2 t))
        (win0_3.fill (grid0.coords t) d3 (iblk m c 3 t)) (iblk m c 4 t)
        (if step (grid0.coords t) = 15 then Combine.outAt (iblk m c 4 t) (stepAt hm c t d1 d2 d3 g f) else O)
        (Combine.stageF putF (win0_3.fill (grid0.coords t) d3 (iblk m c 3 t)) g) (stepAt hm c t d1 d2 d3 g f)) :=
  runs_body _ _ _ _ _ _ _ _ _ _ _ _ _ _ _ _ _ _ _ _ _ _ _ _ _ _ _ _ _ _ _ _ _ _ _ _ _ _ _ _ _ _ _ _ _ _ _ _ _ _ _ _ _ _ _ _ _ _ (tok_lt hm c t) _ _ _ _ O g f

theorem phi_in (hS : ∀ c f, S.Inv c 0 f) (c : Dev nD) : Pipeline.ΦA spec0 c ⊢ Phi S c 0 := by
  unfold Pipeline.ΦA Phi
  rw [scratch_eq]
  iintro ⟨⟨⟨%g, Hg⟩, H⟩, Hr⟩
  ihave H := Combine.accs_in $$ H
  icases H with ⟨%f, Hf⟩
  iexists g; iexists f
  isplitr; · ipureintro; exact hS c f
  isplitl [Hg]; · iexact Hg
  isplitl [Hf] <;> iassumption

theorem phi_out (c : Dev nD) (n : ℕ) : Phi S c n ⊢ Pipeline.ΦA spec0 c := by
  unfold Pipeline.ΦA Phi
  rw [scratch_eq]
  iintro ⟨%g, %f, -, Hg, Hf, Hr⟩
  isplitr [Hr]
  · isplitl [Hg]
    · iexists g; iexact Hg
    · iapply (Combine.accs_out f); iexact Hf
  · iexact Hr

/-! ## The run, the result's contents not named -/

/-- The result's window is not described. -/
def noResult : Fin 6 → Bool := fun | 0 => false | 1 => false | 2 => false | 3 => false | 4 => false | 5 => true | ⟨_ + 6, h⟩ => absurd h (Nat.not_lt.2 (Nat.le_add_left _ _))

theorem body_forget (hS : ∀ c (t : Fin cfg0.N) d1 d2 d3 g f, S.Inv c t.val f → S.Inv c (t.val + 1) (stepAt hm c t d1 d2 d3 g f)) (c : Dev nD) :
    BodyObligationLoose (dats m S 0 c) (defs₀ (F := F)) 𝒱₀ () Set.univ noResult := fun t => by
  rw [bigSep_W0, bigSep_W0, body_at]
  have h1 : win0_1.cut (grid0.coords t) ((dats m S 0 c).after 1 t) = iblk m c 1 t := win0_1.cut_fill _ _ _
  have h2 : win0_2.cut (grid0.coords t) ((dats m S 0 c).after 2 t) = iblk m c 2 t := win0_2.cut_fill _ _ _
  have h3 : win0_3.cut (grid0.coords t) ((dats m S 0 c).after 3 t) = iblk m c 3 t := win0_3.cut_fill _ _ _
  simp only [noResult]
  rw [show (dats m S 0 c).Φ t.castSucc = Phi S c t.val from rfl, show (dats m S 0 c).Φ t.succ = Phi S c (t.val + 1) from rfl,
    show (dats m S 0 c).owesAt () t.succ = (dats m S 0 c).owesAt () t.castSucc from rfl]
  unfold Phi
  iintro ⟨⟨%g, %f, %hf, Hg, Hf, Hr⟩, Ho, ⟨%d0, H0⟩, ⟨%d1, H1⟩, ⟨%d2, H2⟩, ⟨%d3, H3⟩, ⟨%d4, H4⟩, ⟨%O, H5⟩⟩
  rw [before_0 m S c t d0, before_1 m S c t d1, before_2 m S c t d2, before_3 m S c t d3, before_4 m S c t d4]
  iapply ((runs_point hm c t d1 d2 d3 g f O).apply _)
  unfold work held
  isplitl [Hg Hf H0 H1 H2 H3 H4 H5]
  · isplitr [H4 H5]
    · isplitl [H1]; · iexact H1
      isplitl [H2]; · iexact H2
      isplitl [H3]; · iexact H3
      isplitl [H0]; · iexact H0
      isplitl [Hg] <;> iassumption
    · isplitl [H4] <;> iassumption
  iintro %u ⟨⟨H1, H2, H3, H0, Hg, Hf⟩, H4, H5⟩
  isplitl [Hg Hf Hr]
  · iexists _; iexists _
    isplitr; · ipureintro; exact hS c t d1 d2 d3 g f hf
    isplitl [Hg]; · iexact Hg
    isplitl [Hf] <;> iassumption
  isplitl [Ho]; · iexact Ho
  isplitl [H0]; · iexact H0
  isplitl [H1]
  · iexists d1
    change _ ⊢ owns (c.tc : Thread nD τ) (st0_1 t) fullShare (win0_1.fill (grid0.coords t) d1 (win0_1.cut (grid0.coords t) ((dats m S 0 c).after 1 t)))
    rw [h1]; try iexact H1
  isplitl [H2]
  · iexists d2
    change _ ⊢ owns (c.tc : Thread nD τ) (st0_2 t) fullShare (win0_2.fill (grid0.coords t) d2 (win0_2.cut (grid0.coords t) ((dats m S 0 c).after 2 t)))
    rw [h2]; try iexact H2
  isplitl [H3]
  · iexists d3
    change _ ⊢ owns (c.tc : Thread nD τ) (st0_3 t) fullShare (win0_3.fill (grid0.coords t) d3 (win0_3.cut (grid0.coords t) ((dats m S 0 c).after 3 t)))
    rw [h3]; try iexact H3
  isplitl [H4]; · iexact H4
  iexists _
  iexact H5

/-- The run, every argument array as launched. -/
theorem run_frame (hS0 : ∀ c f, S.Inv c 0 f)
    (hS : ∀ c (t : Fin cfg0.N) d1 d2 d3 g f, S.Inv c t.val f → S.Inv c (t.val + 1) (stepAt hm c t d1 d2 d3 g f)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_track_forget cfgs (dats m S) 0 launch0 defs₀ 𝒱₀ noResult {main_v7} m ρ main
    (body_forget S hm hS) (fun c => (dats m S 0 c).share_full fun _ => rfl) (fun _ _ => rfl) (V0 m) [hostOps1] sfx_sub sfx_fresh sfx_keeps
    (by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      rw [Finset.mem_singleton]
      by_contra hne
      exact StableHlo.devRef_ne_of_ne hne hb)
    (hmain m 𝒱₀) (fun _ _ => rfl) (phi_in S hS0) (fun c => phi_out S c _) _
    (fun r h => ⟨fun c => ⟨((h.1 c).2 main_arg0 (Finset.mem_sdiff.2 ⟨Pipeline.mem_restRefs_of main_arg0 (by decide) (by decide), by decide⟩)).trans (V_main_arg0 m c),
      (h.1.arr_in c 0 rfl).trans (V_main_arg1 m c),
      ((h.1 c).2 main_arg2 (Finset.mem_sdiff.2 ⟨Pipeline.mem_restRefs_of main_arg2 (by decide) (by decide), by decide⟩)).trans (V_main_arg2 m c),
      ((h.1 c).2 main_arg3 (Finset.mem_sdiff.2 ⟨Pipeline.mem_restRefs_of main_arg3 (by decide) (by decide), by decide⟩)).trans (V_main_arg3 m c),
      ((h.1 c).2 main_arg4 (Finset.mem_sdiff.2 ⟨Pipeline.mem_restRefs_of main_arg4 (by decide) (by decide), by decide⟩)).trans (V_main_arg4 m c)⟩, h.2⟩)

end Cert.Kernel.Launch

end

end
-- ==== Proof.KernelIdealRolled.lean ====
/-
The printed body is the body written with loops: the step-0 part, the middle, the last step's part.
-/
module

public import proofs.«01_k».proof.KernelIdeal
public import Idealize.ShloMosaic.Lib.Tactic
public import proofs.«01_k».proof.Proof.Rolled

@[expose] public section

set_option synthInstance.maxSize 4096

noncomputable section

namespace Cert.KernelIdeal.Rolled

open Idealize.ShloMosaic Idealize.SL.Sem

variable {F : FTy → Type} [FloatOps F] [Facts]

/-- The rows are staged two by two. -/
def put (arg7 : Memref sig .tc .vmem S3584x2x128 .bf16) (harg7 : arg7.IsWhole) (m : Fin 224) (v : FVec F Combine.S32x128 .bf16) :
    Prog (TpuEff nD τ sig (Elt F) Λ₀ .tc) PUnit :=
  (Prog.lift (.load arg7 (Rect.unit (s := S3584x2x128) ![16 * m, 0, 0] S16x2x128.size (Combine.inb_pairs (by omega))).toLoadRect
    (View.loadsAt_vmem Combine.h_S16x2x128)) : Prog (TpuEff nD τ sig (Elt F) Λ₀ .tc) (S16x2x128.Idx → Elt F .bf16)) >>= fun _ =>
  Prog.lift (.store arg7 (Rect.unit (s := S3584x2x128) ![16 * m, 0, 0] S16x2x128.size (Combine.inb_pairs (by omega)))
    (interleaveRows S16x2x128 (shapeCast S16x1x128 (rowsOfParity 0 S16x128 v (by decide)) rfl)
      (shapeCast S16x1x128 (rowsOfParity 1 S16x128 v (by decide)) rfl) (by decide))
    Finset.univ (View.stores_vmem Combine.h_S16x2x128 ((harg7.pairWhole (by decide)).storeExact_slice rfl _
      (Rect.wholeRows_unit (by decide) rfl rfl) (by decide)) (fun _ => rfl)) (.inl rfl))

/-- The eight pairs of the pair `p` of rows in octet `o`, as the two rows' eight floats. -/
def fetch (arg7 : Memref sig .tc .vmem S3584x2x128 .bf16) (p : Fin 64) (o : Fin 7) :
    Prog (TpuEff nD τ sig (Elt F) Λ₀ .tc) (FVec F Combine.S8x128 .f32 × FVec F Combine.S8x128 .f32) :=
  (Prog.lift (.load arg7 (⟨![Combine.row0 p o, 0, 0], S8x2x128.size, ![4, 1, 1], Combine.inb_pairs0 p o⟩ : LoadRect S3584x2x128)
    (View.loadsAt_vmem Combine.h_S8x2x128)) : Prog (TpuEff nD τ sig (Elt F) Λ₀ .tc) (S8x2x128.Idx → Elt F .bf16)) >>= fun v =>
  pure (extf .f32 (shapeCast S8x128 (rowsOfParity 0 S8x1x128 (v : FVec F S8x2x128 .bf16) (by decide)) rfl) (by decide),
    extf .f32 (shapeCast S8x128 (rowsOfParity 1 S8x1x128 (v : FVec F S8x2x128 .bf16) (by decide)) rfl) (by decide))

set_option maxRecDepth 100000 in
set_option maxHeartbeats 4000000 in
theorem body_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x2x128 .bf16) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 >>= fun _ =>
        (Combine.mid arg1 arg2 arg3 arg4 ![arg8, arg9, arg10, arg11, arg12, arg13, arg14, arg15, arg16, arg17, arg18, arg19, arg20, arg21, arg22, arg23, arg24, arg25, arg26, arg27, arg28] (put arg7 harg7) (fetch arg7) (i 0) >>= fun _ =>
          k0_part406 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 >>= fun _ => pure ⟨⟩)) := by
  refine (Combine.open_first (fun {β} f => rfl)).trans (congrArg _ (funext fun _ => ?_))
  sl_kernel_rfl

theorem zeroTrip_lt (t : Fin k0_t1_loop.trips) : t.val < 19 := Nat.lt_of_lt_of_le t.isLt (by decide)
theorem outTrip_lt (t : Fin k0_t2_loop.trips) : t.val < 32 := Nat.lt_of_lt_of_le t.isLt (by decide)

/-- The first step's part: zeros in the accumulators. -/
theorem first_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x2x128 .bf16) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      if h : k0_cond1 i = 1#1 then
        Scf.Loop.for k0_t1_loop (K0.Facts₀.k0_t1_ok i h) ⟨⟩ (fun t _ => Combine.zeroTrip ![arg8, arg9, arg10, arg11, arg12, arg13, arg14, arg15, arg16, arg17, arg18, arg19, arg20, arg21, arg22, arg23, arg24, arg25, arg26, arg27, arg28] t.val (zeroTrip_lt t)) >>= fun _ =>
          pure ⟨⟩
      else pure ⟨⟩ := by
  unfold k0_part32
  by_cases h : k0_cond1 i = 1#1
  · simp only [dif_pos h]
    have hb : ∀ (b b' : Fin k0_t1_loop.trips → PUnit → Prog (TpuEff nD τ sig (Elt F) Λ₀ .tc) PUnit), b = b' →
        (Scf.Loop.for k0_t1_loop (K0.Facts₀.k0_t1_ok i h) ⟨⟩ b >>= fun _ => (pure ⟨⟩ : Prog (TpuEff nD τ sig (Elt F) Λ₀ .tc) PUnit)) =
          (Scf.Loop.for k0_t1_loop (K0.Facts₀.k0_t1_ok i h) ⟨⟩ b' >>= fun _ => (pure ⟨⟩ : Prog (TpuEff nD τ sig (Elt F) Λ₀ .tc) PUnit)) := fun b b' e => by rw [e]
    refine hb _ _ (funext fun t => funext fun _ => ?_)
    sl_kernel_rfl
  · simp only [dif_neg h]

/-- The last step's part: the result. -/
theorem last_eq (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x2x128 .bf16) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole) :
    k0_part406 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 =
      if h : k0_cond2 i = 1#1 then
        Scf.Loop.for k0_t2_loop (K0.Facts₀.k0_t2_ok i h) ⟨⟩ (fun t _ => Combine.outTrip arg5 arg6 ![arg8, arg9, arg10, arg11, arg12, arg13, arg14, arg15, arg16, arg17, arg18, arg19, arg20, arg21, arg22, arg23, arg24, arg25, arg26, arg27, arg28] harg6 t.val (outTrip_lt t)) >>= fun _ =>
          pure ⟨⟩
      else pure ⟨⟩ := by
  unfold k0_part406
  by_cases h : k0_cond2 i = 1#1
  · simp only [dif_pos h]
    have hb : ∀ (b b' : Fin k0_t2_loop.trips → PUnit → Prog (TpuEff nD τ sig (Elt F) Λ₀ .tc) PUnit), b = b' →
        (Scf.Loop.for k0_t2_loop (K0.Facts₀.k0_t2_ok i h) ⟨⟩ b >>= fun _ => (pure ⟨⟩ : Prog (TpuEff nD τ sig (Elt F) Λ₀ .tc) PUnit)) =
          (Scf.Loop.for k0_t2_loop (K0.Facts₀.k0_t2_ok i h) ⟨⟩ b' >>= fun _ => (pure ⟨⟩ : Prog (TpuEff nD τ sig (Elt F) Λ₀ .tc) PUnit)) := fun b b' e => by rw [e]
    refine hb _ _ (funext fun t => funext fun _ => ?_)
    sl_kernel_rfl
  · simp only [dif_neg h]

end Cert.KernelIdeal.Rolled

end

end
-- ==== Proof.KernelIdealBody.lean ====
/-
One run of the kernel's body: what it leaves in its buffers, as a function of what it finds.
-/
module

public import proofs.«01_k».proof.Proof.KernelIdealRolled
public import proofs.«01_k».proof.Proof.Steps

@[expose] public section

set_option synthInstance.maxSize 4096

noncomputable section

namespace Cert.KernelIdeal.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Combine (Runs accs held Accs)

variable {F : FTy → Type} [FloatOps F] [Facts]

/-- The staging buffer's contents. -/
abbrev Stage (F : FTy → Type) : Type := S3584x2x128.Idx → Elt F .bf16

/-- The staging buffer after `put`. -/
def putF (m : Fin 224) (v : FVec F Combine.S32x128 .bf16) (g : Stage F) : Stage F :=
  (Rect.unit (s := S3584x2x128) ![16 * m, 0, 0] S16x2x128.size (Combine.inb_pairs (by omega))).overlay g
    (interleaveRows S16x2x128 (shapeCast S16x1x128 (rowsOfParity 0 S16x128 v (by decide)) rfl)
      (shapeCast S16x1x128 (rowsOfParity 1 S16x128 v (by decide)) rfl) (by decide))

/-- What `fetch` reads. -/
def fetchF (g : Stage F) (p : Fin 64) (o : Fin 7) : FVec F Combine.S8x128 .f32 × FVec F Combine.S8x128 .f32 :=
  (extf .f32 (shapeCast S8x128 (rowsOfParity 0 S8x1x128 ((fun j => g ((⟨![Combine.row0 p o, 0, 0], S8x2x128.size, ![4, 1, 1], Combine.inb_pairs0 p o⟩ : LoadRect S3584x2x128).idx j)) : FVec F S8x2x128 .bf16) (by decide)) rfl) (by decide),
    extf .f32 (shapeCast S8x128 (rowsOfParity 1 S8x1x128 ((fun j => g ((⟨![Combine.row0 p o, 0, 0], S8x2x128.size, ![4, 1, 1], Combine.inb_pairs0 p o⟩ : LoadRect S3584x2x128).idx j)) : FVec F S8x2x128 .bf16) (by decide)) rfl) (by decide))

variable {defs : Defs nD τ sig (Elt F) Λ₀} {𝒱 : Variants} {c : Dev nD}

theorem runs_put {arg7 : Memref sig .tc .vmem S3584x2x128 .bf16} (harg7 : arg7.IsWhole) (m : Fin 224) (v : FVec F Combine.S32x128 .bf16) (g : Stage F) :
    Runs defs 𝒱 c (owns (c.tc : Thread nD τ) arg7 fullShare g) (put arg7 harg7 m v) (fun _ => owns (c.tc : Thread nD τ) arg7 fullShare (putF m v g)) :=
  Combine.runs_load.seq fun _ => Runs.pure_left fun _ => Combine.runs_store

theorem runs_fetch {arg7 : Memref sig .tc .vmem S3584x2x128 .bf16} (g : Stage F) (p : Fin 64) (o : Fin 7) :
    Runs defs 𝒱 c (owns (c.tc : Thread nD τ) arg7 fullShare g) (fetch arg7 p o)
      (fun r => iprop(⌜r = fetchF g p o⌝ ∗ owns (c.tc : Thread nD τ) arg7 fullShare g)) := by
  refine Combine.runs_load.seq fun v => Runs.pure_left fun hv => Runs.ret ?_
  subst hv
  iintro H
  isplitr; · ipureintro; rfl
  iexact H

/-- The grid step. -/
def step (i : grid0.Coords) : Fin 16 := i 0

theorem cond1_iff (i : grid0.Coords) : k0_cond1 i = 1#1 ↔ step i = 0 :=
  (by decide : ∀ n : Fin 16, Scalar.cmpi .ne (Scalar.extui (Scalar.cmpi .eq (BitVec.ofNat 32 n.val) 0#32) : BitVec 32) 0#32 = 1#1 ↔ n = 0) (i 0)

theorem cond2_iff (i : grid0.Coords) : k0_cond2 i = 1#1 ↔ step i = 15 :=
  (by decide : ∀ n : Fin 16, Scalar.cmpi .ne (Scalar.extui (Scalar.cmpi .eq (BitVec.ofNat 32 n.val) 15#32) : BitVec 32) 0#32 = 1#1 ↔ n = 15) (i 0)

/-- What the body works on. -/
def work (c : Dev nD) (arg1 : Memref sig .tc .smem S2040 .i32) (arg2 : Memref sig .tc .vmem S1x128 .f32) (arg3 : Memref sig .tc .vmem S56x128 .f32)
    (arg4 : Memref sig .tc .vmem S7168x128 .fp8e4m3) (arg5 arg6 : Memref sig .tc .vmem S256x7168 .bf16) (arg7 : Memref sig .tc .vmem S3584x2x128 .bf16)
    (A : Fin 21 → Memref sig .tc .vmem S2432x128 .f32) (tc : S2040.Idx → BitVec 32) (wc : S1x128.Idx → Elt F .f32) (sc : S56x128.Idx → Elt F .f32)
    (yc : S7168x128.Idx → Elt F .fp8e4m3) (xc O : S256x7168.Idx → Elt F .bf16) (g : Stage F) (f : Accs F) : Combine.Asn F nD τ sig :=
  iprop(held c arg1 arg2 arg3 arg4 (fun g => owns (c.tc : Thread nD τ) arg7 fullShare g) A tc yc sc wc g f
    ∗ owns (c.tc : Thread nD τ) arg5 fullShare xc ∗ owns (c.tc : Thread nD τ) arg6 fullShare O)

/-- The accumulators after the body. -/
def next {tc : S2040.Idx → BitVec 32} (htc : ∀ x, (tc x).toNat < 256) (wc : S1x128.Idx → Elt F .f32) (sc : S56x128.Idx → Elt F .f32)
    (yc : S7168x128.Idx → Elt F .fp8e4m3) (i : Fin 16) (g : Stage F) (f : Accs F) : Accs F :=
  Combine.stepF htc putF fetchF yc sc wc i g f

theorem runs_body (i : grid0.Coords)
    (arg1 : Memref sig .tc .smem S2040 .i32) (harg1 : arg1.IsWhole)
    (arg2 : Memref sig .tc .vmem S1x128 .f32) (harg2 : arg2.IsWhole)
    (arg3 : Memref sig .tc .vmem S56x128 .f32) (harg3 : arg3.IsWhole)
    (arg4 : Memref sig .tc .vmem S7168x128 .fp8e4m3) (harg4 : arg4.IsWhole)
    (arg5 : Memref sig .tc .vmem S256x7168 .bf16) (harg5 : arg5.IsWhole)
    (arg6 : Memref sig .tc .vmem S256x7168 .bf16) (harg6 : arg6.IsWhole)
    (arg7 : Memref sig .tc .vmem S3584x2x128 .bf16) (harg7 : arg7.IsWhole)
    (arg8 : Memref sig .tc .vmem S2432x128 .f32) (harg8 : arg8.IsWhole)
    (arg9 : Memref sig .tc .vmem S2432x128 .f32) (harg9 : arg9.IsWhole)
    (arg10 : Memref sig .tc .vmem S2432x128 .f32) (harg10 : arg10.IsWhole)
    (arg11 : Memref sig .tc .vmem S2432x128 .f32) (harg11 : arg11.IsWhole)
    (arg12 : Memref sig .tc .vmem S2432x128 .f32) (harg12 : arg12.IsWhole)
    (arg13 : Memref sig .tc .vmem S2432x128 .f32) (harg13 : arg13.IsWhole)
    (arg14 : Memref sig .tc .vmem S2432x128 .f32) (harg14 : arg14.IsWhole)
    (arg15 : Memref sig .tc .vmem S2432x128 .f32) (harg15 : arg15.IsWhole)
    (arg16 : Memref sig .tc .vmem S2432x128 .f32) (harg16 : arg16.IsWhole)
    (arg17 : Memref sig .tc .vmem S2432x128 .f32) (harg17 : arg17.IsWhole)
    (arg18 : Memref sig .tc .vmem S2432x128 .f32) (harg18 : arg18.IsWhole)
    (arg19 : Memref sig .tc .vmem S2432x128 .f32) (harg19 : arg19.IsWhole)
    (arg20 : Memref sig .tc .vmem S2432x128 .f32) (harg20 : arg20.IsWhole)
    (arg21 : Memref sig .tc .vmem S2432x128 .f32) (harg21 : arg21.IsWhole)
    (arg22 : Memref sig .tc .vmem S2432x128 .f32) (harg22 : arg22.IsWhole)
    (arg23 : Memref sig .tc .vmem S2432x128 .f32) (harg23 : arg23.IsWhole)
    (arg24 : Memref sig .tc .vmem S2432x128 .f32) (harg24 : arg24.IsWhole)
    (arg25 : Memref sig .tc .vmem S2432x128 .f32) (harg25 : arg25.IsWhole)
    (arg26 : Memref sig .tc .vmem S2432x128 .f32) (harg26 : arg26.IsWhole)
    (arg27 : Memref sig .tc .vmem S2432x128 .f32) (harg27 : arg27.IsWhole)
    (arg28 : Memref sig .tc .vmem S2432x128 .f32) (harg28 : arg28.IsWhole)
    (tc : S2040.Idx → BitVec 32) (htc : ∀ x, (tc x).toNat < 256) (wc : S1x128.Idx → Elt F .f32) (sc : S56x128.Idx → Elt F .f32)
    (yc : S7168x128.Idx → Elt F .fp8e4m3) (xc O : S256x7168.Idx → Elt F .bf16) (g : Stage F) (f : Accs F) :
    Runs defs 𝒱 c (work c arg1 arg2 arg3 arg4 arg5 arg6 arg7 ![arg8, arg9, arg10, arg11, arg12, arg13, arg14, arg15, arg16, arg17, arg18, arg19, arg20, arg21, arg22, arg23, arg24, arg25, arg26, arg27, arg28] tc wc sc yc xc O g f)
      (cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
      (fun _ => work c arg1 arg2 arg3 arg4 arg5 arg6 arg7 ![arg8, arg9, arg10, arg11, arg12, arg13, arg14, arg15, arg16, arg17, arg18, arg19, arg20, arg21, arg22, arg23, arg24, arg25, arg26, arg27, arg28] tc wc sc yc xc
        (if step i = 15 then Combine.outAt xc (next htc wc sc yc (step i) g f) else O) (Combine.stageF putF yc g) (next htc wc sc yc (step i) g f)) := by
  rw [body_eq]
  refine Combine.runs_step (i := step i) htc (putF := putF) (fetchF := fetchF) (fun m v g => runs_put harg7 m v g) (fun g p o => runs_fetch g p o) (fun f => ?_) (fun f O => ?_) g f O
  · rw [first_eq]
    by_cases h : k0_cond1 i = 1#1
    · rw [dif_pos h]
      have e : (if step i = 0 then Combine.zeros else f) = (Combine.zeros : Accs F) := if_pos ((cond1_iff i).1 h)
      exact (Combine.runs_zeros _ _ (by decide) _ f).post fun _ => BIBase.Entails.of_eq (congrArg (accs c _) e.symm)
    · rw [dif_neg h]
      have e : (if step i = 0 then Combine.zeros else f) = f := if_neg fun hi => h ((cond1_iff i).2 hi)
      exact Runs.ret (BIBase.Entails.of_eq (congrArg (accs c _) e.symm))
  · rw [last_eq]
    by_cases h : k0_cond2 i = 1#1
    · rw [dif_pos h]
      have e : (if step i = 15 then Combine.outAt xc f else O) = Combine.outAt xc f := if_pos ((cond2_iff i).1 h)
      exact (Combine.runs_outs _ _ (by decide) _ O).post fun _ => BIBase.Entails.of_eq (congrArg (fun Z => iprop(accs c _ f ∗ owns (c.tc : Thread nD τ) arg5 fullShare xc ∗ owns (c.tc : Thread nD τ) arg6 fullShare Z)) e.symm)
    · rw [dif_neg h]
      have e : (if step i = 15 then Combine.outAt xc f else O) = O := if_neg fun hi => h ((cond2_iff i).2 hi)
      exact Runs.ret (BIBase.Entails.of_eq (congrArg (fun Z => iprop(accs c _ f ∗ owns (c.tc : Thread nD τ) arg5 fullShare xc ∗ owns (c.tc : Thread nD τ) arg6 fullShare Z)) e.symm))

end Cert.KernelIdeal.Rolled

end

end
-- ==== Proof.KernelIdealRun.lean ====
/-
The kernel's launch: the body at a grid point, its obligation, and the run of @main.
-/
module

public import proofs.«01_k».proof.Proof.KernelIdealBody
public import proofs.«01_k».proof.Proof.Gen.KernelIdeal.Frame

@[expose] public section

set_option synthInstance.maxSize 4096
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal.Gen Cert.KernelIdeal.Rolled
open Combine (Runs accs held Accs)

variable {F : FTy → Type} [FloatOps F]

/-- No variants. -/
abbrev 𝒱₀ : Variants := Variants.none

variable (m : (ℓ : Loc nD τ sig) → Buf (Elt F) ℓ) (ρ : Dev nD → PrngReg)

/-! ## The scratch -/

/-- The staging buffer. -/
abbrev stageM : Memref sig .tc .vmem S3584x2x128 .bf16 := Memref.whole cc0_scratch0

/-- The accumulators. -/
def accM : Fin 21 → Memref sig .tc .vmem S2432x128 .f32 := ![Memref.whole cc0_scratch1, Memref.whole cc0_scratch2, Memref.whole cc0_scratch3, Memref.whole cc0_scratch4, Memref.whole cc0_scratch5, Memref.whole cc0_scratch6, Memref.whole cc0_scratch7, Memref.whole cc0_scratch8, Memref.whole cc0_scratch9, Memref.whole cc0_scratch10, Memref.whole cc0_scratch11, Memref.whole cc0_scratch12, Memref.whole cc0_scratch13, Memref.whole cc0_scratch14, Memref.whole cc0_scratch15, Memref.whole cc0_scratch16, Memref.whole cc0_scratch17, Memref.whole cc0_scratch18, Memref.whole cc0_scratch19, Memref.whole cc0_scratch20, Memref.whole cc0_scratch21]

/-- The scratch at some contents. -/
theorem scratch_eq (c : Dev nD) :
    (Pipeline.scopedRest (Ix := Unit) (Name := ℕ) (U := UR sig nD τ) (Lvl := ℕ) (Val := Elt F) spec0 c : Combine.Asn F nD τ sig)
      = iprop((∃ g : Stage F, owns (c.tc : Thread nD τ) stageM fullShare g)
        ∗ bigSep Finset.univ fun a : Fin 21 => iprop(∃ f : S2432x128.Idx → Elt F .f32, owns (c.tc : Thread nD τ) (accM a) fullShare f)) := by
  rw [scopedRest0_eq, bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)]
  show _ = iprop((∃ g : Stage F, owns (c.tc : Thread nD τ) stageM fullShare g) ∗ (∃ f : S2432x128.Idx → Elt F .f32, owns (c.tc : Thread nD τ) (Memref.whole cc0_scratch1 : Memref sig .tc .vmem S2432x128 .f32) fullShare f) ∗ (∃ f : S2432x128.Idx → Elt F .f32, owns (c.tc : Thread nD τ) (Memref.whole cc0_scratch2 : Memref sig .tc .vmem S2432x128 .f32) fullShare f) ∗ (∃ f : S2432x128.Idx → Elt F .f32, owns (c.tc : Thread nD τ) (Memref.whole cc0_scratch3 : Memref sig .tc .vmem S2432x128 .f32) fullShare f) ∗ (∃ f : S2432x128.Idx → Elt F .f32, owns (c.tc : Thread nD τ) (Memref.whole cc0_scratch4 : Memref sig .tc .vmem S2432x128 .f32) fullShare f) ∗ (∃ f : S2432x128.Idx → Elt F .f32, owns (c.tc : Thread nD τ) (Memref.whole cc0_scratch5 : Memref sig .tc .vmem S2432x128 .f32) fullShare f) ∗ (∃ f : S2432x128.Idx → Elt F .f32, owns (c.tc : Thread nD τ) (Memref.whole cc0_scratch6 : Memref sig .tc .vmem S2432x128 .f32) fullShare f) ∗ (∃ f : S2432x128.Idx → Elt F .f32, owns (c.tc : Thread nD τ) (Memref.whole cc0_scratch7 : Memref sig .tc .vmem S2432x128 .f32) fullShare f) ∗ (∃ f : S2432x128.Idx → Elt F .f32, owns (c.tc : Thread nD τ) (Memref.whole cc0_scratch8 : Memref sig .tc .vmem S2432x128 .f32) fullShare f) ∗ (∃ f : S2432x128.Idx → Elt F .f32, owns (c.tc : Thread nD τ) (Memref.whole cc0_scratch9 : Memref sig .tc .vmem S2432x128 .f32) fullShare f) ∗ (∃ f : S2432x128.Idx → Elt F .f32, owns (c.tc : Thread nD τ) (Memref.whole cc0_scratch10 : Memref sig .tc .vmem S2432x128 .f32) fullShare f) ∗ (∃ f : S2432x128.Idx → Elt F .f32, owns (c.tc : Thread nD τ) (Memref.whole cc0_scratch11 : Memref sig .tc .vmem S2432x128 .f32) fullShare f) ∗ (∃ f : S2432x128.Idx → Elt F .f32, owns (c.tc : Thread nD τ) (Memref.whole cc0_scratch12 : Memref sig .tc .vmem S2432x128 .f32) fullShare f) ∗ (∃ f : S2432x128.Idx → Elt F .f32, owns (c.tc : Thread nD τ) (Memref.whole cc0_scratch13 : Memref sig .tc .vmem S2432x128 .f32) fullShare f) ∗ (∃ f : S2432x128.Idx → Elt F .f32, owns (c.tc : Thread nD τ) (Memref.whole cc0_scratch14 : Memref sig .tc .vmem S2432x128 .f32) fullShare f) ∗ (∃ f : S2432x128.Idx → Elt F .f32, owns (c.tc : Thread nD τ) (Memref.whole cc0_scratch15 : Memref sig .tc .vmem S2432x128 .f32) fullShare f) ∗ (∃ f : S2432x128.Idx → Elt F .f32, owns (c.tc : Thread nD τ) (Memref.whole cc0_scratch16 : Memref sig .tc .vmem S2432x128 .f32) fullShare f) ∗ (∃ f : S2432x128.Idx → Elt F .f32, owns (c.tc : Thread nD τ) (Memref.whole cc0_scratch17 : Memref sig .tc .vmem S2432x128 .f32) fullShare f) ∗ (∃ f : S2432x128.Idx → Elt F .f32, owns (c.tc : Thread nD τ) (Memref.whole cc0_scratch18 : Memref sig .tc .vmem S2432x128 .f32) fullShare f) ∗ (∃ f : S2432x128.Idx → Elt F .f32, owns (c.tc : Thread nD τ) (Memref.whole cc0_scratch19 : Memref sig .tc .vmem S2432x128 .f32) fullShare f) ∗ (∃ f : S2432x128.Idx → Elt F .f32, owns (c.tc : Thread nD τ) (Memref.whole cc0_scratch20 : Memref sig .tc .vmem S2432x128 .f32) fullShare f) ∗ (∃ f : S2432x128.Idx → Elt F .f32, owns (c.tc : Thread nD τ) (Memref.whole cc0_scratch21 : Memref sig .tc .vmem S2432x128 .f32) fullShare f))
  simp only [owns_whole]
  rfl

/-! ## The proof data -/

/-- What holds of the accumulators before a grid step, and the result. -/
structure Spec (F : FTy → Type) where
  Inv : Dev nD → ℕ → Accs F → Prop
  res : Dev nD → S256x7168.Idx → Elt F .bf16

variable (S : Spec F)

/-- The scratch between two grid steps. -/
def Phi (c : Dev nD) (n : ℕ) : Combine.Asn F nD τ sig :=
  iprop(∃ g : Stage F, ∃ f : Accs F, ⌜S.Inv c n f⌝ ∗ owns (c.tc : Thread nD τ) stageM fullShare g ∗ accs c accM f ∗ ∃ r, prngReg c r)

/-- The proof data: every input window at its block, the result's at the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => iblk m c 4 t
    | ⟨5, _⟩ => S.res c
  Φ t := Phi S c t.val
  q _ := fullShare
  owed _ := 0

theorem before_0 (c : Dev nD) (t : Fin cfg0.N) (d) : (dats m S 0 c).before 0 t d = iblk m c 0 t :=
  before0_0_of m (dats m S 0 c) rfl (fun _ => rfl) t d
theorem before_4 (c : Dev nD) (t : Fin cfg0.N) (d) : (dats m S 0 c).before 4 t d = iblk m c 4 t :=
  before0_4_of m (dats m S 0 c) rfl (fun _ => rfl) t d
theorem before_1 (c : Dev nD) (t : Fin cfg0.N) (d) : (dats m S 0 c).before 1 t d = win0_1.fill (grid0.coords t) d (iblk m c 1 t) := by
  unfold Dat.before; rw [if_pos (fetch0_1 t)]; rfl
theorem before_2 (c : Dev nD) (t : Fin cfg0.N) (d) : (dats m S 0 c).before 2 t d = win0_2.fill (grid0.coords t) d (iblk m c 2 t) := by
  unfold Dat.before; rw [if_pos (fetch0_2 t)]; rfl
theorem before_3 (c : Dev nD) (t : Fin cfg0.N) (d) : (dats m S 0 c).before 3 t d = win0_3.fill (grid0.coords t) d (iblk m c 3 t) := by
  unfold Dat.before; rw [if_pos (fetch0_3 t)]; rfl

/-- Every token is below 256. -/
def InRange : Prop := ∀ (c : Dev nD) (x : S2040.Idx), BitVec.toNat (w := 32) (m ((c.tc : Thread nD τ).loc main_arg1) x) < 256

variable {m} (hm : InRange m)

include hm in
theorem tok_lt (c : Dev nD) (t : Fin cfg0.N) (x : S2040.Idx) : BitVec.toNat (w := 32) ((iblk m c 0 t : S2040.Idx → BitVec 32) x) < 256 := by
  have e : ∃ y : S2040.Idx, (iblk m c 0 t : S2040.Idx → BitVec 32) x = (m ((c.tc : Thread nD τ).loc main_arg1) y : BitVec 32) :=
    ⟨_, congrFun (V_main_arg1 m c) _⟩
  obtain ⟨y, hy⟩ := e
  rw [hy]
  exact hm c y

/-- The blocks of a grid step, past the arrays' ends at `d1`, `d2`, `d3`; the accumulators after it. -/
def stepAt (c : Dev nD) (t : Fin cfg0.N) (d1 : S1x128.Idx → Elt F .f32) (d2 : S56x128.Idx → Elt F .f32) (d3 : S7168x128.Idx → Elt F .fp8e4m3)
    (g : Stage F) (f : Accs F) : Accs F :=
  next (tok_lt hm c t) (win0_1.fill (grid0.coords t) d1 (iblk m c 1 t)) (win0_2.fill (grid0.coords t) d2 (iblk m c 2 t))
    (win0_3.fill (grid0.coords t) d3 (iblk m c 3 t)) (step (grid0.coords t)) g f

theorem body_at (t : Fin cfg0.N) :
    (defs₀ (F := F)) .tc cfg0.body (cfg0.bodyArgs t (cfg0.slots t)) = bodyAt0 t := by
  unfold defs₀; rw [Defs.onTc_tc]

/-- The six windows and the scratch around the body at a grid point. -/
theorem runs_point (c : Dev nD) (t : Fin cfg0.N) (d1 : S1x128.Idx → Elt F .f32) (d2 : S56x128.Idx → Elt F .f32) (d3 : S7168x128.Idx → Elt F .fp8e4m3)
    (g : Stage F) (f : Accs F) (O : S256x7168.Idx → Elt F .bf16) :
    Runs (defs₀ (F := F)) 𝒱₀ c (work c (st0_0 t) (st0_1 t) (st0_2 t) (st0_3 t) (st0_4 t) (st0_5 t) stageM accM (iblk m c 0 t)
        (win0_1.fill (grid0.coords t) d1 (iblk m c 1 t)) (win0_2.fill (grid0.coords t) d2 (iblk m c 2 t))
        (win0_3.fill (grid0.coords t) d3 (iblk m c 3 t)) (iblk m c 4 t) O g f)
      (bodyAt0 t)
      (fun _ => work c (st0_0 t) (st0_1 t) (st0_2 t) (st0_3 t) (st0_4 t) (st0_5 t) stageM accM (iblk m c 0 t)
        (win0_1.fill (grid0.coords t) d1 (iblk m c 1 t)) (win0_2.fill (grid0.coords t) d2 (iblk m c 2 t))
        (win0_3.fill (grid0.coords t) d3 (iblk m c 3 t)) (iblk m c 4 t)
        (if step (grid0.coords t) = 15 then Combine.outAt (iblk m c 4 t) (stepAt hm c t d1 d2 d3 g f) else O)
        (Combine.stageF putF (win0_3.fill (grid0.coords t) d3 (iblk m c 3 t)) g) (stepAt hm c t d1 d2 d3 g f)) :=
  runs_body _ _ _ _ _ _ _ _ _ _ _ _ _ _ _ _ _ _ _ _ _ _ _ _ _ _ _ _ _ _ _ _ _ _ _ _ _ _ _ _ _ _ _ _ _ _ _ _ _ _ _ _ _ _ _ _ _ _ (tok_lt hm c t) _ _ _ _ O g f

theorem phi_in (hS : ∀ c f, S.Inv c 0 f) (c : Dev nD) : Pipeline.ΦA spec0 c ⊢ Phi S c 0 := by
  unfold Pipeline.ΦA Phi
  rw [scratch_eq]
  iintro ⟨⟨⟨%g, Hg⟩, H⟩, Hr⟩
  ihave H := Combine.accs_in $$ H
  icases H with ⟨%f, Hf⟩
  iexists g; iexists f
  isplitr; · ipureintro; exact hS c f
  isplitl [Hg]; · iexact Hg
  isplitl [Hf] <;> iassumption

theorem phi_out (c : Dev nD) (n : ℕ) : Phi S c n ⊢ Pipeline.ΦA spec0 c := by
  unfold Pipeline.ΦA Phi
  rw [scratch_eq]
  iintro ⟨%g, %f, -, Hg, Hf, Hr⟩
  isplitr [Hr]
  · isplitl [Hg]
    · iexists g; iexact Hg
    · iapply (Combine.accs_out f); iexact Hf
  · iexact Hr

/-! ## The run, the result's contents not named -/

/-- The result's window is not described. -/
def noResult : Fin 6 → Bool := fun | 0 => false | 1 => false | 2 => false | 3 => false | 4 => false | 5 => true | ⟨_ + 6, h⟩ => absurd h (Nat.not_lt.2 (Nat.le_add_left _ _))

theorem body_forget (hS : ∀ c (t : Fin cfg0.N) d1 d2 d3 g f, S.Inv c t.val f → S.Inv c (t.val + 1) (stepAt hm c t d1 d2 d3 g f)) (c : Dev nD) :
    BodyObligationLoose (dats m S 0 c) (defs₀ (F := F)) 𝒱₀ () Set.univ noResult := fun t => by
  rw [bigSep_W0, bigSep_W0, body_at]
  have h1 : win0_1.cut (grid0.coords t) ((dats m S 0 c).after 1 t) = iblk m c 1 t := win0_1.cut_fill _ _ _
  have h2 : win0_2.cut (grid0.coords t) ((dats m S 0 c).after 2 t) = iblk m c 2 t := win0_2.cut_fill _ _ _
  have h3 : win0_3.cut (grid0.coords t) ((dats m S 0 c).after 3 t) = iblk m c 3 t := win0_3.cut_fill _ _ _
  simp only [noResult]
  rw [show (dats m S 0 c).Φ t.castSucc = Phi S c t.val from rfl, show (dats m S 0 c).Φ t.succ = Phi S c (t.val + 1) from rfl,
    show (dats m S 0 c).owesAt () t.succ = (dats m S 0 c).owesAt () t.castSucc from rfl]
  unfold Phi
  iintro ⟨⟨%g, %f, %hf, Hg, Hf, Hr⟩, Ho, ⟨%d0, H0⟩, ⟨%d1, H1⟩, ⟨%d2, H2⟩, ⟨%d3, H3⟩, ⟨%d4, H4⟩, ⟨%O, H5⟩⟩
  rw [before_0 m S c t d0, before_1 m S c t d1, before_2 m S c t d2, before_3 m S c t d3, before_4 m S c t d4]
  iapply ((runs_point hm c t d1 d2 d3 g f O).apply _)
  unfold work held
  isplitl [Hg Hf H0 H1 H2 H3 H4 H5]
  · isplitr [H4 H5]
    · isplitl [H1]; · iexact H1
      isplitl [H2]; · iexact H2
      isplitl [H3]; · iexact H3
      isplitl [H0]; · iexact H0
      isplitl [Hg] <;> iassumption
    · isplitl [H4] <;> iassumption
  iintro %u ⟨⟨H1, H2, H3, H0, Hg, Hf⟩, H4, H5⟩
  isplitl [Hg Hf Hr]
  · iexists _; iexists _
    isplitr; · ipureintro; exact hS c t d1 d2 d3 g f hf
    isplitl [Hg]; · iexact Hg
    isplitl [Hf] <;> iassumption
  isplitl [Ho]; · iexact Ho
  isplitl [H0]; · iexact H0
  isplitl [H1]
  · iexists d1
    change _ ⊢ owns (c.tc : Thread nD τ) (st0_1 t) fullShare (win0_1.fill (grid0.coords t) d1 (win0_1.cut (grid0.coords t) ((dats m S 0 c).after 1 t)))
    rw [h1]; try iexact H1
  isplitl [H2]
  · iexists d2
    change _ ⊢ owns (c.tc : Thread nD τ) (st0_2 t) fullShare (win0_2.fill (grid0.coords t) d2 (win0_2.cut (grid0.coords t) ((dats m S 0 c).after 2 t)))
    rw [h2]; try iexact H2
  isplitl [H3]
  · iexists d3
    change _ ⊢ owns (c.tc : Thread nD τ) (st0_3 t) fullShare (win0_3.fill (grid0.coords t) d3 (win0_3.cut (grid0.coords t) ((dats m S 0 c).after 3 t)))
    rw [h3]; try iexact H3
  isplitl [H4]; · iexact H4
  iexists _
  iexact H5

/-- The run, every argument array as launched. -/
theorem run_frame (hS0 : ∀ c f, S.Inv c 0 f)
    (hS : ∀ c (t : Fin cfg0.N) d1 d2 d3 g f, S.Inv c t.val f → S.Inv c (t.val + 1) (stepAt hm c t d1 d2 d3 g f)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_track_forget cfgs (dats m S) 0 launch0 defs₀ 𝒱₀ noResult {main_v7} m ρ main
    (body_forget S hm hS) (fun c => (dats m S 0 c).share_full fun _ => rfl) (fun _ _ => rfl) (V0 m) [hostOps1] sfx_sub sfx_fresh sfx_keeps
    (by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      rw [Finset.mem_singleton]
      by_contra hne
      exact StableHlo.devRef_ne_of_ne hne hb)
    (hmain m 𝒱₀) (fun _ _ => rfl) (phi_in S hS0) (fun c => phi_out S c _) _
    (fun r h => ⟨fun c => ⟨((h.1 c).2 main_arg0 (Finset.mem_sdiff.2 ⟨Pipeline.mem_restRefs_of main_arg0 (by decide) (by decide), by decide⟩)).trans (V_main_arg0 m c),
      (h.1.arr_in c 0 rfl).trans (V_main_arg1 m c),
      ((h.1 c).2 main_arg2 (Finset.mem_sdiff.2 ⟨Pipeline.mem_restRefs_of main_arg2 (by decide) (by decide), by decide⟩)).trans (V_main_arg2 m c),
      ((h.1 c).2 main_arg3 (Finset.mem_sdiff.2 ⟨Pipeline.mem_restRefs_of main_arg3 (by decide) (by decide), by decide⟩)).trans (V_main_arg3 m c),
      ((h.1 c).2 main_arg4 (Finset.mem_sdiff.2 ⟨Pipeline.mem_restRefs_of main_arg4 (by decide) (by decide), by decide⟩)).trans (V_main_arg4 m c)⟩, h.2⟩)

end Cert.KernelIdeal.Launch

end

end
-- ==== Proof.Claims.lean ====
/-
The precondition read at one row, and the claims that name no value: the three frames and the
sanctioned rewrites.
-/
module

public import proofs.«01_k».proof.Defs
public import proofs.«01_k».proof.Proof.KernelRun
public import proofs.«01_k».proof.Proof.KernelIdealRun
public import proofs.«01_k».proof.Proof.Gen.ReferenceIdeal.Frame
public import Idealize.ShloMosaic.Lib.Bf16PairInverse
public import Idealize.ShloMosaic.Lib.ReduceAll

@[expose] public section

noncomputable section

open Idealize.ShloMosaic Idealize.SL.Sem

namespace Cert.Proof

/-- The predicate's side conditions. -/
theorem preFacts : Cert.Pre_tokens_in_range.Facts where
  bcast_S_S2040 := by decide
  reducesTo_S2040_S_d0 := by decide
  h_S_ := by decide

/-- A signed word that is at least 0 and below 256 is below 256 as a natural. -/
theorem word_lt (t : BitVec 32) (h : IntOp.andi (IntOp.cmpi .sge t 0#32) (IntOp.cmpi .slt t 256#32) = 1#1) : t.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- The predicate holds: every token is below 256. -/
theorem tok_of_pre {F : FTy → Type} [FloatOps F] [Cert.Pre_tokens_in_range.Facts] (a0) (a1 : IVec Cert.Pre_tokens_in_range.S2040 32) (a2) (a3) (a4)
    (h : Cert.Pre_tokens_in_range.fn (F := F) a0 a1 a2 a3 a4 = fun _ => 1#1) (x) : (a1 x).toNat < 256 := by
  haveI : Subsingleton Cert.Pre_tokens_in_range.S_.Idx := ⟨fun a b => funext fun k => k.elim0⟩
  have e := congrFun h (fun k => k.elim0)
  exact word_lt _ (Host.reduce_andi_all _ _ _ _ _ e x)

section

local instance : Cert.Pre_tokens_in_range.Facts := preFacts

theorem range_p (m) (h : Cert.Pre_Kernel m) : Cert.Kernel.Launch.InRange (F := Bits) m := fun c x => tok_of_pre _ _ _ _ _ (h c) x
theorem range_pi (m) (h : Cert.Pre_KernelIdeal m) : Cert.KernelIdeal.Launch.InRange (F := Ideal) m := fun c x => tok_of_pre _ _ _ _ _ (h c) x

theorem frame_p : Cert.quiescent_Kernel := fun m ρ h =>
  Cert.Kernel.Launch.run_frame ρ ⟨fun _ _ _ => True, fun _ _ => Classical.arbitrary _⟩ (range_p m h) (fun _ _ => trivial) (fun _ _ _ _ _ _ _ _ => trivial)
theorem frame_pi : Cert.quiescent_KernelIdeal := fun m ρ h =>
  Cert.KernelIdeal.Launch.run_frame ρ ⟨fun _ _ _ => True, fun _ _ => Classical.arbitrary _⟩ (range_pi m h) (fun _ _ => trivial) (fun _ _ _ _ _ _ _ _ => trivial)
theorem frame_ri : Cert.quiescent_ReferenceIdeal := fun m ρ _ => Cert.ReferenceIdeal.Gen.frame m ρ
theorem frame_ri_pre : Cert.quiescent_ReferenceIdeal_pre_tokens_in_range := fun m ρ _ => Cert.ReferenceIdeal.Gen.frame m ρ

end

/-- The rewrites: the staging buffer of packed words kept as pairs, the pack of a decoded band and its
    store, the load of eight words and their two halves. -/
theorem preserves : Cert.preserves_Kernel_KernelIdeal :=
  open Cert.KernelIdeal IdealRules.bf16_pair in
  ⟨bufferStatement S3584x2x128 S3584x1x128, statement S32x128 S16x128, statement S16x2x128 S16x1x128,
    statement S8x2x128 S8x1x128, statement S16x128 S8x128⟩

end Cert.Proof

end
-- ==== Proof.KernelIdealExact.lean ====
/-
The run of @main, the result's contents named.
-/
module

public import proofs.«01_k».proof.Proof.KernelIdealRun
public import Idealize.ShloMosaic.Lib.Claim
public import Idealize.ShloMosaic.Lib.Pipeline.ValueKit.Geometry

@[expose] public section

set_option synthInstance.maxSize 4096
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal.Gen Cert.KernelIdeal.Rolled
open Combine (Runs accs held Accs)

variable {F : FTy → Type} [FloatOps F]

variable {m : (ℓ : Loc nD τ sig) → Buf (Elt F) ℓ} (ρ : Dev nD → PrngReg) (S : Spec F) (hm : InRange m)

/-- The result is written at the last step, and there alone. -/
theorem result_point : ∀ t : Fin cfg0.N, (step (grid0.coords t) = 15 → idle0 5 (grid0.coords t) = false)
    ∧ (step (grid0.coords t) ≠ 15 → idle0 5 (grid0.coords t) = true ∧ (win0 5).flush t = false) := by
  decide

theorem body_exact (hS : ∀ c (t : Fin cfg0.N) d1 d2 d3 g f, S.Inv c t.val f → S.Inv c (t.val + 1) (stepAt hm c t d1 d2 d3 g f))
    (hR : ∀ c (t : Fin cfg0.N) d1 d2 d3 g f, S.Inv c t.val f → step (grid0.coords t) = 15 → Combine.outAt (iblk m c 4 t) (stepAt hm c t d1 d2 d3 g f) = S.res c)
    (c : Dev nD) : BodyObligationLoose (dats m S 0 c) (defs₀ (F := F)) 𝒱₀ () Set.univ := fun t => by
  rw [bigSep_W0, bigSep_W0, body_at]
  have h1 : win0_1.cut (grid0.coords t) ((dats m S 0 c).after 1 t) = iblk m c 1 t := win0_1.cut_fill _ _ _
  have h2 : win0_2.cut (grid0.coords t) ((dats m S 0 c).after 2 t) = iblk m c 2 t := win0_2.cut_fill _ _ _
  have h3 : win0_3.cut (grid0.coords t) ((dats m S 0 c).after 3 t) = iblk m c 3 t := win0_3.cut_fill _ _ _
  rw [show (dats m S 0 c).Φ t.castSucc = Phi S c t.val from rfl, show (dats m S 0 c).Φ t.succ = Phi S c (t.val + 1) from rfl,
    show (dats m S 0 c).owesAt () t.succ = (dats m S 0 c).owesAt () t.castSucc from rfl]
  unfold Phi
  iintro ⟨⟨%g, %f, %hf, Hg, Hf, Hr⟩, Ho, ⟨%d0, H0⟩, ⟨%d1, H1⟩, ⟨%d2, H2⟩, ⟨%d3, H3⟩, ⟨%d4, H4⟩, ⟨%d5, H5⟩⟩
  rw [before_0 m S c t d0, before_1 m S c t d1, before_2 m S c t d2, before_3 m S c t d3, before_4 m S c t d4]
  iapply ((runs_point hm c t d1 d2 d3 g f ((dats m S 0 c).before 5 t d5)).apply _)
  unfold work held
  isplitl [Hg Hf H0 H1 H2 H3 H4 H5]
  · isplitr [H4 H5]
    · isplitl [H1]; · iexact H1
      isplitl [H2]; · iexact H2
      isplitl [H3]; · iexact H3
      isplitl [H0]; · iexact H0
      isplitl [Hg] <;> iassumption
    · isplitl [H4] <;> iassumption
  iintro %u ⟨⟨H1, H2, H3, H0, Hg, Hf⟩, H4, H5⟩
  isplitl [Hg Hf Hr]
  · iexists _; iexists _
    isplitr; · ipureintro; exact hS c t d1 d2 d3 g f hf
    isplitl [Hg]; · iexact Hg
    isplitl [Hf] <;> iassumption
  isplitl [Ho]; · iexact Ho
  isplitl [H0]; · iexact H0
  isplitl [H1]
  · iexists d1
    change _ ⊢ owns (c.tc : Thread nD τ) (st0_1 t) fullShare (win0_1.fill (grid0.coords t) d1 (win0_1.cut (grid0.coords t) ((dats m S 0 c).after 1 t)))
    rw [h1]; try iexact H1
  isplitl [H2]
  · iexists d2
    change _ ⊢ owns (c.tc : Thread nD τ) (st0_2 t) fullShare (win0_2.fill (grid0.coords t) d2 (win0_2.cut (grid0.coords t) ((dats m S 0 c).after 2 t)))
    rw [h2]; try iexact H2
  isplitl [H3]
  · iexists d3
    change _ ⊢ owns (c.tc : Thread nD τ) (st0_3 t) fullShare (win0_3.fill (grid0.coords t) d3 (win0_3.cut (grid0.coords t) ((dats m S 0 c).after 3 t)))
    rw [h3]; try iexact H3
  isplitl [H4]; · iexact H4
  by_cases h15 : step (grid0.coords t) = 15
  · rw [if_pos h15, hR c t d1 d2 d3 g f hf h15]
    simp only [(result_point t).1 h15]
    iexact H5
  · rw [if_neg h15]
    simp only [(result_point t).2 h15]
    iexists d5
    iexact H5

/-- The result's array after the run. -/
theorem arr_result (c : Dev nD) : (dats m S 0 c).arrAt 5 (cfgs 0).N = (S.res c : S256x7168.Idx → Elt F .bf16) := by
  refine (dats m S 0 c).arrAt_eq_of_covers 5 _ (by decide +kernel) fun t hf y => ?_
  show (S.res c : S256x7168.Idx → Elt F .bf16) _ = (S.res c : S256x7168.Idx → Elt F .bf16) _
  refine congrArg (S.res c) (funext fun a => Fin.ext ?_)
  match a with
  | 0 => show (y 0).val = 0 * 256 + 1 * (y 0).val; omega
  | 1 => show (y 1).val = 0 * 7168 + 1 * (y 1).val; omega

/-- The run: the result, and every argument array as launched. -/
theorem run_exact (hS0 : ∀ c f, S.Inv c 0 f)
    (hS : ∀ c (t : Fin cfg0.N) d1 d2 d3 g f, S.Inv c t.val f → S.Inv c (t.val + 1) (stepAt hm c t d1 d2 d3 g f))
    (hR : ∀ c (t : Fin cfg0.N) d1 d2 d3 g f, S.Inv c t.val f → step (grid0.coords t) = 15 → Combine.outAt (iblk m c 4 t) (stepAt hm c t d1 d2 d3 g f) = S.res c) :
    θ_run defs (onTc (τ := τ) (main (F := F))) ⟨m, fun _ => 0, ρ⟩ (fun r => ∀ c : Dev nD,
      r.2.mem ((c.tc : Thread nD τ).loc main_v7) = shapeCast S2x128x7168 (S.res c) shapeCasts_S256x7168_S2x128x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have run : θ_run defs (onTc (τ := τ) (main (F := F))) (s₀ m ρ) (Pipeline.FramePost cfgs (dats m S) 0 (Pipeline.afterTail₀ cfgs (dats m S) 0 (V0 m) [hostOps1])) :=
    Pipeline.θ_run_frame_around_track cfgs (dats m S) 0 launch0 defs₀ 𝒱₀ m ρ main
      (body_exact S hm hS hR) (fun c => (dats m S 0 c).share_full fun _ => rfl) (fun _ _ => rfl) (V0 m) [hostOps1] sfx_sub sfx_fresh sfx_keeps
      (hmain m 𝒱₀) (fun _ _ => rfl) (phi_in S hS0) (fun c => phi_out S c _)
  run_from run & (frame_of m ρ (dats m S) (fun _ _ => rfl) run)
  have e : Pipeline.withArrays (cfgs 0).spec c (V0 m c) (fun w => (dats m S 0 c).arrAt w (cfgs 0).N) (Proc.devRef .tc main_v6) = (S.res c : S256x7168.Idx → Elt F .bf16) :=
    (Pipeline.withArrays_arr spec0 (by decide) c (V0 m c) (fun w => (dats m S 0 c).arrAt w (cfgs 0).N) 5).trans (arr_result S c)
  unfold Pipeline.afterTail₀
  show StableHlo.after hostOps1 _ _ = _
  unfold hostOps1
  after_results
  exact congrArg (fun x => shapeCast S2x128x7168 x shapeCasts_S256x7168_S2x128x7168) e

end Cert.KernelIdeal.Launch

end

end
-- ==== Proof.Sums.lean ====
/-
What a grid step adds to the sum of the three copies of an accumulator, over the extended reals.
-/
module

public import proofs.«01_k».proof.Proof.Steps
public import Idealize.ShloMosaic.PureOps.Ideal.Laws
public import Idealize.ShloMosaic.Lib.Pipeline.Value

@[expose] public section

noncomputable section

namespace Cert.Combine

open Idealize.ShloMosaic Idealize.ShloMosaic.ValueIdx

/-! ## Rows added to an accumulator -/

/-- Where the sum of token `t` for the lane group `s` of an octet is, at lane `l`. -/
def place (t : Fin 256) (s : Fin 8) (l : Fin 128) : S2432x128.Idx :=
  ix2 ⟨9 * t.val + s.val, by omega⟩ l

theorem addRows_place (X : S2432x128.Idx → EReal) (u : ℕ) (off : Fin 2 → ℕ) (ho : off = ![9 * u, 0])
    (h : ∀ a, off a + S8x128.size a ≤ S2432x128.size a) (x : FVec Ideal S8x128 .f32) (t : Fin 256) (s : Fin 8) (l : Fin 128) :
    addRows (F := Ideal) X off h x (place t s l) = X (place t s l) + if t.val = u then x (ix2 s l) else 0 := by
  subst ho
  have hs := s.2
  unfold addRows
  by_cases e : t.val = u
  · rw [if_pos e, shapeCast_self]
    refine (overlay_in h X _ (place t s l) (ix2 s l) (by show 9 * t.val + s.val = 9 * u + s.val; omega) (by show l.val = 0 + l.val; omega)).trans ?_
    show X ((Rect.unit (s := S2432x128) ![9 * u, 0] S8x128.size h).emb (ix2 s l)) + x (ix2 s l) = _
    refine congrArg (fun k => X k + x (ix2 s l)) (funext fun a => Fin.ext ?_)
    match a with
    | 0 => show 9 * u + 1 * s.val = 9 * t.val + s.val; omega
    | 1 => show 0 + 1 * l.val = l.val; omega
  · rw [if_neg e, add_zero]
    refine overlay_out h X _ (place t s l) (.inl ?_)
    show ¬ (9 * u ≤ 9 * t.val + s.val ∧ 9 * t.val + s.val < 9 * u + 8)
    omega

theorem bump_place (f : Accs Ideal) (a b : Fin 21) (u : ℕ) (off : Fin 2 → ℕ) (ho : off = ![9 * u, 0])
    (h : ∀ a, off a + S8x128.size a ≤ S2432x128.size a) (x : FVec Ideal S8x128 .f32) (t : Fin 256) (s : Fin 8) (l : Fin 128) :
    bump (F := Ideal) f a off h x b (place t s l) = (f b (place t s l) : EReal) + if b = a ∧ t.val = u then x (ix2 s l) else 0 := by
  unfold bump
  by_cases e : b = a
  · subst e
    rw [Function.update_self, addRows_place _ u off ho]
    simp
  · rw [Function.update_of_ne e]
    simp [e]

/-- The sum over the copies, for token `t`, lane group `j`, lane `l`. -/
def total (f : Accs Ideal) (t : Fin 256) (j : Fin 56) (l : Fin 128) : EReal :=
  (f (ix (j / 8) 0 (by omega) (by decide)) (place t ⟨j % 8, Nat.mod_lt _ (by decide)⟩ l) : EReal)
    + f (ix (j / 8) 1 (by omega) (by decide)) (place t ⟨j % 8, Nat.mod_lt _ (by decide)⟩ l)
    + f (ix (j / 8) 2 (by omega) (by decide)) (place t ⟨j % 8, Nat.mod_lt _ (by decide)⟩ l)

theorem total_zeros (t : Fin 256) (j : Fin 56) (l : Fin 128) : total zeros t j l = 0 := by
  have e : (zero : Elt Ideal .f32) = (0 : EReal) := by
    show Ideal.ofBits .f32 0x00000000#32 = 0
    simp [Ideal.ofBits, Ideal.ieee]
  unfold total zeros
  rw [e]
  simp

theorem ix_eq {o c o' c' : ℕ} (ho : o < 7) (hc : c < 3) (ho' : o' < 7) (hc' : c' < 3) :
    (ix o c ho hc = ix o' c' ho' hc') = (o = o' ∧ c = c') := by
  unfold ix
  rw [Fin.mk.injEq]
  exact propext ⟨fun h => by omega, fun h => by omega⟩

/-- A value added to one of three summands. -/
theorem add_third (A B C y : EReal) {c : ℕ} (hc : c < 3) (P Q : Prop) [Decidable P] [Decidable Q] :
    A + (if (P ∧ 0 = c) ∧ Q then y else 0) + (B + if (P ∧ 1 = c) ∧ Q then y else 0) + (C + if (P ∧ 2 = c) ∧ Q then y else 0)
      = A + B + C + if P then (if Q then y else 0) else 0 := by
  by_cases hP : P
  · by_cases hQ : Q
    · have : c = 0 ∨ c = 1 ∨ c = 2 := by omega
      rcases this with rfl | rfl | rfl
      · rw [if_pos ⟨⟨hP, rfl⟩, hQ⟩, if_neg (by simp), if_neg (by simp), if_pos hP, if_pos hQ, add_zero, add_zero,
          add_right_comm A y B, add_right_comm (A + B) y C]
      · rw [if_neg (by simp), if_pos ⟨⟨hP, rfl⟩, hQ⟩, if_neg (by simp), if_pos hP, if_pos hQ, add_zero, add_zero,
          ← add_assoc, add_right_comm (A + B) y C]
      · rw [if_neg (by simp), if_neg (by simp), if_pos ⟨⟨hP, rfl⟩, hQ⟩, if_pos hP, if_pos hQ, add_zero, add_zero, ← add_assoc]
    · simp [hQ]
  · simp [hP]

theorem total_bump (f : Accs Ideal) (o c : ℕ) (hO : o < 7) (hc : c < 3) (u : ℕ) (off : Fin 2 → ℕ) (ho : off = ![9 * u, 0])
    (h : ∀ a, off a + S8x128.size a ≤ S2432x128.size a) (x : FVec Ideal S8x128 .f32) (t : Fin 256) (j : Fin 56) (l : Fin 128) :
    total (bump (F := Ideal) f (ix o c hO hc) off h x) t j l
      = total f t j l + if j.val / 8 = o then (if t.val = u then (x (ix2 ⟨j % 8, Nat.mod_lt _ (by decide)⟩ l) : EReal) else 0) else 0 := by
  unfold total
  simp only [bump_place f _ _ u off ho, ix_eq]
  generalize (x (ix2 ⟨j % 8, Nat.mod_lt _ (by decide)⟩ l) : EReal) = y
  exact add_third _ _ _ y hc _ _

/-! ## A pair of rows -/

theorem scale_apply (ft : FVec Ideal S56x128 .f32) (o c : ℕ) (ho : o < 7) (hc : c < 128) (s : Fin 8) (l : Fin 128) :
    scale ft o c ho hc (ix2 s l) = ft (ix2 ⟨8 * o + s.val, by omega⟩ ⟨c, hc⟩) := by
  unfold scale
  rw [shapeCast_self]
  rw [broadcastTo_apply _ _ _ (ix2 s (0 : Fin 1)) (fun a => by
    match a with
    | 0 => rfl
    | 1 => rfl)]
  exact extractStridedSlice_apply _ _ _ _ _ (fun a => by
    match a with
    | 0 => rfl
    | 1 => rfl)

/-- What the row `2 p + k` of a grid step adds to the token `u`'s sum. -/
def cell (ft : FVec Ideal S56x128 .f32) (x : FVec Ideal S8x128 .f32) (c : ℕ) (hc : c < 128) (u : ℕ) (t : Fin 256) (j : Fin 56) (l : Fin 128) : EReal :=
  if t.val = u then (x (ix2 ⟨j % 8, Nat.mod_lt _ (by decide)⟩ l) : EReal) * ft (ix2 j ⟨c, hc⟩) else 0

/-- The token a row is added to: past the last row, one past the end. -/
def dest (i : Fin 16) (p : Fin 64) (k : Fin 2) (v : BitVec 32) : ℕ := if 128 * i.val + 2 * p.val + k.val < 2040 then v.toNat else 256

theorem total_octet (ft : FVec Ideal S56x128 .f32) (i : Fin 16) (p : Fin 64) (t0 t1 : BitVec 32) (g0 : t0.toNat < 256) (g1 : t1.toNat < 256)
    (h0 : Fits2 (BitVec.ofNat 32 i) p t0) (h1 : Fits (BitVec.ofNat 32 i) p t1)
    (v : Fin 7 → FVec Ideal S8x128 .f32 × FVec Ideal S8x128 .f32) (o : Fin 7) (f : Accs Ideal) (t : Fin 256) (j : Fin 56) (l : Fin 128) :
    total (octetF ft i p t0 t1 h0 h1 v o f) t j l = total f t j l + if j.val / 8 = o.val then
      cell ft (v o).1 (2 * p) (by omega) (dest i p 0 t0) t j l + cell ft (v o).2 (2 * p + 1) (by omega) (dest i p 1 t1) t j l else 0 := by
  unfold octetF
  refine (total_bump _ _ _ _ _ (dest i p 1 t1) _ (accOff_eq i p 1 t1 g1) _ _ _ _ _).trans ?_
  refine (congrArg (· + _) (total_bump _ _ _ _ _ (dest i p 0 t0) _ (accOff_eq i p 0 t0 g0) _ _ _ _ _)).trans ?_
  show _ + _ + _ = _
  by_cases e : j.val / 8 = o.val
  · simp only [if_pos e]
    rw [add_assoc]
    refine congrArg (total f t j l + ·) ?_
    have hj : ∀ h, (⟨8 * o.val + j.val % 8, h⟩ : Fin 56) = j := fun h => Fin.ext (show 8 * o.val + j.val % 8 = j.val by omega)
    simp only [Ideal.mulf_def, mulf, scale_apply, hj]
    rfl
  · simp only [if_neg e, add_zero]

variable {tc : S2040.Idx → BitVec 32} (htc : ∀ x, (tc x).toNat < 256)

theorem total_pair (ft : FVec Ideal S56x128 .f32) (i : Fin 16) (v : Fin 64 → Fin 7 → FVec Ideal S8x128 .f32 × FVec Ideal S8x128 .f32)
    (p : Fin 64) (f : Accs Ideal) (t : Fin 256) (j : Fin 56) (l : Fin 128) :
    total (pairF htc ft i v p f) t j l = total f t j l +
      (cell ft (v p ⟨j / 8, by omega⟩).1 (2 * p) (by omega) (dest i p 0 (tokAt tc i p 0)) t j l
        + cell ft (v p ⟨j / 8, by omega⟩).2 (2 * p + 1) (by omega) (dest i p 1 (tokAt tc i p 1)) t j l) := by
  unfold pairF
  have := eachF_ind (f := octetF ft i p (tokAt tc i p 0) (tokAt tc i p 1) (fits2_of i p _ (htc _)) (fits_of i p _ (htc _)) (v p))
    (fun n f' => total f' t j l = total f t j l + if j.val / 8 < n then
      (cell ft (v p ⟨j / 8, by omega⟩).1 (2 * p) (by omega) (dest i p 0 (tokAt tc i p 0)) t j l
        + cell ft (v p ⟨j / 8, by omega⟩).2 (2 * p + 1) (by omega) (dest i p 1 (tokAt tc i p 1)) t j l) else 0) ?_ 7 le_rfl f ?_
  · rw [this, if_pos (show j.val / 8 < 7 by omega)]
  · intro o f' h
    rw [total_octet ft i p (tokAt tc i p 0) (tokAt tc i p 1) (htc _) (htc _), h]
    by_cases e : j.val / 8 = o.val
    · have e' : (⟨j.val / 8, by omega⟩ : Fin 7) = o := Fin.ext e
      rw [if_neg (by omega), if_pos e, if_pos (by omega), add_zero, e']
    · rw [if_neg e, add_zero]
      by_cases g : j.val / 8 < o.val
      · rw [if_pos g, if_pos (by omega)]
      · rw [if_neg g, if_neg (by omega)]
  · rw [if_neg (by omega), add_zero]

/-- A grid step adds its rows, `term q` being the row `q`'s. -/
theorem total_mid {Stg : Type} (putF : Fin 224 → FVec Ideal S32x128 .bf16 → Stg → Stg)
    (fetchF : Stg → Fin 64 → Fin 7 → FVec Ideal S8x128 .f32 × FVec Ideal S8x128 .f32)
    (yc : S7168x128.Idx → Elt Ideal .fp8e4m3) (sc : S56x128.Idx → Elt Ideal .f32) (wc : S1x128.Idx → Elt Ideal .f32) (i : Fin 16) (s : Stg) (f : Accs Ideal)
    (t : Fin 256) (j : Fin 56) (l : Fin 128) (term : ℕ → EReal)
    (h0 : ∀ p : Fin 64, cell (factors sc wc) (fetchF (stageF putF yc s) p ⟨j / 8, by omega⟩).1 (2 * p) (by omega) (dest i p 0 (tokAt tc i p 0)) t j l = term (2 * p))
    (h1 : ∀ p : Fin 64, cell (factors sc wc) (fetchF (stageF putF yc s) p ⟨j / 8, by omega⟩).2 (2 * p + 1) (by omega) (dest i p 1 (tokAt tc i p 1)) t j l = term (2 * p + 1)) :
    total (midF htc putF fetchF yc sc wc i s f) t j l = total f t j l + ∑ q ∈ Finset.range 128, term q := by
  unfold midF
  refine eachF_ind (f := pairF htc (factors sc wc) i (fetchF (stageF putF yc s)))
    (fun n f' => total f' t j l = total f t j l + ∑ q ∈ Finset.range (2 * n), term q) ?_ 64 le_rfl f ?_
  · intro p f' h
    rw [total_pair, h, h0, h1, show 2 * (p.val + 1) = 2 * p.val + 1 + 1 by omega, Finset.sum_range_succ, Finset.sum_range_succ]
    simp only [add_assoc]
  · simp

/-! ## The result -/

theorem ninth_apply (X : S2432x128.Idx → EReal) (t : Fin 256) (j : Fin 56) (l : Fin 128) (ht : t.val / 8 < 32) :
    ninth (F := Ideal) X (t.val / 8) ht j (ix2 ⟨t.val % 8, Nat.mod_lt _ (by decide)⟩ l) = X (place t ⟨j % 8, Nat.mod_lt _ (by decide)⟩ l) := by
  unfold ninth
  refine congrArg X (funext fun a => Fin.ext ?_)
  match a with
  | 0 =>
    show accRow (t.val / 8) (j.val % 8) + 9 * (t.val % 8) = 9 * t.val + j.val % 8
    rw [accRow_eq ht (Nat.mod_lt _ (by decide))]
    omega
  | 1 => show 0 + 1 * l.val = l.val; omega

/-- An element of the result: the activation and its sum. -/
theorem outAt_apply (xc : S256x7168.Idx → Elt Ideal .bf16) (f : Accs Ideal) (t : Fin 256) (j : Fin 56) (l : Fin 128) :
    outAt (F := Ideal) xc f (ix2 t ⟨128 * j.val + l.val, by omega⟩) = (xc (ix2 t ⟨128 * j.val + l.val, by omega⟩) : EReal) + total f t j l := by
  have ej : (⟨(128 * j.val + l.val) / 128, by omega⟩ : Fin 56) = j := Fin.ext (by show (128 * j.val + l.val) / 128 = j.val; omega)
  have el : (⟨(128 * j.val + l.val) % 128, Nat.mod_lt _ (by decide)⟩ : Fin 128) = l := Fin.ext (by show (128 * j.val + l.val) % 128 = l.val; omega)
  have ht : t.val / 8 < 32 := by omega
  have key : outVal (F := Ideal) xc f (t.val / 8) ht j (ix2 ⟨t.val % 8, Nat.mod_lt _ (by decide)⟩ l)
      = (xc (ix2 t ⟨128 * j.val + l.val, by omega⟩) : EReal) + total f t j l := by
    unfold outVal
    rw [shapeCast_self]
    show (xc ((Rect.unit (s := S256x7168) ![outRow0 (t.val / 8), 128 * j.val] S8x128.size (inb_out ht j)).emb (ix2 ⟨t.val % 8, _⟩ l)) : EReal)
      + ((ninth (F := Ideal) _ (t.val / 8) ht j (ix2 ⟨t.val % 8, _⟩ l) + ninth (F := Ideal) _ (t.val / 8) ht j (ix2 ⟨t.val % 8, _⟩ l))
        + ninth (F := Ideal) _ (t.val / 8) ht j (ix2 ⟨t.val % 8, _⟩ l)) = _
    rw [ninth_apply, ninth_apply, ninth_apply]
    refine congrArg (fun k => (xc k : EReal) + total f t j l) (funext fun a => Fin.ext ?_)
    match a with
    | 0 => show outRow0 (t.val / 8) + 1 * (t.val % 8) = t.val; rw [outRow0_eq ht]; omega
    | 1 => show 128 * j.val + 1 * l.val = 128 * j.val + l.val; omega
  refine Eq.trans ?_ key
  unfold outAt
  show outVal (F := Ideal) xc f (t.val / 8) _ ⟨(128 * j.val + l.val) / 128, _⟩ (ix2 ⟨t.val % 8, _⟩ ⟨(128 * j.val + l.val) % 128, _⟩) = _
  simp only [ej, el]

/-! ## The block's rows -/

theorem rowsOf_apply (yc : S7168x128.Idx → Elt Ideal .fp8e4m3) (m : Fin 224) (r : Fin 32) (l : Fin 128) :
    rowsOf (F := Ideal) yc m (ix2 r l) = yc (ix2 ⟨32 * m.val + r.val, by omega⟩ l) := by
  unfold rowsOf
  rw [shapeCast_self]
  show yc _ = _
  refine congrArg yc (funext fun a => Fin.ext ?_)
  match a with
  | 0 => show 32 * m.val + 1 * r.val = _; simp
  | 1 => show 0 + 1 * l.val = l.val; omega

theorem factors_apply (sc : S56x128.Idx → Elt Ideal .f32) (wc : S1x128.Idx → Elt Ideal .f32) (j : Fin 56) (q : Fin 128) :
    factors (F := Ideal) sc wc (ix2 j q) = (sc (ix2 j q) : EReal) * wc (ix2 (0 : Fin 1) q) := by
  unfold factors
  rw [shapeCast_self, shapeCast_self]
  show (_ : EReal) * _ = _
  rw [broadcastTo_apply _ _ _ (ix2 (0 : Fin 1) q) (fun a => by
    match a with
    | 0 => rfl
    | 1 => rfl)]
  refine congrArg₂ (fun a b => (sc a : EReal) * wc b) (funext fun a => Fin.ext ?_) (funext fun a => Fin.ext ?_)
  · match a with
    | 0 => show 0 + 1 * j.val = j.val; omega
    | 1 => show 0 + 1 * q.val = q.val; omega
  · match a with
    | 0 => rfl
    | 1 => show 0 + 1 * q.val = q.val; omega

end Cert.Combine

end

end
-- ==== Proof.Stage.lean ====
/-
What the kernel reads back of the rows it staged.
-/
module

public import proofs.«01_k».proof.Proof.KernelIdealBody
public import Idealize.ShloMosaic.PureOps.Ideal.Laws
public import Idealize.ShloMosaic.Lib.Pipeline.Value
public import Idealize.ShloMosaic.Lib.Bf16PairInverse

@[expose] public section

noncomputable section

namespace Cert.KernelIdeal.Rolled

open Idealize.ShloMosaic Idealize.ShloMosaic.ValueIdx

/-- The rows of a parity of a matrix. -/
theorem parity2 {R : ℕ} {α : Type} (p : Fin 2) (x : (⟨2, ![2 * R, 128]⟩ : Shape).Idx → α) (h : (⟨2, ![2 * R, 128]⟩ : Shape).Bitcasts 16 ⟨2, ![R, 128]⟩ 32)
    (r : Fin R) (l : Fin 128) : rowsOfParity p ⟨2, ![R, 128]⟩ x h (ix2 r l) = x (ix2 ⟨2 * r.val + p.val, by omega⟩ l) := by
  unfold rowsOfParity
  refine congrArg x (funext fun a => Fin.ext ?_)
  match a with
  | 0 => rfl
  | 1 => rfl

/-- The rows of a parity of pairs of rows. -/
theorem parity3 {R : ℕ} {α : Type} (p : Fin 2) (x : (⟨3, ![R, 2, 128]⟩ : Shape).Idx → α) (h : (⟨3, ![R, 2, 128]⟩ : Shape).Bitcasts 16 ⟨3, ![R, 1, 128]⟩ 32)
    (r : Fin R) (l : Fin 128) : rowsOfParity p ⟨3, ![R, 1, 128]⟩ x h (ix3 r (0 : Fin 1) l) = x (ix3 r p l) := by
  unfold rowsOfParity
  refine congrArg x (funext fun a => Fin.ext ?_)
  match a with
  | 0 => rfl
  | 1 => show 2 * 0 + p.val = p.val; omega
  | 2 => rfl

theorem castPairs {R : ℕ} {α : Type} (x : (⟨2, ![R, 128]⟩ : Shape).Idx → α) (h : (⟨2, ![R, 128]⟩ : Shape).ShapeCasts ⟨3, ![R, 1, 128]⟩)
    (r : Fin R) (l : Fin 128) : shapeCast ⟨3, ![R, 1, 128]⟩ x h (ix3 r (0 : Fin 1) l) = x (ix2 r l) :=
  shapeCast_apply x h _ _ (by
    rw [Shape.rowMajor_val_two, Shape.rowMajor_val_three]
    show r.val * 128 + l.val = (r.val * 1 + 0) * 128 + l.val
    omega)

theorem castRows {R : ℕ} {α : Type} (x : (⟨3, ![R, 1, 128]⟩ : Shape).Idx → α) (h : (⟨3, ![R, 1, 128]⟩ : Shape).ShapeCasts ⟨2, ![R, 128]⟩)
    (r : Fin R) (l : Fin 128) : shapeCast ⟨2, ![R, 128]⟩ x h (ix2 r l) = x (ix3 r (0 : Fin 1) l) :=
  shapeCast_apply x h _ _ (by
    rw [Shape.rowMajor_val_two, Shape.rowMajor_val_three]
    show (r.val * 1 + 0) * 128 + l.val = r.val * 128 + l.val
    omega)

/-- An element `put` writes. -/
theorem putF_in (m : Fin 224) (v : FVec Ideal Combine.S32x128 .bf16) (g : Stage Ideal) (a : Fin 16) (k : Fin 2) (l : Fin 128) :
    putF m v g (ix3 ⟨16 * m.val + a.val, by omega⟩ k l) = v (ix2 ⟨2 * a.val + k.val, by omega⟩ l) := by
  unfold putF
  have e : (ix3 ⟨16 * m.val + a.val, by omega⟩ k l : S3584x2x128.Idx)
      = (Rect.unit (s := S3584x2x128) ![16 * m, 0, 0] S16x2x128.size (Combine.inb_pairs (by omega))).emb (ix3 a k l) := by
    funext b
    refine Fin.ext ?_
    match b with
    | 0 => show 16 * m.val + a.val = 16 * m.val + 1 * a.val; omega
    | 1 => show k.val = 0 + 1 * k.val; omega
    | 2 => show l.val = 0 + 1 * l.val; omega
  rw [e]
  refine (Rect.overlay_emb _ _ _ _).trans ?_
  refine (parity3 k _ (by decide) a l).symm.trans ?_
  rw [rowsOfParity_interleaveRows]
  match k with
  | 0 => rw [if_pos rfl]; exact (castPairs (R := 16) _ rfl a l).trans (parity2 (R := 16) 0 v (by decide) a l)
  | 1 => rw [if_neg (by decide)]; exact (castPairs (R := 16) _ rfl a l).trans (parity2 (R := 16) 1 v (by decide) a l)

/-- An element it leaves. -/
theorem putF_out (m : Fin 224) (v : FVec Ideal Combine.S32x128 .bf16) (g : Stage Ideal) (w : Fin 3584) (k : Fin 2) (l : Fin 128) (h : w.val < 16 * m.val) :
    putF m v g (ix3 w k l) = g (ix3 w k l) := by
  unfold putF
  refine Rect.overlay_of_not_mem _ _ _ fun hm => ?_
  rw [Rect.mem_set_unit] at hm
  have := (hm 0).1
  exact absurd (show 16 * m.val ≤ w.val from this) (by omega)

/-- The staged rows are the block's, two by two. -/
theorem stage_at (yc : S7168x128.Idx → Elt Ideal .fp8e4m3) (g : Stage Ideal) (w : Fin 3584) (k : Fin 2) (l : Fin 128)
    (rows : ∀ (m : Fin 224) (r : Fin 32) (l : Fin 128), Combine.rowsOf (F := Ideal) yc m (ix2 r l) = yc (ix2 ⟨32 * m.val + r.val, by omega⟩ l)) :
    Combine.stageF putF yc g (ix3 w k l) = yc (ix2 ⟨2 * w.val + k.val, by omega⟩ l) := by
  unfold Combine.stageF
  refine Combine.eachF_ind (f := fun m s => putF m (Combine.rowsOf yc m) s)
    (fun n g' => ∀ (w : Fin 3584) (k : Fin 2) (l : Fin 128), w.val < 16 * n → g' (ix3 w k l) = yc (ix2 ⟨2 * w.val + k.val, by omega⟩ l))
    ?_ 224 le_rfl g ?_ w k l (by omega)
  · intro m g' h w k l hw
    by_cases hm : w.val < 16 * m.val
    · rw [putF_out _ _ _ _ _ _ hm, h w k l hm]
    · have e : w = ⟨16 * m.val + (⟨w.val - 16 * m.val, by omega⟩ : Fin 16).val, by omega⟩ := Fin.ext (by show w.val = 16 * m.val + (w.val - 16 * m.val); omega)
      refine (congrArg (fun w => putF m (Combine.rowsOf yc m) g' (ix3 w k l)) e).trans ((putF_in _ _ _ _ _ _).trans ((rows _ _ _).trans ?_))
      refine congrArg (fun r => yc (ix2 r l)) (Fin.ext ?_)
      show 32 * m.val + (2 * (w.val - 16 * m.val) + k.val) = 2 * w.val + k.val
      omega
  · intro w k l hw
    omega

theorem strided_at (g : Stage Ideal) (p : Fin 64) (o : Fin 7) (k : Fin 2) (s : Fin 8) (l : Fin 128) :
    g ((⟨![Combine.row0 p o, 0, 0], S8x2x128.size, ![4, 1, 1], Combine.inb_pairs0 p o⟩ : LoadRect S3584x2x128).idx (ix3 s k l))
      = g (ix3 ⟨Combine.row0 p o + 4 * s.val, by have := Combine.row0_lt p o; omega⟩ k l) := by
  refine congrArg g (funext fun b => Fin.ext ?_)
  match b with
  | 0 => rfl
  | 1 => show 0 + 1 * k.val = k.val; omega
  | 2 => show 0 + 1 * l.val = l.val; omega

theorem fetchF_fst (g : Stage Ideal) (p : Fin 64) (o : Fin 7) (s : Fin 8) (l : Fin 128) :
    (fetchF g p o).1 (ix2 s l) = g (ix3 ⟨Combine.row0 p o + 4 * s.val, by have := Combine.row0_lt p o; omega⟩ 0 l) := by
  show (shapeCast S8x128 (rowsOfParity 0 S8x1x128 (fun j => g ((⟨![Combine.row0 p o, 0, 0], S8x2x128.size, ![4, 1, 1], Combine.inb_pairs0 p o⟩ : LoadRect S3584x2x128).idx j)) (show S8x2x128.Bitcasts 16 S8x1x128 32 by decide)) rfl : S8x128.Idx → EReal) (ix2 s l) = _
  refine (castRows (R := 8) _ rfl s l).trans ((parity3 (R := 8) 0 _ (by decide) s l).trans ?_)
  exact strided_at g p o 0 s l

theorem fetchF_snd (g : Stage Ideal) (p : Fin 64) (o : Fin 7) (s : Fin 8) (l : Fin 128) :
    (fetchF g p o).2 (ix2 s l) = g (ix3 ⟨Combine.row0 p o + 4 * s.val, by have := Combine.row0_lt p o; omega⟩ 1 l) := by
  show (shapeCast S8x128 (rowsOfParity 1 S8x1x128 (fun j => g ((⟨![Combine.row0 p o, 0, 0], S8x2x128.size, ![4, 1, 1], Combine.inb_pairs0 p o⟩ : LoadRect S3584x2x128).idx j)) (show S8x2x128.Bitcasts 16 S8x1x128 32 by decide)) rfl : S8x128.Idx → EReal) (ix2 s l) = _
  refine (castRows (R := 8) _ rfl s l).trans ((parity3 (R := 8) 1 _ (by decide) s l).trans ?_)
  exact strided_at g p o 1 s l

end Cert.KernelIdeal.Rolled

end

end
-- ==== Proof.KernelIdealValue.lean ====
/-
What the kernel leaves in its result, over the extended reals: after `n` grid steps the copies of an
accumulator sum to the terms of the first `128 n` rows.
-/
module

public import proofs.«01_k».proof.Proof.KernelIdealExact
public import proofs.«01_k».proof.Proof.Sums
public import proofs.«01_k».proof.Proof.Stage
public import Idealize.ShloMosaic.Lib.StableHlo.ReadAt

@[expose] public section

noncomputable section

namespace Cert.Combine

open Idealize.ShloMosaic hiding ix1 ix2 ix3
open Idealize.ShloMosaic.ValueIdx

/-- What the row `r` adds to the token `t` at column `128 j + l`. -/
def term (tok : (⟨1, ![2040]⟩ : Shape).Idx → BitVec 32) (w : (⟨1, ![2040]⟩ : Shape).Idx → EReal) (y : (⟨2, ![2040, 7168]⟩ : Shape).Idx → EReal)
    (s : (⟨2, ![2040, 56]⟩ : Shape).Idx → EReal) (t : Fin 256) (j : Fin 56) (l : Fin 128) (r : ℕ) : EReal :=
  if h : r < 2040 then
    (if t.val = (tok (ix1 ⟨r, h⟩)).toNat then y (ix2 ⟨r, h⟩ ⟨128 * j.val + l.val, by omega⟩) * (s (ix2 ⟨r, h⟩ j) * w (ix1 ⟨r, h⟩)) else 0)
  else 0

theorem tokAt_eq (tc : S2040.Idx → BitVec 32) (i : Fin 16) (p : Fin 64) (k : Fin 2) (h : 128 * i.val + 2 * p.val + k.val < 2040) :
    tokAt tc i p k = tc (ix1 ⟨128 * i.val + 2 * p.val + k.val, h⟩) := by
  unfold tokAt
  refine congrArg tc (funext fun a => Fin.ext ?_)
  match a with
  | 0 =>
    show tokOff (BitVec.ofNat 32 i) p k 0 + 1 * 0 = 128 * i.val + 2 * p.val + k.val
    rw [tokOff_eq]
    show min (128 * i.val + 2 * p.val + k.val) 2039 + 1 * 0 = _
    omega

/-- A row's cell is its term, when the block's elements are the arrays'. -/
theorem cell_term {tc : S2040.Idx → BitVec 32} {w : (⟨1, ![2040]⟩ : Shape).Idx → EReal} {y : (⟨2, ![2040, 7168]⟩ : Shape).Idx → EReal}
    {s : (⟨2, ![2040, 56]⟩ : Shape).Idx → EReal} {ft : FVec Ideal S56x128 .f32} {x : FVec Ideal S8x128 .f32}
    (i : Fin 16) (p : Fin 64) (k : Fin 2) (q : ℕ) (hq : q = 2 * p.val + k.val) (hlt : q < 128) (t : Fin 256) (j : Fin 56) (l : Fin 128)
    (hx : ∀ h : 128 * i.val + q < 2040, x (ix2 ⟨j % 8, Nat.mod_lt _ (by decide)⟩ l) = y (ix2 ⟨128 * i.val + q, h⟩ ⟨128 * j.val + l.val, by omega⟩))
    (hf : ∀ h : 128 * i.val + q < 2040, ft (ix2 j ⟨q, hlt⟩) = s (ix2 ⟨128 * i.val + q, h⟩ j) * w (ix1 ⟨128 * i.val + q, h⟩)) :
    cell ft x q hlt (dest i p k (tokAt tc i p k)) t j l = term tc w y s t j l (128 * i.val + q) := by
  subst hq
  unfold cell dest term
  by_cases h : 128 * i.val + (2 * p.val + k.val) < 2040
  · rw [dif_pos h, if_pos (show 128 * i.val + 2 * p.val + k.val < 2040 by omega), tokAt_eq tc i p k (by omega), hx h, hf h]
    have e : (⟨128 * i.val + 2 * p.val + k.val, by omega⟩ : Fin 2040) = ⟨128 * i.val + (2 * p.val + k.val), h⟩ := Fin.ext (by show _ + _ + _ = _ + (_ + _); omega)
    rw [e]
  · rw [dif_neg h, if_neg (show ¬ 128 * i.val + 2 * p.val + k.val < 2040 by omega), if_neg (show ¬ t.val = 256 by omega)]

end Cert.Combine

namespace Cert.KernelIdeal.Launch

open Idealize.ShloMosaic hiding ix1 ix2 ix3
open Idealize.ShloMosaic.TcCoe Idealize.ShloMosaic.Tactic Idealize.ShloMosaic.ValueIdx
open Idealize.SL.Sem
open Idealize.ShloMosaic.Pipeline (Dat Cfg Window Clip)
open Cert.KernelIdeal.Gen Cert.KernelIdeal.Rolled
open Combine (total term Accs)

/-! ## A block inside its array -/

theorem extent_of {o k d x : ℕ} {c : Clip} (h : Clip.OkAt o k d c) (hx : x < k) (hd : o + x < d) : x < c.extent k := by
  cases c with
  | none => exact hx
  | some n =>
    obtain ⟨-, -, h⟩ := h
    show x < n
    omega

theorem fill_in {sig : RefSig} {G : Pipeline.Grid} (w : Window sig G) (i : G.Coords) {α : Type} (d : w.block.Idx → α) (g : (w.xblock i).Idx → α) (j : w.block.Idx)
    (h : ∀ a, w.kind.off (w.indexMap i a) (w.size a) + (j a).val < w.shape.size a) :
    ∃ hj : ∀ a, (j a).val < w.xsize i a, w.fill i d g j = g (fun a => ⟨(j a).val, hj a⟩) := by
  have hm : w.moved i j = true := (w.moved_iff i j).2 fun a => extent_of (w.hclip i a) (j a).isLt (h a)
  exact ⟨(w.moved_iff i j).1 hm, dif_pos hm⟩

variable (m : (ℓ : Loc nD τ sig) → Buf (Elt Ideal) ℓ) (c : Dev nD)

/-! ## The arrays at the kernel's entry -/

theorem v3_at (r : Fin 2040) : V m c main_v3 (ix2 (0 : Fin 1) r) = m ((c.tc : Thread nD τ).loc main_arg2) (ix1 r) := by
  after_reads_at
  refine congrArg (m ((c.tc : Thread nD τ).loc main_arg2)) (funext fun a => ?_)
  match a with
  | 0 => rfl

theorem v4_at (r : Fin 2040) (j : Fin 56) : V m c main_v4 (ix2 j r) = m ((c.tc : Thread nD τ).loc main_arg4) (ix2 r j) := by
  after_reads_at
  refine congrArg (m ((c.tc : Thread nD τ).loc main_arg4)) (funext fun a => ?_)
  match a with
  | 0 => rfl
  | 1 => rfl

theorem v5_at (t : Fin 256) (q : Fin 7168) : V m c main_v5 (ix2 t q) = m ((c.tc : Thread nD τ).loc main_arg0) (ix3 ⟨t / 128, by omega⟩ ⟨t % 128, by omega⟩ q) := by
  after_reads_at
  refine congrArg (m ((c.tc : Thread nD τ).loc main_arg0)) (funext fun a => ?_)
  match a with
  | 0 => rfl
  | 1 => rfl
  | 2 => rfl

theorem v2_at (r : Fin 2040) (j : Fin 56) (l : Fin 128) : V m c main_v2 (ix2 ⟨(r / 8 * 56 + j) * 8 + r % 8, by omega⟩ l)
    = m ((c.tc : Thread nD τ).loc main_arg3) (ix2 r ⟨128 * j.val + l.val, by omega⟩) := by
  after_reads_at
  refine congrArg (m ((c.tc : Thread nD τ).loc main_arg3)) (funext fun a => Fin.ext ?_)
  match a with
  | 0 =>
    show ((r.val / 8 * 56 + j.val) * 8 + r.val % 8) / 448 * 8 + ((r.val / 8 * 56 + j.val) * 8 + r.val % 8) % 8 = r.val
    omega
  | 1 =>
    show ((r.val / 8 * 56 + j.val) * 8 + r.val % 8) / 8 % 56 * 128 + l.val = 128 * j.val + l.val
    omega

/-! ## The blocks of a grid step -/

theorem step_val : ∀ t : Fin cfg0.N, (step (grid0.coords t)).val = t.val := by decide

theorem ofNat_step (i : grid0.Coords) : (BitVec.ofNat 32 (i 0).val).toNat = (step i).val := by
  have h : (step i).val < 16 := (step i).isLt
  show (BitVec.ofNat 32 (step i).val).toNat = _
  rw [BitVec.toNat_ofNat]
  omega

variable (t : Fin cfg0.N)

theorem blk1_at (d : S1x128.Idx → Elt Ideal .f32) (q : Fin 128) (h : 128 * (step (grid0.coords t)).val + q.val < 2040) :
    win0_1.fill (grid0.coords t) d (iblk m c 1 t) (ix2 (0 : Fin 1) q) = m ((c.tc : Thread nD τ).loc main_arg2) (ix1 ⟨128 * (step (grid0.coords t)).val + q.val, h⟩) := by
  have hs := ofNat_step (grid0.coords t)
  obtain ⟨hj, e⟩ := fill_in win0_1 (grid0.coords t) d (iblk m c 1 t) (ix2 (0 : Fin 1) q) (fun a => by
    match a with
    | 0 => show 0 * 1 + 0 < 1; omega
    | 1 => show (BitVec.ofNat 32 (grid0.coords t 0).val).toNat * 128 + q.val < 2040; rw [hs]; omega)
  refine e.trans (Eq.trans ?_ (v3_at m c _))
  refine congrArg (V m c main_v3) (funext fun a => Fin.ext ?_)
  match a with
  | 0 => rfl
  | 1 => show (BitVec.ofNat 32 (grid0.coords t 0).val).toNat * 128 + 1 * q.val = 128 * (step (grid0.coords t)).val + q.val; rw [hs]; omega

theorem blk2_at (d : S56x128.Idx → Elt Ideal .f32) (j : Fin 56) (q : Fin 128) (h : 128 * (step (grid0.coords t)).val + q.val < 2040) :
    win0_2.fill (grid0.coords t) d (iblk m c 2 t) (ix2 j q) = m ((c.tc : Thread nD τ).loc main_arg4) (ix2 ⟨128 * (step (grid0.coords t)).val + q.val, h⟩ j) := by
  have hs := ofNat_step (grid0.coords t)
  obtain ⟨hj, e⟩ := fill_in win0_2 (grid0.coords t) d (iblk m c 2 t) (ix2 j q) (fun a => by
    match a with
    | 0 => show 0 * 56 + j.val < 56; omega
    | 1 => show (BitVec.ofNat 32 (grid0.coords t 0).val).toNat * 128 + q.val < 2040; rw [hs]; omega)
  refine e.trans (Eq.trans ?_ (v4_at m c _ _))
  refine congrArg (V m c main_v4) (funext fun a => Fin.ext ?_)
  match a with
  | 0 => show 0 * 56 + 1 * j.val = j.val; omega
  | 1 => show (BitVec.ofNat 32 (grid0.coords t 0).val).toNat * 128 + 1 * q.val = 128 * (step (grid0.coords t)).val + q.val; rw [hs]; omega

theorem blk3_at (d : S7168x128.Idx → Elt Ideal .fp8e4m3) (j : Fin 56) (q l : Fin 128) (h : 128 * (step (grid0.coords t)).val + q.val < 2040) :
    win0_3.fill (grid0.coords t) d (iblk m c 3 t) (ix2 ⟨(q / 8 * 56 + j) * 8 + q % 8, by omega⟩ l)
      = m ((c.tc : Thread nD τ).loc main_arg3) (ix2 ⟨128 * (step (grid0.coords t)).val + q.val, h⟩ ⟨128 * j.val + l.val, by omega⟩) := by
  have hs := ofNat_step (grid0.coords t)
  obtain ⟨hj, e⟩ := fill_in win0_3 (grid0.coords t) d (iblk m c 3 t) (ix2 ⟨(q / 8 * 56 + j) * 8 + q % 8, by omega⟩ l) (fun a => by
    match a with
    | 0 => show (BitVec.ofNat 32 (grid0.coords t 0).val).toNat * 7168 + ((q.val / 8 * 56 + j.val) * 8 + q.val % 8) < 114240; rw [hs]; omega
    | 1 => show 0 * 128 + l.val < 128; omega)
  refine e.trans (Eq.trans ?_ (v2_at m c _ _ _))
  refine congrArg (V m c main_v2) (funext fun a => Fin.ext ?_)
  match a with
  | 0 =>
    show (BitVec.ofNat 32 (grid0.coords t 0).val).toNat * 7168 + 1 * ((q.val / 8 * 56 + j.val) * 8 + q.val % 8)
      = ((128 * (step (grid0.coords t)).val + q.val) / 8 * 56 + j.val) * 8 + (128 * (step (grid0.coords t)).val + q.val) % 8
    rw [hs]; omega
  | 1 => show 0 * 128 + 1 * l.val = l.val; omega

/-! ## The sums between two grid steps -/

/-- What the row `r` adds to the token `u` at column `128 j + l`. -/
def rowTerm (u : Fin 256) (j : Fin 56) (l : Fin 128) (r : ℕ) : EReal :=
  term (m ((c.tc : Thread nD τ).loc main_arg1)) (m ((c.tc : Thread nD τ).loc main_arg2)) (m ((c.tc : Thread nD τ).loc main_arg3))
    (m ((c.tc : Thread nD τ).loc main_arg4)) u j l r

/-- Before the grid step `n` the copies of an accumulator sum to the terms of the rows before it. -/
def Sums (n : ℕ) (f : Accs Ideal) : Prop :=
  n = 0 ∨ ∀ u j l, total f u j l = ∑ r ∈ Finset.range (128 * n), rowTerm m c u j l r

variable {m} (hm : InRange m)

theorem tok_eq : (iblk m c 0 t : S2040.Idx → BitVec 32) = (m ((c.tc : Thread nD τ).loc main_arg1) : S2040.Idx → BitVec 32) := by
  funext x
  refine (congrFun (V_main_arg1 m c) _).trans (congrArg (m ((c.tc : Thread nD τ).loc main_arg1)) (funext fun a => Fin.ext ?_))
  match a with
  | 0 => show 0 * 2040 + 1 * (x 0).val = (x 0).val; omega

/-- Where the row `2 p + k` of a block is among the block's rows of 128 lanes. -/
theorem row_eq (p : Fin 64) (j : Fin 56) (k : Fin 2) : 2 * (Combine.row0 p (j.val / 8) + 4 * (j.val % 8)) + k.val
    = ((2 * p.val + k.val) / 8 * 56 + j.val) * 8 + (2 * p.val + k.val) % 8 := by
  unfold Combine.row0
  omega

/-- A grid step adds its rows' terms. -/
theorem sums_step (d1 : S1x128.Idx → Elt Ideal .f32) (d2 : S56x128.Idx → Elt Ideal .f32) (d3 : S7168x128.Idx → Elt Ideal .fp8e4m3)
    (g : Stage Ideal) (f : Accs Ideal) (hf : Sums m c t.val f) : Sums m c (t.val + 1) (stepAt hm c t d1 d2 d3 g f) := by
  refine .inr fun u j l => ?_
  have hn := step_val t
  have h0 : total (if step (grid0.coords t) = 0 then Combine.zeros else f) u j l = ∑ r ∈ Finset.range (128 * t.val), rowTerm m c u j l r := by
    by_cases h : t.val = 0
    · rw [if_pos (Fin.ext (by rw [hn, h]; rfl)), Combine.total_zeros, h]
      rfl
    · rw [if_neg (fun e => h (by rw [← hn, e]; rfl))]
      rcases hf with hf | hf
      · exact absurd hf h
      · exact hf u j l
  unfold stepAt next Combine.stepF
  refine (Combine.total_mid (tok_lt hm c t) putF fetchF _ _ _ _ g _ u j l (fun q => rowTerm m c u j l (128 * (step (grid0.coords t)).val + q)) ?_ ?_).trans ?_
  · intro p
    refine (Combine.cell_term (w := m ((c.tc : Thread nD τ).loc main_arg2)) (y := m ((c.tc : Thread nD τ).loc main_arg3)) (s := m ((c.tc : Thread nD τ).loc main_arg4))
      (step (grid0.coords t)) p 0 (2 * p.val) rfl (by omega) u j l (fun h => ?_) (fun h => ?_)).trans ?_
    · refine (fetchF_fst _ p _ _ l).trans ((stage_at _ g _ 0 l (Combine.rowsOf_apply _)).trans (Eq.trans ?_ (blk3_at m c t d3 j ⟨2 * p.val, by omega⟩ l h)))
      exact congrArg (fun r => win0_3.fill (grid0.coords t) d3 (iblk m c 3 t) (ix2 r l)) (Fin.ext (row_eq p j 0))
    · exact (Combine.factors_apply _ _ j _).trans (congrArg₂ (· * ·) (blk2_at m c t d2 j ⟨2 * p.val, by omega⟩ h) (blk1_at m c t d1 ⟨2 * p.val, by omega⟩ h))
    · exact congrArg (fun tc => term tc _ _ _ u j l _) (tok_eq c t)
  · intro p
    refine (Combine.cell_term (w := m ((c.tc : Thread nD τ).loc main_arg2)) (y := m ((c.tc : Thread nD τ).loc main_arg3)) (s := m ((c.tc : Thread nD τ).loc main_arg4))
      (step (grid0.coords t)) p 1 (2 * p.val + 1) rfl (by omega) u j l (fun h => ?_) (fun h => ?_)).trans ?_
    · refine (fetchF_snd _ p _ _ l).trans ((stage_at _ g _ 1 l (Combine.rowsOf_apply _)).trans (Eq.trans ?_ (blk3_at m c t d3 j ⟨2 * p.val + 1, by omega⟩ l h)))
      exact congrArg (fun r => win0_3.fill (grid0.coords t) d3 (iblk m c 3 t) (ix2 r l)) (Fin.ext (row_eq p j 1))
    · exact (Combine.factors_apply _ _ j _).trans (congrArg₂ (· * ·) (blk2_at m c t d2 j ⟨2 * p.val + 1, by omega⟩ h) (blk1_at m c t d1 ⟨2 * p.val + 1, by omega⟩ h))
    · exact congrArg (fun tc => term tc _ _ _ u j l _) (tok_eq c t)
  · rw [h0, hn, show 128 * (t.val + 1) = 128 * t.val + 128 by omega, Finset.sum_range_add]

/-! ## The result -/

/-- The activations. -/
def acts (c : Dev nD) (m : (ℓ : Loc nD τ sig) → Buf (Elt Ideal) ℓ) : S256x7168.Idx → EReal := V m c main_v5

/-- The result: the activation and the terms of every row. -/
def result (c : Dev nD) (m : (ℓ : Loc nD τ sig) → Buf (Elt Ideal) ℓ) (i : S256x7168.Idx) : EReal :=
  acts c m i + ∑ r ∈ Finset.range 2048, rowTerm m c ⟨(i 0).val, idx2_lt0 i⟩ ⟨(i 1).val / 128, by have := idx2_lt1 i; omega⟩ ⟨(i 1).val % 128, Nat.mod_lt _ (by decide)⟩ r

theorem blk4_eq : (iblk m c 4 t : S256x7168.Idx → EReal) = acts c m := by
  funext x
  refine congrArg (V m c main_v5) (funext fun a => Fin.ext ?_)
  match a with
  | 0 => show 0 * 256 + 1 * (x 0).val = (x 0).val; omega
  | 1 => show 0 * 7168 + 1 * (x 1).val = (x 1).val; omega

theorem result_step (d1 : S1x128.Idx → Elt Ideal .f32) (d2 : S56x128.Idx → Elt Ideal .f32) (d3 : S7168x128.Idx → Elt Ideal .fp8e4m3)
    (g : Stage Ideal) (f : Accs Ideal) (hf : Sums m c t.val f) (h15 : step (grid0.coords t) = 15) :
    Combine.outAt (F := Ideal) (iblk m c 4 t) (stepAt hm c t d1 d2 d3 g f) = result c m := by
  have ht : t.val + 1 = 16 := by rw [← step_val t, h15]; rfl
  funext i
  have hs := sums_step c t hm d1 d2 d3 g f hf
  rw [ht] at hs
  rcases hs with hs | hs
  · exact absurd hs (by decide)
  have h0 := idx2_lt0 i
  have h1 := idx2_lt1 i
  have ei : i = ix2 ⟨(i 0).val, h0⟩ ⟨128 * ((i 1).val / 128) + (i 1).val % 128, by omega⟩ := by
    funext a
    refine Fin.ext ?_
    match a with
    | 0 => rfl
    | 1 => show (i 1).val = 128 * ((i 1).val / 128) + (i 1).val % 128; omega
  have key := Combine.outAt_apply (iblk m c 4 t) (stepAt hm c t d1 d2 d3 g f) ⟨(i 0).val, h0⟩ ⟨(i 1).val / 128, by omega⟩ ⟨(i 1).val % 128, Nat.mod_lt _ (by decide)⟩
  rw [hs] at key
  refine (congrArg _ ei).trans (key.trans ?_)
  exact congrArg (· + ∑ r ∈ Finset.range (128 * 16), rowTerm m c ⟨(i 0).val, h0⟩ ⟨(i 1).val / 128, by omega⟩ ⟨(i 1).val % 128, Nat.mod_lt _ (by decide)⟩ r)
    ((congrFun (blk4_eq c t) _).trans (congrArg (acts c m) ei.symm))

/-- What the kernel leaves. -/
def spec (m : (ℓ : Loc nD τ sig) → Buf (Elt Ideal) ℓ) : Spec Ideal := ⟨fun c n f => Sums m c n f, fun c => result c m⟩

include hm in
/-- The run: the result, and every argument array as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v7) = shapeCast S2x128x7168 (result c m) shapeCasts_S256x7168_S2x128x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_exact ρ (spec m) hm (fun _ _ => .inl rfl) (fun c t d1 d2 d3 g f hf => sums_step c t hm d1 d2 d3 g f hf)
    (fun c t d1 d2 d3 g f hf h15 => result_step c t hm d1 d2 d3 g f hf h15)

end Cert.KernelIdeal.Launch

end

end
-- ==== Proof.Scatter.lean ====
/-
Rows added to the rows of a matrix that words name, over the extended reals: an element is what was
there and the sum of the rows named.
-/
module

public import Idealize.ShloMosaic.Lib.Routing.OpsPair
public import Idealize.ShloMosaic.Lib.ValueIdxCore
public import Idealize.ShloMosaic.PureOps.Ideal.Laws

@[expose] public section

noncomputable section

namespace Cert.Scatter

open Idealize.ShloMosaic
open Idealize.ShloMosaic.ValueIdx

variable {R N C : ℕ} (d : ScatterDims (⟨2, ![R, C]⟩ : Shape) (⟨2, ![N, 1]⟩ : Shape) (⟨2, ![N, C]⟩ : Shape))
  (hu : d.updateWindowDims = [1]) (hi : d.insertedWindowDims = [0]) (hs : d.scatterDimsToOperandDims = [0]) (hv : d.indexVectorDim = 1)

include hu hi hs hv

/-- Element `(n, q)` of the rows lands at `(r, q')` when row `n`'s word, read signed, is `r` and the columns agree. -/
theorem lands (idx : IVec (⟨2, ![N, 1]⟩ : Shape) 32) (n : Fin N) (q : Fin C) (r : Fin R) (q' : Fin C) :
    d.resultIdx? (ix2 n q) idx = some (ix2 r q') ↔ (idx (ix2 n (0 : Fin 1))).toInt = r.val ∧ q = q' := by
  have get1 : ∀ {α : Type} (l : List α) (x : α) (k : ℕ) (h : k < l.length), l = [x] → l[k]'h = x := by
    intro α l x k h e
    subst e
    have : k = 0 := by simpa using h
    subst this
    rfl
  have hm : (0 : Fin 2) ∈ d.scatterDimsToOperandDims := by rw [hs]; simp
  have hk : d.sKept = [1] := by
    show (⟨2, ![R, C]⟩ : Shape).kept d.insertedWindowDims = _
    rw [hi]
    rfl
  have w0 : d.window (ix2 n q) 0 = 0 := by
    unfold ScatterDims.window
    rw [dif_neg (by rw [hk]; simp)]
  have w1 : d.window (ix2 n q) 1 = q.val := by
    unfold ScatterDims.window
    rw [dif_pos (by rw [hk]; simp), get1 _ 1 _ _ hu]
    rfl
  have s1 : d.start (ix2 n q) idx 1 = 0 := by
    unfold ScatterDims.start
    rw [dif_neg (by rw [hs]; simp)]
  have hsc : d.uScatter = [0] := by
    show (⟨2, ![N, C]⟩ : Shape).kept d.updateWindowDims = _
    rw [hu]
    rfl
  have si : ∀ h, d.siIdx (ix2 n q) ⟨d.scatterDimsToOperandDims.idxOf 0, h⟩ = ix2 n (0 : Fin 1) := fun h => by
    funext b
    apply Fin.ext
    match b with
    | ⟨0, _⟩ =>
      unfold ScatterDims.siIdx
      rw [dif_neg (by rw [hv]; exact (by decide : (0 : ℕ) ≠ 1))]
      unfold ScatterDims.siCoord
      simp only [Fin.val_cast]
      rw [get1 _ 0 _ _ hsc]
      rfl
    | ⟨1, _⟩ =>
      unfold ScatterDims.siIdx
      rw [dif_pos (by rw [hv])]
      show List.idxOf 0 d.scatterDimsToOperandDims = 0
      rw [hs]
      rfl
  have s0 : d.start (ix2 n q) idx 0 = (idx (ix2 n (0 : Fin 1))).toInt := by
    unfold ScatterDims.start
    rw [dif_pos hm, si]
  have key := Routing.resultIdx?_eq_some d (ix2 n q) idx (ix2 r q')
  rw [key]
  constructor
  · intro h
    have h0 := h 0
    have h1 := h 1
    rw [s0, w0] at h0
    rw [s1, w1] at h1
    have e0 : (((ix2 r q') 0 : Fin _).val : Int) = r.val := rfl
    have e1 : (((ix2 r q') 1 : Fin _).val : Int) = q'.val := rfl
    rw [e0] at h0
    rw [e1] at h1
    exact ⟨by omega, Fin.ext (by omega)⟩
  · rintro ⟨h0, rfl⟩ a
    match a with
    | ⟨0, _⟩ =>
      show d.start (ix2 n q) idx 0 + (d.window (ix2 n q) 0 : Int) = (r.val : Int)
      rw [s0, w0]; omega
    | ⟨1, _⟩ =>
      show d.start (ix2 n q) idx 1 + (d.window (ix2 n q) 1 : Int) = (q.val : Int)
      rw [s1, w1]; omega

/-- An element of the matrix after the rows are added. -/
theorem scatterAdd_at (x : FVec Ideal (⟨2, ![R, C]⟩ : Shape) .f32) (idx : IVec (⟨2, ![N, 1]⟩ : Shape) 32) (upd : FVec Ideal (⟨2, ![N, C]⟩ : Shape) .f32)
    (r : Fin R) (q : Fin C) :
    (Host.scatterAdd (F := Ideal) d x idx upd (ix2 r q) : EReal)
      = x (ix2 r q) + ∑ n : Fin N, if (idx (ix2 n (0 : Fin 1))).toInt = r.val then (upd (ix2 n q) : EReal) else 0 := by
  show (x (ix2 r q) : EReal) + ∑ j ∈ Finset.univ.filter (fun j => d.resultIdx? j idx = some (ix2 r q)), (upd j : EReal) = _
  refine congrArg (fun y : EReal => x (ix2 r q) + y) ?_
  rw [Finset.sum_filter, sum_idx2]
  refine Finset.sum_congr rfl fun n _ => ?_
  have e : ∀ q', (d.resultIdx? (ix2 n q') idx = some (ix2 r q)) = ((idx (ix2 n (0 : Fin 1))).toInt = r.val ∧ q' = q) :=
    fun q' => propext (lands d hu hi hs hv idx n q' r q)
  simp only [e]
  by_cases h : (idx (ix2 n (0 : Fin 1))).toInt = r.val
  · simp [h]
  · simp [h]

end Cert.Scatter

end

end
-- ==== Proof.ReferenceValue.lean ====
/-
What the reference leaves in its result, over the extended reals, element by element.
-/
module

public import proofs.«01_k».proof.Proof.Gen.ReferenceIdeal.Frame
public import proofs.«01_k».proof.Proof.Scatter
public import Idealize.ShloMosaic.Lib.Claim
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.ReferenceIdeal.Value

open Idealize.ShloMosaic hiding ix1 ix2 ix3
open Idealize.ShloMosaic.TcCoe Idealize.ShloMosaic.Tactic Idealize.ShloMosaic.ValueIdx
open Idealize.SL.Sem
open Cert.ReferenceIdeal.Gen

variable (m : (ℓ : Loc nD τ sig) → Buf (Elt Ideal) ℓ) (c : Dev nD)

/-- The decoded rows. -/
theorem arr_rows : (dats m 0 c).arrAt 1 (cfgs 0).N = (m ((c.tc : Thread nD τ).loc main_arg3) : S2040x7168.Idx → EReal) := by
  refine (dats m 0 c).arrAt_eq_of_covers 1 _ (by decide +kernel) fun t hf y => ?_
  rw [after0_1]
  blk_simp
  frame_out
  show iblk m c 0 t y = _
  exact congrArg (m ((c.tc : Thread nD τ).loc main_arg3) : S2040x7168.Idx → EReal) (funext fun a => Fin.ext (by
    match a with
    | 0 => rfl
    | 1 => rfl))

theorem entry : Pipeline.withArrays (cfgs 0).spec c (V0 m c) (fun w => (dats m 0 c).arrAt w (cfgs 0).N) (Proc.devRef .tc main_v0)
    = (m ((c.tc : Thread nD τ).loc main_arg3) : S2040x7168.Idx → EReal) :=
  (Pipeline.withArrays_arr spec0 (by decide) c (V0 m c) (fun w => (dats m 0 c).arrAt w (cfgs 0).N) 1).trans (arr_rows m c)

/-- A vector as a column. -/
theorem column_at {α : Type} (x : S2040.Idx → α) (n : Fin 2040) (z : Fin 1) : broadcastInDim S2040x1 ![0] bcast_S2040_S2040x1_0 x (ix2 n z) = x (ix1 n) :=
  broadcastInDim_apply _ _ x _ _ fun a => by
    match a with
    | 0 => rfl

/-- A column copied along the rows. -/
theorem rows_at {α : Type} (x : S2040x1.Idx → α) (n : Fin 2040) (q : Fin 7168) : broadcastInDim S2040x7168 ![0, 1] bcast_S2040x1_S2040x7168_0_1 x (ix2 n q) = x (ix2 n (0 : Fin 1)) :=
  broadcastInDim_apply _ _ x _ _ fun a => by
    match a with
    | 0 => rfl
    | 1 => rfl

theorem zeros_at (i : S256x7168.Idx) : (broadcastInDim S256x7168 ![] bcast_S_S256x7168 (constant (F := Ideal) S_ FTy.f32 0#32) i : EReal) = 0 := by
  show Ideal.ofBits .f32 0x00000000#32 = 0
  simp [Ideal.ofBits, Ideal.ieee]

/-- An element of the result: the activation and the sum of the rows whose word is its token. -/
theorem tail_at (X : Valuation τ sig (Elt Ideal))
    (x : S2x128x7168.Idx → EReal) (tok : S2040.Idx → BitVec 32) (w : S2040.Idx → EReal) (y : S2040x7168.Idx → EReal) (sc : S2040x56.Idx → EReal)
    (hx : X (Proc.devRef .tc main_arg0) = x) (ht : X (Proc.devRef .tc main_arg1) = tok) (hw : X (Proc.devRef .tc main_arg2) = w)
    (hy : X (Proc.devRef .tc main_v0) = y) (hsc : X (Proc.devRef .tc main_arg4) = sc)
    (b : Fin 2) (s : Fin 128) (q : Fin 7168) :
    (StableHlo.after hostOps1 X (Proc.devRef .tc main_v16) : S2x128x7168.Idx → EReal) (ix3 b s q)
      = x (ix3 b s q) + ∑ n : Fin 2040, if (tok (ix1 n)).toInt = ((128 * b.val + s.val : ℕ) : Int)
          then y (ix2 n q) * sc (ix2 n ⟨q / 128, by omega⟩) * w (ix1 n) else 0 := by
  subst hx ht hw hy hsc
  after_reads_at
  have hr : 128 * b.val + s.val < 256 := by omega
  refine congrArg₂ (fun u v : EReal => u + v) (congrArg (X (Proc.devRef .tc main_arg0) : S2x128x7168.Idx → EReal) (funext fun a => Fin.ext ?_))
    (.trans (congrArg _ (funext fun a => Fin.ext ?_)) ((Scatter.scatterAdd_at scatter_S256x7168_S2040x1_S2040x7168_1_0_0_1 rfl rfl rfl rfl _ _ _ ⟨128 * b.val + s.val, hr⟩ q).trans
      ((congrArg₂ (fun u v : EReal => u + v) (zeros_at _) (Finset.sum_congr rfl fun n _ => ?_)).trans (zero_add _))))
  · match a with
    | 0 => show (b.val * 128 + s.val) / 128 = b.val; omega
    | 1 => show (b.val * 128 + s.val) % 128 = s.val; omega
    | 2 => rfl
  · match a with
    | 0 => show b.val * 128 + s.val = 128 * b.val + s.val; omega
    | 1 => rfl
  · have e1 := column_at (X (Proc.devRef .tc main_arg1) : S2040.Idx → BitVec 32) n 0
    have e2 := (rows_at (broadcastInDim S2040x1 ![0] bcast_S2040_S2040x1_0 (X (Proc.devRef .tc main_arg2) : S2040.Idx → EReal)) n q).trans (column_at _ n 0)
    have hi : (Idealize.ShloMosaic.ix2 n ⟨q.val / 128 * 128 + q.val % 128, by omega⟩ : S2040x7168.Idx) = ix2 n q := funext fun a => Fin.ext (by
      match a with
      | 0 => rfl
      | 1 => show q.val / 128 * 128 + q.val % 128 = q.val; omega)
    have hj : (Idealize.ShloMosaic.ix2 n ⟨q.val / 128, by omega⟩ : S2040x56.Idx) = ix2 n ⟨q.val / 128, by omega⟩ := funext fun a => Fin.ext (by
      match a with
      | 0 => rfl
      | 1 => rfl)
    refine if_congr (by rw [e1]) (congrArg₂ (fun u v : EReal => u * v) (congrArg₂ (fun u v : EReal => u * v)
      (congrArg (X (Proc.devRef .tc main_v0) : S2040x7168.Idx → EReal) hi) (congrArg (X (Proc.devRef .tc main_arg4) : S2040x56.Idx → EReal) hj)) e2) rfl

/-- The contents of an array that the region does not touch. -/
theorem entry_of (b : Ref sig .tc) (hb : ∀ w, Pipeline.arrRef spec0 w ≠ b) :
    Pipeline.withArrays (cfgs 0).spec c (V0 m c) (fun w => (dats m 0 c).arrAt w (cfgs 0).N) (Proc.devRef .tc b) = m ((c.tc : Thread nD τ).loc b) :=
  Pipeline.withArrays_of_ne _ c (V0 m c) _ b hb

/-- An element of the result, from the arguments as launched. -/
theorem result_at (x : S2x128x7168.Idx → EReal) (tok : S2040.Idx → BitVec 32) (w : S2040.Idx → EReal) (y : S2040x7168.Idx → EReal) (sc : S2040x56.Idx → EReal)
    (hx : m ((c.tc : Thread nD τ).loc main_arg0) = x) (ht : m ((c.tc : Thread nD τ).loc main_arg1) = tok) (hw : m ((c.tc : Thread nD τ).loc main_arg2) = w)
    (hy : m ((c.tc : Thread nD τ).loc main_arg3) = y) (hsc : m ((c.tc : Thread nD τ).loc main_arg4) = sc)
    (b : Fin 2) (s : Fin 128) (q : Fin 7168) :
    (Pipeline.afterTail₀ cfgs (dats m) 0 (V0 m) [hostOps1] c main_v16 : S2x128x7168.Idx → EReal) (ix3 b s q)
      = x (ix3 b s q) + ∑ n : Fin 2040, if (tok (ix1 n)).toInt = ((128 * b.val + s.val : ℕ) : Int)
          then y (ix2 n q) * sc (ix2 n ⟨q / 128, by omega⟩) * w (ix1 n) else 0 :=
  tail_at _ x tok w y sc
    ((entry_of m c main_arg0 (by exact (by decide : ∀ w, Pipeline.arrRef spec0 w ≠ main_arg0))).trans hx)
    ((entry_of m c main_arg1 (by exact (by decide : ∀ w, Pipeline.arrRef spec0 w ≠ main_arg1))).trans ht)
    ((entry_of m c main_arg2 (by exact (by decide : ∀ w, Pipeline.arrRef spec0 w ≠ main_arg2))).trans hw)
    ((entry m c).trans hy)
    ((entry_of m c main_arg4 (by exact (by decide : ∀ w, Pipeline.arrRef spec0 w ≠ main_arg4))).trans hsc)
    b s q

end Cert.ReferenceIdeal.Value

end

end
-- ==== Proof.Value.lean ====
/-
The kernel's result is the reference's, over the extended reals: the sum over 2048 rows, the last eight
of them zero, is the sum over the 2040 rows that exist, and a product of three does not depend on its
brackets.
-/
module

public import proofs.«01_k».proof.Proof.Claims
public import proofs.«01_k».proof.Proof.KernelIdealValue
public import proofs.«01_k».proof.Proof.ReferenceValue

@[expose] public section

set_option maxRecDepth 16384

noncomputable section

namespace Cert.Proof

open Idealize.ShloMosaic hiding ix1 ix2 ix3
open Idealize.ShloMosaic.TcCoe Idealize.ShloMosaic.ValueIdx
open Idealize.SL.Sem

/-! ## The sum over the rows -/

/-- A word below `2^31` reads the same with its sign. -/
theorem toInt_eq_iff (t : BitVec 32) (ht : t.toNat < 256) (u : ℕ) : t.toInt = (u : Int) ↔ u = t.toNat := by
  rw [BitVec.toInt_eq_toNat_of_lt (by omega)]
  omega

/-- The terms of all rows, as the sum over the rows whose word is the token. -/
theorem sum_term (tok : (⟨1, ![2040]⟩ : Shape).Idx → BitVec 32) (w : (⟨1, ![2040]⟩ : Shape).Idx → EReal) (y : (⟨2, ![2040, 7168]⟩ : Shape).Idx → EReal)
    (s : (⟨2, ![2040, 56]⟩ : Shape).Idx → EReal) (htok : ∀ x, (tok x).toNat < 256) (t : Fin 256) (q : Fin 7168) :
    ∑ r ∈ Finset.range 2048, Combine.term tok w y s t ⟨q.val / 128, by omega⟩ ⟨q.val % 128, Nat.mod_lt _ (by decide)⟩ r
      = ∑ n : Fin 2040, if (tok (ix1 n)).toInt = ((t.val : ℕ) : Int) then y (ix2 n q) * s (ix2 n ⟨q.val / 128, by omega⟩) * w (ix1 n) else 0 := by
  rw [show (2048 : ℕ) = 2040 + 8 from rfl, Finset.sum_range_add]
  have hz : ∑ r ∈ Finset.range 8, Combine.term tok w y s t ⟨q.val / 128, by omega⟩ ⟨q.val % 128, Nat.mod_lt _ (by decide)⟩ (2040 + r) = 0 :=
    Finset.sum_eq_zero fun r _ => dif_neg (by omega)
  rw [hz, add_zero, Finset.sum_range]
  refine Finset.sum_congr rfl fun n _ => ?_
  have hq : (⟨128 * (q.val / 128) + q.val % 128, by omega⟩ : Fin 7168) = q := Fin.ext (by show 128 * (q.val / 128) + q.val % 128 = q.val; omega)
  refine (dif_pos n.isLt).trans (if_congr (toInt_eq_iff _ (htok _) _).symm ?_ rfl)
  rw [mul_assoc]
  exact congrArg (fun z => y (ix2 n z) * (s (ix2 n ⟨q.val / 128, by omega⟩) * w (ix1 n))) hq

/-! ## An element of the kernel's result -/

/-- An element of the kernel's result, from the arguments as launched. -/
theorem kernel_at (m : (ℓ : Loc Cert.KernelIdeal.nD Cert.KernelIdeal.τ Cert.KernelIdeal.sig) → Buf (Elt Ideal) ℓ) (c : Dev Cert.KernelIdeal.nD)
    (x : Cert.KernelIdeal.S2x128x7168.Idx → EReal) (tok : Cert.KernelIdeal.S2040.Idx → BitVec 32) (w : Cert.KernelIdeal.S2040.Idx → EReal)
    (y : Cert.KernelIdeal.S2040x7168.Idx → EReal) (sc : Cert.KernelIdeal.S2040x56.Idx → EReal)
    (hx : m ((c.tc : Thread Cert.KernelIdeal.nD Cert.KernelIdeal.τ).loc Cert.KernelIdeal.main_arg0) = x)
    (ht : m ((c.tc : Thread Cert.KernelIdeal.nD Cert.KernelIdeal.τ).loc Cert.KernelIdeal.main_arg1) = tok)
    (hw : m ((c.tc : Thread Cert.KernelIdeal.nD Cert.KernelIdeal.τ).loc Cert.KernelIdeal.main_arg2) = w)
    (hy : m ((c.tc : Thread Cert.KernelIdeal.nD Cert.KernelIdeal.τ).loc Cert.KernelIdeal.main_arg3) = y)
    (hsc : m ((c.tc : Thread Cert.KernelIdeal.nD Cert.KernelIdeal.τ).loc Cert.KernelIdeal.main_arg4) = sc)
    (hcast : Cert.KernelIdeal.S256x7168.ShapeCasts Cert.KernelIdeal.S2x128x7168)
    (htok : ∀ i, (tok i).toNat < 256) (b : Fin 2) (s : Fin 128) (q : Fin 7168) :
    (shapeCast Cert.KernelIdeal.S2x128x7168 (Cert.KernelIdeal.Launch.result c m) hcast : _ → EReal) (ix3 b s q)
      = x (ix3 b s q) + ∑ n : Fin 2040, if (tok (ix1 n)).toInt = ((128 * b.val + s.val : ℕ) : Int)
          then y (ix2 n q) * sc (ix2 n ⟨q.val / 128, by omega⟩) * w (ix1 n) else 0 := by
  subst hx ht hw hy hsc
  have hr : 128 * b.val + s.val < 256 := by omega
  refine (shapeCast_apply (Cert.KernelIdeal.Launch.result c m) _ (ix3 b s q) (ix2 ⟨128 * b.val + s.val, hr⟩ q) ?_).trans ?_
  · rw [Shape.rowMajor_val_two, Shape.rowMajor_val_three]
    show (128 * b.val + s.val) * 7168 + q.val = (b.val * 128 + s.val) * 7168 + q.val
    omega
  · refine congrArg₂ (fun u v : EReal => u + v) ?_ (sum_term _ _ _ _ htok ⟨128 * b.val + s.val, hr⟩ q)
    refine (Cert.KernelIdeal.Launch.v5_at m c ⟨128 * b.val + s.val, hr⟩ q).trans ?_
    refine congrArg (m ((c.tc : Thread Cert.KernelIdeal.nD Cert.KernelIdeal.τ).loc Cert.KernelIdeal.main_arg0) : Cert.KernelIdeal.S2x128x7168.Idx → EReal)
      (funext fun a => Fin.ext ?_)
    match a with
    | 0 => show (128 * b.val + s.val) / 128 = b.val; omega
    | 1 => show (128 * b.val + s.val) % 128 = s.val; omega
    | 2 => rfl

/-! ## The claim -/

section

local instance : Cert.Pre_tokens_in_range.Facts := preFacts

/-- The two programs end with equal results. -/
theorem algebraic : Cert.algebraic_KernelIdeal_ReferenceIdeal := by
  intro m g m' g' hpre hagree
  refine ⟨_, Cert.KernelIdeal.Launch.run_value (range_pi m hpre) g,
    θ_run_mono (θ_run_and (Cert.ReferenceIdeal.Gen.run_main m' g') (Cert.ReferenceIdeal.Gen.unchanged m' g')) fun r hr c => ⟨?_, hr.2 c⟩⟩
  refine ((hr.1 c).2 Cert.ReferenceIdeal.main_v16 (Pipeline.mem_restRefs_of Cert.ReferenceIdeal.main_v16 (by decide) (by decide))).trans ?_
  funext i
  obtain ⟨b, s, q, rfl⟩ : ∃ (b : Fin 2) (s : Fin 128) (q : Fin 7168), i = ix3 b s q :=
    ⟨i 0, i 1, i 2, funext fun a => by
      match a with
      | 0 => rfl
      | 1 => rfl
      | 2 => rfl⟩
  obtain ⟨h0, h1, h2, h3, h4⟩ := hagree c
  exact (Cert.ReferenceIdeal.Value.result_at m' c _ _ _ _ _ h0 h1 h2 h3 h4 b s q).trans
    (kernel_at m c _ _ _ _ _ rfl rfl rfl rfl rfl _ (range_pi m hpre c) b s q).symm

end

end Cert.Proof

end

end
-- ==== Proof.lean ====
/- The proof of the claim: its parts are proved in Proof/Claims.lean and Proof/Value.lean. -/
module

public import proofs.«01_k».proof.Proof.Claims
public import proofs.«01_k».proof.Proof.Value

@[expose] public section

theorem Cert.Proof.claim : Cert.Claim :=
  ⟨Cert.Kernel.Gen.facts, Cert.KernelIdeal.Gen.facts, Cert.ReferenceIdeal.Gen.facts, Cert.Proof.preFacts,
    Cert.Proof.frame_p, Cert.Proof.frame_pi, Cert.Proof.frame_ri, Cert.Proof.frame_ri_pre, Cert.Proof.preserves,
    Cert.Proof.algebraic⟩
